-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v127_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)) (v4 : (c : Dev Cert.Kernel2Ideal.nD) → Buf (Elt Ideal) ((c.tc : Thread Cert.Kernel2Ideal.nD Cert.Kernel2Ideal.τ).loc Cert.Kernel2Ideal.main_v11_4)) (v5 : (c : Dev Cert.Kernel2Ideal.nD) → Buf (Elt Ideal) ((c.tc : Thread Cert.Kernel2Ideal.nD Cert.Kernel2Ideal.τ).loc Cert.Kernel2Ideal.main_v11_5)) (v6 : (c : Dev Cert.Kernel2Ideal.nD) → Buf (Elt Ideal) ((c.tc : Thread Cert.Kernel2Ideal.nD Cert.Kernel2Ideal.τ).loc Cert.Kernel2Ideal.main_v11_6)) (v7 : (c : Dev Cert.Kernel2Ideal.nD) → Buf (Elt Ideal) ((c.tc : Thread Cert.Kernel2Ideal.nD Cert.Kernel2Ideal.τ).loc Cert.Kernel2Ideal.main_v11_7)) (v8 : (c : Dev Cert.Kernel2Ideal.nD) → Buf (Elt Ideal) ((c.tc : Thread Cert.Kernel2Ideal.nD Cert.Kernel2Ideal.τ).loc Cert.Kernel2Ideal.main_v11_8)) (v9 : (c : Dev Cert.Kernel2Ideal.nD) → Buf (Elt Ideal) ((c.tc : Thread Cert.Kernel2Ideal.nD Cert.Kernel2Ideal.τ).loc Cert.Kernel2Ideal.main_v11_9)) (v10 : (c : Dev Cert.Kernel2Ideal.nD) → Buf (Elt Ideal) ((c.tc : Thread Cert.Kernel2Ideal.nD Cert.Kernel2Ideal.τ).loc Cert.Kernel2Ideal.main_v11_10)) (v11 : (c : Dev Cert.Kernel2Ideal.nD) → Buf (Elt Ideal) ((c.tc : Thread Cert.Kernel2Ideal.nD Cert.Kernel2Ideal.τ).loc Cert.Kernel2Ideal.main_v11_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_v11_4) = v4 c
          ∧ r.2.mem ((c.tc : Thread Cert.Kernel2Ideal.nD Cert.Kernel2Ideal.τ).loc Cert.Kernel2Ideal.main_v11_5) = v5 c
          ∧ r.2.mem ((c.tc : Thread Cert.Kernel2Ideal.nD Cert.Kernel2Ideal.τ).loc Cert.Kernel2Ideal.main_v11_6) = v6 c
          ∧ r.2.mem ((c.tc : Thread Cert.Kernel2Ideal.nD Cert.Kernel2Ideal.τ).loc Cert.Kernel2Ideal.main_v11_7) = v7 c
          ∧ r.2.mem ((c.tc : Thread Cert.Kernel2Ideal.nD Cert.Kernel2Ideal.τ).loc Cert.Kernel2Ideal.main_v11_8) = v8 c
          ∧ r.2.mem ((c.tc : Thread Cert.Kernel2Ideal.nD Cert.Kernel2Ideal.τ).loc Cert.Kernel2Ideal.main_v11_9) = v9 c
          ∧ r.2.mem ((c.tc : Thread Cert.Kernel2Ideal.nD Cert.Kernel2Ideal.τ).loc Cert.Kernel2Ideal.main_v11_10) = v10 c
          ∧ r.2.mem ((c.tc : Thread Cert.Kernel2Ideal.nD Cert.Kernel2Ideal.τ).loc Cert.Kernel2Ideal.main_v11_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_v27) = v4 c
          ∧ r.2.mem ((c.tc : Thread Cert.Reference2Ideal.nD Cert.Reference2Ideal.τ).loc Cert.Reference2Ideal.main_v28) = v5 c
          ∧ r.2.mem ((c.tc : Thread Cert.Reference2Ideal.nD Cert.Reference2Ideal.τ).loc Cert.Reference2Ideal.main_v29) = v6 c
          ∧ r.2.mem ((c.tc : Thread Cert.Reference2Ideal.nD Cert.Reference2Ideal.τ).loc Cert.Reference2Ideal.main_v30) = v7 c
          ∧ r.2.mem ((c.tc : Thread Cert.Reference2Ideal.nD Cert.Reference2Ideal.τ).loc Cert.Reference2Ideal.main_v22) = v8 c
          ∧ r.2.mem ((c.tc : Thread Cert.Reference2Ideal.nD Cert.Reference2Ideal.τ).loc Cert.Reference2Ideal.main_v32) = v9 c
          ∧ r.2.mem ((c.tc : Thread Cert.Reference2Ideal.nD Cert.Reference2Ideal.τ).loc Cert.Reference2Ideal.main_v34) = v10 c
          ∧ r.2.mem ((c.tc : Thread Cert.Reference2Ideal.nD Cert.Reference2Ideal.τ).loc Cert.Reference2Ideal.main_v35) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)) (v4 : (c : Dev Cert.Kernel3Ideal.nD) → Buf (Elt Ideal) ((c.tc : Thread Cert.Kernel3Ideal.nD Cert.Kernel3Ideal.τ).loc Cert.Kernel3Ideal.main_v11_4)) (v5 : (c : Dev Cert.Kernel3Ideal.nD) → Buf (Elt Ideal) ((c.tc : Thread Cert.Kernel3Ideal.nD Cert.Kernel3Ideal.τ).loc Cert.Kernel3Ideal.main_v11_5)) (v6 : (c : Dev Cert.Kernel3Ideal.nD) → Buf (Elt Ideal) ((c.tc : Thread Cert.Kernel3Ideal.nD Cert.Kernel3Ideal.τ).loc Cert.Kernel3Ideal.main_v11_6)) (v7 : (c : Dev Cert.Kernel3Ideal.nD) → Buf (Elt Ideal) ((c.tc : Thread Cert.Kernel3Ideal.nD Cert.Kernel3Ideal.τ).loc Cert.Kernel3Ideal.main_v11_7)) (v8 : (c : Dev Cert.Kernel3Ideal.nD) → Buf (Elt Ideal) ((c.tc : Thread Cert.Kernel3Ideal.nD Cert.Kernel3Ideal.τ).loc Cert.Kernel3Ideal.main_v11_8)) (v9 : (c : Dev Cert.Kernel3Ideal.nD) → Buf (Elt Ideal) ((c.tc : Thread Cert.Kernel3Ideal.nD Cert.Kernel3Ideal.τ).loc Cert.Kernel3Ideal.main_v11_9)) (v10 : (c : Dev Cert.Kernel3Ideal.nD) → Buf (Elt Ideal) ((c.tc : Thread Cert.Kernel3Ideal.nD Cert.Kernel3Ideal.τ).loc Cert.Kernel3Ideal.main_v11_10)) (v11 : (c : Dev Cert.Kernel3Ideal.nD) → Buf (Elt Ideal) ((c.tc : Thread Cert.Kernel3Ideal.nD Cert.Kernel3Ideal.τ).loc Cert.Kernel3Ideal.main_v11_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_v11_4) = v4 c
          ∧ r.2.mem ((c.tc : Thread Cert.Kernel3Ideal.nD Cert.Kernel3Ideal.τ).loc Cert.Kernel3Ideal.main_v11_5) = v5 c
          ∧ r.2.mem ((c.tc : Thread Cert.Kernel3Ideal.nD Cert.Kernel3Ideal.τ).loc Cert.Kernel3Ideal.main_v11_6) = v6 c
          ∧ r.2.mem ((c.tc : Thread Cert.Kernel3Ideal.nD Cert.Kernel3Ideal.τ).loc Cert.Kernel3Ideal.main_v11_7) = v7 c
          ∧ r.2.mem ((c.tc : Thread Cert.Kernel3Ideal.nD Cert.Kernel3Ideal.τ).loc Cert.Kernel3Ideal.main_v11_8) = v8 c
          ∧ r.2.mem ((c.tc : Thread Cert.Kernel3Ideal.nD Cert.Kernel3Ideal.τ).loc Cert.Kernel3Ideal.main_v11_9) = v9 c
          ∧ r.2.mem ((c.tc : Thread Cert.Kernel3Ideal.nD Cert.Kernel3Ideal.τ).loc Cert.Kernel3Ideal.main_v11_10) = v10 c
          ∧ r.2.mem ((c.tc : Thread Cert.Kernel3Ideal.nD Cert.Kernel3Ideal.τ).loc Cert.Kernel3Ideal.main_v11_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_v27) = v4 c
          ∧ r.2.mem ((c.tc : Thread Cert.Reference3Ideal.nD Cert.Reference3Ideal.τ).loc Cert.Reference3Ideal.main_v28) = v5 c
          ∧ r.2.mem ((c.tc : Thread Cert.Reference3Ideal.nD Cert.Reference3Ideal.τ).loc Cert.Reference3Ideal.main_v29) = v6 c
          ∧ r.2.mem ((c.tc : Thread Cert.Reference3Ideal.nD Cert.Reference3Ideal.τ).loc Cert.Reference3Ideal.main_v30) = v7 c
          ∧ r.2.mem ((c.tc : Thread Cert.Reference3Ideal.nD Cert.Reference3Ideal.τ).loc Cert.Reference3Ideal.main_v22) = v8 c
          ∧ r.2.mem ((c.tc : Thread Cert.Reference3Ideal.nD Cert.Reference3Ideal.τ).loc Cert.Reference3Ideal.main_v32) = v9 c
          ∧ r.2.mem ((c.tc : Thread Cert.Reference3Ideal.nD Cert.Reference3Ideal.τ).loc Cert.Reference3Ideal.main_v34) = v10 c
          ∧ r.2.mem ((c.tc : Thread Cert.Reference3Ideal.nD Cert.Reference3Ideal.τ).loc Cert.Reference3Ideal.main_v35) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v72_0)) (v1 : (c : Dev Cert.Kernel4Ideal.nD) → Buf (Elt Ideal) ((c.tc : Thread Cert.Kernel4Ideal.nD Cert.Kernel4Ideal.τ).loc Cert.Kernel4Ideal.main_v72_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v72_0) = v0 c
          ∧ r.2.mem ((c.tc : Thread Cert.Kernel4Ideal.nD Cert.Kernel4Ideal.τ).loc Cert.Kernel4Ideal.main_v72_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v161) = v0 c
          ∧ r.2.mem ((c.tc : Thread Cert.Reference4Ideal.nD Cert.Reference4Ideal.τ).loc Cert.Reference4Ideal.main_v127_3) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v14_0)) (v1 : (c : Dev Cert.Kernel7Ideal.nD) → Buf (Elt Ideal) ((c.tc : Thread Cert.Kernel7Ideal.nD Cert.Kernel7Ideal.τ).loc Cert.Kernel7Ideal.main_v14_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14_0) = v0 c
          ∧ r.2.mem ((c.tc : Thread Cert.Kernel7Ideal.nD Cert.Kernel7Ideal.τ).loc Cert.Kernel7Ideal.main_v14_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v33)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v33) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_inputs.lean ====
abbrev S65536x512 : Shape := ⟨2, ![65536, 512]⟩
abbrev S32x4x128x128 : Shape := ⟨4, ![32, 4, 128, 128]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bitsLt_bf16_f32 : FTy.bits .bf16 < FTy.bits .f32
  bcast_S_S32x4x128x128 : S_.BroadcastsInDim S32x4x128x128 (![] : Fin 0 → Fin S32x4x128x128.rank)
  reducesTo_S32x4x128x128_S_d0_1_2_3 : S32x4x128x128.ReducesTo [0, 1, 2, 3] S_

variable [Facts]

def fn_part1 {F : FTy → Type} [FloatOps F] (main_v14 : IVec S_ 1) (main_v15 : FVec F S32x4x128x128 .f32) (main_v16 : FVec F S32x4x128x128 .f32) : IVec S_ 1 :=
  let main_v17 : IVec S32x4x128x128 1 := cmpf .olt main_v15 main_v16
  let main_c_5 : IVec S_ 1 := constantI S_ 1 1#1
  let main_v18 : IVec S_ 1 := (fun x v => Host.reduce IntOp.andi x v reducesTo_S32x4x128x128_S_d0_1_2_3 h_S_) main_v17 main_c_5
  let main_v19 : IVec S_ 1 := andi main_v14 main_v18
  main_v19

def fn {F : FTy → Type} [FloatOps F] (main_arg0 : FVec F S65536x512 .f32) (main_arg1 : FVec F S65536x512 .f32) (main_arg2 : FVec F S65536x512 .bf16) (main_arg3 : FVec F S65536x512 .f32) (main_arg4 : FVec F S32x4x128x128 .f32) (main_arg5 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x512 .f32 := (extf .f32 · bitsLt_bf16_f32) main_arg2
  let main_v10 : FVec F S65536x512 .f32 := Host.absf main_v9
  let main_cst_2 : FVec F S_ .f32 := constant S_ .f32 0x7F800000#32
  let main_v11 : FVec F S65536x512 .f32 := broadcastInDim S65536x512 ![] bcast_S_S65536x512 main_cst_2
  let main_v12 : IVec S65536x512 1 := cmpf .olt main_v10 main_v11
  let main_c_3 : IVec S_ 1 := constantI S_ 1 1#1
  let main_v13 : IVec S_ 1 := (fun x v => Host.reduce IntOp.andi x v reducesTo_S65536x512_S_d0_1 h_S_) main_v12 main_c_3
  let main_v14 : IVec S_ 1 := andi main_v8 main_v13
  let main_v15 : FVec F S32x4x128x128 .f32 := Host.absf main_arg4
  let main_cst_4 : FVec F S_ .f32 := constant S_ .f32 0x7F800000#32
  let main_v16 : FVec F S32x4x128x128 .f32 := broadcastInDim S32x4x128x128 ![] bcast_S_S32x4x128x128 main_cst_4
  fn_part1 (F := F) main_v14 main_v15 main_v16
-- ==== Kernel.lean ====
abbrev S65536x512 : Shape := ⟨2, ![65536, 512]⟩
abbrev S32x4x128x128 : Shape := ⟨4, ![32, 4, 128, 128]⟩
abbrev S512 : Shape := ⟨1, ![512]⟩
abbrev S2048 : Shape := ⟨1, ![2048]⟩
abbrev S_ : Shape := ⟨0, ![]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S1x4 : Shape := ⟨2, ![1, 4]⟩
abbrev S256x4 : Shape := ⟨2, ![256, 4]⟩
abbrev S256x4x128 : Shape := ⟨3, ![256, 4, 128]⟩
abbrev S256x512 : Shape := ⟨2, ![256, 512]⟩
abbrev S1x512 : Shape := ⟨2, ![1, 512]⟩
abbrev S256x128 : Shape := ⟨2, ![256, 128]⟩
abbrev S1x4x128x128 : Shape := ⟨4, ![1, 4, 128, 128]⟩
abbrev S1x1x128x128 : Shape := ⟨4, ![1, 1, 128, 128]⟩
abbrev S128x128 : Shape := ⟨2, ![128, 128]⟩
abbrev S128x256 : Shape := ⟨2, ![128, 256]⟩
abbrev S1 : Shape := ⟨1, ![1]⟩
abbrev S1x128 : Shape := ⟨2, ![1, 128]⟩

abbrev nBuf : Space → Nat
  | .hbm => 94
  | .vmem => 22
  | .smem => 1
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x512, .bf16⟩
  | .hbm, ⟨3, _⟩ => ⟨S65536x512, .f32⟩
  | .hbm, ⟨4, _⟩ => ⟨S32x4x128x128, .f32⟩
  | .hbm, ⟨5, _⟩ => ⟨S512, .f32⟩
  | .hbm, ⟨6, _⟩ => ⟨S2048, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S2048x1, .f32⟩
  | .hbm, ⟨20, _⟩ => ⟨S1x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x128, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x128, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S256, .f32⟩
  | .hbm, ⟨42, _⟩ => ⟨S256x1, .f32⟩
  | .hbm, ⟨43, _⟩ => ⟨S1x256, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S1x256x256, .f32⟩
  | .hbm, ⟨48, _⟩ => ⟨S_, .f32⟩
  | .hbm, ⟨49, _⟩ => ⟨S1x256x256, .f32⟩
  | .hbm, ⟨50, _⟩ => ⟨S1x256x256, .i1⟩
  | .hbm, ⟨51, _⟩ => ⟨S_, .f32⟩
  | .hbm, ⟨52, _⟩ => ⟨S256x256, .f32⟩
  | .hbm, ⟨53, _⟩ => ⟨S256x256, .f32⟩
  | .hbm, ⟨54, _⟩ => ⟨S1x256x256, .f32⟩
  | .hbm, ⟨55, _⟩ => ⟨S4x1x1, .f32⟩
  | .hbm, ⟨56, _⟩ => ⟨S4x256x256, .f32⟩
  | .hbm, ⟨57, _⟩ => ⟨S4x256x256, .f32⟩
  | .hbm, ⟨58, _⟩ => ⟨S4x256x256, .f32⟩
  | .hbm, ⟨59, _⟩ => ⟨S4x256x256, .f32⟩
  | .hbm, ⟨60, _⟩ => ⟨S_, .f32⟩
  | .hbm, ⟨61, _⟩ => ⟨S_, .f32⟩
  | .hbm, ⟨62, _⟩ => ⟨S4x256x256, .i1⟩
  | .hbm, ⟨63, _⟩ => ⟨S4x256x256, .f32⟩
  | .hbm, ⟨64, _⟩ => ⟨S4x256x256, .f32⟩
  | .hbm, ⟨65, _⟩ => ⟨S_, .f32⟩
  | .hbm, ⟨66, _⟩ => ⟨S256, .f32⟩
  | .hbm, ⟨67, _⟩ => ⟨S256, .f32⟩
  | .hbm, ⟨68, _⟩ => ⟨S256x1, .f32⟩
  | .hbm, ⟨69, _⟩ => ⟨S1x4, .f32⟩
  | .hbm, ⟨70, _⟩ => ⟨S256x4, .f32⟩
  | .hbm, ⟨71, _⟩ => ⟨S256x4, .f32⟩
  | .hbm, ⟨72, _⟩ => ⟨S256x4, .f32⟩
  | .hbm, ⟨73, _⟩ => ⟨S256x4, .f32⟩
  | .hbm, ⟨74, _⟩ => ⟨S256x4x128, .f32⟩
  | .hbm, ⟨75, _⟩ => ⟨S256x512, .f32⟩
  | .hbm, ⟨76, _⟩ => ⟨S_, .f32⟩
  | .hbm, ⟨77, _⟩ => ⟨S256, .f32⟩
  | .hbm, ⟨78, _⟩ => ⟨S256, .f32⟩
  | .hbm, ⟨79, _⟩ => ⟨S256x1, .f32⟩
  | .hbm, ⟨80, _⟩ => ⟨S1x4, .f32⟩
  | .hbm, ⟨81, _⟩ => ⟨S256x4, .f32⟩
  | .hbm, ⟨82, _⟩ => ⟨S256x4, .f32⟩
  | .hbm, ⟨83, _⟩ => ⟨S256x4, .f32⟩
  | .hbm, ⟨84, _⟩ => ⟨S256x4, .f32⟩
  | .hbm, ⟨85, _⟩ => ⟨S256x4x128, .f32⟩
  | .hbm, ⟨86, _⟩ => ⟨S256x512, .f32⟩
  | .hbm, ⟨87, _⟩ => ⟨S_, .f32⟩
  | .hbm, ⟨88, _⟩ => ⟨S4, .f32⟩
  | .hbm, ⟨89, _⟩ => ⟨S4, .f32⟩
  | .hbm, ⟨90, _⟩ => ⟨S4, .f32⟩
  | .hbm, ⟨91, _⟩ => ⟨S1x512, .f32⟩
  | .hbm, ⟨92, _⟩ => ⟨S65536x512, .bf16⟩
  | .hbm, ⟨93, _⟩ => ⟨S32x4x128x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S4x256x256, .f32⟩
  | .local _ .vmem, ⟨13, _⟩ => ⟨S256x512, .f32⟩
  | .local _ .vmem, ⟨14, _⟩ => ⟨S256x512, .f32⟩
  | .local _ .vmem, ⟨15, _⟩ => ⟨S1x512, .f32⟩
  | .local _ .vmem, ⟨16, _⟩ => ⟨S1x4x128x128, .f32⟩
  | .local _ .vmem, ⟨17, _⟩ => ⟨S1x4x128x128, .f32⟩
  | .local _ .vmem, ⟨18, _⟩ => ⟨S256x512, .bf16⟩
  | .local _ .vmem, ⟨19, _⟩ => ⟨S256x512, .bf16⟩
  | .local _ .vmem, ⟨20, _⟩ => ⟨S1x4x128x128, .f32⟩
  | .local _ .vmem, ⟨21, _⟩ => ⟨S1x4x128x128, .f32⟩
  | .local _ .smem, ⟨0, _⟩ => ⟨S4, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72_0 : Ref sig .tc := ⟨.hbm, 92, rfl⟩
abbrev main_v72_1 : Ref sig .tc := ⟨.hbm, 93, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![32, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S65536x512 : Shape := ⟨2, ![65536, 512]⟩
abbrev S32x4x128x128 : Shape := ⟨4, ![32, 4, 128, 128]⟩
abbrev S512 : Shape := ⟨1, ![512]⟩
abbrev S2048 : Shape := ⟨1, ![2048]⟩
abbrev S_ : Shape := ⟨0, ![]⟩
abbrev S32x2048x4x128 : Shape := ⟨4, ![32, 2048, 4, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S32x2048x4x64 : Shape := ⟨4, ![32, 2048, 4, 64]⟩
abbrev S4 : Shape := ⟨1, ![4]⟩
abbrev S32x32x64x4x128 : Shape := ⟨5, ![32, 32, 64, 4, 128]⟩
abbrev S64x1 : Shape := ⟨2, ![64, 1]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S32x32x4x64x64 : Shape := ⟨5, ![32, 32, 4, 64, 64]⟩
abbrev S1x1x4x64x64 : Shape := ⟨5, ![1, 1, 4, 64, 64]⟩
abbrev S32x32x4x128x64 : Shape := ⟨5, ![32, 32, 4, 128, 64]⟩
abbrev S1x4 : Shape := ⟨2, ![1, 4]⟩
abbrev S64x4 : Shape := ⟨2, ![64, 4]⟩
abbrev S1x1x64x4x1 : Shape := ⟨5, ![1, 1, 64, 4, 1]⟩
abbrev S32x32x4x128x128 : Shape := ⟨5, ![32, 32, 4, 128, 128]⟩
abbrev S1x4x1x1 : Shape := ⟨4, ![1, 4, 1, 1]⟩
abbrev S1x32x4x128x128 : Shape := ⟨5, ![1, 32, 4, 128, 128]⟩
abbrev S32x2048x4 : Shape := ⟨3, ![32, 2048, 4]⟩
abbrev S32x2048x4x1 : Shape := ⟨4, ![32, 2048, 4, 1]⟩
abbrev S32x2048x512 : Shape := ⟨3, ![32, 2048, 512]⟩
abbrev S1x1x512 : Shape := ⟨3, ![1, 1, 512]⟩

abbrev nBuf : Space → Nat
  | .hbm => 223
  | .vmem => 0
  | .smem => 0
  | _ => 0

abbrev hbmTy0_0 (i : Nat) : BufTy := match i % 128 with
  | 0 => ⟨S65536x512, .f32⟩
  | 1 => ⟨S65536x512, .f32⟩
  | 2 => ⟨S65536x512, .bf16⟩
  | 3 => ⟨S65536x512, .f32⟩
  | 4 => ⟨S32x4x128x128, .f32⟩
  | 5 => ⟨S512, .f32⟩
  | 6 => ⟨S2048, .i32⟩
  | 7 => ⟨S_, .i32⟩
  | 8 => ⟨S2048, .i32⟩
  | 9 => ⟨S2048, .i32⟩
  | 10 => ⟨S32x2048x4x128, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S2048, .f32⟩
  | 20 => ⟨S2048x1, .f32⟩
  | 21 => ⟨S1x64, .f32⟩
  | 22 => ⟨S2048x64, .f32⟩
  | 23 => ⟨S2048x64, .f32⟩
  | 24 => ⟨S2048x64, .f32⟩
  | 25 => ⟨S2048x64, .f32⟩
  | 26 => ⟨S1x2048x1x64, .f32⟩
  | 27 => ⟨S2048x64, .f32⟩
  | 28 => ⟨S1x2048x1x64, .f32⟩
  | 29 => ⟨S32x2048x4x64, .f32⟩
  | 30 => ⟨S32x2048x4x64, .f32⟩
  | 31 => ⟨S32x2048x4x64, .f32⟩
  | 32 => ⟨S32x2048x4x64, .f32⟩
  | 33 => ⟨S32x2048x4x64, .f32⟩
  | 34 => ⟨S32x2048x4x64, .f32⟩
  | 35 => ⟨S32x2048x4x64, .f32⟩
  | 36 => ⟨S32x2048x4x64, .f32⟩
  | 37 => ⟨S32x2048x4x64, .f32⟩
  | 38 => ⟨S32x2048x4x64, .f32⟩
  | 39 => ⟨S32x2048x4x64, .f32⟩
  | 40 => ⟨S32x2048x4x64, .f32⟩
  | 41 => ⟨S32x2048x4x128, .f32⟩
  | 42 => ⟨S32x2048x4x128, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S2048, .f32⟩
  | 52 => ⟨S2048x1, .f32⟩
  | 53 => ⟨S1x64, .f32⟩
  | 54 => ⟨S2048x64, .f32⟩
  | 55 => ⟨S2048x64, .f32⟩
  | 56 => ⟨S2048x64, .f32⟩
  | 57 => ⟨S2048x64, .f32⟩
  | 58 => ⟨S1x2048x1x64, .f32⟩
  | 59 => ⟨S2048x64, .f32⟩
  | 60 => ⟨S1x2048x1x64, .f32⟩
  | 61 => ⟨S32x2048x4x64, .f32⟩
  | 62 => ⟨S32x2048x4x64, .f32⟩
  | 63 => ⟨S32x2048x4x64, .f32⟩
  | 64 => ⟨S32x2048x4x64, .f32⟩
  | 65 => ⟨S32x2048x4x64, .f32⟩
  | 66 => ⟨S32x2048x4x64, .f32⟩
  | 67 => ⟨S32x2048x4x64, .f32⟩
  | 68 => ⟨S32x2048x4x64, .f32⟩
  | 69 => ⟨S32x2048x4x64, .f32⟩
  | 70 => ⟨S32x2048x4x64, .f32⟩
  | 71 => ⟨S32x2048x4x64, .f32⟩
  | 72 => ⟨S32x2048x4x64, .f32⟩
  | 73 => ⟨S32x2048x4x128, .f32⟩
  | 74 => ⟨S_, .f32⟩
  | 75 => ⟨S32x2048x4x128, .f32⟩
  | 76 => ⟨S32x2048x4x128, .f32⟩
  | 77 => ⟨S65536x512, .f32⟩
  | 78 => ⟨S32x2048x4x128, .f32⟩
  | 79 => ⟨S4, .f32⟩
  | 80 => ⟨S_, .f32⟩
  | 81 => ⟨S4, .f32⟩
  | 82 => ⟨S4, .f32⟩
  | 83 => ⟨S_, .f32⟩
  | 84 => ⟨S4, .f32⟩
  | 85 => ⟨S4, .f32⟩
  | 86 => ⟨S4, .f32⟩
  | 87 => ⟨S4, .f32⟩
  | 88 => ⟨S4, .f32⟩
  | 89 => ⟨S32x32x64x4x128, .f32⟩
  | 90 => ⟨S32x32x64x4x128, .f32⟩
  | 91 => ⟨S32x32x64x4x128, .f32⟩
  | 92 => ⟨S64, .f32⟩
  | 93 => ⟨S64x1, .f32⟩
  | 94 => ⟨S1x64, .f32⟩
  | 95 => ⟨S64x64, .f32⟩
  | 96 => ⟨S64x64, .f32⟩
  | 97 => ⟨S64x64, .f32⟩
  | 98 => ⟨S1x64x64, .f32⟩
  | 99 => ⟨S_, .f32⟩
  | 100 => ⟨S1x64x64, .f32⟩
  | 101 => ⟨S1x64x64, .i1⟩
  | 102 => ⟨S_, .f32⟩
  | 103 => ⟨S64x64, .f32⟩
  | 104 => ⟨S64x64, .f32⟩
  | 105 => ⟨S1x64x64, .f32⟩
  | 106 => ⟨S4x1x1, .f32⟩
  | 107 => ⟨S4x64x64, .f32⟩
  | 108 => ⟨S4x64x64, .f32⟩
  | 109 => ⟨S4x64x64, .f32⟩
  | 110 => ⟨S4x64x64, .f32⟩
  | 111 => ⟨S_, .f32⟩
  | 112 => ⟨S_, .f32⟩
  | 113 => ⟨S4x64x64, .i1⟩
  | 114 => ⟨S4x64x64, .f32⟩
  | 115 => ⟨S4x64x64, .f32⟩
  | 116 => ⟨S32x32x4x64x64, .f32⟩
  | 117 => ⟨S1x1x4x64x64, .f32⟩
  | 118 => ⟨S32x32x4x64x64, .f32⟩
  | 119 => ⟨S32x32x4x64x64, .f32⟩
  | 120 => ⟨S32x32x4x128x64, .f32⟩
  | 121 => ⟨S32x32x64x4x128, .f32⟩
  | 122 => ⟨S_, .f32⟩
  | 123 => ⟨S64, .f32⟩
  | 124 => ⟨S64, .f32⟩
  | 125 => ⟨S64x1, .f32⟩
  | 126 => ⟨S1x4, .f32⟩
  | 127 => ⟨S64x4, .f32⟩
  | _ => ⟨S65536x512, .f32⟩

abbrev hbmTy0_1 (i : Nat) : BufTy := match i % 128 with
  | 0 => ⟨S64x4, .f32⟩
  | 1 => ⟨S64x4, .f32⟩
  | 2 => ⟨S64x4, .f32⟩
  | 3 => ⟨S_, .f32⟩
  | 4 => ⟨S64, .f32⟩
  | 5 => ⟨S64, .f32⟩
  | 6 => ⟨S64x1, .f32⟩
  | 7 => ⟨S1x4, .f32⟩
  | 8 => ⟨S64x4, .f32⟩
  | 9 => ⟨S64x4, .f32⟩
  | 10 => ⟨S64x4, .f32⟩
  | 11 => ⟨S64x4, .f32⟩
  | 12 => ⟨S1x1x64x4x1, .f32⟩
  | 13 => ⟨S32x32x64x4x128, .f32⟩
  | 14 => ⟨S32x32x64x4x128, .f32⟩
  | 15 => ⟨S32x32x4x128x128, .f32⟩
  | 16 => ⟨S_, .f32⟩
  | 17 => ⟨S4, .f32⟩
  | 18 => ⟨S4, .f32⟩
  | 19 => ⟨S4, .f32⟩
  | 20 => ⟨S1x4x1x1, .f32⟩
  | 21 => ⟨S_, .f32⟩
  | 22 => ⟨S32x32x4x128x128, .f32⟩
  | 23 => ⟨S_, .i32⟩
  | 24 => ⟨S32x32x4x128x128, .f32⟩
  | 25 => ⟨S1x4x1x1, .f32⟩
  | 26 => ⟨S_, .i32⟩
  | 27 => ⟨S32x4x128x128, .f32⟩
  | 28 => ⟨S32x32x4x128x128, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S1x32x4x128x128, .f32⟩
  | 36 => ⟨S32x4x128x128, .f32⟩
  | 37 => ⟨S32x4x128x128, .f32⟩
  | 38 => ⟨S32x4x128x128, .f32⟩
  | 39 => ⟨S32x4x128x128, .f32⟩
  | 40 => ⟨S1x32x4x128x128, .f32⟩
  | 41 => ⟨S_, .i32⟩
  | 42 => ⟨S_, .i32⟩
  | 43 => ⟨S_, .i32⟩
  | 44 => ⟨S_, .i32⟩
  | 45 => ⟨S32x32x4x128x128, .f32⟩
  | 46 => ⟨S_, .i32⟩
  | 47 => ⟨S_, .i32⟩
  | 48 => ⟨S1x1x64x4x1, .f32⟩
  | 49 => ⟨S32x32x64x4x128, .f32⟩
  | 50 => ⟨S32x32x64x4x128, .f32⟩
  | 51 => ⟨S32x32x4x128x64, .f32⟩
  | 52 => ⟨S32x32x64x4x128, .f32⟩
  | 53 => ⟨S32x32x64x4x128, .f32⟩
  | 54 => ⟨S32x2048x4x128, .f32⟩
  | 55 => ⟨S_, .f32⟩
  | 56 => ⟨S32x2048x4, .f32⟩
  | 57 => ⟨S32x2048x4x1, .f32⟩
  | 58 => ⟨S_, .f32⟩
  | 59 => ⟨S32x2048x4x1, .f32⟩
  | 60 => ⟨S32x2048x4x1, .f32⟩
  | 61 => ⟨S32x2048x4x128, .f32⟩
  | 62 => ⟨S32x2048x4x128, .f32⟩
  | 63 => ⟨S32x2048x4x128, .f32⟩
  | 64 => ⟨S_, .f32⟩
  | 65 => ⟨S32x2048x4, .f32⟩
  | 66 => ⟨S32x2048x4x1, .f32⟩
  | 67 => ⟨S_, .f32⟩
  | 68 => ⟨S32x2048x4x1, .f32⟩
  | 69 => ⟨S32x2048x4x1, .f32⟩
  | 70 => ⟨S32x2048x4x128, .f32⟩
  | 71 => ⟨S32x2048x4x128, .f32⟩
  | 72 => ⟨S_, .f32⟩
  | 73 => ⟨S32x2048x4x1, .f32⟩
  | 74 => ⟨S32x2048x4x1, .f32⟩
  | 75 => ⟨S32x2048x4x1, .f32⟩
  | 76 => ⟨S32x2048x4x128, .f32⟩
  | 77 => ⟨S32x2048x4x128, .f32⟩
  | 78 => ⟨S32x2048x512, .f32⟩
  | 79 => ⟨S1x1x512, .f32⟩
  | 80 => ⟨S32x2048x512, .f32⟩
  | 81 => ⟨S32x2048x512, .f32⟩
  | 82 => ⟨S32x2048x512, .f32⟩
  | 83 => ⟨S32x2048x512, .f32⟩
  | 84 => ⟨S32x2048x512, .f32⟩
  | 85 => ⟨S_, .f32⟩
  | 86 => ⟨S32x2048x512, .f32⟩
  | 87 => ⟨S32x2048x512, .f32⟩
  | 88 => ⟨S_, .f32⟩
  | 89 => ⟨S32x2048x512, .f32⟩
  | 90 => ⟨S32x2048x512, .f32⟩
  | 91 => ⟨S32x2048x512, .f32⟩
  | 92 => ⟨S32x2048x512, .f32⟩
  | 93 => ⟨S65536x512, .f32⟩
  | 94 => ⟨S65536x512, .bf16⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_3 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_4 : Ref sig .tc := ⟨.hbm, 80, rfl⟩
abbrev main_v68 : Ref sig .tc := ⟨.hbm, 81, rfl⟩
abbrev main_v69 : Ref sig .tc := ⟨.hbm, 82, rfl⟩
abbrev main_cst_5 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_6 : Ref sig .tc := ⟨.hbm, 99, rfl⟩
abbrev main_v85 : Ref sig .tc := ⟨.hbm, 100, rfl⟩
abbrev main_v86 : Ref sig .tc := ⟨.hbm, 101, rfl⟩
abbrev main_cst_7 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_8 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_9 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_10 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_cst_11 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_12 : Ref sig .tc := ⟨.hbm, 149, rfl⟩
abbrev main_v126 : Ref sig .tc := ⟨.hbm, 150, rfl⟩
abbrev main_c_13 : Ref sig .tc := ⟨.hbm, 151, rfl⟩
abbrev main_v127_0 : Ref sig .tc := ⟨.hbm, 152, rfl⟩
abbrev main_v127_1 : Ref sig .tc := ⟨.hbm, 153, rfl⟩
abbrev main_v127_2 : Ref sig .tc := ⟨.hbm, 154, rfl⟩
abbrev main_v127_3 : Ref sig .tc := ⟨.hbm, 155, rfl⟩
abbrev main_v127_4 : Ref sig .tc := ⟨.hbm, 156, rfl⟩
abbrev main_while0c_c_23 : Ref sig .tc := ⟨.hbm, 157, rfl⟩
abbrev main_while0c_v162 : Ref sig .tc := ⟨.hbm, 158, rfl⟩
abbrev main_while0b_call1_c : Ref sig .tc := ⟨.hbm, 159, rfl⟩
abbrev main_while0b_call1_c_0 : Ref sig .tc := ⟨.hbm, 160, rfl⟩
abbrev main_while0b_call1_c_1 : Ref sig .tc := ⟨.hbm, 161, rfl⟩
abbrev main_while0b_call1_c_2 : Ref sig .tc := ⟨.hbm, 162, rfl⟩
abbrev main_while0b_call1_v0 : Ref sig .tc := ⟨.hbm, 163, rfl⟩
abbrev main_while0b_v162 : Ref sig .tc := ⟨.hbm, 164, rfl⟩
abbrev main_while0b_v163 : Ref sig .tc := ⟨.hbm, 165, rfl⟩
abbrev main_while0b_v164 : Ref sig .tc := ⟨.hbm, 166, rfl⟩
abbrev main_while0b_v165 : Ref sig .tc := ⟨.hbm, 167, rfl⟩
abbrev main_while0b_call2_v0 : Ref sig .tc := ⟨.hbm, 168, rfl⟩
abbrev main_while0b_call2_c : Ref sig .tc := ⟨.hbm, 169, rfl⟩
abbrev main_while0b_call2_c_0 : Ref sig .tc := ⟨.hbm, 170, rfl⟩
abbrev main_while0b_call2_c_1 : Ref sig .tc := ⟨.hbm, 171, rfl⟩
abbrev main_while0b_call2_c_2 : Ref sig .tc := ⟨.hbm, 172, rfl⟩
abbrev main_while0b_v166 : Ref sig .tc := ⟨.hbm, 173, rfl⟩
abbrev main_while0b_c_23 : Ref sig .tc := ⟨.hbm, 174, rfl⟩
abbrev main_while0b_v167 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_14 : Ref sig .tc := ⟨.hbm, 183, rfl⟩
abbrev main_v135 : Ref sig .tc := ⟨.hbm, 184, rfl⟩
abbrev main_v136 : Ref sig .tc := ⟨.hbm, 185, rfl⟩
abbrev main_cst_15 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_16 : Ref sig .tc := ⟨.hbm, 192, rfl⟩
abbrev main_v142 : Ref sig .tc := ⟨.hbm, 193, rfl⟩
abbrev main_v143 : Ref sig .tc := ⟨.hbm, 194, rfl⟩
abbrev main_cst_17 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_18 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_call3_v0 : Ref sig .tc := ⟨.hbm, 211, rfl⟩
abbrev main_call3_v1 : Ref sig .tc := ⟨.hbm, 212, rfl⟩
abbrev main_call3_cst : Ref sig .tc := ⟨.hbm, 213, rfl⟩
abbrev main_call3_v2 : Ref sig .tc := ⟨.hbm, 214, rfl⟩
abbrev main_call3_v3 : Ref sig .tc := ⟨.hbm, 215, rfl⟩
abbrev main_call3_cst_0 : Ref sig .tc := ⟨.hbm, 216, rfl⟩
abbrev main_call3_v4 : Ref sig .tc := ⟨.hbm, 217, rfl⟩
abbrev main_call3_v5 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S65536x1024 : Shape := ⟨2, ![65536, 1024]⟩
abbrev S1024 : Shape := ⟨1, ![1024]⟩
abbrev S1024x4168 : Shape := ⟨2, ![1024, 4168]⟩
abbrev S1024x4096 : Shape := ⟨2, ![1024, 4096]⟩
abbrev S1024x72 : Shape := ⟨2, ![1024, 72]⟩
abbrev S_ : Shape := ⟨0, ![]⟩
abbrev S1024x128 : Shape := ⟨2, ![1024, 128]⟩
abbrev S1024x512 : Shape := ⟨2, ![1024, 512]⟩
abbrev S512x1024 : Shape := ⟨2, ![512, 1024]⟩
abbrev S128x1024 : Shape := ⟨2, ![128, 1024]⟩
abbrev S1x1024 : Shape := ⟨2, ![1, 1024]⟩
abbrev S65536x512 : Shape := ⟨2, ![65536, 512]⟩
abbrev S262144x128 : Shape := ⟨2, ![262144, 128]⟩
abbrev S65536x64 : Shape := ⟨2, ![65536, 64]⟩
abbrev S512x65536 : Shape := ⟨2, ![512, 65536]⟩
abbrev S128x65536 : Shape := ⟨2, ![128, 65536]⟩
abbrev S512x512 : Shape := ⟨2, ![512, 512]⟩
abbrev S2048x128 : Shape := ⟨2, ![2048, 128]⟩
abbrev S512x64 : Shape := ⟨2, ![512, 64]⟩
abbrev S128x512 : Shape := ⟨2, ![128, 512]⟩
abbrev S512 : Shape := ⟨1, ![512]⟩
abbrev S512x1 : Shape := ⟨2, ![512, 1]⟩
abbrev S512x128 : Shape := ⟨2, ![512, 128]⟩

abbrev nBuf : Space → Nat
  | .hbm => 28
  | .vmem => 32
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4168, .f32⟩
  | .hbm, ⟨3, _⟩ => ⟨S1024x4096, .f32⟩
  | .hbm, ⟨4, _⟩ => ⟨S1024x4096, .bf16⟩
  | .hbm, ⟨5, _⟩ => ⟨S1024x72, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S1024x512, .bf16⟩
  | .hbm, ⟨11, _⟩ => ⟨S512x1024, .bf16⟩
  | .hbm, ⟨12, _⟩ => ⟨S1024x512, .bf16⟩
  | .hbm, ⟨13, _⟩ => ⟨S512x1024, .bf16⟩
  | .hbm, ⟨14, _⟩ => ⟨S128x1024, .bf16⟩
  | .hbm, ⟨15, _⟩ => ⟨S1x1024, .f32⟩
  | .hbm, ⟨16, _⟩ => ⟨S65536x512, .f32⟩
  | .hbm, ⟨17, _⟩ => ⟨S65536x512, .f32⟩
  | .hbm, ⟨18, _⟩ => ⟨S65536x512, .bf16⟩
  | .hbm, ⟨19, _⟩ => ⟨S65536x512, .f32⟩
  | .hbm, ⟨20, _⟩ => ⟨S262144x128, .f32⟩
  | .hbm, ⟨21, _⟩ => ⟨S262144x128, .f32⟩
  | .hbm, ⟨22, _⟩ => ⟨S65536x512, .bf16⟩
  | .hbm, ⟨23, _⟩ => ⟨S65536x512, .bf16⟩
  | .hbm, ⟨24, _⟩ => ⟨S65536x64, .f32⟩
  | .hbm, ⟨25, _⟩ => ⟨S512x65536, .bf16⟩
  | .hbm, ⟨26, _⟩ => ⟨S512x65536, .bf16⟩
  | .hbm, ⟨27, _⟩ => ⟨S128x65536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .bf16⟩
  | .local _ .vmem, ⟨5, _⟩ => ⟨S512x1024, .bf16⟩
  | .local _ .vmem, ⟨6, _⟩ => ⟨S512x1024, .bf16⟩
  | .local _ .vmem, ⟨7, _⟩ => ⟨S128x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x64, .f32⟩
  | .local _ .vmem, ⟨25, _⟩ => ⟨S512x64, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S128x512, .f32⟩
  | .local _ .vmem, ⟨31, _⟩ => ⟨S128x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev main_v11_6 : Ref sig .tc := ⟨.hbm, 22, rfl⟩
abbrev main_v11_7 : Ref sig .tc := ⟨.hbm, 23, rfl⟩
abbrev main_v11_8 : Ref sig .tc := ⟨.hbm, 24, rfl⟩
abbrev main_v11_9 : Ref sig .tc := ⟨.hbm, 25, rfl⟩
abbrev main_v11_10 : Ref sig .tc := ⟨.hbm, 26, rfl⟩
abbrev main_v11_11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S65536x1024 : Shape := ⟨2, ![65536, 1024]⟩
abbrev S1024 : Shape := ⟨1, ![1024]⟩
abbrev S1024x4168 : Shape := ⟨2, ![1024, 4168]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4168 : Shape := ⟨2, ![65536, 4168]⟩
abbrev S65536x512 : Shape := ⟨2, ![65536, 512]⟩
abbrev S65536x64 : Shape := ⟨2, ![65536, 64]⟩
abbrev S65536x8 : Shape := ⟨2, ![65536, 8]⟩
abbrev S65536x72 : Shape := ⟨2, ![65536, 72]⟩
abbrev S65536x128 : Shape := ⟨2, ![65536, 128]⟩
abbrev S262144x128 : Shape := ⟨2, ![262144, 128]⟩
abbrev S512x65536 : Shape := ⟨2, ![512, 65536]⟩
abbrev S128x65536 : Shape := ⟨2, ![128, 65536]⟩

abbrev nBuf : Space → Nat
  | .hbm => 44
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4168, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x4168, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S65536x64, .f32⟩
  | .hbm, ⟨29, _⟩ => ⟨S65536x8, .f32⟩
  | .hbm, ⟨30, _⟩ => ⟨S65536x72, .f32⟩
  | .hbm, ⟨31, _⟩ => ⟨S_, .i32⟩
  | .hbm, ⟨32, _⟩ => ⟨S_, .f32⟩
  | .hbm, ⟨33, _⟩ => ⟨S65536x128, .f32⟩
  | .hbm, ⟨34, _⟩ => ⟨S65536x512, .bf16⟩
  | .hbm, ⟨35, _⟩ => ⟨S262144x128, .f32⟩
  | .hbm, ⟨36, _⟩ => ⟨S262144x128, .f32⟩
  | .hbm, ⟨37, _⟩ => ⟨S65536x512, .bf16⟩
  | .hbm, ⟨38, _⟩ => ⟨S65536x512, .bf16⟩
  | .hbm, ⟨39, _⟩ => ⟨S512x65536, .f32⟩
  | .hbm, ⟨40, _⟩ => ⟨S512x65536, .bf16⟩
  | .hbm, ⟨41, _⟩ => ⟨S512x65536, .f32⟩
  | .hbm, ⟨42, _⟩ => ⟨S512x65536, .bf16⟩
  | .hbm, ⟨43, _⟩ => ⟨S128x65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel3.lean ====
abbrev S512x1024 : Shape := ⟨2, ![512, 1024]⟩
abbrev S1024 : Shape := ⟨1, ![1024]⟩
abbrev S1024x4168 : Shape := ⟨2, ![1024, 4168]⟩
abbrev S1024x4096 : Shape := ⟨2, ![1024, 4096]⟩
abbrev S1024x72 : Shape := ⟨2, ![1024, 72]⟩
abbrev S_ : Shape := ⟨0, ![]⟩
abbrev S1024x128 : Shape := ⟨2, ![1024, 128]⟩
abbrev S1024x512 : Shape := ⟨2, ![1024, 512]⟩
abbrev S128x1024 : Shape := ⟨2, ![128, 1024]⟩
abbrev S1x1024 : Shape := ⟨2, ![1, 1024]⟩
abbrev S512x512 : Shape := ⟨2, ![512, 512]⟩
abbrev S2048x128 : Shape := ⟨2, ![2048, 128]⟩
abbrev S512x64 : Shape := ⟨2, ![512, 64]⟩
abbrev S128x512 : Shape := ⟨2, ![128, 512]⟩
abbrev S512 : Shape := ⟨1, ![512]⟩
abbrev S512x1 : Shape := ⟨2, ![512, 1]⟩
abbrev S512x128 : Shape := ⟨2, ![512, 128]⟩

abbrev nBuf : Space → Nat
  | .hbm => 28
  | .vmem => 19
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x4168, .f32⟩
  | .hbm, ⟨3, _⟩ => ⟨S1024x4096, .f32⟩
  | .hbm, ⟨4, _⟩ => ⟨S1024x4096, .bf16⟩
  | .hbm, ⟨5, _⟩ => ⟨S1024x72, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S1024x512, .bf16⟩
  | .hbm, ⟨11, _⟩ => ⟨S512x1024, .bf16⟩
  | .hbm, ⟨12, _⟩ => ⟨S1024x512, .bf16⟩
  | .hbm, ⟨13, _⟩ => ⟨S512x1024, .bf16⟩
  | .hbm, ⟨14, _⟩ => ⟨S128x1024, .bf16⟩
  | .hbm, ⟨15, _⟩ => ⟨S1x1024, .f32⟩
  | .hbm, ⟨16, _⟩ => ⟨S512x512, .f32⟩
  | .hbm, ⟨17, _⟩ => ⟨S512x512, .f32⟩
  | .hbm, ⟨18, _⟩ => ⟨S512x512, .bf16⟩
  | .hbm, ⟨19, _⟩ => ⟨S512x512, .f32⟩
  | .hbm, ⟨20, _⟩ => ⟨S2048x128, .f32⟩
  | .hbm, ⟨21, _⟩ => ⟨S2048x128, .f32⟩
  | .hbm, ⟨22, _⟩ => ⟨S512x512, .bf16⟩
  | .hbm, ⟨23, _⟩ => ⟨S512x512, .bf16⟩
  | .hbm, ⟨24, _⟩ => ⟨S512x64, .f32⟩
  | .hbm, ⟨25, _⟩ => ⟨S512x512, .bf16⟩
  | .hbm, ⟨26, _⟩ => ⟨S512x512, .bf16⟩
  | .hbm, ⟨27, _⟩ => ⟨S128x512, .f32⟩
  | .local _ .vmem, ⟨0, _⟩ => ⟨S512x1024, .f32⟩
  | .local _ .vmem, ⟨1, _⟩ => ⟨S1x1024, .f32⟩
  | .local _ .vmem, ⟨2, _⟩ => ⟨S1024x4096, .bf16⟩
  | .local _ .vmem, ⟨3, _⟩ => ⟨S1024x128, .bf16⟩
  | .local _ .vmem, ⟨4, _⟩ => ⟨S512x1024, .bf16⟩
  | .local _ .vmem, ⟨5, _⟩ => ⟨S512x1024, .bf16⟩
  | .local _ .vmem, ⟨6, _⟩ => ⟨S128x1024, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .f32⟩
  | .local _ .vmem, ⟨11, _⟩ => ⟨S2048x128, .f32⟩
  | .local _ .vmem, ⟨12, _⟩ => ⟨S2048x128, .f32⟩
  | .local _ .vmem, ⟨13, _⟩ => ⟨S512x512, .bf16⟩
  | .local _ .vmem, ⟨14, _⟩ => ⟨S512x512, .bf16⟩
  | .local _ .vmem, ⟨15, _⟩ => ⟨S512x64, .f32⟩
  | .local _ .vmem, ⟨16, _⟩ => ⟨S512x512, .bf16⟩
  | .local _ .vmem, ⟨17, _⟩ => ⟨S512x512, .bf16⟩
  | .local _ .vmem, ⟨18, _⟩ => ⟨S128x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev main_v11_6 : Ref sig .tc := ⟨.hbm, 22, rfl⟩
abbrev main_v11_7 : Ref sig .tc := ⟨.hbm, 23, rfl⟩
abbrev main_v11_8 : Ref sig .tc := ⟨.hbm, 24, rfl⟩
abbrev main_v11_9 : Ref sig .tc := ⟨.hbm, 25, rfl⟩
abbrev main_v11_10 : Ref sig .tc := ⟨.hbm, 26, rfl⟩
abbrev main_v11_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Reference3Ideal.lean ====
abbrev S512x1024 : Shape := ⟨2, ![512, 1024]⟩
abbrev S1024 : Shape := ⟨1, ![1024]⟩
abbrev S1024x4168 : Shape := ⟨2, ![1024, 4168]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x4168 : Shape := ⟨2, ![512, 4168]⟩
abbrev S512x512 : Shape := ⟨2, ![512, 512]⟩
abbrev S512x64 : Shape := ⟨2, ![512, 64]⟩
abbrev S512x8 : Shape := ⟨2, ![512, 8]⟩
abbrev S512x72 : Shape := ⟨2, ![512, 72]⟩
abbrev S512x128 : Shape := ⟨2, ![512, 128]⟩
abbrev S2048x128 : Shape := ⟨2, ![2048, 128]⟩
abbrev S128x512 : Shape := ⟨2, ![128, 512]⟩

abbrev nBuf : Space → Nat
  | .hbm => 44
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x4168, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S512x4168, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x64, .f32⟩
  | .hbm, ⟨29, _⟩ => ⟨S512x8, .f32⟩
  | .hbm, ⟨30, _⟩ => ⟨S512x72, .f32⟩
  | .hbm, ⟨31, _⟩ => ⟨S_, .i32⟩
  | .hbm, ⟨32, _⟩ => ⟨S_, .f32⟩
  | .hbm, ⟨33, _⟩ => ⟨S512x128, .f32⟩
  | .hbm, ⟨34, _⟩ => ⟨S512x512, .bf16⟩
  | .hbm, ⟨35, _⟩ => ⟨S2048x128, .f32⟩
  | .hbm, ⟨36, _⟩ => ⟨S2048x128, .f32⟩
  | .hbm, ⟨37, _⟩ => ⟨S512x512, .bf16⟩
  | .hbm, ⟨38, _⟩ => ⟨S512x512, .bf16⟩
  | .hbm, ⟨39, _⟩ => ⟨S512x512, .f32⟩
  | .hbm, ⟨40, _⟩ => ⟨S512x512, .bf16⟩
  | .hbm, ⟨41, _⟩ => ⟨S512x512, .f32⟩
  | .hbm, ⟨42, _⟩ => ⟨S512x512, .bf16⟩
  | .hbm, ⟨43, _⟩ => ⟨S128x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel4.lean ====
abbrev S512x512 : Shape := ⟨2, ![512, 512]⟩
abbrev S32x4x128x128 : Shape := ⟨4, ![32, 4, 128, 128]⟩
abbrev S512 : Shape := ⟨1, ![512]⟩
abbrev S16 : Shape := ⟨1, ![16]⟩
abbrev S_ : Shape := ⟨0, ![]⟩
abbrev S64 : Shape := ⟨1, ![64]⟩
abbrev S16x1 : Shape := ⟨2, ![16, 1]⟩
abbrev S1x64 : Shape := ⟨2, ![1, 64]⟩
abbrev S16x64 : Shape := ⟨2, ![16, 64]⟩
abbrev S16x128 : Shape := ⟨2, ![16, 128]⟩
abbrev S4 : Shape := ⟨1, ![4]⟩
abbrev S1x16 : Shape := ⟨2, ![1, 16]⟩
abbrev S16x16 : Shape := ⟨2, ![16, 16]⟩
abbrev S1x16x16 : Shape := ⟨3, ![1, 16, 16]⟩
abbrev S4x1x1 : Shape := ⟨3, ![4, 1, 1]⟩
abbrev S4x16x16 : Shape := ⟨3, ![4, 16, 16]⟩
abbrev S1x4 : Shape := ⟨2, ![1, 4]⟩
abbrev S16x4 : Shape := ⟨2, ![16, 4]⟩
abbrev S16x4x128 : Shape := ⟨3, ![16, 4, 128]⟩
abbrev S16x512 : Shape := ⟨2, ![16, 512]⟩
abbrev S1x512 : Shape := ⟨2, ![1, 512]⟩
abbrev S1x4x128x128 : Shape := ⟨4, ![1, 4, 128, 128]⟩
abbrev S1x1x128x128 : Shape := ⟨4, ![1, 1, 128, 128]⟩
abbrev S128x128 : Shape := ⟨2, ![128, 128]⟩
abbrev S128x16 : Shape := ⟨2, ![128, 16]⟩
abbrev S1 : Shape := ⟨1, ![1]⟩
abbrev S1x128 : Shape := ⟨2, ![1, 128]⟩

abbrev nBuf : Space → Nat
  | .hbm => 94
  | .vmem => 20
  | .smem => 1
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .bf16⟩
  | .hbm, ⟨3, _⟩ => ⟨S512x512, .f32⟩
  | .hbm, ⟨4, _⟩ => ⟨S32x4x128x128, .f32⟩
  | .hbm, ⟨5, _⟩ => ⟨S512, .f32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S16x1, .f32⟩
  | .hbm, ⟨20, _⟩ => ⟨S1x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x128, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x128, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S16, .f32⟩
  | .hbm, ⟨42, _⟩ => ⟨S16x1, .f32⟩
  | .hbm, ⟨43, _⟩ => ⟨S1x16, .f32⟩
  | .hbm, ⟨44, _⟩ => ⟨S16x16, .f32⟩
  | .hbm, ⟨45, _⟩ => ⟨S16x16, .f32⟩
  | .hbm, ⟨46, _⟩ => ⟨S16x16, .f32⟩
  | .hbm, ⟨47, _⟩ => ⟨S1x16x16, .f32⟩
  | .hbm, ⟨48, _⟩ => ⟨S_, .f32⟩
  | .hbm, ⟨49, _⟩ => ⟨S1x16x16, .f32⟩
  | .hbm, ⟨50, _⟩ => ⟨S1x16x16, .i1⟩
  | .hbm, ⟨51, _⟩ => ⟨S_, .f32⟩
  | .hbm, ⟨52, _⟩ => ⟨S16x16, .f32⟩
  | .hbm, ⟨53, _⟩ => ⟨S16x16, .f32⟩
  | .hbm, ⟨54, _⟩ => ⟨S1x16x16, .f32⟩
  | .hbm, ⟨55, _⟩ => ⟨S4x1x1, .f32⟩
  | .hbm, ⟨56, _⟩ => ⟨S4x16x16, .f32⟩
  | .hbm, ⟨57, _⟩ => ⟨S4x16x16, .f32⟩
  | .hbm, ⟨58, _⟩ => ⟨S4x16x16, .f32⟩
  | .hbm, ⟨59, _⟩ => ⟨S4x16x16, .f32⟩
  | .hbm, ⟨60, _⟩ => ⟨S_, .f32⟩
  | .hbm, ⟨61, _⟩ => ⟨S_, .f32⟩
  | .hbm, ⟨62, _⟩ => ⟨S4x16x16, .i1⟩
  | .hbm, ⟨63, _⟩ => ⟨S4x16x16, .f32⟩
  | .hbm, ⟨64, _⟩ => ⟨S4x16x16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S16x1, .f32⟩
  | .hbm, ⟨69, _⟩ => ⟨S1x4, .f32⟩
  | .hbm, ⟨70, _⟩ => ⟨S16x4, .f32⟩
  | .hbm, ⟨71, _⟩ => ⟨S16x4, .f32⟩
  | .hbm, ⟨72, _⟩ => ⟨S16x4, .f32⟩
  | .hbm, ⟨73, _⟩ => ⟨S16x4, .f32⟩
  | .hbm, ⟨74, _⟩ => ⟨S16x4x128, .f32⟩
  | .hbm, ⟨75, _⟩ => ⟨S16x512, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S16x1, .f32⟩
  | .hbm, ⟨80, _⟩ => ⟨S1x4, .f32⟩
  | .hbm, ⟨81, _⟩ => ⟨S16x4, .f32⟩
  | .hbm, ⟨82, _⟩ => ⟨S16x4, .f32⟩
  | .hbm, ⟨83, _⟩ => ⟨S16x4, .f32⟩
  | .hbm, ⟨84, _⟩ => ⟨S16x4, .f32⟩
  | .hbm, ⟨85, _⟩ => ⟨S16x4x128, .f32⟩
  | .hbm, ⟨86, _⟩ => ⟨S16x512, .f32⟩
  | .hbm, ⟨87, _⟩ => ⟨S_, .f32⟩
  | .hbm, ⟨88, _⟩ => ⟨S4, .f32⟩
  | .hbm, ⟨89, _⟩ => ⟨S4, .f32⟩
  | .hbm, ⟨90, _⟩ => ⟨S4, .f32⟩
  | .hbm, ⟨91, _⟩ => ⟨S1x512, .f32⟩
  | .hbm, ⟨92, _⟩ => ⟨S512x512, .bf16⟩
  | .hbm, ⟨93, _⟩ => ⟨S32x4x128x128, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .bf16⟩
  | .local _ .vmem, ⟨5, _⟩ => ⟨S16x512, .bf16⟩
  | .local _ .vmem, ⟨6, _⟩ => ⟨S16x512, .f32⟩
  | .local _ .vmem, ⟨7, _⟩ => ⟨S16x512, .f32⟩
  | .local _ .vmem, ⟨8, _⟩ => ⟨S16x128, .f32⟩
  | .local _ .vmem, ⟨9, _⟩ => ⟨S16x128, .f32⟩
  | .local _ .vmem, ⟨10, _⟩ => ⟨S4x16x16, .f32⟩
  | .local _ .vmem, ⟨11, _⟩ => ⟨S16x512, .f32⟩
  | .local _ .vmem, ⟨12, _⟩ => ⟨S16x512, .f32⟩
  | .local _ .vmem, ⟨13, _⟩ => ⟨S1x512, .f32⟩
  | .local _ .vmem, ⟨14, _⟩ => ⟨S1x4x128x128, .f32⟩
  | .local _ .vmem, ⟨15, _⟩ => ⟨S1x4x128x128, .f32⟩
  | .local _ .vmem, ⟨16, _⟩ => ⟨S16x512, .bf16⟩
  | .local _ .vmem, ⟨17, _⟩ => ⟨S16x512, .bf16⟩
  | .local _ .vmem, ⟨18, _⟩ => ⟨S1x4x128x128, .f32⟩
  | .local _ .vmem, ⟨19, _⟩ => ⟨S1x4x128x128, .f32⟩
  | .local _ .smem, ⟨0, _⟩ => ⟨S4, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72_0 : Ref sig .tc := ⟨.hbm, 92, rfl⟩
abbrev main_v72_1 : Ref sig .tc := ⟨.hbm, 93, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![32, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S4x16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S16x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference4Ideal.lean ====
abbrev S512x512 : Shape := ⟨2, ![512, 512]⟩
abbrev S32x4x128x128 : Shape := ⟨4, ![32, 4, 128, 128]⟩
abbrev S512 : Shape := ⟨1, ![512]⟩
abbrev S16 : Shape := ⟨1, ![16]⟩
abbrev S_ : Shape := ⟨0, ![]⟩
abbrev S32x16x4x128 : Shape := ⟨4, ![32, 16, 4, 128]⟩
abbrev S64 : Shape := ⟨1, ![64]⟩
abbrev S16x1 : Shape := ⟨2, ![16, 1]⟩
abbrev S1x64 : Shape := ⟨2, ![1, 64]⟩
abbrev S16x64 : Shape := ⟨2, ![16, 64]⟩
abbrev S1x16x1x64 : Shape := ⟨4, ![1, 16, 1, 64]⟩
abbrev S32x16x4x64 : Shape := ⟨4, ![32, 16, 4, 64]⟩
abbrev S4 : Shape := ⟨1, ![4]⟩
abbrev S32x1x16x4x128 : Shape := ⟨5, ![32, 1, 16, 4, 128]⟩
abbrev S1x16 : Shape := ⟨2, ![1, 16]⟩
abbrev S16x16 : Shape := ⟨2, ![16, 16]⟩
abbrev S1x16x16 : Shape := ⟨3, ![1, 16, 16]⟩
abbrev S4x1x1 : Shape := ⟨3, ![4, 1, 1]⟩
abbrev S4x16x16 : Shape := ⟨3, ![4, 16, 16]⟩
abbrev S32x1x4x16x16 : Shape := ⟨5, ![32, 1, 4, 16, 16]⟩
abbrev S1x1x4x16x16 : Shape := ⟨5, ![1, 1, 4, 16, 16]⟩
abbrev S32x1x4x128x16 : Shape := ⟨5, ![32, 1, 4, 128, 16]⟩
abbrev S1x4 : Shape := ⟨2, ![1, 4]⟩
abbrev S16x4 : Shape := ⟨2, ![16, 4]⟩
abbrev S1x1x16x4x1 : Shape := ⟨5, ![1, 1, 16, 4, 1]⟩
abbrev S1x32x4x128x128 : Shape := ⟨5, ![1, 32, 4, 128, 128]⟩
abbrev S1x4x1x1 : Shape := ⟨4, ![1, 4, 1, 1]⟩
abbrev S32x16x4 : Shape := ⟨3, ![32, 16, 4]⟩
abbrev S32x16x4x1 : Shape := ⟨4, ![32, 16, 4, 1]⟩
abbrev S32x16x512 : Shape := ⟨3, ![32, 16, 512]⟩
abbrev S1x1x512 : Shape := ⟨3, ![1, 1, 512]⟩

abbrev nBuf : Space → Nat
  | .hbm => 223
  | .vmem => 0
  | .smem => 0
  | _ => 0

abbrev hbmTy0_0 (i : Nat) : BufTy := match i % 128 with
  | 0 => ⟨S512x512, .f32⟩
  | 1 => ⟨S512x512, .f32⟩
  | 2 => ⟨S512x512, .bf16⟩
  | 3 => ⟨S512x512, .f32⟩
  | 4 => ⟨S32x4x128x128, .f32⟩
  | 5 => ⟨S512, .f32⟩
  | 6 => ⟨S16, .i32⟩
  | 7 => ⟨S_, .i32⟩
  | 8 => ⟨S16, .i32⟩
  | 9 => ⟨S16, .i32⟩
  | 10 => ⟨S32x16x4x128, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S16, .f32⟩
  | 20 => ⟨S16x1, .f32⟩
  | 21 => ⟨S1x64, .f32⟩
  | 22 => ⟨S16x64, .f32⟩
  | 23 => ⟨S16x64, .f32⟩
  | 24 => ⟨S16x64, .f32⟩
  | 25 => ⟨S16x64, .f32⟩
  | 26 => ⟨S1x16x1x64, .f32⟩
  | 27 => ⟨S16x64, .f32⟩
  | 28 => ⟨S1x16x1x64, .f32⟩
  | 29 => ⟨S32x16x4x64, .f32⟩
  | 30 => ⟨S32x16x4x64, .f32⟩
  | 31 => ⟨S32x16x4x64, .f32⟩
  | 32 => ⟨S32x16x4x64, .f32⟩
  | 33 => ⟨S32x16x4x64, .f32⟩
  | 34 => ⟨S32x16x4x64, .f32⟩
  | 35 => ⟨S32x16x4x64, .f32⟩
  | 36 => ⟨S32x16x4x64, .f32⟩
  | 37 => ⟨S32x16x4x64, .f32⟩
  | 38 => ⟨S32x16x4x64, .f32⟩
  | 39 => ⟨S32x16x4x64, .f32⟩
  | 40 => ⟨S32x16x4x64, .f32⟩
  | 41 => ⟨S32x16x4x128, .f32⟩
  | 42 => ⟨S32x16x4x128, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S16, .f32⟩
  | 52 => ⟨S16x1, .f32⟩
  | 53 => ⟨S1x64, .f32⟩
  | 54 => ⟨S16x64, .f32⟩
  | 55 => ⟨S16x64, .f32⟩
  | 56 => ⟨S16x64, .f32⟩
  | 57 => ⟨S16x64, .f32⟩
  | 58 => ⟨S1x16x1x64, .f32⟩
  | 59 => ⟨S16x64, .f32⟩
  | 60 => ⟨S1x16x1x64, .f32⟩
  | 61 => ⟨S32x16x4x64, .f32⟩
  | 62 => ⟨S32x16x4x64, .f32⟩
  | 63 => ⟨S32x16x4x64, .f32⟩
  | 64 => ⟨S32x16x4x64, .f32⟩
  | 65 => ⟨S32x16x4x64, .f32⟩
  | 66 => ⟨S32x16x4x64, .f32⟩
  | 67 => ⟨S32x16x4x64, .f32⟩
  | 68 => ⟨S32x16x4x64, .f32⟩
  | 69 => ⟨S32x16x4x64, .f32⟩
  | 70 => ⟨S32x16x4x64, .f32⟩
  | 71 => ⟨S32x16x4x64, .f32⟩
  | 72 => ⟨S32x16x4x64, .f32⟩
  | 73 => ⟨S32x16x4x128, .f32⟩
  | 74 => ⟨S_, .f32⟩
  | 75 => ⟨S32x16x4x128, .f32⟩
  | 76 => ⟨S32x16x4x128, .f32⟩
  | 77 => ⟨S512x512, .f32⟩
  | 78 => ⟨S32x16x4x128, .f32⟩
  | 79 => ⟨S4, .f32⟩
  | 80 => ⟨S_, .f32⟩
  | 81 => ⟨S4, .f32⟩
  | 82 => ⟨S4, .f32⟩
  | 83 => ⟨S_, .f32⟩
  | 84 => ⟨S4, .f32⟩
  | 85 => ⟨S4, .f32⟩
  | 86 => ⟨S4, .f32⟩
  | 87 => ⟨S4, .f32⟩
  | 88 => ⟨S4, .f32⟩
  | 89 => ⟨S32x1x16x4x128, .f32⟩
  | 90 => ⟨S32x1x16x4x128, .f32⟩
  | 91 => ⟨S32x1x16x4x128, .f32⟩
  | 92 => ⟨S16, .f32⟩
  | 93 => ⟨S16x1, .f32⟩
  | 94 => ⟨S1x16, .f32⟩
  | 95 => ⟨S16x16, .f32⟩
  | 96 => ⟨S16x16, .f32⟩
  | 97 => ⟨S16x16, .f32⟩
  | 98 => ⟨S1x16x16, .f32⟩
  | 99 => ⟨S_, .f32⟩
  | 100 => ⟨S1x16x16, .f32⟩
  | 101 => ⟨S1x16x16, .i1⟩
  | 102 => ⟨S_, .f32⟩
  | 103 => ⟨S16x16, .f32⟩
  | 104 => ⟨S16x16, .f32⟩
  | 105 => ⟨S1x16x16, .f32⟩
  | 106 => ⟨S4x1x1, .f32⟩
  | 107 => ⟨S4x16x16, .f32⟩
  | 108 => ⟨S4x16x16, .f32⟩
  | 109 => ⟨S4x16x16, .f32⟩
  | 110 => ⟨S4x16x16, .f32⟩
  | 111 => ⟨S_, .f32⟩
  | 112 => ⟨S_, .f32⟩
  | 113 => ⟨S4x16x16, .i1⟩
  | 114 => ⟨S4x16x16, .f32⟩
  | 115 => ⟨S4x16x16, .f32⟩
  | 116 => ⟨S32x1x4x16x16, .f32⟩
  | 117 => ⟨S1x1x4x16x16, .f32⟩
  | 118 => ⟨S32x1x4x16x16, .f32⟩
  | 119 => ⟨S32x1x4x16x16, .f32⟩
  | 120 => ⟨S32x1x4x128x16, .f32⟩
  | 121 => ⟨S32x1x16x4x128, .f32⟩
  | 122 => ⟨S_, .f32⟩
  | 123 => ⟨S16, .f32⟩
  | 124 => ⟨S16, .f32⟩
  | 125 => ⟨S16x1, .f32⟩
  | 126 => ⟨S1x4, .f32⟩
  | 127 => ⟨S16x4, .f32⟩
  | _ => ⟨S512x512, .f32⟩

abbrev hbmTy0_1 (i : Nat) : BufTy := match i % 128 with
  | 0 => ⟨S16x4, .f32⟩
  | 1 => ⟨S16x4, .f32⟩
  | 2 => ⟨S16x4, .f32⟩
  | 3 => ⟨S_, .f32⟩
  | 4 => ⟨S16, .f32⟩
  | 5 => ⟨S16, .f32⟩
  | 6 => ⟨S16x1, .f32⟩
  | 7 => ⟨S1x4, .f32⟩
  | 8 => ⟨S16x4, .f32⟩
  | 9 => ⟨S16x4, .f32⟩
  | 10 => ⟨S16x4, .f32⟩
  | 11 => ⟨S16x4, .f32⟩
  | 12 => ⟨S1x1x16x4x1, .f32⟩
  | 13 => ⟨S32x1x16x4x128, .f32⟩
  | 14 => ⟨S32x1x16x4x128, .f32⟩
  | 15 => ⟨S1x32x4x128x128, .f32⟩
  | 16 => ⟨S_, .f32⟩
  | 17 => ⟨S4, .f32⟩
  | 18 => ⟨S4, .f32⟩
  | 19 => ⟨S4, .f32⟩
  | 20 => ⟨S1x4x1x1, .f32⟩
  | 21 => ⟨S_, .f32⟩
  | 22 => ⟨S1x32x4x128x128, .f32⟩
  | 23 => ⟨S_, .i32⟩
  | 24 => ⟨S1x32x4x128x128, .f32⟩
  | 25 => ⟨S1x4x1x1, .f32⟩
  | 26 => ⟨S_, .i32⟩
  | 27 => ⟨S32x4x128x128, .f32⟩
  | 28 => ⟨S1x32x4x128x128, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S1x32x4x128x128, .f32⟩
  | 36 => ⟨S32x4x128x128, .f32⟩
  | 37 => ⟨S32x4x128x128, .f32⟩
  | 38 => ⟨S32x4x128x128, .f32⟩
  | 39 => ⟨S32x4x128x128, .f32⟩
  | 40 => ⟨S1x32x4x128x128, .f32⟩
  | 41 => ⟨S_, .i32⟩
  | 42 => ⟨S_, .i32⟩
  | 43 => ⟨S_, .i32⟩
  | 44 => ⟨S_, .i32⟩
  | 45 => ⟨S1x32x4x128x128, .f32⟩
  | 46 => ⟨S_, .i32⟩
  | 47 => ⟨S_, .i32⟩
  | 48 => ⟨S1x1x16x4x1, .f32⟩
  | 49 => ⟨S32x1x16x4x128, .f32⟩
  | 50 => ⟨S32x1x16x4x128, .f32⟩
  | 51 => ⟨S32x1x4x128x16, .f32⟩
  | 52 => ⟨S32x1x16x4x128, .f32⟩
  | 53 => ⟨S32x1x16x4x128, .f32⟩
  | 54 => ⟨S32x16x4x128, .f32⟩
  | 55 => ⟨S_, .f32⟩
  | 56 => ⟨S32x16x4, .f32⟩
  | 57 => ⟨S32x16x4x1, .f32⟩
  | 58 => ⟨S_, .f32⟩
  | 59 => ⟨S32x16x4x1, .f32⟩
  | 60 => ⟨S32x16x4x1, .f32⟩
  | 61 => ⟨S32x16x4x128, .f32⟩
  | 62 => ⟨S32x16x4x128, .f32⟩
  | 63 => ⟨S32x16x4x128, .f32⟩
  | 64 => ⟨S_, .f32⟩
  | 65 => ⟨S32x16x4, .f32⟩
  | 66 => ⟨S32x16x4x1, .f32⟩
  | 67 => ⟨S_, .f32⟩
  | 68 => ⟨S32x16x4x1, .f32⟩
  | 69 => ⟨S32x16x4x1, .f32⟩
  | 70 => ⟨S32x16x4x128, .f32⟩
  | 71 => ⟨S32x16x4x128, .f32⟩
  | 72 => ⟨S_, .f32⟩
  | 73 => ⟨S32x16x4x1, .f32⟩
  | 74 => ⟨S32x16x4x1, .f32⟩
  | 75 => ⟨S32x16x4x1, .f32⟩
  | 76 => ⟨S32x16x4x128, .f32⟩
  | 77 => ⟨S32x16x4x128, .f32⟩
  | 78 => ⟨S32x16x512, .f32⟩
  | 79 => ⟨S1x1x512, .f32⟩
  | 80 => ⟨S32x16x512, .f32⟩
  | 81 => ⟨S32x16x512, .f32⟩
  | 82 => ⟨S32x16x512, .f32⟩
  | 83 => ⟨S32x16x512, .f32⟩
  | 84 => ⟨S32x16x512, .f32⟩
  | 85 => ⟨S_, .f32⟩
  | 86 => ⟨S32x16x512, .f32⟩
  | 87 => ⟨S32x16x512, .f32⟩
  | 88 => ⟨S_, .f32⟩
  | 89 => ⟨S32x16x512, .f32⟩
  | 90 => ⟨S32x16x512, .f32⟩
  | 91 => ⟨S32x16x512, .f32⟩
  | 92 => ⟨S32x16x512, .f32⟩
  | 93 => ⟨S512x512, .f32⟩
  | 94 => ⟨S512x512, .bf16⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_3 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_4 : Ref sig .tc := ⟨.hbm, 80, rfl⟩
abbrev main_v68 : Ref sig .tc := ⟨.hbm, 81, rfl⟩
abbrev main_v69 : Ref sig .tc := ⟨.hbm, 82, rfl⟩
abbrev main_cst_5 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_6 : Ref sig .tc := ⟨.hbm, 99, rfl⟩
abbrev main_v85 : Ref sig .tc := ⟨.hbm, 100, rfl⟩
abbrev main_v86 : Ref sig .tc := ⟨.hbm, 101, rfl⟩
abbrev main_cst_7 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_8 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_9 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_10 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_cst_11 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_12 : Ref sig .tc := ⟨.hbm, 149, rfl⟩
abbrev main_v126 : Ref sig .tc := ⟨.hbm, 150, rfl⟩
abbrev main_c_13 : Ref sig .tc := ⟨.hbm, 151, rfl⟩
abbrev main_v127_0 : Ref sig .tc := ⟨.hbm, 152, rfl⟩
abbrev main_v127_1 : Ref sig .tc := ⟨.hbm, 153, rfl⟩
abbrev main_v127_2 : Ref sig .tc := ⟨.hbm, 154, rfl⟩
abbrev main_v127_3 : Ref sig .tc := ⟨.hbm, 155, rfl⟩
abbrev main_v127_4 : Ref sig .tc := ⟨.hbm, 156, rfl⟩
abbrev main_while0c_c_23 : Ref sig .tc := ⟨.hbm, 157, rfl⟩
abbrev main_while0c_v162 : Ref sig .tc := ⟨.hbm, 158, rfl⟩
abbrev main_while0b_call1_c : Ref sig .tc := ⟨.hbm, 159, rfl⟩
abbrev main_while0b_call1_c_0 : Ref sig .tc := ⟨.hbm, 160, rfl⟩
abbrev main_while0b_call1_c_1 : Ref sig .tc := ⟨.hbm, 161, rfl⟩
abbrev main_while0b_call1_c_2 : Ref sig .tc := ⟨.hbm, 162, rfl⟩
abbrev main_while0b_call1_v0 : Ref sig .tc := ⟨.hbm, 163, rfl⟩
abbrev main_while0b_v162 : Ref sig .tc := ⟨.hbm, 164, rfl⟩
abbrev main_while0b_v163 : Ref sig .tc := ⟨.hbm, 165, rfl⟩
abbrev main_while0b_v164 : Ref sig .tc := ⟨.hbm, 166, rfl⟩
abbrev main_while0b_v165 : Ref sig .tc := ⟨.hbm, 167, rfl⟩
abbrev main_while0b_call2_v0 : Ref sig .tc := ⟨.hbm, 168, rfl⟩
abbrev main_while0b_call2_c : Ref sig .tc := ⟨.hbm, 169, rfl⟩
abbrev main_while0b_call2_c_0 : Ref sig .tc := ⟨.hbm, 170, rfl⟩
abbrev main_while0b_call2_c_1 : Ref sig .tc := ⟨.hbm, 171, rfl⟩
abbrev main_while0b_call2_c_2 : Ref sig .tc := ⟨.hbm, 172, rfl⟩
abbrev main_while0b_v166 : Ref sig .tc := ⟨.hbm, 173, rfl⟩
abbrev main_while0b_c_23 : Ref sig .tc := ⟨.hbm, 174, rfl⟩
abbrev main_while0b_v167 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_14 : Ref sig .tc := ⟨.hbm, 183, rfl⟩
abbrev main_v135 : Ref sig .tc := ⟨.hbm, 184, rfl⟩
abbrev main_v136 : Ref sig .tc := ⟨.hbm, 185, rfl⟩
abbrev main_cst_15 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_16 : Ref sig .tc := ⟨.hbm, 192, rfl⟩
abbrev main_v142 : Ref sig .tc := ⟨.hbm, 193, rfl⟩
abbrev main_v143 : Ref sig .tc := ⟨.hbm, 194, rfl⟩
abbrev main_cst_17 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_18 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_call3_v0 : Ref sig .tc := ⟨.hbm, 211, rfl⟩
abbrev main_call3_v1 : Ref sig .tc := ⟨.hbm, 212, rfl⟩
abbrev main_call3_cst : Ref sig .tc := ⟨.hbm, 213, rfl⟩
abbrev main_call3_v2 : Ref sig .tc := ⟨.hbm, 214, rfl⟩
abbrev main_call3_v3 : Ref sig .tc := ⟨.hbm, 215, rfl⟩
abbrev main_call3_cst_0 : Ref sig .tc := ⟨.hbm, 216, rfl⟩
abbrev main_call3_v4 : Ref sig .tc := ⟨.hbm, 217, rfl⟩
abbrev main_call3_v5 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩

abbrev nD : Nat := 1
abbrev τ : Topo := Topo.v7x

variable {F : FTy → Type} [FloatOps F]

abbrev main_while0_count : Scf.Loop 32 := ⟨0#32, 1#32, 1#32⟩
-- ==== Kernel5.lean ====
abbrev S65536x1024 : Shape := ⟨2, ![65536, 1024]⟩
abbrev S1122304x128 : Shape := ⟨2, ![1122304, 128]⟩
abbrev S65536x2 : Shape := ⟨2, ![65536, 2]⟩
abbrev S1024 : Shape := ⟨1, ![1024]⟩
abbrev S1x1024 : Shape := ⟨2, ![1, 1024]⟩
abbrev S512x1024 : Shape := ⟨2, ![512, 1024]⟩
abbrev S8192x128 : Shape := ⟨2, ![8192, 128]⟩
abbrev S512x2 : Shape := ⟨2, ![512, 2]⟩
abbrev S512x128 : Shape := ⟨2, ![512, 128]⟩
abbrev S512x1 : Shape := ⟨2, ![512, 1]⟩
abbrev S512 : Shape := ⟨1, ![512]⟩

abbrev nBuf : Space → Nat
  | .hbm => 6
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1122304x128, .f32⟩
  | .hbm, ⟨2, _⟩ => ⟨S65536x2, .f32⟩
  | .hbm, ⟨3, _⟩ => ⟨S1024, .f32⟩
  | .hbm, ⟨4, _⟩ => ⟨S1x1024, .f32⟩
  | .hbm, ⟨5, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S8192x128, .f32⟩
  | .local _ .vmem, ⟨3, _⟩ => ⟨S8192x128, .f32⟩
  | .local _ .vmem, ⟨4, _⟩ => ⟨S512x2, .f32⟩
  | .local _ .vmem, ⟨5, _⟩ => ⟨S512x2, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S65536x1024 : Shape := ⟨2, ![65536, 1024]⟩
abbrev S1122304x128 : Shape := ⟨2, ![1122304, 128]⟩
abbrev S65536x2 : Shape := ⟨2, ![65536, 2]⟩
abbrev S1024 : Shape := ⟨1, ![1024]⟩
abbrev S140288x1024 : Shape := ⟨2, ![140288, 1024]⟩
abbrev S131072x1024 : Shape := ⟨2, ![131072, 1024]⟩
abbrev S65536x2x1024 : Shape := ⟨3, ![65536, 2, 1024]⟩
abbrev S65536x2x1 : Shape := ⟨3, ![65536, 2, 1]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1122304x128, .f32⟩
  | .hbm, ⟨2, _⟩ => ⟨S65536x2, .f32⟩
  | .hbm, ⟨3, _⟩ => ⟨S1024, .f32⟩
  | .hbm, ⟨4, _⟩ => ⟨S140288x1024, .f32⟩
  | .hbm, ⟨5, _⟩ => ⟨S131072x1024, .f32⟩
  | .hbm, ⟨6, _⟩ => ⟨S65536x2x1024, .f32⟩
  | .hbm, ⟨7, _⟩ => ⟨S65536x2x1, .f32⟩
  | .hbm, ⟨8, _⟩ => ⟨S65536x2x1024, .f32⟩
  | .hbm, ⟨9, _⟩ => ⟨S65536x2x1024, .f32⟩
  | .hbm, ⟨10, _⟩ => ⟨S_, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel6.lean ====
abbrev S512x1024 : Shape := ⟨2, ![512, 1024]⟩
abbrev S1122304x128 : Shape := ⟨2, ![1122304, 128]⟩
abbrev S512x2 : Shape := ⟨2, ![512, 2]⟩
abbrev S1024 : Shape := ⟨1, ![1024]⟩
abbrev S1x1024 : Shape := ⟨2, ![1, 1024]⟩
abbrev S8192x128 : Shape := ⟨2, ![8192, 128]⟩
abbrev S512x128 : Shape := ⟨2, ![512, 128]⟩
abbrev S512x1 : Shape := ⟨2, ![512, 1]⟩
abbrev S512 : Shape := ⟨1, ![512]⟩

abbrev nBuf : Space → Nat
  | .hbm => 6
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1122304x128, .f32⟩
  | .hbm, ⟨2, _⟩ => ⟨S512x2, .f32⟩
  | .hbm, ⟨3, _⟩ => ⟨S1024, .f32⟩
  | .hbm, ⟨4, _⟩ => ⟨S1x1024, .f32⟩
  | .hbm, ⟨5, _⟩ => ⟨S512x1024, .f32⟩
  | .local _ .vmem, ⟨0, _⟩ => ⟨S512x1024, .f32⟩
  | .local _ .vmem, ⟨1, _⟩ => ⟨S8192x128, .f32⟩
  | .local _ .vmem, ⟨2, _⟩ => ⟨S512x2, .f32⟩
  | .local _ .vmem, ⟨3, _⟩ => ⟨S1x1024, .f32⟩
  | .local _ .vmem, ⟨4, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference6Ideal.lean ====
abbrev S512x1024 : Shape := ⟨2, ![512, 1024]⟩
abbrev S1122304x128 : Shape := ⟨2, ![1122304, 128]⟩
abbrev S512x2 : Shape := ⟨2, ![512, 2]⟩
abbrev S1024 : Shape := ⟨1, ![1024]⟩
abbrev S140288x1024 : Shape := ⟨2, ![140288, 1024]⟩
abbrev S1024x1024 : Shape := ⟨2, ![1024, 1024]⟩
abbrev S512x2x1024 : Shape := ⟨3, ![512, 2, 1024]⟩
abbrev S512x2x1 : Shape := ⟨3, ![512, 2, 1]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1122304x128, .f32⟩
  | .hbm, ⟨2, _⟩ => ⟨S512x2, .f32⟩
  | .hbm, ⟨3, _⟩ => ⟨S1024, .f32⟩
  | .hbm, ⟨4, _⟩ => ⟨S140288x1024, .f32⟩
  | .hbm, ⟨5, _⟩ => ⟨S1024x1024, .f32⟩
  | .hbm, ⟨6, _⟩ => ⟨S512x2x1024, .f32⟩
  | .hbm, ⟨7, _⟩ => ⟨S512x2x1, .f32⟩
  | .hbm, ⟨8, _⟩ => ⟨S512x2x1024, .f32⟩
  | .hbm, ⟨9, _⟩ => ⟨S512x2x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1024, .f32⟩
  | .hbm, ⟨25, _⟩ => ⟨S512x1024, .f32⟩
  | .hbm, ⟨26, _⟩ => ⟨S1x1024, .f32⟩
  | .hbm, ⟨27, _⟩ => ⟨S512x1024, .f32⟩
  | .hbm, ⟨28, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel7.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S4x1024 : Shape := ⟨2, ![4, 1024]⟩
abbrev S_ : Shape := ⟨0, ![]⟩
abbrev S1024x32 : Shape := ⟨2, ![1024, 32]⟩
abbrev S32x1024 : Shape := ⟨2, ![32, 1024]⟩
abbrev S8x1024 : Shape := ⟨2, ![8, 1024]⟩
abbrev S48x1024 : Shape := ⟨2, ![48, 1024]⟩
abbrev S32 : Shape := ⟨1, ![32]⟩
abbrev S8 : Shape := ⟨1, ![8]⟩
abbrev S48 : Shape := ⟨1, ![48]⟩
abbrev S48x1 : Shape := ⟨2, ![48, 1]⟩
abbrev S1x1024 : Shape := ⟨2, ![1, 1024]⟩
abbrev S528384x128 : Shape := ⟨2, ![528384, 128]⟩
abbrev S2x65536 : Shape := ⟨2, ![2, 65536]⟩
abbrev S512x1024 : Shape := ⟨2, ![512, 1024]⟩
abbrev S512x512 : Shape := ⟨2, ![512, 512]⟩
abbrev S4096x128 : Shape := ⟨2, ![4096, 128]⟩
abbrev S2x512 : Shape := ⟨2, ![2, 512]⟩
abbrev S512 : Shape := ⟨1, ![512]⟩
abbrev S512x1 : Shape := ⟨2, ![512, 1]⟩
abbrev S512x128 : Shape := ⟨2, ![512, 128]⟩
abbrev S48x512 : Shape := ⟨2, ![48, 512]⟩
abbrev S8x512 : Shape := ⟨2, ![8, 512]⟩
abbrev S1x512 : Shape := ⟨2, ![1, 512]⟩
abbrev S65536x2 : Shape := ⟨2, ![65536, 2]⟩

abbrev nBuf : Space → Nat
  | .hbm => 33
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x4x8, .f32⟩
  | .hbm, ⟨8, _⟩ => ⟨S4x8, .f32⟩
  | .hbm, ⟨9, _⟩ => ⟨S4x1024, .f32⟩
  | .hbm, ⟨10, _⟩ => ⟨S_, .f32⟩
  | .hbm, ⟨11, _⟩ => ⟨S4x1024, .f32⟩
  | .hbm, ⟨12, _⟩ => ⟨S1024x32, .f32⟩
  | .hbm, ⟨13, _⟩ => ⟨S32x1024, .f32⟩
  | .hbm, ⟨14, _⟩ => ⟨S_, .f32⟩
  | .hbm, ⟨15, _⟩ => ⟨S8x1024, .f32⟩
  | .hbm, ⟨16, _⟩ => ⟨S48x1024, .f32⟩
  | .hbm, ⟨17, _⟩ => ⟨S48x1024, .bf16⟩
  | .hbm, ⟨18, _⟩ => ⟨S_, .f32⟩
  | .hbm, ⟨19, _⟩ => ⟨S4, .f32⟩
  | .hbm, ⟨20, _⟩ => ⟨S32, .f32⟩
  | .hbm, ⟨21, _⟩ => ⟨S_, .f32⟩
  | .hbm, ⟨22, _⟩ => ⟨S8, .f32⟩
  | .hbm, ⟨23, _⟩ => ⟨S48, .f32⟩
  | .hbm, ⟨24, _⟩ => ⟨S48x1, .f32⟩
  | .hbm, ⟨25, _⟩ => ⟨S1024x1024, .bf16⟩
  | .hbm, ⟨26, _⟩ => ⟨S1x1024, .f32⟩
  | .hbm, ⟨27, _⟩ => ⟨S65536x1024, .f32⟩
  | .hbm, ⟨28, _⟩ => ⟨S528384x128, .f32⟩
  | .hbm, ⟨29, _⟩ => ⟨S2x65536, .i32⟩
  | .hbm, ⟨30, _⟩ => ⟨S2x65536, .f32⟩
  | .hbm, ⟨31, _⟩ => ⟨S65536x2, .i32⟩
  | .hbm, ⟨32, _⟩ => ⟨S65536x2, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S48x1024, .bf16⟩
  | .local _ .vmem, ⟨9, _⟩ => ⟨S48x1, .f32⟩
  | .local _ .vmem, ⟨10, _⟩ => ⟨S512x1024, .f32⟩
  | .local _ .vmem, ⟨11, _⟩ => ⟨S512x1024, .f32⟩
  | .local _ .vmem, ⟨12, _⟩ => ⟨S4096x128, .f32⟩
  | .local _ .vmem, ⟨13, _⟩ => ⟨S4096x128, .f32⟩
  | .local _ .vmem, ⟨14, _⟩ => ⟨S2x512, .i32⟩
  | .local _ .vmem, ⟨15, _⟩ => ⟨S2x512, .i32⟩
  | .local _ .vmem, ⟨16, _⟩ => ⟨S2x512, .f32⟩
  | .local _ .vmem, ⟨17, _⟩ => ⟨S2x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![129], ![false]⟩

def k0_cond1 (i : grid0.Coords) : BitVec 1 :=
  let arg0 : BitVec 32 := BitVec.ofNat 32 (i 0).val
  let c128_i32 : BitVec 32 := 128#32
  let v0 : BitVec 1 := Scalar.cmpi .slt arg0 c128_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c128_i32_0 : BitVec 32 := 128#32
  let v3 : BitVec 1 := Scalar.cmpi .sge arg0 c128_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![c0_i32.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S512x1024 : Shape := ⟨2, ![512, 1024]⟩
abbrev S66048x1024 : Shape := ⟨2, ![66048, 1024]⟩
abbrev S528384x128 : Shape := ⟨2, ![528384, 128]⟩

abbrev nBuf : Space → Nat
  | .hbm => 34
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x4x8, .f32⟩
  | .hbm, ⟨8, _⟩ => ⟨S4x8, .f32⟩
  | .hbm, ⟨9, _⟩ => ⟨S65536x512, .f32⟩
  | .hbm, ⟨10, _⟩ => ⟨S65536x512, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S512x1024, .f32⟩
  | .hbm, ⟨32, _⟩ => ⟨S66048x1024, .f32⟩
  | .hbm, ⟨33, _⟩ => ⟨S528384x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Kernel8.lean ====
abbrev S32x4 : Shape := ⟨2, ![32, 4]⟩
abbrev S384 : Shape := ⟨1, ![384]⟩
abbrev S384x1 : Shape := ⟨2, ![384, 1]⟩
abbrev S128 : Shape := ⟨1, ![128]⟩
abbrev S1x128 : Shape := ⟨2, ![1, 128]⟩
abbrev S_ : Shape := ⟨0, ![]⟩
abbrev S384x128 : Shape := ⟨2, ![384, 128]⟩
abbrev S4x384x128 : Shape := ⟨3, ![4, 384, 128]⟩
abbrev S1x1 : Shape := ⟨2, ![1, 1]⟩
abbrev S1x384x128 : Shape := ⟨3, ![1, 384, 128]⟩

abbrev nBuf : Space → Nat
  | .hbm => 48
  | .vmem => 2
  | .smem => 1
  | _ => 0

abbrev bufTy : (tb : Table) → Fin (tcTables nBuf tb) → BufTy
  | .hbm, ⟨0, _⟩ => ⟨S32x4, .f32⟩
  | .hbm, ⟨1, _⟩ => ⟨S384, .i32⟩
  | .hbm, ⟨2, _⟩ => ⟨S384x1, .i32⟩
  | .hbm, ⟨3, _⟩ => ⟨S128, .i32⟩
  | .hbm, ⟨4, _⟩ => ⟨S1x128, .i32⟩
  | .hbm, ⟨5, _⟩ => ⟨S_, .i32⟩
  | .hbm, ⟨6, _⟩ => ⟨S384x1, .i32⟩
  | .hbm, ⟨7, _⟩ => ⟨S384x1, .i32⟩
  | .hbm, ⟨8, _⟩ => ⟨S384x128, .i32⟩
  | .hbm, ⟨9, _⟩ => ⟨S384x128, .i32⟩
  | .hbm, ⟨10, _⟩ => ⟨S384x128, .i32⟩
  | .hbm, ⟨11, _⟩ => ⟨S_, .i32⟩
  | .hbm, ⟨12, _⟩ => ⟨S384x128, .i32⟩
  | .hbm, ⟨13, _⟩ => ⟨S384x128, .i1⟩
  | .hbm, ⟨14, _⟩ => ⟨S_, .i32⟩
  | .hbm, ⟨15, _⟩ => ⟨S_, .i32⟩
  | .hbm, ⟨16, _⟩ => ⟨S384x128, .i32⟩
  | .hbm, ⟨17, _⟩ => ⟨S384x128, .i32⟩
  | .hbm, ⟨18, _⟩ => ⟨S384x128, .i32⟩
  | .hbm, ⟨19, _⟩ => ⟨S384x128, .i32⟩
  | .hbm, ⟨20, _⟩ => ⟨S_, .i32⟩
  | .hbm, ⟨21, _⟩ => ⟨S384x128, .i32⟩
  | .hbm, ⟨22, _⟩ => ⟨S384x128, .i32⟩
  | .hbm, ⟨23, _⟩ => ⟨S384x128, .f32⟩
  | .hbm, ⟨24, _⟩ => ⟨S_, .f32⟩
  | .hbm, ⟨25, _⟩ => ⟨S384x128, .f32⟩
  | .hbm, ⟨26, _⟩ => ⟨S384x128, .f32⟩
  | .hbm, ⟨27, _⟩ => ⟨S384x128, .f32⟩
  | .hbm, ⟨28, _⟩ => ⟨S_, .f32⟩
  | .hbm, ⟨29, _⟩ => ⟨S384x128, .f32⟩
  | .hbm, ⟨30, _⟩ => ⟨S384x128, .f32⟩
  | .hbm, ⟨31, _⟩ => ⟨S_, .f32⟩
  | .hbm, ⟨32, _⟩ => ⟨S384x128, .f32⟩
  | .hbm, ⟨33, _⟩ => ⟨S384x128, .f32⟩
  | .hbm, ⟨34, _⟩ => ⟨S384x128, .i32⟩
  | .hbm, ⟨35, _⟩ => ⟨S_, .i32⟩
  | .hbm, ⟨36, _⟩ => ⟨S384x128, .i32⟩
  | .hbm, ⟨37, _⟩ => ⟨S384x128, .i32⟩
  | .hbm, ⟨38, _⟩ => ⟨S_, .i32⟩
  | .hbm, ⟨39, _⟩ => ⟨S384x128, .i32⟩
  | .hbm, ⟨40, _⟩ => ⟨S384x128, .i32⟩
  | .hbm, ⟨41, _⟩ => ⟨S_, .i32⟩
  | .hbm, ⟨42, _⟩ => ⟨S384x128, .i32⟩
  | .hbm, ⟨43, _⟩ => ⟨S384x128, .i1⟩
  | .hbm, ⟨44, _⟩ => ⟨S384x128, .i32⟩
  | .hbm, ⟨45, _⟩ => ⟨S384x128, .i32⟩
  | .hbm, ⟨46, _⟩ => ⟨S384x128, .i32⟩
  | .hbm, ⟨47, _⟩ => ⟨S4x384x128, .f32⟩
  | .local _ .vmem, ⟨0, _⟩ => ⟨S384x128, .i32⟩
  | .local _ .vmem, ⟨1, _⟩ => ⟨S4x384x128, .f32⟩
  | .local _ .smem, ⟨0, _⟩ => ⟨S32x4, .f32⟩
  | _, _ => ⟨S32x4, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S32x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference8Ideal.lean ====
abbrev S32x4 : Shape := ⟨2, ![32, 4]⟩
abbrev S128 : Shape := ⟨1, ![128]⟩
abbrev S_ : Shape := ⟨0, ![]⟩
abbrev S384 : Shape := ⟨1, ![384]⟩
abbrev S384x1 : Shape := ⟨2, ![384, 1]⟩
abbrev S1x128 : Shape := ⟨2, ![1, 128]⟩
abbrev S384x128 : Shape := ⟨2, ![384, 128]⟩
abbrev S384x128x1 : Shape := ⟨3, ![384, 128, 1]⟩
abbrev S384x128x4 : Shape := ⟨3, ![384, 128, 4]⟩
abbrev S4x384x128 : Shape := ⟨3, ![4, 384, 128]⟩

abbrev nBuf : Space → Nat
  | .hbm => 57
  | .vmem => 0
  | .smem => 0
  | _ => 0

abbrev bufTy : (tb : Table) → Fin (tcTables nBuf tb) → BufTy
  | .hbm, ⟨0, _⟩ => ⟨S32x4, .f32⟩
  | .hbm, ⟨1, _⟩ => ⟨S128, .i32⟩
  | .hbm, ⟨2, _⟩ => ⟨S_, .i32⟩
  | .hbm, ⟨3, _⟩ => ⟨S128, .i32⟩
  | .hbm, ⟨4, _⟩ => ⟨S128, .i32⟩
  | .hbm, ⟨5, _⟩ => ⟨S384, .i32⟩
  | .hbm, ⟨6, _⟩ => ⟨S384x1, .i32⟩
  | .hbm, ⟨7, _⟩ => ⟨S1x128, .i32⟩
  | .hbm, ⟨8, _⟩ => ⟨S384x128, .i32⟩
  | .hbm, ⟨9, _⟩ => ⟨S384x128, .i32⟩
  | .hbm, ⟨10, _⟩ => ⟨S384x128, .i32⟩
  | .hbm, ⟨11, _⟩ => ⟨S_, .i32⟩
  | .hbm, ⟨12, _⟩ => ⟨S384x128, .i32⟩
  | .hbm, ⟨13, _⟩ => ⟨S384x128, .i1⟩
  | .hbm, ⟨14, _⟩ => ⟨S_, .i32⟩
  | .hbm, ⟨15, _⟩ => ⟨S_, .i32⟩
  | .hbm, ⟨16, _⟩ => ⟨S384x128, .i32⟩
  | .hbm, ⟨17, _⟩ => ⟨S384x128, .i32⟩
  | .hbm, ⟨18, _⟩ => ⟨S384x128, .i32⟩
  | .hbm, ⟨19, _⟩ => ⟨S384x128, .i32⟩
  | .hbm, ⟨20, _⟩ => ⟨S_, .i32⟩
  | .hbm, ⟨21, _⟩ => ⟨S384x128, .i32⟩
  | .hbm, ⟨22, _⟩ => ⟨S384x128, .i32⟩
  | .hbm, ⟨23, _⟩ => ⟨S384x128, .f32⟩
  | .hbm, ⟨24, _⟩ => ⟨S_, .f32⟩
  | .hbm, ⟨25, _⟩ => ⟨S384x128, .f32⟩
  | .hbm, ⟨26, _⟩ => ⟨S384x128, .f32⟩
  | .hbm, ⟨27, _⟩ => ⟨S384x128, .f32⟩
  | .hbm, ⟨28, _⟩ => ⟨S_, .f32⟩
  | .hbm, ⟨29, _⟩ => ⟨S384x128, .f32⟩
  | .hbm, ⟨30, _⟩ => ⟨S384x128, .f32⟩
  | .hbm, ⟨31, _⟩ => ⟨S_, .f32⟩
  | .hbm, ⟨32, _⟩ => ⟨S384x128, .f32⟩
  | .hbm, ⟨33, _⟩ => ⟨S384x128, .f32⟩
  | .hbm, ⟨34, _⟩ => ⟨S384x128, .i32⟩
  | .hbm, ⟨35, _⟩ => ⟨S_, .i32⟩
  | .hbm, ⟨36, _⟩ => ⟨S384x128, .i32⟩
  | .hbm, ⟨37, _⟩ => ⟨S384x128, .i32⟩
  | .hbm, ⟨38, _⟩ => ⟨S_, .i32⟩
  | .hbm, ⟨39, _⟩ => ⟨S384x128, .i32⟩
  | .hbm, ⟨40, _⟩ => ⟨S384x128, .i32⟩
  | .hbm, ⟨41, _⟩ => ⟨S_, .i32⟩
  | .hbm, ⟨42, _⟩ => ⟨S384x128, .i32⟩
  | .hbm, ⟨43, _⟩ => ⟨S384x128, .i1⟩
  | .hbm, ⟨44, _⟩ => ⟨S384x128, .i32⟩
  | .hbm, ⟨45, _⟩ => ⟨S384x128, .i32⟩
  | .hbm, ⟨46, _⟩ => ⟨S384x128, .i32⟩
  | .hbm, ⟨47, _⟩ => ⟨S_, .i32⟩
  | .hbm, ⟨48, _⟩ => ⟨S384x128, .i32⟩
  | .hbm, ⟨49, _⟩ => ⟨S384x128, .i1⟩
  | .hbm, ⟨50, _⟩ => ⟨S_, .i32⟩
  | .hbm, ⟨51, _⟩ => ⟨S384x128, .i32⟩
  | .hbm, ⟨52, _⟩ => ⟨S384x128, .i32⟩
  | .hbm, ⟨53, _⟩ => ⟨S384x128, .i32⟩
  | .hbm, ⟨54, _⟩ => ⟨S384x128x1, .i32⟩
  | .hbm, ⟨55, _⟩ => ⟨S384x128x4, .f32⟩
  | .hbm, ⟨56, _⟩ => ⟨S4x384x128, .f32⟩
  | _, _ => ⟨S32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_c_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Proof.Finite.lean ====
module

public import proofs.«01_k».proof.Defs
public import proofs.«01_k».proof.Proof.Gen.KernelIdeal.Value
public import Idealize.ShloMosaic.Lib.ReduceAll
public import Idealize.ShloMosaic.Lib.Pointwise

/-!
  What the precondition says of the argument arrays.
-/

@[expose] public section

set_option maxRecDepth 16384

noncomputable section

namespace Cert.Retention

open Idealize.ShloMosaic Idealize.ShloMosaic.TcCoe Idealize.SL.Sem Cert.Pre_finite_inputs

/-- The side conditions of the precondition. -/
theorem preFacts : Cert.Pre_finite_inputs.Facts where
  bcast_S_S65536x512 := by decide
  reducesTo_S65536x512_S_d0_1 := by decide
  h_S_ := by decide
  bitsLt_bf16_f32 := by decide
  bcast_S_S32x4x128x128 := by decide
  reducesTo_S32x4x128x128_S_d0_1_2_3 := by decide

/-- A number whose absolute value compares below infinity is neither infinity. -/
theorem fin_of (x : EReal) (h : Ideal.cmp .olt (max x (-x)) (Ideal.ofBits .f32 2139095040#32) = 1#1) : x ≠ ⊤ ∧ x ≠ ⊥ := by
  have htop : Ideal.ofBits .f32 0x7F800000#32 = ⊤ := by simp [Ideal.ofBits, Ideal.ieee]
  rw [htop] at h
  constructor
  · rintro rfl
    simp [Ideal.cmp] at h
  · rintro rfl
    simp [Ideal.cmp] at h

instance : Subsingleton S_.Idx := ⟨fun a b => funext fun i => i.elim0⟩

/-- Under the precondition the queries, keys, values and the initial states are finite. -/
theorem fin_args [Facts] (a0 a1 : FVec Ideal S65536x512 .f32) (a2 : FVec Ideal S65536x512 .bf16) (a3 : FVec Ideal S65536x512 .f32)
    (a4 : FVec Ideal S32x4x128x128 .f32) (a5 : FVec Ideal S512 .f32) (h : fn (F := Ideal) a0 a1 a2 a3 a4 a5 = fun _ => 1#1) :
    (∀ i, (a0 i : EReal) ≠ ⊤ ∧ (a0 i : EReal) ≠ ⊥) ∧ (∀ i, (a1 i : EReal) ≠ ⊤ ∧ (a1 i : EReal) ≠ ⊥)
      ∧ (∀ i, (a2 i : EReal) ≠ ⊤ ∧ (a2 i : EReal) ≠ ⊥) ∧ (∀ i, (a4 i : EReal) ≠ ⊤ ∧ (a4 i : EReal) ≠ ⊥) := by
  have h1 := congrFun h ix0
  dsimp only [fn, fn_part1] at h1
  obtain ⟨h2, e4⟩ := IntOp.andi_eq_one.1 h1
  obtain ⟨h3, e2⟩ := IntOp.andi_eq_one.1 h2
  obtain ⟨e0, e1⟩ := IntOp.andi_eq_one.1 h3
  exact ⟨fun i => fin_of _ (Host.reduce_andi_all _ _ _ _ _ e0 i), fun i => fin_of _ (Host.reduce_andi_all _ _ _ _ _ e1 i),
    fun i => fin_of _ (Host.reduce_andi_all _ _ _ _ _ e2 i), fun i => fin_of _ (Host.reduce_andi_all _ _ _ _ _ e4 i)⟩

end Cert.Retention
-- ==== Proof.KPoint.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## One head of one block -/

/-- The 128 columns of head `h` of a 256×512 block. -/
def cs {φ : EltTy} (h : Fin 4) (X : Vec Ideal S256x512 φ) : Vec Ideal S256x128 φ :=
  View.ld X (Rect.unit ![0, 128 * h.val] ![256, 128] (by intro a; fin_cases a <;> simp <;> omega))
/-- The 128 columns of head `h` of a 1×512 row. -/
def gs (h : Fin 4) (X : Vec Ideal S1x512 .f32) : Vec Ideal S1x128 .f32 :=
  View.ld X (Rect.unit ![0, 128 * h.val] ![1, 128] (by intro a; fin_cases a <;> simp <;> omega))
/-- The decay matrix of head `h`. -/
def ms (h : Fin 4) (X : Vec Ideal S4x256x256 .f32) : Vec Ideal S1x256x256 .f32 :=
  View.ld X (Rect.unit ![h.val, 0, 0] ![1, 256, 256] (by intro a; fin_cases a <;> simp <;> omega))
/-- The state of head `h`. -/
def ss (h : Fin 4) (X : Vec Ideal S1x4x128x128 .f32) : Vec Ideal S1x1x128x128 .f32 :=
  View.ld X (Rect.unit ![0, h.val, 0, 0] ![1, 1, 128, 128] (by intro a; fin_cases a <;> simp <;> omega))
/-- Head `h`'s decay over a whole block, read from scalar memory. -/
def ds (h : Fin 4) (X : Vec Ideal S4 .f32) : Elt Ideal .f32 :=
  View.ld X (Rect.unit ![h.val] ![1] (by intro a; fin_cases a <;> simp <;> omega)) (Shape.Idx.first (show 0 < (⟨1, ![1]⟩ : Shape).numel by decide))

/-- What the body computes for head `h` before the norm. -/
def oK (h : Fin 4) (x1 x2 : Vec Ideal S256x512 .f32) (x3 : Vec Ideal S256x512 .bf16) (x5 x6 : Vec Ideal S256x128 .f32)
    (x7 : Vec Ideal S4x256x256 .f32) (x8 : Vec Ideal S256x512 .f32) (s : Vec Ideal S1x4x128x128 .f32) : FVec Ideal S256x128 .f32 :=
  k0_pay14 (k0_pay3 x5) (k0_pay4 x6) (cs h x1) (cs h x2) (cs h x3) (ss h s) (ms h x7) (cs h x8)

/-- What the body stores for head `h`: the norm and the gate of `oK`. -/
def outK (h : Fin 4) (o : FVec Ideal S256x128 .f32) (x4 : Vec Ideal S256x512 .f32) (x10 : Vec Ideal S1x512 .f32) : FVec Ideal S256x128 .bf16 :=
  k0_pay16 o (gs h x10) (cs h x4)

/-- The state of head `h` after the block. -/
def sK (h : Fin 4) (x0 : Vec Ideal S4 .f32) (x2 : Vec Ideal S256x512 .f32) (x3 : Vec Ideal S256x512 .bf16) (x5 x6 : Vec Ideal S256x128 .f32)
    (x9 : Vec Ideal S256x512 .f32) (s : Vec Ideal S1x4x128x128 .f32) : FVec Ideal S1x1x128x128 .f32 :=
  k0_pay15 (k0_pay12 (k0_pay3 x5) (k0_pay4 x6) (cs h x2)) (cs h x3) (k0_pay13 (ss h s)) (cs h x9) (ds h x0)

/-- A column `128 h + z` of 512 that is column `x` of the head at offset `128 k` lies in head `k`, at the same place. -/
theorem head_eq (h : Fin 4) (k : Fin 4) (z x : S256x128.Idx) (y0 y1 : ℕ) (h0 : y0 = z 0) (h1 : y1 = 128 * h.val + z 1)
    (g0 : y0 = x 0) (g1 : y1 = 128 * k.val + x 1) : h = k ∧ z = x := by
  have hz : (z 1 : ℕ) < 128 := (z 1).isLt
  have hx : (x 1 : ℕ) < 128 := (x 1).isLt
  have hk : h.val = k.val := by omega
  refine ⟨Fin.ext hk, ?_⟩
  funext a
  apply Fin.ext
  fin_cases a
  · show (z 0 : ℕ) = x 0; omega
  · show (z 1 : ℕ) = x 1; omega

/-- The output block at a point that is not a batch's first. -/
theorem out12_B (c : Dev nD) (t : Fin cfg0.N) (h0 : ¬ t.val % 8 = 0) (h : Fin 4) (y : S256x512.Idx) (z : S256x128.Idx)
    (hy0 : (y 0 : ℕ) = z 0) (hy1 : (y 1 : ℕ) = 128 * h.val + z 1) :
    (outsAt0 m c t.val t.isLt).1 y
      = outK h (oK h (iblk m c 1 t) (iblk m c 2 t) (iblk m c 3 t) (iblk m c 5 t) (iblk m c 6 t) (iblk m c 7 t) (iblk m c 8 t)
          (outsAt0 m c (t.val - 1) (Nat.lt_of_le_of_lt (Nat.sub_le _ _) t.isLt)).2) (iblk m c 4 t) (iblk m c 10 t) z := by
  rw [outsAt0_B m c t h0]
  frame_out
  canon_tiles x hx
  · obtain ⟨rfl, rfl⟩ := head_eq h 3 z x _ _ hy0 hy1 hx0 hx1; rfl
  · obtain ⟨rfl, rfl⟩ := head_eq h 2 z x _ _ hy0 hy1 hx0 hx1; rfl
  · obtain ⟨rfl, rfl⟩ := head_eq h 1 z x _ _ hy0 hy1 hx0 hx1; rfl
  · obtain ⟨rfl, rfl⟩ := head_eq h 0 z x _ _ hy0 hy1 hx0 (by rw [hx1]; simp); rfl

/-- The output block at a batch's first point: the state entering is the entering state's block. -/
theorem out12_A (c : Dev nD) (t : Fin cfg0.N) (h0 : t.val % 8 = 0) (h : Fin 4) (y : S256x512.Idx) (z : S256x128.Idx)
    (hy0 : (y 0 : ℕ) = z 0) (hy1 : (y 1 : ℕ) = 128 * h.val + z 1) :
    (outsAt0 m c t.val t.isLt).1 y
      = outK h (oK h (iblk m c 1 t) (iblk m c 2 t) (iblk m c 3 t) (iblk m c 5 t) (iblk m c 6 t) (iblk m c 7 t) (iblk m c 8 t)
          (iblk m c 11 t)) (iblk m c 4 t) (iblk m c 10 t) z := by
  rw [outsAt0_A m c t h0]
  frame_out
  simp (disch := decide) only [↓View.readCov_skip, ↓View.readCov_fill]
  canon_tiles x hx
  · obtain ⟨rfl, rfl⟩ := head_eq h 3 z x _ _ hy0 hy1 hx0 hx1; rfl
  · obtain ⟨rfl, rfl⟩ := head_eq h 2 z x _ _ hy0 hy1 hx0 hx1; rfl
  · obtain ⟨rfl, rfl⟩ := head_eq h 1 z x _ _ hy0 hy1 hx0 hx1; rfl
  · obtain ⟨rfl, rfl⟩ := head_eq h 0 z x _ _ hy0 hy1 hx0 (by rw [hx1]; simp); rfl

/-- The coordinates of a state index name head and place. -/
theorem ste_eq (h k : Fin 4) (d e : Fin 128) (x : S1x1x128x128.Idx) (y1 y2 y3 : ℕ) (h1 : y1 = h.val) (h2 : y2 = d.val) (h3 : y3 = e.val)
    (g1 : y1 = k.val + x 1) (g2 : y2 = x 2) (g3 : y3 = x 3) : h = k ∧ ValueIdx.ix4 0 0 d e = x := by
  have hx : (x 1 : ℕ) < 1 := (x 1).isLt
  have hx0 : (x 0 : ℕ) < 1 := (x 0).isLt
  refine ⟨Fin.ext (by omega), ?_⟩
  funext a
  apply Fin.ext
  fin_cases a
  · show 0 = (x 0 : ℕ); omega
  · show 0 = (x 1 : ℕ); omega
  · show d.val = (x 2 : ℕ); omega
  · show e.val = (x 3 : ℕ); omega

/-- The state block at a point that is not a batch's first. -/
theorem out13_B (c : Dev nD) (t : Fin cfg0.N) (h0 : ¬ t.val % 8 = 0) (h : Fin 4) (y : S1x4x128x128.Idx) (d e : Fin 128)
    (hy1 : (y 1 : ℕ) = h) (hy2 : (y 2 : ℕ) = d) (hy3 : (y 3 : ℕ) = e) :
    (outsAt0 m c t.val t.isLt).2 y
      = sK h (iblk m c 0 t) (iblk m c 2 t) (iblk m c 3 t) (iblk m c 5 t) (iblk m c 6 t) (iblk m c 9 t)
          (outsAt0 m c (t.val - 1) (Nat.lt_of_le_of_lt (Nat.sub_le _ _) t.isLt)).2 (ValueIdx.ix4 0 0 d e) := by
  rw [outsAt0_B m c t h0]
  frame_out
  canon_tiles x hx
  · obtain ⟨rfl, rfl⟩ := ste_eq h 3 d e x _ _ _ hy1 hy2 hy3 hx1 hx2 hx3; rfl
  · obtain ⟨rfl, rfl⟩ := ste_eq h 2 d e x _ _ _ hy1 hy2 hy3 hx1 hx2 hx3; rfl
  · obtain ⟨rfl, rfl⟩ := ste_eq h 1 d e x _ _ _ hy1 hy2 hy3 hx1 hx2 hx3; rfl
  · obtain ⟨rfl, rfl⟩ := ste_eq h 0 d e x _ _ _ hy1 hy2 hy3 (by rw [hx1]; simp) hx2 hx3; rfl

/-- A coordinate of a unit-stride rectangle. -/
theorem one_emb (o x : ℕ) : o + 1 * x = o + x := by omega

/-- One head's piece of the state block, read at its place in the block. -/
theorem G_piece (k : Fin 4) (f : S1x1x128x128.Idx → EReal) (g : Fin 4 → S1x1x128x128.Idx → EReal) (hf : f = g k) (x : S1x1x128x128.Idx)
    (y : S1x4x128x128.Idx) (h1 : (y 1 : ℕ) = k.val + x 1) (h2 : (y 2 : ℕ) = 0 + x 2) (h3 : (y 3 : ℕ) = 0 + x 3) :
    f x = g ⟨(y 1 : ℕ), (y 1).isLt⟩ (ValueIdx.ix4 0 0 ⟨(y 2 : ℕ), (y 2).isLt⟩ ⟨(y 3 : ℕ), (y 3).isLt⟩) := by
  obtain ⟨e1, e2⟩ := ste_eq ⟨(y 1 : ℕ), (y 1).isLt⟩ k ⟨(y 2 : ℕ), (y 2).isLt⟩ ⟨(y 3 : ℕ), (y 3).isLt⟩ x _ _ _ rfl rfl rfl h1
    (by rw [h2, Nat.zero_add]) (by rw [h3, Nat.zero_add])
  rw [e1, e2, hf]

/-- The state block at a batch's first point. -/
theorem out13_A (c : Dev nD) (t : Fin cfg0.N) (h0 : t.val % 8 = 0) (h : Fin 4) (y : S1x4x128x128.Idx) (d e : Fin 128)
    (hy1 : (y 1 : ℕ) = h) (hy2 : (y 2 : ℕ) = d) (hy3 : (y 3 : ℕ) = e) :
    (outsAt0 m c t.val t.isLt).2 y
      = sK h (iblk m c 0 t) (iblk m c 2 t) (iblk m c 3 t) (iblk m c 5 t) (iblk m c 6 t) (iblk m c 9 t)
          (iblk m c 11 t) (ValueIdx.ix4 0 0 d e) := by
  have key : ∀ h' d' e', h' = h → d' = d → e' = e → (outsAt0 m c t.val t.isLt).2 y
      = sK h' (iblk m c 0 t) (iblk m c 2 t) (iblk m c 3 t) (iblk m c 5 t) (iblk m c 6 t) (iblk m c 9 t)
          (iblk m c 11 t) (ValueIdx.ix4 0 0 d' e') → _ := fun _ _ _ h1 h2 h3 e => by rw [h1, h2, h3] at e; exact e
  refine key (⟨(y 1 : ℕ), (y 1).isLt⟩ : Fin 4) ⟨(y 2 : ℕ), (y 2).isLt⟩ ⟨(y 3 : ℕ), (y 3).isLt⟩ (Fin.ext hy1) (Fin.ext hy2) (Fin.ext hy3) ?_
  rw [outsAt0_A m c t h0]
  frame_out
  simp (disch := decide) only [↓View.readCov_skip, ↓View.readCov_fill]
  refine View.canon_append_of_piecesOf (Val := Elt Ideal) (e := .f32) (fun y : S1x4x128x128.Idx => sK (⟨(y 1 : ℕ), (y 1).isLt⟩ : Fin 4) (iblk m c 0 t) (iblk m c 2 t) (iblk m c 3 t)
    (iblk m c 5 t) (iblk m c 6 t) (iblk m c 9 t) (iblk m c 11 t) (ValueIdx.ix4 0 0 ⟨(y 2 : ℕ), (y 2).isLt⟩ ⟨(y 3 : ℕ), (y 3).isLt⟩)) [_] [_, _, _, _] ⟨?_, ?_, ?_, ?_, trivial⟩ y ?_
  · intro x; exact G_piece 3 _ (fun h => sK h (iblk m c 0 t) (iblk m c 2 t) (iblk m c 3 t) (iblk m c 5 t) (iblk m c 6 t) (iblk m c 9 t) (iblk m c 11 t)) rfl x _
      (one_emb 3 (x 1)) (one_emb 0 (x 2)) (one_emb 0 (x 3))
  · intro x; exact G_piece 2 _ (fun h => sK h (iblk m c 0 t) (iblk m c 2 t) (iblk m c 3 t) (iblk m c 5 t) (iblk m c 6 t) (iblk m c 9 t) (iblk m c 11 t)) rfl x _
      (one_emb 2 (x 1)) (one_emb 0 (x 2)) (one_emb 0 (x 3))
  · intro x; exact G_piece 1 _ (fun h => sK h (iblk m c 0 t) (iblk m c 2 t) (iblk m c 3 t) (iblk m c 5 t) (iblk m c 6 t) (iblk m c 9 t) (iblk m c 11 t)) rfl x _
      (one_emb 1 (x 1)) (one_emb 0 (x 2)) (one_emb 0 (x 3))
  · intro x; exact G_piece 0 _ (fun h => sK h (iblk m c 0 t) (iblk m c 2 t) (iblk m c 3 t) (iblk m c 5 t) (iblk m c 6 t) (iblk m c 9 t) (iblk m c 11 t)) rfl x _
      (one_emb 0 (x 1)) (one_emb 0 (x 2)) (one_emb 0 (x 3))
  · have hy0 : (y 0 : ℕ) < 1 := (y 0).isLt
    have b1 : (y 1 : ℕ) < 4 := (y 1).isLt
    have b2 : (y 2 : ℕ) < 128 := (y 2).isLt
    have b3 : (y 3 : ℕ) < 128 := (y 3).isLt
    rcases (show (y 1 : ℕ) = 3 ∨ (y 1 : ℕ) = 2 ∨ (y 1 : ℕ) = 1 ∨ (y 1 : ℕ) = 0 by omega) with q | q | q | q
    · refine ⟨_, List.Mem.head _, ?_⟩
      refine (Rect.mem_set_unit (inb := inb_S1x4x128x128_S1x1x128x128_0_3_0_0)).mpr fun a => ?_
      fin_cases a <;> simp <;> omega
    · refine ⟨_, List.Mem.tail _ (List.Mem.head _), ?_⟩
      refine (Rect.mem_set_unit (inb := inb_S1x4x128x128_S1x1x128x128_0_2_0_0)).mpr fun a => ?_
      fin_cases a <;> simp <;> omega
    · refine ⟨_, List.Mem.tail _ (List.Mem.tail _ (List.Mem.head _)), ?_⟩
      refine (Rect.mem_set_unit (inb := inb_S1x4x128x128_S1x1x128x128_0_1_0_0)).mpr fun a => ?_
      fin_cases a <;> simp <;> omega
    · refine ⟨_, List.Mem.tail _ (List.Mem.tail _ (List.Mem.tail _ (List.Mem.head _))), ?_⟩
      refine (Rect.mem_set_unit (inb := inb_S1x4x128x128_S1x1x128x128_0_0_0_0)).mpr fun a => ?_
      fin_cases a <;> simp <;> omega

end Cert.KernelIdeal.Value
-- ==== Proof.Math.lean ====
module

public import Idealize.ShloMosaic.PureOps.Ideal

/-!
  The recurrence behind the retention call, over the real numbers. A sequence of positions is cut
  into chunks of `L`; the state carried from chunk to chunk and the output of a chunk are what the two
  programs compute, with `L = 256` in one and `L = 64` in the other. Both are shown equal to sums over
  all earlier positions, in which `L` no longer occurs.
-/

@[expose] public section

noncomputable section

namespace Cert.Retention

open Finset

variable (L : ℕ) (a : ℝ) (q k v s0 : ℕ → ℕ → ℝ)

/-- What one chunk of `L` positions, the one starting at position `p`, adds to the state. -/
def add (p d e : ℕ) : ℝ := ∑ j : Fin L, k (p + j) d * Real.exp (((L : ℝ) - 1 - (j : ℕ)) * a) * v (p + j) e

/-- The state before chunk `c`, computed chunk by chunk. -/
def st : ℕ → ℕ → ℕ → ℝ
  | 0, d, e => s0 d e
  | c + 1, d, e => Real.exp ((L : ℝ) * a) * st c d e + add L a k v (L * c) d e

/-- The part of the output at offset `i` of the chunk starting at `p` that comes from the chunk itself. -/
def inner (p i e : ℕ) : ℝ :=
  ∑ j : Fin L, (∑ d : Fin 128, q (p + i) d * k (p + j) d)
    * (if (j : ℕ) ≤ i then Real.exp (((i : ℝ) - (j : ℕ)) * a) else 0) * v (p + j) e

/-- The part of the output at offset `i` of the chunk starting at `p` that comes from the state `s`. -/
def outer (s : ℕ → ℕ → ℝ) (p i e : ℕ) : ℝ :=
  ∑ d : Fin 128, q (p + i) d * Real.exp (((i : ℝ) + 1) * a) * s d e

/-- The state after `n` positions, as a sum over all of them. -/
def stSum (n d e : ℕ) : ℝ :=
  Real.exp ((n : ℝ) * a) * s0 d e + ∑ s ∈ range n, k s d * Real.exp (((n : ℝ) - 1 - s) * a) * v s e

/-- The output at position `t`, as a sum over all positions up to `t`. -/
def outSum (t e : ℕ) : ℝ :=
  (∑ s ∈ range (t + 1), (∑ d : Fin 128, q t d * k s d) * Real.exp (((t : ℝ) - s) * a) * v s e)
    + ∑ d : Fin 128, q t d * Real.exp (((t : ℝ) + 1) * a) * s0 d e

/-- The state before chunk `c` is the sum over the `L * c` positions before it. -/
theorem st_eq (c d e : ℕ) : st L a k v s0 c d e = stSum a k v s0 (L * c) d e := by
  induction c with
  | zero => simp [st, stSum]
  | succ c ih =>
    rw [st, ih, stSum, stSum, Nat.mul_succ, sum_range_add, mul_add, ← mul_assoc, ← Real.exp_add, mul_sum, add,
      Finset.sum_range (n := L), ← add_assoc]
    congr 1
    · congr 1
      · congr 2; push_cast; ring
      · refine sum_congr rfl fun s _ => ?_
        rw [show ((L * c + L : ℕ) : ℝ) - 1 - s = L + (((L * c : ℕ) : ℝ) - 1 - s) by push_cast; ring, add_mul (L : ℝ), Real.exp_add]
        ring
    · refine sum_congr rfl fun j _ => ?_
      congr 3; push_cast; ring

/-- The output at offset `i` of chunk `c` is the sum over all positions up to it. -/
theorem out_eq (c i e : ℕ) (hi : i < L) :
    inner L a q k v (L * c) i e + outer a q (st L a k v s0 c) (L * c) i e = outSum a q k v s0 (L * c + i) e := by
  have h1 : inner L a q k v (L * c) i e = ∑ s ∈ range (i + 1), (∑ d : Fin 128, q (L * c + i) d * k (L * c + s) d)
      * Real.exp (((i : ℝ) - s) * a) * v (L * c + s) e := by
    rw [inner, ← Finset.sum_range (n := L) fun j => (∑ d : Fin 128, q (L * c + i) d * k (L * c + j) d)
      * (if j ≤ i then Real.exp (((i : ℝ) - j) * a) else 0) * v (L * c + j) e,
      ← sum_subset (range_subset_range.mpr (Nat.succ_le_of_lt hi))]
    · refine sum_congr rfl fun j hj => ?_
      rw [if_pos (Nat.lt_succ_iff.mp (mem_range.mp hj))]
    · intro j _ hj
      rw [if_neg (fun h => hj (mem_range.mpr (Nat.lt_succ_of_le h)))]; simp
  have h2 : outer a q (st L a k v s0 c) (L * c) i e
      = (∑ s ∈ range (L * c), (∑ d : Fin 128, q (L * c + i) d * k s d) * Real.exp ((((L * c + i : ℕ) : ℝ) - s) * a) * v s e)
        + ∑ d : Fin 128, q (L * c + i) d * Real.exp ((((L * c + i : ℕ) : ℝ) + 1) * a) * s0 d e := by
    simp only [outer, st_eq, stSum, mul_add, sum_add_distrib]
    rw [add_comm]
    congr 1
    · simp only [mul_sum, sum_mul]
      rw [sum_comm]
      refine sum_congr rfl fun s _ => sum_congr rfl fun d _ => ?_
      rw [show (((L * c + i : ℕ) : ℝ) - s) = ((i : ℝ) + 1) + (((L * c : ℕ) : ℝ) - 1 - s) by push_cast; ring, add_mul ((i : ℝ) + 1), Real.exp_add]
      ring
    · refine sum_congr rfl fun d _ => ?_
      rw [show (((L * c + i : ℕ) : ℝ) + 1) = ((i : ℝ) + 1) + ((L * c : ℕ) : ℝ) by push_cast; ring, add_mul ((i : ℝ) + 1), Real.exp_add]
      ring
  rw [h1, h2, outSum, show L * c + i + 1 = L * c + (i + 1) by ring, sum_range_add (fun s => (∑ d : Fin 128, q (L * c + i) d * k s d) * Real.exp ((((L * c + i : ℕ) : ℝ) - s) * a) * v s e), ← add_assoc,
    add_comm (∑ s ∈ range (i + 1), _)]
  congr 2
  refine sum_congr rfl fun s _ => ?_
  congr 3; push_cast; ring

end Cert.Retention
-- ==== Proof.Scal.lean ====
module

public import Idealize.ShloMosaic.PureOps.Ideal
public import Idealize.ShloMosaic.Lib.IdealHost

/-!
  The constants of the retention call as real numbers: the literals, the decay rates of the four heads and the
  angles of the rotary embedding.
-/

@[expose] public section

noncomputable section

namespace Cert.Retention

open Idealize.ShloMosaic

/-- A natural number below `2 ^ 31`, made a word and read back as a float, is itself. -/
theorem nat_float (n : ℕ) (h : n < 2 ^ 31) : FloatOps.sitofp (F := Ideal) .f32 (BitVec.ofNat 32 n) = ((n : ℝ) : EReal) := by
  show (((BitVec.ofNat 32 n).toInt : ℝ) : EReal) = _
  have : (BitVec.ofNat 32 n).toInt = n := by
    rw [BitVec.toInt_eq_toNat_cond, BitVec.toNat_ofNat, Nat.mod_eq_of_lt (by omega), if_pos (by omega)]
  rw [this]; norm_cast

theorem lit_10000 : Ideal.ofBits .f32 1176256512#32 = ((10000 : ℝ) : EReal) := by
  simp [Ideal.ofBits, Ideal.ieee, -EReal.coe_mul]; norm_num
theorem lit_64 : Ideal.ofBits .f32 1115684864#32 = ((64 : ℝ) : EReal) := by
  simp [Ideal.ofBits, Ideal.ieee, -EReal.coe_mul]; norm_num
theorem lit_63 : Ideal.ofBits .f32 1115422720#32 = ((63 : ℝ) : EReal) := by
  simp [Ideal.ofBits, Ideal.ieee, -EReal.coe_mul]; norm_num
theorem lit_255 : Ideal.ofBits .f32 1132396544#32 = ((255 : ℝ) : EReal) := by
  simp [Ideal.ofBits, Ideal.ieee, -EReal.coe_mul]; norm_num
theorem lit_256 : Ideal.ofBits .f32 1132462080#32 = ((256 : ℝ) : EReal) := by
  simp [Ideal.ofBits, Ideal.ieee, -EReal.coe_mul]; norm_num
theorem lit_neg5 : Ideal.ofBits .f32 3231711232#32 = ((-5 : ℝ) : EReal) := by
  simp [Ideal.ofBits, Ideal.ieee, -EReal.coe_mul, -EReal.coe_neg]; norm_num

/-- The single-precision number nearest the logarithm of two. -/
def ln2 : ℝ := 11629080 / 16777216
theorem lit_ln2 : Ideal.ofBits .f32 1060205080#32 = ((ln2 : ℝ) : EReal) := by
  simp [Ideal.ofBits, Ideal.ieee, -EReal.coe_mul, ln2]; norm_num

/-- The single-precision number nearest the inverse square root of 128. -/
def scale : ℝ := 11863283 / 134217728
theorem lit_scale : Ideal.ofBits .f32 1035273459#32 = ((scale : ℝ) : EReal) := by
  simp [Ideal.ofBits, Ideal.ieee, -EReal.coe_mul, scale]; norm_num

/-- The decay rate of head `h`. -/
def rate (h : ℕ) : ℝ := Real.log (1 - Real.exp (ln2 * (-5 - h)))

/-- The decay rate as both programs compute it. -/
theorem rate_eq (h : ℕ) (hh : h < 4) : Ideal.log1p (-Ideal.exp (Ideal.ofBits .f32 1060205080#32 *
    (Ideal.ofBits .f32 3231711232#32 - FloatOps.sitofp (F := Ideal) .f32 (BitVec.ofNat 32 h)))) = ((rate h : ℝ) : EReal) := by
  rw [nat_float h (by omega), lit_ln2, lit_neg5, ← EReal.coe_sub, ← EReal.coe_mul, Ideal.exp_coe, ← EReal.coe_neg, Ideal.log1p,
    ← EReal.coe_one, ← EReal.coe_add, ← sub_eq_add_neg, rate]
  have : (0 : ℝ) < 1 - Real.exp (ln2 * (-5 - h)) := by
    rw [sub_pos, Real.exp_lt_one_iff]
    have : (0 : ℝ) ≤ h := Nat.cast_nonneg h
    have h2 : (0 : ℝ) < ln2 := by norm_num [ln2]
    nlinarith
  rw [Ideal.log_coe, if_neg (not_le.mpr this)]

/-- The angle of rotary pair `d` at position `p`. -/
def angle (p d : ℕ) : ℝ := p * Real.rpow 10000 (-d / 64)

/-- The angle as both programs compute it. -/
theorem angle_eq (p d : ℕ) (hp : p < 2048) (hd : d < 64) :
    FloatOps.sitofp (F := Ideal) .f32 (BitVec.ofNat 32 p) *
      Ideal.pow (Ideal.ofBits .f32 1176256512#32) (Ideal.div (-FloatOps.sitofp (F := Ideal) .f32 (BitVec.ofNat 32 d)) (Ideal.ofBits .f32 1115684864#32))
    = ((angle p d : ℝ) : EReal) := by
  rw [nat_float p (by omega), nat_float d (by omega), lit_10000, lit_64, Ideal.div_coe, ← EReal.coe_neg, ← EReal.coe_mul]
  show _ * ((Real.rpow _ _ : ℝ) : EReal) = _
  rw [← EReal.coe_mul, angle, mul_one_div]
  all_goals norm_num

end Cert.Retention
-- ==== Proof.Spec.lean ====
module

public import proofs.«01_k».proof.Proof.Math
public import proofs.«01_k».proof.Proof.Scal
public import Idealize.ShloMosaic.Lib.Pointwise

/-!
  What the retention call computes, stated once for both programs: the rotated queries and keys, the values and the
  initial state as real numbers, and the normalised, gated output as an extended real.
-/

@[expose] public section

noncomputable section

namespace Cert.Retention

open Idealize.ShloMosaic

/-- An index of two coordinates is the pair of them. -/
theorem pair (a b : ℕ) (y : (⟨2, ![a, b]⟩ : Shape).Idx) : ∃ (i : Fin a) (j : Fin b), y = ix2 i j :=
  ⟨y 0, y 1, (ValueIdx.eq_ix2 y).trans (ix2_eq_valueIdx _ _).symm⟩

/-- A finite sum of real numbers is the same sum taken in the extended reals. -/
theorem coe_sum {ι : Type*} [Fintype ι] (f : ι → ℝ) : ((∑ i, f i : ℝ) : EReal) = ∑ i, (f i : EReal) := by
  classical
  refine Finset.induction_on (Finset.univ : Finset ι) (by simp) fun i s hi ih => ?_
  rw [Finset.sum_insert hi, Finset.sum_insert hi, EReal.coe_add, ih]

/-- The decay from position `x` to position `i`: zero where `x` is the later one. -/
theorem decay_eq (i x : ℕ) (r : ℝ) :
    (if (0 : EReal) ≤ ((i : ℝ) : EReal) - ((x : ℝ) : EReal) then Ideal.exp (max (((i : ℝ) : EReal) - ((x : ℝ) : EReal)) 0 * (r : EReal)) else 0)
      = ((if x ≤ i then Real.exp (((i : ℝ) - x) * r) else 0 : ℝ) : EReal) := by
  rw [← EReal.coe_sub, ← EReal.coe_zero]
  by_cases h : x ≤ i
  · have h' : (0 : ℝ) ≤ (i : ℝ) - x := sub_nonneg.mpr (by exact_mod_cast h)
    rw [if_pos (EReal.coe_le_coe_iff.mpr h'), if_pos h, max_eq_left (EReal.coe_le_coe_iff.mpr h'), ← EReal.coe_mul, Ideal.exp_coe]
  · have h' : ¬ (0 : ℝ) ≤ (i : ℝ) - x := fun h2 => h (by exact_mod_cast sub_nonneg.mp h2)
    rw [if_neg (fun h2 => h' (EReal.coe_le_coe_iff.mp h2)), if_neg h]

/-- The rotary embedding of head `h` of sequence `b`, at position `p` and coordinate `d`. -/
def rot (x : ℕ → ℕ → ℝ) (b h p d : ℕ) : ℝ :=
  if d < 64 then
    x (b * 2048 + p) (h * 128 + d) * Real.cos (angle p d) - x (b * 2048 + p) (h * 128 + (64 + d)) * Real.sin (angle p d)
  else
    x (b * 2048 + p) (h * 128 + (d - 64)) * Real.sin (angle p (d - 64)) + x (b * 2048 + p) (h * 128 + d) * Real.cos (angle p (d - 64))

/-- The rotated and scaled keys. -/
def key (x : ℕ → ℕ → ℝ) (b h p d : ℕ) : ℝ := rot x b h p d * scale

/-- The values of head `h` of sequence `b`. -/
def val (x : ℕ → ℕ → ℝ) (b h p e : ℕ) : ℝ := x (b * 2048 + p) (h * 128 + e)

/-- One head's output row `o`, normalised to mean zero and variance one, scaled by `w` and gated by `g`. -/
def gated (o : Fin 128 → EReal) (g w : EReal) (e : Fin 128) : EReal :=
  g * Ideal.logistic g *
    ((o e - Ideal.div (∑ x, o x) (Ideal.ofBits .f32 1124073472#32)) *
      Ideal.rsqrt (Ideal.div (∑ x, (o x - Ideal.div (∑ y, o y) (Ideal.ofBits .f32 1124073472#32)) * (o x - Ideal.div (∑ y, o y) (Ideal.ofBits .f32 1124073472#32)))
        (Ideal.ofBits .f32 1124073472#32) + Ideal.ofBits .f32 897988541#32) * w)

/-- The real numbers in a rank-two array of finite entries. -/
def real2 {R C : ℕ} (X : Fin R → Fin C → EReal) (r j : ℕ) : ℝ := if h : r < R ∧ j < C then (X ⟨r, h.1⟩ ⟨j, h.2⟩).toReal else 0

theorem real2_eq {R C : ℕ} (X : Fin R → Fin C → EReal) (hX : ∀ r j, X r j ≠ ⊤ ∧ X r j ≠ ⊥) (r : Fin R) (j : Fin C) :
    X r j = ((real2 X r j : ℝ) : EReal) := by
  rw [real2, dif_pos ⟨r.2, j.2⟩, EReal.coe_toReal (hX _ _).1 (hX _ _).2]

/-- The real numbers an array of states holds. -/
def real4 {A B C D : ℕ} (X : Fin A → Fin B → Fin C → Fin D → EReal) (a b c d : ℕ) : ℝ :=
  if h : a < A ∧ b < B ∧ c < C ∧ d < D then (X ⟨a, h.1⟩ ⟨b, h.2.1⟩ ⟨c, h.2.2.1⟩ ⟨d, h.2.2.2⟩).toReal else 0

/-- A finite array of states equals its real numbers. -/
theorem real4_eq {A B C D : ℕ} (X : Fin A → Fin B → Fin C → Fin D → EReal) (hX : ∀ a b c d, X a b c d ≠ ⊤ ∧ X a b c d ≠ ⊥)
    (a : Fin A) (b : Fin B) (c : Fin C) (d : Fin D) : X a b c d = ((real4 X a b c d : ℝ) : EReal) := by
  unfold real4
  rw [dif_pos ⟨a.isLt, b.isLt, c.isLt, d.isLt⟩]
  exact (EReal.coe_toReal (hX a b c d).1 (hX a b c d).2).symm

end Cert.Retention
-- ==== Proof.KHead.lean ====
module

public import proofs.«01_k».proof.Proof.KPoint
public import proofs.«01_k».proof.Proof.Spec
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

/-! ## What one head of one block computes, entry by entry -/

/-- The rotary embedding as the kernel computes it: the head's columns times one table, and the columns half a head
    away times another. -/
def turn (h : Fin 4) (x : Vec Ideal S256x512 .f32) (cc sn : Vec Ideal S256x128 .f32) (t : Fin 256) (d : Fin 128) : EReal :=
  HAdd.hAdd (α := EReal) (β := EReal)
    (HMul.hMul (α := EReal) (β := EReal) (x (ix2 t ⟨128 * h + d, by omega⟩)) (cc (ix2 t d)))
    (HMul.hMul (α := EReal) (β := EReal) (x (ix2 t ⟨128 * h + (d + 128 - 64) % 128, by omega⟩)) (sn (ix2 t d)))

/-- One entry of a head's output before normalisation: the part from the block itself and the part from the state. -/
theorem oK_at (h : Fin 4) (x1 x2 : Vec Ideal S256x512 .f32) (x3 : Vec Ideal S256x512 .bf16) (x5 x6 : Vec Ideal S256x128 .f32)
    (x7 : Vec Ideal S4x256x256 .f32) (x8 : Vec Ideal S256x512 .f32) (s : Vec Ideal S1x4x128x128 .f32) (t : Fin 256) (e : Fin 128) :
    @Eq EReal (oK h x1 x2 x3 x5 x6 x7 x8 s (ix2 t e))
      (HAdd.hAdd (α := EReal) (β := EReal)
        (∑ y : Fin 256, HMul.hMul (α := EReal) (β := EReal)
          (HMul.hMul (α := EReal) (β := EReal) (∑ d : Fin 128, turn h x1 x5 x6 t d * (turn h x2 x5 x6 y d * Ideal.ofBits .f32 1035273459#32)) (x7 (ix3 h t y)))
          (x3 (ix2 y ⟨128 * h + e, by omega⟩)))
        (∑ d : Fin 128, HMul.hMul (α := EReal) (β := EReal)
          (HMul.hMul (α := EReal) (β := EReal) (turn h x1 x5 x6 t d) (x8 (ix2 t ⟨128 * h + d, by omega⟩))) (s (ix4 0 h d e)))) := by
  pointwise [oK, cs, gs, ms, ss, ds, k0_pay14, k0_pay13, k0_pay12, k0_pay3, k0_pay4]
  rfl

/-- One entry of a head's state after a block. -/
theorem sK_at (h : Fin 4) (x0 : Vec Ideal S4 .f32) (x2 : Vec Ideal S256x512 .f32) (x3 : Vec Ideal S256x512 .bf16) (x5 x6 : Vec Ideal S256x128 .f32)
    (x9 : Vec Ideal S256x512 .f32) (s : Vec Ideal S1x4x128x128 .f32) (d e : Fin 128) :
    @Eq EReal (sK h x0 x2 x3 x5 x6 x9 s (ix4 0 0 d e))
      (HAdd.hAdd (α := EReal) (β := EReal) (HMul.hMul (α := EReal) (β := EReal) (x0 (ix1 h)) (s (ix4 0 h d e)))
        (∑ y : Fin 256, HMul.hMul (α := EReal) (β := EReal)
          (HMul.hMul (α := EReal) (β := EReal) (turn h x2 x5 x6 y d * Ideal.ofBits .f32 1035273459#32) (x9 (ix2 y ⟨128 * h + d, by omega⟩)))
          (x3 (ix2 y ⟨128 * h + e, by omega⟩)))) := by
  pointwise [sK, cs, gs, ms, ss, ds, k0_pay15, k0_pay13, k0_pay12, k0_pay3, k0_pay4]
  rfl

/-- One entry of a head's result: the output row normalised and gated. -/
theorem outK_at (h : Fin 4) (o : FVec Ideal S256x128 .f32) (x4 : Vec Ideal S256x512 .f32) (x10 : Vec Ideal S1x512 .f32) (t : Fin 256) (e : Fin 128) :
    @Eq EReal (outK h o x4 x10 (ix2 t e))
      (Cert.Retention.gated (fun x => o (ix2 t x)) (x4 (ix2 t ⟨128 * h + e, by omega⟩)) (x10 (ix2 0 ⟨128 * h + e, by omega⟩)) e) := by
  pointwise [outK, cs, gs, k0_pay16]
  rfl

end Cert.KernelIdeal.Value
-- ==== Proof.KHost.lean ====
module

public import proofs.«01_k».proof.Proof.KPoint
public import proofs.«01_k».proof.Proof.Spec
public import Idealize.ShloMosaic.Lib.Pointwise
public import Idealize.ShloMosaic.Lib.StableHlo.RunRead
public import Idealize.ShloMosaic.Lib.StableHlo.RunLoop

@[expose] public section

set_option maxRecDepth 16384

noncomputable section

namespace Cert.KernelIdeal.Value

open Cert.KernelIdeal Cert.KernelIdeal.Gen Idealize.ShloMosaic Idealize.ShloMosaic.TcCoe Idealize.SL.Sem Cert.Retention

variable (m : (ℓ : Loc nD τ sig) → Buf (Elt Ideal) ℓ)

/-! ## The tables the host prepares -/

set_option maxHeartbeats 2000000 in
/-- The cosine table. -/
theorem V_cos (c : Dev nD) (t : Fin 2048) (d : Fin 128) :
    @Eq EReal (V m c main_v17 (ix2 t d)) ((Real.cos (angle t (if (d : ℕ) < 64 then d else d - 64)) : ℝ) : EReal) := by
  unfold V
  rw [← StableHlo.afterL_eq_after_flatten]
  simp only [StableHlo.afterL_cons, StableHlo.afterL_nil]
  after_reads_simp
  pointwise
  split
  · rw [IntOp.addi, BitVec.zero_add, angle_eq _ _ t.2 (by omega), Ideal.cos_coe]
  · rw [IntOp.addi, BitVec.zero_add, angle_eq _ _ t.2 (by omega), Ideal.cos_coe]

set_option maxHeartbeats 2000000 in
/-- The sine table, negated in its first half. -/
theorem V_sin (c : Dev nD) (t : Fin 2048) (d : Fin 128) :
    @Eq EReal (V m c main_v21 (ix2 t d)) ((if (d : ℕ) < 64 then -Real.sin (angle t d) else Real.sin (angle t (d - 64)) : ℝ) : EReal) := by
  unfold V
  rw [← StableHlo.afterL_eq_after_flatten]
  simp only [StableHlo.afterL_cons, StableHlo.afterL_nil]
  after_reads_simp
  pointwise
  split
  · rw [IntOp.addi, BitVec.zero_add, angle_eq _ _ t.2 (by omega), Ideal.sin_coe, EReal.coe_neg]
  · rw [IntOp.addi, BitVec.zero_add, angle_eq _ _ t.2 (by omega), Ideal.sin_coe]

set_option maxHeartbeats 2000000 in
/-- The decay between two positions of one block. -/
theorem V_dmat (c : Dev nD) (h : Fin 4) (t s : Fin 256) :
    @Eq EReal (V m c main_v47 (ix3 h t s)) ((if (s : ℕ) ≤ t then Real.exp (((t : ℝ) - (s : ℕ)) * rate h) else 0 : ℝ) : EReal) := by
  unfold V
  rw [← StableHlo.afterL_eq_after_flatten]
  simp only [StableHlo.afterL_cons, StableHlo.afterL_nil]
  after_reads_simp
  simp -implicitDefEqProofs only [StableHlo.TRef.toBuf, StableHlo.TRef.ofBuf, cast_cast, cast_eq]
  pointwise
  simp only [id_eq, constant_apply]
  have ez : FloatOps.ofBits (F := Ideal) .f32 0#32 = (0 : EReal) := Ideal.ofBits_zero_f32
  rw [rate_eq h h.2, nat_float t (by omega), nat_float s (by omega), ez]
  exact decay_eq t s (rate h)

set_option maxHeartbeats 2000000 in
/-- The decay of a key to the end of its block. -/
theorem V_kd (c : Dev nD) (t : Fin 256) (j : Fin 512) :
    @Eq EReal (V m c main_v57 (ix2 t j)) ((Real.exp (((255 : ℝ) - (t : ℕ)) * rate (j / 128 : ℕ)) : ℝ) : EReal) := by
  unfold V
  rw [← StableHlo.afterL_eq_after_flatten]
  simp only [StableHlo.afterL_cons, StableHlo.afterL_nil]
  after_reads_simp
  pointwise
  rw [rate_eq (j / 128) (by omega), nat_float t (by omega), lit_255, ← EReal.coe_sub, ← EReal.coe_mul, Ideal.exp_coe]

set_option maxHeartbeats 2000000 in
/-- The decay of the state to a query's position. -/
theorem V_qd (c : Dev nD) (t : Fin 256) (j : Fin 512) :
    @Eq EReal (V m c main_v67 (ix2 t j)) ((Real.exp (((t : ℝ) + 1) * rate (j / 128 : ℕ)) : ℝ) : EReal) := by
  unfold V
  rw [← StableHlo.afterL_eq_after_flatten]
  simp only [StableHlo.afterL_cons, StableHlo.afterL_nil]
  after_reads_simp
  pointwise
  rw [rate_eq (j / 128) (by omega), nat_float t (by omega), ← EReal.coe_one, ← EReal.coe_add, ← EReal.coe_mul, Ideal.exp_coe]

/-- The decay of the state over one block. -/
theorem V_cd (c : Dev nD) (h : Fin 4) : @Eq EReal (V m c main_v70 (ix1 h)) ((Real.exp ((256 : ℝ) * rate h) : ℝ) : EReal) := by
  unfold V
  rw [← StableHlo.afterL_eq_after_flatten]
  simp only [StableHlo.afterL_cons, StableHlo.afterL_nil]
  after_reads_simp
  pointwise
  rw [rate_eq h h.2, lit_256, ← EReal.coe_mul, Ideal.exp_coe]

/-- The normalisation's weights, as the kernel takes them. -/
theorem V_g (c : Dev nD) (j : Fin 512) : @Eq EReal (V m c main_v71 (ix2 0 j)) (m (c, Proc.devRef .tc main_arg5) (ix1 j)) := by
  unfold V
  rw [← StableHlo.afterL_eq_after_flatten]
  simp only [StableHlo.afterL_cons, StableHlo.afterL_nil]
  after_reads_simp
  pointwise

end Cert.KernelIdeal.Value
-- ==== Proof.KVal.lean ====
module

public import proofs.«01_k».proof.Proof.KHead
public import proofs.«01_k».proof.Proof.KHost

/-!
  What the kernel's grid computes, block by block, as real numbers: the state carried from block to block is the
  recurrence over chunks of 256 positions, and a head's output before normalisation is the sum over all positions.
-/

@[expose] public section

set_option maxRecDepth 16384

noncomputable section

namespace Cert.KernelIdeal.Value

open Cert.KernelIdeal Cert.KernelIdeal.Gen Idealize.ShloMosaic Idealize.ShloMosaic.TcCoe Idealize.SL.Sem Cert.Retention

variable (m : (ℓ : Loc nD τ sig) → Buf (Elt Ideal) ℓ) (c : Dev nD)

/-! ## The bodies' formulas over real numbers -/

/-- The kernel's rotary embedding of a row of real numbers is the rotation. -/
theorem turn_eq (x : Vec Ideal S256x512 .f32) (cc sn : Vec Ideal S256x128 .f32) (xr : ℕ → ℕ → ℝ) (b p : ℕ) (h : Fin 4) (i : Fin 256) (d : Fin 128)
    (hx : ∀ j : Fin 512, @Eq EReal (x (ix2 i j)) ((xr (b * 2048 + p) j : ℝ) : EReal))
    (hc : ∀ d : Fin 128, @Eq EReal (cc (ix2 i d)) ((Real.cos (angle p (if (d : ℕ) < 64 then d else d - 64)) : ℝ) : EReal))
    (hs : ∀ d : Fin 128, @Eq EReal (sn (ix2 i d)) ((if (d : ℕ) < 64 then -Real.sin (angle p d) else Real.sin (angle p (d - 64)) : ℝ) : EReal)) :
    turn h x cc sn i d = ((rot xr b h p d : ℝ) : EReal) := by
  unfold turn
  rw [hx, hx, hc, hs, ← EReal.coe_mul, ← EReal.coe_mul, ← EReal.coe_add]
  refine congrArg _ ?_
  unfold rot
  dsimp only
  by_cases hd : (d : ℕ) < 64
  · rw [if_pos hd, if_pos hd, if_pos hd, show (128 * (h : ℕ) + ((d : ℕ) + 128 - 64) % 128) = (h : ℕ) * 128 + (64 + (d : ℕ)) by omega,
      show 128 * (h : ℕ) + (d : ℕ) = (h : ℕ) * 128 + d by omega]
    ring
  · rw [if_neg hd, if_neg hd, if_neg hd, show (128 * (h : ℕ) + ((d : ℕ) + 128 - 64) % 128) = (h : ℕ) * 128 + ((d : ℕ) - 64) by omega,
      show 128 * (h : ℕ) + (d : ℕ) = (h : ℕ) * 128 + d by omega]
    ring

/-- A head's output before normalisation, as a real number. -/
theorem oK_real (h : Fin 4) (x1 x2 : Vec Ideal S256x512 .f32) (x3 : Vec Ideal S256x512 .bf16) (x5 x6 : Vec Ideal S256x128 .f32)
    (x7 : Vec Ideal S4x256x256 .f32) (x8 : Vec Ideal S256x512 .f32) (s : Vec Ideal S1x4x128x128 .f32)
    (xq xk xv : ℕ → ℕ → ℝ) (sr : ℕ → ℕ → ℝ) (b p : ℕ) (i : Fin 256) (e : Fin 128)
    (h1 : ∀ d, turn h x1 x5 x6 i d = ((rot xq b h (p + i) d : ℝ) : EReal))
    (h2 : ∀ y d, turn h x2 x5 x6 y d = ((rot xk b h (p + y) d : ℝ) : EReal))
    (h3 : ∀ (y : Fin 256) (j : Fin 512), @Eq EReal (x3 (ix2 y j)) ((xv (b * 2048 + (p + y)) j : ℝ) : EReal))
    (h7 : ∀ y : Fin 256, @Eq EReal (x7 (ix3 h i y)) ((if (y : ℕ) ≤ i then Real.exp (((i : ℝ) - (y : ℕ)) * rate h) else 0 : ℝ) : EReal))
    (h8 : ∀ j : Fin 512, @Eq EReal (x8 (ix2 i j)) ((Real.exp (((i : ℝ) + 1) * rate (j / 128 : ℕ)) : ℝ) : EReal))
    (hs : ∀ d : Fin 128, @Eq EReal (s (ix4 0 h d e)) ((sr d e : ℝ) : EReal)) :
    @Eq EReal (oK h x1 x2 x3 x5 x6 x7 x8 s (ix2 i e))
      ((Retention.inner 256 (rate h) (rot xq b h) (key xk b h) (val xv b h) p i e + outer (rate h) (rot xq b h) sr p i e : ℝ) : EReal) := by
  rw [oK_at]
  simp only [h1, h2, h3, h7, h8, hs, lit_scale, ← EReal.coe_mul, ← coe_sum]
  rw [← EReal.coe_add]
  refine congrArg _ ?_
  unfold Retention.inner outer key val
  refine congrArg₂ (· + ·) (Finset.sum_congr rfl fun y _ => ?_) (Finset.sum_congr rfl fun d _ => ?_)
  · rw [show (h : ℕ) * 128 + (e : ℕ) = 128 * h + e by omega]
  · rw [show (128 * (h : ℕ) + (d : ℕ)) / 128 = h by omega]

/-- A head's state after a block, as a real number. -/
theorem sK_real (h : Fin 4) (x0 : Vec Ideal S4 .f32) (x2 : Vec Ideal S256x512 .f32) (x3 : Vec Ideal S256x512 .bf16) (x5 x6 : Vec Ideal S256x128 .f32)
    (x9 : Vec Ideal S256x512 .f32) (s : Vec Ideal S1x4x128x128 .f32)
    (xk xv : ℕ → ℕ → ℝ) (sr : ℕ → ℕ → ℝ) (b p : ℕ) (d e : Fin 128)
    (h0 : @Eq EReal (x0 (ix1 h)) ((Real.exp ((256 : ℝ) * rate h) : ℝ) : EReal))
    (h2 : ∀ y d, turn h x2 x5 x6 y d = ((rot xk b h (p + y) d : ℝ) : EReal))
    (h3 : ∀ (y : Fin 256) (j : Fin 512), @Eq EReal (x3 (ix2 y j)) ((xv (b * 2048 + (p + y)) j : ℝ) : EReal))
    (h9 : ∀ (y : Fin 256) (j : Fin 512), @Eq EReal (x9 (ix2 y j)) ((Real.exp (((255 : ℝ) - (y : ℕ)) * rate (j / 128 : ℕ)) : ℝ) : EReal))
    (hs : @Eq EReal (s (ix4 0 h d e)) ((sr d e : ℝ) : EReal)) :
    @Eq EReal (sK h x0 x2 x3 x5 x6 x9 s (ix4 0 0 d e))
      ((Real.exp (((256 : ℕ) : ℝ) * rate h) * sr d e + Retention.add 256 (rate h) (key xk b h) (val xv b h) p d e : ℝ) : EReal) := by
  rw [sK_at]
  simp only [h0, h2, h3, h9, hs, lit_scale, ← EReal.coe_mul, ← coe_sum]
  rw [← EReal.coe_add]
  refine congrArg _ ?_
  unfold Retention.add key val
  refine congrArg₂ (· + ·) (by norm_num) (Finset.sum_congr rfl fun y _ => ?_)
  rw [show (128 * (h : ℕ) + (d : ℕ)) / 128 = h by omega, show (h : ℕ) * 128 + (e : ℕ) = 128 * h + e by omega]
  norm_num

/-! ## The blocks that a grid point reads -/

theorem idx0 : ∀ t : Fin cfg0.N, win0_0.index t = ![0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val % 8, 0] := (by decide +kernel : ∀ t : Fin grid0.N, _)
theorem idx6 : ∀ t : Fin cfg0.N, win0_6.index t = ![t.val % 8, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val / 8, 0, 0, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val / 8, 0, 0, 0] := (by decide +kernel : ∀ t : Fin grid0.N, _)

theorem lt_N (t : Fin cfg0.N) : t.val < 256 := lt_of_lt_of_eq t.isLt (by decide +kernel)

theorem B0 (t : Fin cfg0.N) (h : Fin 4) :
    @Eq EReal (iblk m c 0 t (ix1 h)) (V m c main_v70 (ix1 h)) := by
  blk_ext [iblk, idx0 t]

theorem B1 (t : Fin cfg0.N) (i : Fin 256) (j : Fin 512) :
    @Eq EReal (iblk m c 1 t (ix2 i j)) (V m c main_arg0 (ix2 ⟨t.val * 256 + i.val, by have := lt_N t; omega⟩ j)) := by
  blk_ext [iblk, idx1 t]

theorem B2 (t : Fin cfg0.N) (i : Fin 256) (j : Fin 512) :
    @Eq EReal (iblk m c 2 t (ix2 i j)) (V m c main_arg1 (ix2 ⟨t.val * 256 + i.val, by have := lt_N t; omega⟩ j)) := by
  blk_ext [iblk, idx2 t]

theorem B3 (t : Fin cfg0.N) (i : Fin 256) (j : Fin 512) :
    @Eq EReal (iblk m c 3 t (ix2 i j)) (V m c main_arg2 (ix2 ⟨t.val * 256 + i.val, by have := lt_N t; omega⟩ j)) := by
  blk_ext [iblk, idx3 t]

theorem B4 (t : Fin cfg0.N) (i : Fin 256) (j : Fin 512) :
    @Eq EReal (iblk m c 4 t (ix2 i j)) (V m c main_arg3 (ix2 ⟨t.val * 256 + i.val, by have := lt_N t; omega⟩ j)) := by
  blk_ext [iblk, idx4 t]

theorem B5 (t : Fin cfg0.N) (i : Fin 256) (j : Fin 128) :
    @Eq EReal (iblk m c 5 t (ix2 i j)) (V m c main_v17 (ix2 ⟨t.val % 8 * 256 + i.val, by omega⟩ j)) := by
  blk_ext [iblk, idx5 t]

theorem B6 (t : Fin cfg0.N) (i : Fin 256) (j : Fin 128) :
    @Eq EReal (iblk m c 6 t (ix2 i j)) (V m c main_v21 (ix2 ⟨t.val % 8 * 256 + i.val, by omega⟩ j)) := by
  blk_ext [iblk, idx6 t]

theorem B7 (t : Fin cfg0.N) (h : Fin 4) (i j : Fin 256) :
    @Eq EReal (iblk m c 7 t (ix3 h i j)) (V m c main_v47 (ix3 h i j)) := by
  blk_ext [iblk, idx7 t]

theorem B8 (t : Fin cfg0.N) (i : Fin 256) (j : Fin 512) :
    @Eq EReal (iblk m c 8 t (ix2 i j)) (V m c main_v67 (ix2 i j)) := by
  blk_ext [iblk, idx8 t]

theorem B9 (t : Fin cfg0.N) (i : Fin 256) (j : Fin 512) :
    @Eq EReal (iblk m c 9 t (ix2 i j)) (V m c main_v57 (ix2 i j)) := by
  blk_ext [iblk, idx9 t]

theorem B10 (t : Fin cfg0.N) (j : Fin 512) :
    @Eq EReal (iblk m c 10 t (ix2 0 j)) (V m c main_v71 (ix2 0 j)) := by
  blk_ext [iblk, idx10 t]

theorem B11 (t : Fin cfg0.N) (h : Fin 4) (d e : Fin 128) :
    @Eq EReal (iblk m c 11 t (ix4 0 h d e)) (V m c main_arg4 (ix4 ⟨t.val / 8, by have := lt_N t; omega⟩ h d e)) := by
  blk_ext [iblk, idx11 t]

/-! ## The grid, block by block -/

section
variable (xq xk xv : ℕ → ℕ → ℝ) (x0 : ℕ → ℕ → ℕ → ℕ → ℝ)
  (hq : ∀ (r : Fin 65536) (j : Fin 512), @Eq EReal (V m c main_arg0 (ix2 r j)) ((xq r j : ℝ) : EReal))
  (hk : ∀ (r : Fin 65536) (j : Fin 512), @Eq EReal (V m c main_arg1 (ix2 r j)) ((xk r j : ℝ) : EReal))
  (hv : ∀ (r : Fin 65536) (j : Fin 512), @Eq EReal (V m c main_arg2 (ix2 r j)) ((xv r j : ℝ) : EReal))
  (hz : ∀ (b : Fin 32) (h : Fin 4) (d e : Fin 128), @Eq EReal (V m c main_arg4 (ix4 b h d e)) ((x0 b h d e : ℝ) : EReal))

/-- Row `i` of block `t` is position `256 * (t % 8) + i` of sequence `t / 8`. -/
theorem row_eq (t i : ℕ) : t * 256 + i = t / 8 * 2048 + (256 * (t % 8) + i) := by omega

include hq in
theorem turn1 (t : Fin cfg0.N) (h : Fin 4) (i : Fin 256) (d : Fin 128) :
    turn h (iblk m c 1 t) (iblk m c 5 t) (iblk m c 6 t) i d = ((rot xq (t.val / 8) h (256 * (t.val % 8) + i) d : ℝ) : EReal) := by
  refine turn_eq _ _ _ xq (t.val / 8) (256 * (t.val % 8) + i) h i d (fun j => ?_) (fun d => ?_) (fun d => ?_)
  · rw [B1, hq]; simp only [row_eq]
  · rw [B5, V_cos]; simp only [Nat.mul_comm (t.val % 8) 256]
  · rw [B6, V_sin]; simp only [Nat.mul_comm (t.val % 8) 256]

include hk in
theorem turn2 (t : Fin cfg0.N) (h : Fin 4) (i : Fin 256) (d : Fin 128) :
    turn h (iblk m c 2 t) (iblk m c 5 t) (iblk m c 6 t) i d = ((rot xk (t.val / 8) h (256 * (t.val % 8) + i) d : ℝ) : EReal) := by
  refine turn_eq _ _ _ xk (t.val / 8) (256 * (t.val % 8) + i) h i d (fun j => ?_) (fun d => ?_) (fun d => ?_)
  · rw [B2, hk]; simp only [row_eq]
  · rw [B5, V_cos]; simp only [Nat.mul_comm (t.val % 8) 256]
  · rw [B6, V_sin]; simp only [Nat.mul_comm (t.val % 8) 256]

include hv in
theorem vals (t : Fin cfg0.N) (y : Fin 256) (j : Fin 512) :
    @Eq EReal (iblk m c 3 t (ix2 y j)) ((xv (t.val / 8 * 2048 + (256 * (t.val % 8) + y)) j : ℝ) : EReal) := by
  rw [B3, hv]; simp only [row_eq]

include hk hv in
/-- One block's step of the state. -/
theorem step_of (t : Fin cfg0.N) (h : Fin 4) (s : Vec Ideal S1x4x128x128 .f32) (sr : ℕ → ℕ → ℝ) (d e : Fin 128)
    (hs : @Eq EReal (s (ix4 0 h d e)) ((sr d e : ℝ) : EReal)) :
    @Eq EReal (sK h (iblk m c 0 t) (iblk m c 2 t) (iblk m c 3 t) (iblk m c 5 t) (iblk m c 6 t) (iblk m c 9 t) s (ix4 0 0 d e))
      ((Real.exp (((256 : ℕ) : ℝ) * rate h) * sr d e
        + Retention.add 256 (rate h) (key xk (t.val / 8) h) (val xv (t.val / 8) h) (256 * (t.val % 8)) d e : ℝ) : EReal) :=
  sK_real h _ _ _ _ _ _ s xk xv sr _ _ d e (by rw [B0, V_cd]) (fun y d => turn2 m c xk hk t h y d) (fun y j => vals m c xv hv t y j)
    (fun y j => by rw [B9, V_kd]) hs

include hk hv hz in
/-- After each grid point the state block holds the recurrence's state after that many chunks. -/
theorem state_val (n : ℕ) (hn : n < cfg0.N) (h : Fin 4) (d e : Fin 128) (y : S1x4x128x128.Idx)
    (hy1 : (y 1 : ℕ) = h) (hy2 : (y 2 : ℕ) = d) (hy3 : (y 3 : ℕ) = e) :
    @Eq EReal ((outsAt0 m c n hn).2 y)
      ((st 256 (rate h) (key xk (n / 8) h) (val xv (n / 8) h) (x0 (n / 8) h) (n % 8 + 1) d e : ℝ) : EReal) := by
  induction n generalizing h d e y with
  | zero =>
    refine (out13_A m c ⟨0, hn⟩ rfl h y d e hy1 hy2 hy3).trans ?_
    refine (step_of m c xk xv hk hv ⟨0, hn⟩ h _ (x0 ((⟨0, hn⟩ : Fin cfg0.N).val / 8) h) d e (by rw [B11, hz])).trans ?_
    simp only [Nat.zero_div, Nat.zero_mod]
    rfl
  | succ n ih =>
    by_cases h0 : (n + 1) % 8 = 0
    · refine (out13_A m c ⟨n + 1, hn⟩ h0 h y d e hy1 hy2 hy3).trans ?_
      refine (step_of m c xk xv hk hv ⟨n + 1, hn⟩ h _ (x0 ((n + 1) / 8) h) d e (by rw [B11, hz])).trans ?_
      simp only [h0]
      rfl
    · refine (out13_B m c ⟨n + 1, hn⟩ h0 h y d e hy1 hy2 hy3).trans ?_
      refine (step_of m c xk xv hk hv ⟨n + 1, hn⟩ h _ _ d e (ih _ h d e (ix4 0 h d e) rfl rfl rfl)).trans ?_
      have e1 : (n + 1) / 8 = n / 8 := by omega
      have e2 : (n + 1) % 8 = n % 8 + 1 := by omega
      simp only [e1, e2]
      rfl

include hq hk hv hz in
/-- One entry of a head's output before normalisation is the sum over all positions up to its own. -/
theorem out_of (t : Fin cfg0.N) (h : Fin 4) (s : Vec Ideal S1x4x128x128 .f32) (i : Fin 256) (e : Fin 128)
    (hs : ∀ d : Fin 128, @Eq EReal (s (ix4 0 h d e))
      ((st 256 (rate h) (key xk (t.val / 8) h) (val xv (t.val / 8) h) (x0 (t.val / 8) h) (t.val % 8) d e : ℝ) : EReal)) :
    @Eq EReal (oK h (iblk m c 1 t) (iblk m c 2 t) (iblk m c 3 t) (iblk m c 5 t) (iblk m c 6 t) (iblk m c 7 t) (iblk m c 8 t) s (ix2 i e))
      ((outSum (rate h) (rot xq (t.val / 8) h) (key xk (t.val / 8) h) (val xv (t.val / 8) h) (x0 (t.val / 8) h) (256 * (t.val % 8) + i) e : ℝ) : EReal) := by
  refine (oK_real h _ _ _ _ _ _ _ s xq xk xv _ (t.val / 8) (256 * (t.val % 8)) i e (fun d => turn1 m c xq hq t h i d)
    (fun y d => turn2 m c xk hk t h y d) (fun y j => vals m c xv hv t y j) (fun y => by rw [B7, V_dmat]) (fun j => by rw [B8, V_qd]) hs).trans ?_
  rw [out_eq 256 (rate h) (rot xq (t.val / 8) h) (key xk (t.val / 8) h) (val xv (t.val / 8) h) (x0 (t.val / 8) h) (t.val % 8) i e i.isLt]

include hq hk hv hz in
/-- After each grid point the result block holds the normalised and gated outputs of its rows. -/
theorem out_val (t : Fin cfg0.N) (h : Fin 4) (i : Fin 256) (e : Fin 128) (y : S256x512.Idx)
    (hy0 : (y 0 : ℕ) = i) (hy1 : (y 1 : ℕ) = 128 * h + e) :
    @Eq EReal ((outsAt0 m c t.val t.isLt).1 y)
      (gated (fun x => ((outSum (rate h) (rot xq (t.val / 8) h) (key xk (t.val / 8) h) (val xv (t.val / 8) h) (x0 (t.val / 8) h)
          (256 * (t.val % 8) + i) x : ℝ) : EReal))
        (V m c main_arg3 (ix2 ⟨t.val * 256 + i.val, by have := lt_N t; omega⟩ ⟨128 * h + e, by omega⟩))
        (V m c main_v71 (ix2 0 ⟨128 * h + e, by omega⟩)) e) := by
  by_cases h0 : t.val % 8 = 0
  · refine (out12_A m c t h0 h y (ix2 i e) hy0 hy1).trans ((outK_at h _ _ _ i e).trans ?_)
    rw [B4, B10]
    congr 1
    funext x
    refine out_of m c xq xk xv x0 hq hk hv hz t h _ i x fun d => ?_
    rw [B11, hz, h0]
    rfl
  · refine (out12_B m c t h0 h y (ix2 i e) hy0 hy1).trans ((outK_at h _ _ _ i e).trans ?_)
    rw [B4, B10]
    congr 1
    funext x
    refine out_of m c xq xk xv x0 hq hk hv hz t h _ i x fun d => ?_
    refine (state_val m c xk xv x0 hk hv hz _ _ h d x (ix4 0 h d x) rfl rfl rfl).trans ?_
    have e1 : (t.val - 1) / 8 = t.val / 8 := by omega
    have e2 : (t.val - 1) % 8 + 1 = t.val % 8 := by omega
    simp only [e1, e2]

end

end Cert.KernelIdeal.Value
-- ==== Proof.KArr.lean ====
module

public import proofs.«01_k».proof.Proof.KVal

/-!
  The kernel's two result arrays, entry by entry.
-/

@[expose] public section

set_option maxRecDepth 16384

noncomputable section

namespace Cert.KernelIdeal.Value

open Cert.KernelIdeal Cert.KernelIdeal.Gen Idealize.ShloMosaic Idealize.ShloMosaic.TcCoe Idealize.SL.Sem Cert.Retention

variable (m : (ℓ : Loc nD τ sig) → Buf (Elt Ideal) ℓ) (c : Dev nD)
variable (xq xk xv : ℕ → ℕ → ℝ) (x0 : ℕ → ℕ → ℕ → ℕ → ℝ)
  (hq : ∀ (r : Fin 65536) (j : Fin 512), @Eq EReal (V m c main_arg0 (ix2 r j)) ((xq r j : ℝ) : EReal))
  (hk : ∀ (r : Fin 65536) (j : Fin 512), @Eq EReal (V m c main_arg1 (ix2 r j)) ((xk r j : ℝ) : EReal))
  (hv : ∀ (r : Fin 65536) (j : Fin 512), @Eq EReal (V m c main_arg2 (ix2 r j)) ((xv r j : ℝ) : EReal))
  (hz : ∀ (b : Fin 32) (h : Fin 4) (d e : Fin 128), @Eq EReal (V m c main_arg4 (ix4 b h d e)) ((x0 b h d e : ℝ) : EReal))

/-- One entry of the first result, by row and column. -/
def outE (r : Fin 65536) (j : Fin 512) : EReal :=
  gated (fun x => ((outSum (rate (j / 128 : ℕ)) (rot xq (r / 2048) (j / 128)) (key xk (r / 2048) (j / 128)) (val xv (r / 2048) (j / 128))
      (x0 (r / 2048) (j / 128)) (r % 2048) x : ℝ) : EReal))
    (V m c main_arg3 (ix2 r j)) (V m c main_v71 (ix2 0 j)) ⟨j % 128, Nat.mod_lt _ (by decide)⟩

/-- One entry of the second result, the final state. -/
def stE (b : Fin 32) (h : Fin 4) (d e : Fin 128) : EReal :=
  ((stSum (rate h) (key xk b h) (val xv b h) (x0 b h) 2048 d e : ℝ) : EReal)

theorem emb12 (t : Fin cfg0.N) (y : S256x512.Idx) :
    ((win0_12.blk t).view.emb y 0 : ℕ) = t.val * 256 + y 0 ∧ ((win0_12.blk t).view.emb y 1 : ℕ) = y 1 := by
  constructor <;> blk_simp [idx12 t] <;> simp

theorem emb13 (t : Fin cfg0.N) (y : S1x4x128x128.Idx) :
    ((win0_13.blk t).view.emb y 0 : ℕ) = t.val / 8 ∧ ((win0_13.blk t).view.emb y 1 : ℕ) = y 1
      ∧ ((win0_13.blk t).view.emb y 2 : ℕ) = y 2 ∧ ((win0_13.blk t).view.emb y 3 : ℕ) = y 3 := by
  have h0 : (y 0 : ℕ) = 0 := Nat.lt_one_iff.1 (y 0).isLt
  refine ⟨?_, ?_, ?_, ?_⟩ <;> blk_simp [idx13 t] <;> simp [h0]

/-- The entry of the first result at an index given by its block's coordinates. -/
theorem outE_eq (t i : ℕ) (h : Fin 4) (e : Fin 128) (r r' : Fin 65536) (j j' : Fin 512) (hr : (r : ℕ) = t * 256 + i) (hi : i < 256)
    (hj : (j : ℕ) = 128 * h + e) (hr' : (r' : ℕ) = t * 256 + i) (hj' : (j' : ℕ) = 128 * h + e) :
    gated (fun x => ((outSum (rate h) (rot xq (t / 8) h) (key xk (t / 8) h) (val xv (t / 8) h) (x0 (t / 8) h)
          (256 * (t % 8) + i) x : ℝ) : EReal))
        (V m c main_arg3 (ix2 r' j')) (V m c main_v71 (ix2 0 j')) e = outE m c xq xk xv x0 r j := by
  obtain rfl : r' = r := Fin.ext (hr'.trans hr.symm)
  obtain rfl : j' = j := Fin.ext (hj'.trans hj.symm)
  unfold outE
  have e1 : (r' : ℕ) / 2048 = t / 8 := by omega
  have e2 : (r' : ℕ) % 2048 = 256 * (t % 8) + i := by omega
  have e3 : (j' : ℕ) / 128 = h := by omega
  have e4 : (⟨(j' : ℕ) % 128, Nat.mod_lt _ (by decide)⟩ : Fin 128) = e := Fin.ext (by show (j' : ℕ) % 128 = e; omega)
  rw [e4]
  simp only [e1, e2, e3]

include hq hk hv hz in
/-- The first result array holds the normalised and gated outputs. -/
theorem arr12 (r : Fin 65536) (j : Fin 512) :
    @Eq EReal ((dats m 0 c).arrAt 12 cfg0.N (ix2 r j)) (outE m c xq xk xv x0 r j) := by
  have key : (dats m 0 c).arrAt 12 cfg0.N = fun y : S65536x512.Idx => outE m c xq xk xv x0 (y 0) (y 1) := by
    refine (dats m 0 c).arrAt_eq_of_covers 12 _ (by decide +kernel) fun t hf y => ?_
    blk_simp
    rw [after0_12]
    obtain ⟨e0, e1⟩ := emb12 t y
    have hy0 : (y 0 : ℕ) < 256 := (y 0).isLt
    have hy1 : (y 1 : ℕ) < 512 := (y 1).isLt
    have ht := lt_N t
    refine (out_val m c xq xk xv x0 hq hk hv hz t ⟨(y 1 : ℕ) / 128, by omega⟩ ⟨y 0, hy0⟩ ⟨(y 1 : ℕ) % 128, Nat.mod_lt _ (by decide)⟩ y rfl
      (by show (y 1 : ℕ) = 128 * ((y 1 : ℕ) / 128) + (y 1 : ℕ) % 128; omega)).trans ?_
    exact outE_eq m c xq xk xv x0 t.val (y 0) ⟨(y 1 : ℕ) / 128, by omega⟩ ⟨(y 1 : ℕ) % 128, Nat.mod_lt _ (by decide)⟩ _ _ _ _ e0 hy0
      (e1.trans (by show (y 1 : ℕ) = 128 * ((y 1 : ℕ) / 128) + (y 1 : ℕ) % 128; omega)) rfl rfl
  exact congrFun key (ix2 r j)

include hk hv hz in
/-- The second result array holds the final states. -/
theorem arr13 (b : Fin 32) (h : Fin 4) (d e : Fin 128) :
    @Eq EReal ((dats m 0 c).arrAt 13 cfg0.N (ix4 b h d e)) (stE xk xv x0 b h d e) := by
  have key : (dats m 0 c).arrAt 13 cfg0.N = fun y : S32x4x128x128.Idx => stE xk xv x0 (y 0) (y 1) (y 2) (y 3) := by
    refine (dats m 0 c).arrAt_eq_of_covers 13 _ (by decide +kernel) fun t hf y => ?_
    blk_simp
    rw [after0_13]
    obtain ⟨e0, e1, e2, e3⟩ := emb13 t y
    have hf8 : t.val % 8 = 7 := (flush0_13 t).1 hf
    refine (state_val m c xk xv x0 hk hv hz t.val t.isLt (y 1) (y 2) (y 3) y rfl rfl rfl).trans ?_
    unfold stE
    rw [st_eq, hf8]
    simp only [e0, e1, e2, e3]
  exact congrFun key (ix4 b h d e)

end Cert.KernelIdeal.Value
-- ==== Proof.RefEntry.lean ====
module

public import proofs.«01_k».proof.Proof.Gen.ReferenceIdeal.Run
public import proofs.«01_k».proof.Proof.Spec
public import Idealize.ShloMosaic.Lib.Pointwise
public import Idealize.ShloMosaic.Lib.StableHlo.RunRead
public import Idealize.ShloMosaic.Lib.StableHlo.RunLoop

/-!
  The reference before its loop over chunks: the rotated queries, the part of each chunk's output that comes from the
  chunk itself, what each chunk adds to the state, and the decays.
-/

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.StableHlo Cert.Retention

variable (m : (ℓ : Loc nD τ sig) → Buf (Elt Ideal) ℓ) (c : Dev nD) (xq xk xv : ℕ → ℕ → ℝ)

set_option maxHeartbeats 1000000 in
/-- The first coordinates of the rotated queries. -/
theorem U26 (hq : ∀ (r : Fin 65536) (j : Fin 512), launchContents m c (Proc.devRef .tc main_arg0) (ix2 r j) = ((xq r j : ℝ) : EReal))
    (b : Fin 32) (p : Fin 2048) (h : Fin 4) (d : Fin 64) :
    upto hostOps0 (launchContents m c) 35 (Proc.devRef .tc main_v26) (ix4 b p h d) = ((rot xq b h p d : ℝ) : EReal) := by
  after_reads_simp
  pointwise
  rw [hq, hq, IntOp.addi, BitVec.zero_add, angle_eq _ _ p.2 d.2, Ideal.cos_coe, Ideal.sin_coe, rot, if_pos d.2]
  norm_cast

set_option maxHeartbeats 1000000 in
/-- The second coordinates of the rotated queries. -/
theorem U31 (hq : ∀ (r : Fin 65536) (j : Fin 512), launchContents m c (Proc.devRef .tc main_arg0) (ix2 r j) = ((xq r j : ℝ) : EReal))
    (b : Fin 32) (p : Fin 2048) (h : Fin 4) (d : Fin 64) :
    upto hostOps0 (launchContents m c) 35 (Proc.devRef .tc main_v31) (ix4 b p h d) = ((rot xq b h p (64 + d) : ℝ) : EReal) := by
  after_reads_simp
  pointwise
  rw [hq, hq, IntOp.addi, BitVec.zero_add, angle_eq _ _ p.2 d.2, Ideal.cos_coe, Ideal.sin_coe, rot, if_neg (by omega), Nat.add_sub_cancel_left]
  norm_cast

set_option maxHeartbeats 1000000 in
/-- The first coordinates of the rotated keys, before scaling. -/
theorem U56 (hk : ∀ (r : Fin 65536) (j : Fin 512), launchContents m c (Proc.devRef .tc main_arg1) (ix2 r j) = ((xk r j : ℝ) : EReal))
    (b : Fin 32) (p : Fin 2048) (h : Fin 4) (d : Fin 64) :
    upto hostOps0 (launchContents m c) 67 (Proc.devRef .tc main_v56) (ix4 b p h d) = ((rot xk b h p d : ℝ) : EReal) := by
  after_reads_simp
  pointwise
  rw [hk, hk, IntOp.addi, BitVec.zero_add, angle_eq _ _ p.2 d.2, Ideal.cos_coe, Ideal.sin_coe, rot, if_pos d.2]
  norm_cast

set_option maxHeartbeats 1000000 in
/-- The second coordinates of the rotated keys, before scaling. -/
theorem U61 (hk : ∀ (r : Fin 65536) (j : Fin 512), launchContents m c (Proc.devRef .tc main_arg1) (ix2 r j) = ((xk r j : ℝ) : EReal))
    (b : Fin 32) (p : Fin 2048) (h : Fin 4) (d : Fin 64) :
    upto hostOps0 (launchContents m c) 67 (Proc.devRef .tc main_v61) (ix4 b p h d) = ((rot xk b h p (64 + d) : ℝ) : EReal) := by
  after_reads_simp
  pointwise
  rw [hk, hk, IntOp.addi, BitVec.zero_add, angle_eq _ _ p.2 d.2, Ideal.cos_coe, Ideal.sin_coe, rot, if_neg (by omega), Nat.add_sub_cancel_left]
  norm_cast

set_option maxHeartbeats 1000000 in
/-- The rotated queries in chunks of 64 positions. -/
theorem E_qc (hq : ∀ (r : Fin 65536) (j : Fin 512), launchContents m c (Proc.devRef .tc main_arg0) (ix2 r j) = ((xq r j : ℝ) : EReal))
    (b : Fin 32) (n : Fin 32) (i : Fin 64) (h : Fin 4) (d : Fin 128) :
    entryContents preI m c (Proc.devRef .tc main_v75) (ix5 b n i h d) = ((rot xq b h (64 * n + i) d : ℝ) : EReal) := by
  simp only [entryContents, afterL_cons, afterL_nil, preI]
  after_reads_simp
  pointwise
  simp only [U26 m c xq hq, U31 m c xq hq, Nat.mul_comm 64 (n : ℕ)]
  split
  · rfl
  · rename_i hd
    simp only [show 64 + ((d : ℕ) - 64) = d by omega]

set_option maxHeartbeats 1000000 in
/-- What chunk `n` adds to the state. -/
theorem E_u (hk : ∀ (r : Fin 65536) (j : Fin 512), launchContents m c (Proc.devRef .tc main_arg1) (ix2 r j) = ((xk r j : ℝ) : EReal))
    (hv : ∀ (r : Fin 65536) (j : Fin 512), launchContents m c (Proc.devRef .tc main_arg2) (ix2 r j) = ((xv r j : ℝ) : EReal))
    (n : Fin 32) (b : Fin 32) (h : Fin 4) (d e : Fin 128) :
    entryContents preI m c (Proc.devRef .tc main_v127_0) (ix5 n b h d e) = ((add 64 (rate h) (key xk b h) (val xv b h) (64 * n) d e : ℝ) : EReal) := by
  simp only [entryContents, afterL_cons, afterL_nil, preI]
  after_reads_simp
  pointwise
  simp only [id_eq]
  pointwise
  rw [Retention.add, coe_sum]
  show @Eq EReal _ _
  refine Finset.sum_congr rfl fun x _ => ?_
  rw [hv, rate_eq h h.2, nat_float x (by omega), lit_63, lit_scale]
  simp only [U56 m c xk hk, U61 m c xk hk]
  have e1 : (if h_1 : (d : ℕ) < 64 then ((rot xk b h (n * 64 + x) d : ℝ) : EReal) else ((rot xk b h (n * 64 + x) (64 + (d - 64)) : ℝ) : EReal))
      = ((rot xk b h (64 * n + x) d : ℝ) : EReal) := by
    rw [Nat.mul_comm 64]
    split
    · rfl
    · rw [show 64 + ((d : ℕ) - 64) = d by omega]
  rw [e1, ← EReal.coe_sub, ← EReal.coe_mul, ← EReal.coe_mul, Ideal.exp_coe, ← EReal.coe_mul, ← EReal.coe_mul, key, val,
    show (b : ℕ) * 2048 + n * 64 + x = b * 2048 + (64 * n + x) by ring]
  norm_num

set_option maxHeartbeats 1000000 in
/-- The part of chunk `n`'s output that comes from the chunk itself. -/
theorem E_intra (hq : ∀ (r : Fin 65536) (j : Fin 512), launchContents m c (Proc.devRef .tc main_arg0) (ix2 r j) = ((xq r j : ℝ) : EReal))
    (hk : ∀ (r : Fin 65536) (j : Fin 512), launchContents m c (Proc.devRef .tc main_arg1) (ix2 r j) = ((xk r j : ℝ) : EReal))
    (hv : ∀ (r : Fin 65536) (j : Fin 512), launchContents m c (Proc.devRef .tc main_arg2) (ix2 r j) = ((xv r j : ℝ) : EReal))
    (b : Fin 32) (n : Fin 32) (i : Fin 64) (h : Fin 4) (e : Fin 128) :
    entryContents preI m c (Proc.devRef .tc main_v101) (ix5 b n i h e)
      = ((inner 64 (rate h) (rot xq b h) (key xk b h) (val xv b h) (64 * n) i e : ℝ) : EReal) := by
  simp only [entryContents, afterL_cons, afterL_nil, preI]
  after_reads_simp
  simp -implicitDefEqProofs only [StableHlo.TRef.toBuf, StableHlo.TRef.ofBuf, cast_cast, cast_eq]
  pointwise
  rw [Retention.inner, coe_sum]
  show @Eq EReal _ _
  refine Finset.sum_congr rfl fun x _ => ?_
  rw [hv, rate_eq h h.2, nat_float x (by omega), nat_float i (by omega), lit_scale]
  simp only [U26 m c xq hq, U31 m c xq hq, U56 m c xk hk, U61 m c xk hk, id_eq, constant_apply]
  have ez : FloatOps.ofBits (F := Ideal) .f32 0#32 = (0 : EReal) := Ideal.ofBits_zero_f32
  rw [ez, decay_eq]
  have e1 : (∑ d : Fin 128, rot xq b h (64 * n + i) d * key xk b h (64 * n + x) d)
      = (∑ d : Fin 64, rot xq b h (n * 64 + i) d * (rot xk b h (n * 64 + x) d * scale))
        + ∑ d : Fin 64, rot xq b h (n * 64 + i) (64 + d) * (rot xk b h (n * 64 + x) (64 + d) * scale) := by
    rw [Nat.mul_comm 64]
    exact Fin.sum_univ_add (a := 64) (b := 64) fun d : Fin (64 + 64) => rot xq b h (n * 64 + i) d * key xk b h (n * 64 + x) d
  rw [e1, val, show (b : ℕ) * 2048 + n * 64 + x = b * 2048 + (64 * n + x) by ring]
  simp only [← EReal.coe_mul, ← EReal.coe_add, ← coe_sum]
  congr 1; ring

/-- The decay a query of offset `i` applies to the state. -/
theorem E_qd (i : Fin 64) (h : Fin 4) :
    entryContents preI m c (Proc.devRef .tc main_v117) (ix2 i h) = ((Real.exp (((i : ℝ) + 1) * rate h) : ℝ) : EReal) := by
  simp only [entryContents, afterL_cons, afterL_nil, preI]
  after_reads_simp
  pointwise
  rw [rate_eq h h.2, nat_float i (by omega), ← EReal.coe_one, ← EReal.coe_add, ← EReal.coe_mul, Ideal.exp_coe]

/-- The decay of the state over one chunk. -/
theorem E_cd (h : Fin 4) :
    entryContents preI m c (Proc.devRef .tc main_v127_1) (ix4 0 h 0 0) = ((Real.exp ((64 : ℝ) * rate h) : ℝ) : EReal) := by
  simp only [entryContents, afterL_cons, afterL_nil, preI]
  after_reads_simp
  simp only [id_eq]
  pointwise
  rw [rate_eq h h.2, lit_64, ← EReal.coe_mul, Ideal.exp_coe]

/-- The state the loop starts from. -/
theorem E_s : entryContents preI m c (Proc.devRef .tc main_v127_3) = launchContents m c (Proc.devRef .tc main_arg4) := by
  simp only [entryContents, afterL_cons, afterL_nil, preI]
  after_reads_simp
  rfl

end Cert.ReferenceIdeal.Value
-- ==== Proof.RefLoop.lean ====
module

public import proofs.«01_k».proof.Proof.RefEntry

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.StableHlo Cert.Retention

variable (m : (ℓ : Loc nD τ sig) → Buf (Elt Ideal) ℓ) (c : Dev nD) (xq xk xv : ℕ → ℕ → ℝ)

/-- A trip leaves the buffer alone. -/
theorem atK_keep (r : Ref sig .tc) (h0 : r ∉ condOps_W) (h1 : r ∉ while0Ops0_W) (h2 : r ∉ while0Ops0_1_W) (h3 : r ∉ while0Ops0_2_W)
    (h4 : r ∉ while0Ops0_3_W) (k : ℕ) : atK m k c (Proc.devRef .tc r) = entryContents preI m c (Proc.devRef .tc r) := by
  induction k with
  | zero => rfl
  | succ k ih =>
    rw [atK, atTrip_succ]
    simp only [bodyI, afterL_cons, afterL_nil]
    rw [after_of_writes_sub _ _ while0Ops0_3_writes h4, after_of_writes_sub _ _ while0Ops0_2_writes h3, after_of_writes_sub _ _ while0Ops0_1_writes h2,
      after_of_writes_sub _ _ while0Ops0_writes h1, after_of_writes_sub _ _ condOps_writes h0]
    exact ih

/-- A one-row slice that starts at row `k` is row `k`. -/
theorem slice_row (X : S32x32x4x128x128.Idx → EReal) (start : Fin 5 → ℤ) (hf : S32x32x4x128x128.Slices (fun _ => 0) S1x32x4x128x128) (k : Fin 32)
    (h0 : start 0 = ((k : ℕ) : ℤ)) (h1 : start 1 = 0) (h2 : start 2 = 0) (h3 : start 3 = 0) (h4 : start 4 = 0)
    (b : Fin 32) (h : Fin 4) (d e : Fin 128) :
    Host.dynamicSlice S1x32x4x128x128 X start hf (ix5 0 b h d e) = X (ix5 k b h d e) := by
  refine congrArg X (funext fun a => Fin.ext ?_)
  have hk := k.2
  fin_cases a
  · show (min (max (start 0) 0) 31).toNat + 0 = (k : ℕ); rw [h0]; omega
  · show (min (max (start 1) 0) 0).toNat + (b : ℕ) = (b : ℕ); rw [h1]; simp
  · show (min (max (start 2) 0) 0).toNat + (h : ℕ) = (h : ℕ); rw [h2]; simp
  · show (min (max (start 3) 0) 0).toNat + (d : ℕ) = (d : ℕ); rw [h3]; simp
  · show (min (max (start 4) 0) 0).toNat + (e : ℕ) = (e : ℕ); rw [h4]; simp

/-- Writing one row at row `k` changes row `k` only. -/
theorem update_row (X : S32x32x4x128x128.Idx → EReal) (Y : S1x32x4x128x128.Idx → EReal) (start : Fin 5 → ℤ)
    (hf : S32x32x4x128x128.Slices (fun _ => 0) S1x32x4x128x128) (k : Fin 32)
    (h0 : start 0 = ((k : ℕ) : ℤ)) (h1 : start 1 = 0) (h2 : start 2 = 0) (h3 : start 3 = 0) (h4 : start 4 = 0)
    (n b : Fin 32) (h : Fin 4) (d e : Fin 128) :
    Host.dynamicUpdateSlice X Y start hf (ix5 n b h d e) = if n = k then Y (ix5 0 b h d e) else X (ix5 n b h d e) := by
  have c0 : Host.clampedStart S32x32x4x128x128 S1x32x4x128x128 hf.1 start 0 = k :=
    Host.clampedStart_of_le _ _ _ _ h0 (show (k : ℕ) + 1 ≤ 32 from k.2)
  have c1 : Host.clampedStart S32x32x4x128x128 S1x32x4x128x128 hf.1 start 1 = 0 :=
    Host.clampedStart_of_le _ _ _ _ h1 (show 0 + 32 ≤ 32 by omega)
  have c2 : Host.clampedStart S32x32x4x128x128 S1x32x4x128x128 hf.1 start 2 = 0 :=
    Host.clampedStart_of_le _ _ _ _ h2 (show 0 + 4 ≤ 4 by omega)
  have c3 : Host.clampedStart S32x32x4x128x128 S1x32x4x128x128 hf.1 start 3 = 0 :=
    Host.clampedStart_of_le _ _ _ _ h3 (show 0 + 128 ≤ 128 by omega)
  have c4 : Host.clampedStart S32x32x4x128x128 S1x32x4x128x128 hf.1 start 4 = 0 :=
    Host.clampedStart_of_le _ _ _ _ h4 (show 0 + 128 ≤ 128 by omega)
  rw [Host.dynamicUpdateSlice_apply]
  by_cases hn : n = k
  · subst hn
    rw [if_pos rfl, dif_pos]
    · refine congrArg Y (funext fun a => Fin.ext ?_)
      fin_cases a
      · exact (congrArg ((n : ℕ) - ·) c0).trans (Nat.sub_self _)
      · exact congrArg ((b : ℕ) - ·) c1
      · exact congrArg ((h : ℕ) - ·) c2
      · exact congrArg ((d : ℕ) - ·) c3
      · exact congrArg ((e : ℕ) - ·) c4
    · intro a
      fin_cases a
      · exact ⟨c0.le, show (n : ℕ) < _ + 1 by erw [c0]; omega⟩
      · exact ⟨c1.le.trans (Nat.zero_le _), show (b : ℕ) < _ + 32 by erw [c1]; omega⟩
      · exact ⟨c2.le.trans (Nat.zero_le _), show (h : ℕ) < _ + 4 by erw [c2]; omega⟩
      · exact ⟨c3.le.trans (Nat.zero_le _), show (d : ℕ) < _ + 128 by erw [c3]; omega⟩
      · exact ⟨c4.le.trans (Nat.zero_le _), show (e : ℕ) < _ + 128 by erw [c4]; omega⟩
  · rw [if_neg hn, dif_neg]
    intro hin
    have := hin 0
    have h5 : (k : ℕ) ≤ n ∧ (n : ℕ) < k + 1 := by rw [← c0]; exact this
    exact hn (Fin.ext (by omega))

/-- The counter of trip `k` as a row. -/
theorem ctr_row (k : ℕ) (hk : k < 32) : (Scf.iv 0#32 1#32 k).toInt = ((k : ℕ) : ℤ) := by
  rw [Scf.iv, BitVec.mul_one, BitVec.zero_add, BitVec.toInt_eq_toNat_cond, BitVec.toNat_ofNat, Nat.mod_eq_of_lt (by omega), if_pos (by omega)]

/-- The state after trip `k`: the state before it, decayed, and the chunk's addition. -/
theorem s_step (k : Fin 32) (b : Fin 32) (h : Fin 4) (d e : Fin 128) (A B U : EReal)
    (hA : @Eq EReal (entryContents preI m c (Proc.devRef .tc main_v127_1) (ix4 0 h 0 0)) A)
    (hB : @Eq EReal (atK m k c (Proc.devRef .tc main_v127_3) (ix4 b h d e)) B)
    (hU : @Eq EReal (entryContents preI m c (Proc.devRef .tc main_v127_0) (ix5 k b h d e)) U) :
    @Eq EReal (atK m (k + 1) c (Proc.devRef .tc main_v127_3) (ix4 b h d e)) (A * B + U) := by
  rw [atK, atTrip_succ, trip_main_v127_3]
  simp only [after_of_writes_sub _ _ condOps_writes (show main_v127_1 ∉ condOps_W by decide), after_of_writes_sub _ _ condOps_writes (show main_v127_0 ∉ condOps_W by decide),
   after_of_writes_sub _ _ condOps_writes (show main_v127_2 ∉ condOps_W by decide),
   after_of_writes_sub _ _ condOps_writes (show main_v127_3 ∉ condOps_W by decide), id_eq]
  rw [show atTrip condOps bodyI (entryContents preI m) k c (Proc.devRef .tc main_v127_2) = _ from atK_ctr m c k,
    show atTrip condOps bodyI (entryContents preI m) k c (Proc.devRef .tc main_v127_0) = _ from
      atK_keep m c main_v127_0 (by decide) (by decide) (by decide) (by decide) (by decide) k,
    show atTrip condOps bodyI (entryContents preI m) k c (Proc.devRef .tc main_v127_1) = _ from
      atK_keep m c main_v127_1 (by decide) (by decide) (by decide) (by decide) (by decide) k]
  have e1 := slice_row (entryContents preI m c (Proc.devRef .tc main_v127_0)) (fun k_1 : Fin 5 => BitVec.toInt
      ((![fun _ => Scf.iv 0#32 1#32 k, constantI S_ 32 0#32, constantI S_ 32 0#32, constantI S_ 32 0#32, constantI S_ 32 0#32] :
        Fin 5 → (⟨S_, .i32⟩ : BufTy).Contents (Elt Ideal)) k_1 (Shape.Idx.first h_S_))) sliceFits_S32x32x4x128x128_S1x32x4x128x128 k
      (ctr_row k k.2) rfl rfl rfl rfl b h d e
  rw [← hA, ← hB, ← hU, ← e1]
  generalize Host.dynamicSlice _ _ _ _ = Z
  pointwise

/-- The stacked states after trip `k`: row `k` is now the state before the trip. -/
theorem z_step (k : Fin 32) (n : Fin 32) (b : Fin 32) (h : Fin 4) (d e : Fin 128) :
    @Eq EReal (atK m (k + 1) c (Proc.devRef .tc main_v127_4) (ix5 n b h d e))
      (if n = k then atK m k c (Proc.devRef .tc main_v127_3) (ix4 b h d e) else atK m k c (Proc.devRef .tc main_v127_4) (ix5 n b h d e)) := by
  rw [atK, atTrip_succ, trip_main_v127_4]
  simp only [after_of_writes_sub _ _ condOps_writes (show main_v127_4 ∉ condOps_W by decide),
   after_of_writes_sub _ _ condOps_writes (show main_v127_2 ∉ condOps_W by decide),
   after_of_writes_sub _ _ condOps_writes (show main_v127_3 ∉ condOps_W by decide), id_eq]
  rw [show atTrip condOps bodyI (entryContents preI m) k c (Proc.devRef .tc main_v127_2) = _ from atK_ctr m c k]
  refine (update_row _ _ _ _ k (ctr_row k k.2) rfl rfl rfl rfl n b h d e).trans ?_
  split
  · pointwise
  · rfl

/-- The carried state and the stacked states after `k` trips, as real numbers. -/
theorem loop_val (x0 : ℕ → ℕ → ℕ → ℕ → ℝ)
    (hk : ∀ (r : Fin 65536) (j : Fin 512), launchContents m c (Proc.devRef .tc main_arg1) (ix2 r j) = ((xk r j : ℝ) : EReal))
    (hv : ∀ (r : Fin 65536) (j : Fin 512), launchContents m c (Proc.devRef .tc main_arg2) (ix2 r j) = ((xv r j : ℝ) : EReal))
    (h0 : ∀ (b : Fin 32) (h : Fin 4) (d e : Fin 128), launchContents m c (Proc.devRef .tc main_arg4) (ix4 b h d e) = ((x0 b h d e : ℝ) : EReal))
    (b : Fin 32) (h : Fin 4) (d e : Fin 128) (k : ℕ) (hk32 : k ≤ 32) :
    @Eq EReal (atK m k c (Proc.devRef .tc main_v127_3) (ix4 b h d e)) ((st 64 (rate h) (key xk b h) (val xv b h) (x0 b h) k d e : ℝ) : EReal)
    ∧ ∀ n : Fin 32, (n : ℕ) < k → @Eq EReal (atK m k c (Proc.devRef .tc main_v127_4) (ix5 n b h d e))
        ((st 64 (rate h) (key xk b h) (val xv b h) (x0 b h) n d e : ℝ) : EReal) := by
  induction k with
  | zero =>
    refine ⟨?_, fun n hn => absurd hn (Nat.not_lt_zero _)⟩
    show @Eq EReal (entryContents preI m c (Proc.devRef .tc main_v127_3) (ix4 b h d e)) _
    rw [E_s]; exact h0 b h d e
  | succ k ih =>
    obtain ⟨i1, i2⟩ := ih (by omega)
    constructor
    · refine (s_step m c ⟨k, by omega⟩ b h d e _ _ _ (E_cd m c h) i1 (E_u m c xk xv hk hv _ b h d e)).trans ?_
      rw [st, ← EReal.coe_mul, ← EReal.coe_add]
      norm_num
    · intro n hn
      rw [z_step m c ⟨k, by omega⟩]
      split
      · rename_i hnk
        rw [show (n : ℕ) = k from congrArg Fin.val hnk]; exact i1
      · rename_i hnk
        exact i2 n (by have : (n : ℕ) ≠ k := fun hh => hnk (Fin.ext hh); omega)

end Cert.ReferenceIdeal.Value
-- ==== Proof.RefOut.lean ====
module

public import proofs.«01_k».proof.Proof.RefLoop

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.StableHlo Cert.Retention

variable (m : (ℓ : Loc nD τ sig) → Buf (Elt Ideal) ℓ) (c : Dev nD)

/-- One entry of the retention output before normalisation, from the contents the loop leaves. -/
def oV (V : Valuation τ sig (Elt Ideal)) (b n : Fin 32) (i : Fin 64) (h : Fin 4) (e : Fin 128) : EReal :=
  HAdd.hAdd (α := EReal) (β := EReal) (V (Proc.devRef .tc main_v101) (ix5 b n i h e))
    (∑ x : Fin 128, HMul.hMul (α := EReal) (β := EReal) (V (Proc.devRef .tc main_v127_4) (ix5 n b h x e))
      (HMul.hMul (α := EReal) (β := EReal) (V (Proc.devRef .tc main_v75) (ix5 b n i h x)) (V (Proc.devRef .tc main_v117) (ix2 i h))))

set_option maxHeartbeats 2000000 in
/-- The first result from the contents the loop leaves. -/
theorem out_at (V : Valuation τ sig (Elt Ideal)) (r : Fin 65536) (j : Fin 512) :
    @Eq EReal (afterL postI V (Proc.devRef .tc main_v161) (ix2 r j))
      (gated (fun x => oV V ⟨r / 2048, by omega⟩ ⟨r % 2048 / 64, by omega⟩ ⟨r % 2048 % 64, by omega⟩ ⟨j / 128, by omega⟩ x)
        (V (Proc.devRef .tc main_arg3) (ix2 r j)) (V (Proc.devRef .tc main_arg5) (ix1 j)) ⟨j % 128, by omega⟩) := by
  simp only [postI, afterL_cons, afterL_nil]
  after_reads_simp
  simp -implicitDefEqProofs only [StableHlo.TRef.toBuf, StableHlo.TRef.ofBuf, cast_cast, cast_eq]
  simp only [gated, oV]
  show @HMul.hMul EReal EReal EReal _ _ _ = _
  refine congrArg₂ (fun a b : EReal => a * b) ?_ ?_
  · pointwise
    have e1 : (⟨(r : ℕ) / 2048 * 2048 + (r : ℕ) % 2048, by omega⟩ : Fin 65536) = r := Fin.ext (by show (r : ℕ) / 2048 * 2048 + (r : ℕ) % 2048 = r; omega)
    simp only [e1]
    rfl
  · pointwise

/-- The loop's contents at a buffer no trip writes. -/
theorem left_keep (r : Ref sig .tc) (h0 : r ∉ condOps_W) (h1 : r ∉ while0Ops0_W) (h2 : r ∉ while0Ops0_1_W) (h3 : r ∉ while0Ops0_2_W)
    (h4 : r ∉ while0Ops0_3_W) : after condOps (atK m 32 c) (Proc.devRef .tc r) = entryContents preI m c (Proc.devRef .tc r) := by
  rw [after_of_writes_sub _ _ condOps_writes h0, atK_keep m c r h0 h1 h2 h3 h4]

section
variable (xq xk xv : ℕ → ℕ → ℝ) (x0 : ℕ → ℕ → ℕ → ℕ → ℝ)
  (hq : ∀ (r : Fin 65536) (j : Fin 512), launchContents m c (Proc.devRef .tc main_arg0) (ix2 r j) = ((xq r j : ℝ) : EReal))
  (hk : ∀ (r : Fin 65536) (j : Fin 512), launchContents m c (Proc.devRef .tc main_arg1) (ix2 r j) = ((xk r j : ℝ) : EReal))
  (hv : ∀ (r : Fin 65536) (j : Fin 512), launchContents m c (Proc.devRef .tc main_arg2) (ix2 r j) = ((xv r j : ℝ) : EReal))
  (h0 : ∀ (b : Fin 32) (h : Fin 4) (d e : Fin 128), launchContents m c (Proc.devRef .tc main_arg4) (ix4 b h d e) = ((x0 b h d e : ℝ) : EReal))

include hq hk hv h0

/-- The retention output before normalisation is the sum over all positions up to the query's own. -/
theorem oV_eq (b n : Fin 32) (i : Fin 64) (h : Fin 4) (e : Fin 128) :
    oV (after condOps (atK m 32 c)) b n i h e
      = ((outSum (rate h) (rot xq b h) (key xk b h) (val xv b h) (x0 b h) (64 * n + i) e : ℝ) : EReal) := by
  have a1 := E_intra m c xq xk xv hq hk hv b n i h e
  have a2 := fun x => E_qc m c xq hq b n i h x
  have a3 := E_qd m c i h
  have a4 := fun x => (loop_val m c xk xv x0 hk hv h0 b h x e 32 le_rfl).2 n n.2
  rw [oV, left_keep m c main_v101 (by decide) (by decide) (by decide) (by decide) (by decide),
    left_keep m c main_v75 (by decide) (by decide) (by decide) (by decide) (by decide),
    left_keep m c main_v117 (by decide) (by decide) (by decide) (by decide) (by decide),
    after_of_writes_sub _ _ condOps_writes (show main_v127_4 ∉ condOps_W by decide), a1, a3]
  simp only [a2, a4, ← EReal.coe_mul, ← EReal.coe_add, ← coe_sum]
  rw [← out_eq 64 (rate h) (rot xq b h) (key xk b h) (val xv b h) (x0 b h) n i e i.2, outer]
  congr 2
  exact Finset.sum_congr rfl fun x _ => mul_comm _ _

/-- The reference's first result. -/
theorem ref_out (r : Fin 65536) (j : Fin 512) :
    @Eq EReal (finalContents condOps preI bodyI postI 32 m c (Proc.devRef .tc main_v161) (ix2 r j))
      (gated (fun x => ((outSum (rate (j / 128 : ℕ)) (rot xq (r / 2048 : ℕ) (j / 128 : ℕ)) (key xk (r / 2048 : ℕ) (j / 128 : ℕ))
          (val xv (r / 2048 : ℕ) (j / 128 : ℕ)) (x0 (r / 2048 : ℕ) (j / 128 : ℕ)) (r % 2048 : ℕ) x : ℝ) : EReal))
        (launchContents m c (Proc.devRef .tc main_arg3) (ix2 r j)) (launchContents m c (Proc.devRef .tc main_arg5) (ix1 j)) ⟨j % 128, by omega⟩) := by
  have hg : after condOps (atK m 32 c) (Proc.devRef .tc main_arg3) = launchContents m c (Proc.devRef .tc main_arg3) := by
    rw [left_keep m c main_arg3 (by decide) (by decide) (by decide) (by decide) (by decide)]
    simp only [entryContents, afterL_cons, afterL_nil, preI]
    after_reads_simp
  have hw : after condOps (atK m 32 c) (Proc.devRef .tc main_arg5) = launchContents m c (Proc.devRef .tc main_arg5) := by
    rw [left_keep m c main_arg5 (by decide) (by decide) (by decide) (by decide) (by decide)]
    simp only [entryContents, afterL_cons, afterL_nil, preI]
    after_reads_simp
  refine (out_at (after condOps (atK m 32 c)) r j).trans ?_
  rw [hg, hw]
  congr 1
  funext x
  rw [oV_eq m c xq xk xv x0 hq hk hv h0]
  have : 64 * ((r : ℕ) % 2048 / 64) + (r : ℕ) % 2048 % 64 = (r : ℕ) % 2048 := Nat.div_add_mod _ _
  simp only [this]

omit hq in
/-- The reference's second result, the final state. -/
theorem ref_state (b : Fin 32) (h : Fin 4) (d e : Fin 128) :
    @Eq EReal (finalContents condOps preI bodyI postI 32 m c (Proc.devRef .tc main_v127_3) (ix4 b h d e))
      ((stSum (rate h) (key xk b h) (val xv b h) (x0 b h) 2048 d e : ℝ) : EReal) := by
  have e1 : finalContents condOps preI bodyI postI 32 m c (Proc.devRef .tc main_v127_3) = atK m 32 c (Proc.devRef .tc main_v127_3) := by
    show afterL postI (after condOps (atK m 32 c)) (Proc.devRef .tc main_v127_3) = _
    rw [← after_of_writes_sub _ (atK m 32 c) condOps_writes (show main_v127_3 ∉ condOps_W by decide)]
    simp only [postI, afterL_cons, afterL_nil]
    after_reads_simp
  rw [e1, (loop_val m c xk xv x0 hk hv h0 b h d e 32 le_rfl).1, st_eq]

end

/-- The reference leaves its arguments as they were. -/
theorem ref_keep (r : Ref sig .tc) (hr : r = main_arg0 ∨ r = main_arg1 ∨ r = main_arg2 ∨ r = main_arg3 ∨ r = main_arg4 ∨ r = main_arg5) :
    finalContents condOps preI bodyI postI 32 m c (Proc.devRef .tc r) = launchContents m c (Proc.devRef .tc r) := by
  have hk : after condOps (atK m 32 c) (Proc.devRef .tc r) = entryContents preI m c (Proc.devRef .tc r) := by
    rcases hr with rfl | rfl | rfl | rfl | rfl | rfl <;> exact left_keep m c _ (by decide) (by decide) (by decide) (by decide) (by decide)
  have he : entryContents preI m c (Proc.devRef .tc r) = launchContents m c (Proc.devRef .tc r) := by
    rcases hr with rfl | rfl | rfl | rfl | rfl | rfl <;> simp only [entryContents, afterL_cons, afterL_nil, preI] <;> after_reads_simp
  have hp : finalContents condOps preI bodyI postI 32 m c (Proc.devRef .tc r) = after condOps (atK m 32 c) (Proc.devRef .tc r) := by
    rcases hr with rfl | rfl | rfl | rfl | rfl | rfl <;> simp only [finalContents, afterL_cons, afterL_nil, postI] <;> after_reads_simp <;> rfl
  rw [hp, hk, he]

end Cert.ReferenceIdeal.Value
-- ==== Proof.RetClaim.lean ====
module

public import proofs.«01_k».proof.Proof.Finite
public import proofs.«01_k».proof.Proof.KArr
public import proofs.«01_k».proof.Proof.RefOut
public import Idealize.ShloMosaic.Lib.Claim

/-!
  The retention kernel equals the reference, and the reference's frame.
-/

@[expose] public section

set_option maxRecDepth 16384

noncomputable section

namespace Cert.Retention

open Idealize.ShloMosaic Idealize.ShloMosaic.TcCoe Idealize.SL.Sem

/-- The reference leaves its arguments unchanged and every counter at zero. -/
theorem frame_R : Cert.quiescent_ReferenceIdeal := fun m g _ =>
  (θ_run Cert.ReferenceIdeal.defs _ _).mono (fun r h => ⟨fun c =>
      ⟨(h c _ rfl).trans (Cert.ReferenceIdeal.Value.ref_keep m c _ (by simp)), (h c _ rfl).trans (Cert.ReferenceIdeal.Value.ref_keep m c _ (by simp)),
       (h c _ rfl).trans (Cert.ReferenceIdeal.Value.ref_keep m c _ (by simp)), (h c _ rfl).trans (Cert.ReferenceIdeal.Value.ref_keep m c _ (by simp)),
       (h c _ rfl).trans (Cert.ReferenceIdeal.Value.ref_keep m c _ (by simp)), (h c _ rfl).trans (Cert.ReferenceIdeal.Value.ref_keep m c _ (by simp))⟩,
      Idealize.ShloMosaic.sem_eq_zero_of_no_sems (by decide) r.2⟩)
    (Cert.ReferenceIdeal.Value.run_fold (F := Ideal) m g)

section
open Cert.KernelIdeal Cert.KernelIdeal.Gen

variable (m : (ℓ : Loc nD τ sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal_finite_inputs (hPre_finite_inputs := preFacts) m) (c : Dev nD)
  (ha0 : m' ((c.tc : Thread Cert.ReferenceIdeal.nD Cert.ReferenceIdeal.τ).loc Cert.ReferenceIdeal.main_arg0) = m ((c.tc : Thread nD τ).loc main_arg0))
  (ha1 : m' ((c.tc : Thread Cert.ReferenceIdeal.nD Cert.ReferenceIdeal.τ).loc Cert.ReferenceIdeal.main_arg1) = m ((c.tc : Thread nD τ).loc main_arg1))
  (ha2 : m' ((c.tc : Thread Cert.ReferenceIdeal.nD Cert.ReferenceIdeal.τ).loc Cert.ReferenceIdeal.main_arg2) = m ((c.tc : Thread nD τ).loc main_arg2))
  (ha3 : m' ((c.tc : Thread Cert.ReferenceIdeal.nD Cert.ReferenceIdeal.τ).loc Cert.ReferenceIdeal.main_arg3) = m ((c.tc : Thread nD τ).loc main_arg3))
  (ha4 : m' ((c.tc : Thread Cert.ReferenceIdeal.nD Cert.ReferenceIdeal.τ).loc Cert.ReferenceIdeal.main_arg4) = m ((c.tc : Thread nD τ).loc main_arg4))
  (ha5 : m' ((c.tc : Thread Cert.ReferenceIdeal.nD Cert.ReferenceIdeal.τ).loc Cert.ReferenceIdeal.main_arg5) = m ((c.tc : Thread nD τ).loc main_arg5))

/-- The real numbers in the queries. -/
def rq : ℕ → ℕ → ℝ := real2 fun (r : Fin 65536) (j : Fin 512) => (m ((c.tc : Thread nD τ).loc main_arg0) (ix2 r j) : EReal)
/-- The real numbers in the keys. -/
def rk : ℕ → ℕ → ℝ := real2 fun (r : Fin 65536) (j : Fin 512) => (m ((c.tc : Thread nD τ).loc main_arg1) (ix2 r j) : EReal)
/-- The real numbers in the values. -/
def rv : ℕ → ℕ → ℝ := real2 fun (r : Fin 65536) (j : Fin 512) => (m ((c.tc : Thread nD τ).loc main_arg2) (ix2 r j) : EReal)
/-- The real numbers in the initial states. -/
def rs : ℕ → ℕ → ℕ → ℕ → ℝ :=
  real4 fun (b : Fin 32) (h : Fin 4) (d e : Fin 128) => (m ((c.tc : Thread nD τ).loc main_arg4) (ix4 b h d e) : EReal)

include hpre in
/-- Under the precondition the arguments are those real numbers. -/
theorem reals : (∀ (r : Fin 65536) (j : Fin 512), @Eq EReal (m ((c.tc : Thread nD τ).loc main_arg0) (ix2 r j)) ((rq m c r j : ℝ) : EReal))
    ∧ (∀ (r : Fin 65536) (j : Fin 512), @Eq EReal (m ((c.tc : Thread nD τ).loc main_arg1) (ix2 r j)) ((rk m c r j : ℝ) : EReal))
    ∧ (∀ (r : Fin 65536) (j : Fin 512), @Eq EReal (m ((c.tc : Thread nD τ).loc main_arg2) (ix2 r j)) ((rv m c r j : ℝ) : EReal))
    ∧ (∀ (b : Fin 32) (h : Fin 4) (d e : Fin 128), @Eq EReal (m ((c.tc : Thread nD τ).loc main_arg4) (ix4 b h d e)) ((rs m c b h d e : ℝ) : EReal)) := by
  obtain ⟨f0, f1, f2, f4⟩ := @fin_args preFacts _ _ _ _ _ _ (hpre c)
  exact ⟨fun r j => real2_eq (fun (r : Fin 65536) (j : Fin 512) => (m ((c.tc : Thread nD τ).loc main_arg0) (ix2 r j) : EReal)) (fun r j => f0 (ix2 r j)) r j,
    fun r j => real2_eq (fun (r : Fin 65536) (j : Fin 512) => (m ((c.tc : Thread nD τ).loc main_arg1) (ix2 r j) : EReal)) (fun r j => f1 (ix2 r j)) r j,
    fun r j => real2_eq (fun (r : Fin 65536) (j : Fin 512) => (m ((c.tc : Thread nD τ).loc main_arg2) (ix2 r j) : EReal)) (fun r j => f2 (ix2 r j)) r j,
    fun b h d e => real4_eq (fun (b : Fin 32) (h : Fin 4) (d e : Fin 128) => (m ((c.tc : Thread nD τ).loc main_arg4) (ix4 b h d e) : EReal))
      (fun b h d e => f4 (ix4 b h d e)) b h d e⟩

include hpre ha0 ha1 ha2 ha3 ha4 ha5 in
/-- The two first results are equal. -/
theorem out_same : @Eq (S65536x512.Idx → EReal)
    (StableHlo.finalContents Cert.ReferenceIdeal.Value.condOps Cert.ReferenceIdeal.Value.preI Cert.ReferenceIdeal.Value.bodyI
      Cert.ReferenceIdeal.Value.postI 32 m' c (Proc.devRef .tc Cert.ReferenceIdeal.main_v161))
    ((dats m 0 c).arrAt 12 cfg0.N) := by
  obtain ⟨h0, h1, h2, h4⟩ := reals m hpre c
  funext y
  obtain ⟨r, j, rfl⟩ := Retention.pair 65536 512 y
  refine (Cert.ReferenceIdeal.Value.ref_out m' c (rq m c) (rk m c) (rv m c) (rs m c) (fun r j => (congrFun ha0 _).trans (h0 r j))
    (fun r j => (congrFun ha1 _).trans (h1 r j)) (fun r j => (congrFun ha2 _).trans (h2 r j)) (fun b h d e => (congrFun ha4 _).trans (h4 b h d e)) r j).trans ?_
  refine Eq.trans ?_ (Cert.KernelIdeal.Value.arr12 m c (rq m c) (rk m c) (rv m c) (rs m c) (fun r j => by rw [V_main_arg0]; exact h0 r j)
    (fun r j => by rw [V_main_arg1]; exact h1 r j) (fun r j => by rw [V_main_arg2]; exact h2 r j) (fun b h d e => by rw [V_main_arg4]; exact h4 b h d e) r j).symm
  unfold Cert.KernelIdeal.Value.outE
  have e3 : @Eq EReal (V m c main_arg3 (ix2 r j)) (StableHlo.launchContents m' c (Proc.devRef .tc Cert.ReferenceIdeal.main_arg3) (ix2 r j)) := by
    rw [V_main_arg3]; exact (congrFun ha3 _).symm
  have e5 : @Eq EReal (V m c main_v71 (ix2 0 j)) (StableHlo.launchContents m' c (Proc.devRef .tc Cert.ReferenceIdeal.main_arg5) (ix1 j)) := by
    rw [Cert.KernelIdeal.Value.V_g]; exact (congrFun ha5 _).symm
  rw [e3, e5]

include hpre ha1 ha2 ha4 in
/-- The two second results are equal. -/
theorem state_same : @Eq (S32x4x128x128.Idx → EReal)
    (StableHlo.finalContents Cert.ReferenceIdeal.Value.condOps Cert.ReferenceIdeal.Value.preI Cert.ReferenceIdeal.Value.bodyI
      Cert.ReferenceIdeal.Value.postI 32 m' c (Proc.devRef .tc Cert.ReferenceIdeal.main_v127_3))
    ((dats m 0 c).arrAt 13 cfg0.N) := by
  obtain ⟨h0, h1, h2, h4⟩ := reals m hpre c
  funext y
  obtain ⟨b, h, d, e, rfl⟩ : ∃ (b : Fin 32) (h : Fin 4) (d e : Fin 128), y = ix4 b h d e := ⟨y 0, y 1, y 2, y 3, (ValueIdx.eq_ix4 y).trans (ix4_eq_valueIdx _ _ _ _).symm⟩
  refine (Cert.ReferenceIdeal.Value.ref_state m' c (rk m c) (rv m c) (rs m c)
    (fun r j => (congrFun ha1 _).trans (h1 r j)) (fun r j => (congrFun ha2 _).trans (h2 r j)) (fun b h d e => (congrFun ha4 _).trans (h4 b h d e)) b h d e).trans ?_
  exact (Cert.KernelIdeal.Value.arr13 m c (rk m c) (rv m c) (rs m c)
    (fun r j => by rw [V_main_arg1]; exact h1 r j) (fun r j => by rw [V_main_arg2]; exact h2 r j) (fun b h d e => by rw [V_main_arg4]; exact h4 b h d e) b h d e).symm

end

/-- The kernel's results are the reference's. -/
theorem algebraic : @Cert.algebraic_KernelIdeal_ReferenceIdeal_pre_finite_inputs Cert.KernelIdeal.Gen.facts Cert.ReferenceIdeal.Gen.facts preFacts := by
  pair_intro
  · run_from Cert.KernelIdeal.Value.run_blocks m g
  · refine (θ_run Cert.ReferenceIdeal.defs _ _).mono (fun r h c => ?_) (Cert.ReferenceIdeal.Value.run_fold (F := Ideal) m' g')
    obtain ⟨h0, h1, h2, h3, h4, h5⟩ := hagree c
    exact ⟨(h c _ rfl).trans (out_same m m' hpre c h0 h1 h2 h3 h4 h5), (h c _ rfl).trans (state_same m m' hpre c h1 h2 h4),
       (h c _ rfl).trans (Cert.ReferenceIdeal.Value.ref_keep m' c _ (by simp)), (h c _ rfl).trans (Cert.ReferenceIdeal.Value.ref_keep m' c _ (by simp)),
       (h c _ rfl).trans (Cert.ReferenceIdeal.Value.ref_keep m' c _ (by simp)), (h c _ rfl).trans (Cert.ReferenceIdeal.Value.ref_keep m' c _ (by simp)),
       (h c _ rfl).trans (Cert.ReferenceIdeal.Value.ref_keep m' c _ (by simp)), (h c _ rfl).trans (Cert.ReferenceIdeal.Value.ref_keep m' c _ (by simp))⟩

end Cert.Retention
-- ==== Proof.InFrame.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.Claim

/-!
  The frame of the input projection: what each output block holds after the body as a function of the input blocks,
  the body's run, the launch over the grid, and that the arguments end unchanged.
-/

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1024x4096 := Rect.unit (s := S1024x4096) ![0, 0] S1024x512.size inb_S1024x4096_S1024x512_0_0
abbrev r0_3 : Rect S512x512 := Rect.unit (s := S512x512) ![0, 0] S512x512.size inb_S512x512_S512x512_0_0
abbrev r0_4 : Rect S1024x4096 := Rect.unit (s := S1024x4096) ![0, 512] S1024x512.size inb_S1024x4096_S1024x512_0_512
abbrev r0_5 : Rect S1024x4096 := Rect.unit (s := S1024x4096) ![0, 1024] S1024x512.size inb_S1024x4096_S1024x512_0_1024
abbrev r0_6 : Rect S1024x4096 := Rect.unit (s := S1024x4096) ![0, 1536] S1024x512.size inb_S1024x4096_S1024x512_0_1536
abbrev r0_7 : Rect S1024x4096 := Rect.unit (s := S1024x4096) ![0, 2560] S1024x512.size inb_S1024x4096_S1024x512_0_2560
abbrev r0_8 : Rect S2048x128 := ⟨(⟨![0, 0], S512x128.size, ![4, 1], inb_S2048x128_S512x128_0_0_s_4_1⟩ : LoadRect S2048x128), spos_4_1⟩
abbrev r0_9 : Rect S2048x128 := ⟨(⟨![1, 0], S512x128.size, ![4, 1], inb_S2048x128_S512x128_1_0_s_4_1⟩ : LoadRect S2048x128), spos_4_1⟩
abbrev r0_10 : Rect S2048x128 := ⟨(⟨![2, 0], S512x128.size, ![4, 1], inb_S2048x128_S512x128_2_0_s_4_1⟩ : LoadRect S2048x128), spos_4_1⟩
abbrev r0_11 : Rect S2048x128 := ⟨(⟨![3, 0], S512x128.size, ![4, 1], inb_S2048x128_S512x128_3_0_s_4_1⟩ : LoadRect S2048x128), spos_4_1⟩
abbrev r0_12 : Rect S1024x4096 := Rect.unit (s := S1024x4096) ![0, 3072] S1024x512.size inb_S1024x4096_S1024x512_0_3072
abbrev r0_13 : Rect S1024x128 := Rect.unit (s := S1024x128) ![0, 0] S1024x128.size inb_S1024x128_S1024x128_0_0
abbrev r0_14 : Rect S512x64 := Rect.unit (s := S512x64) ![0, 0] S512x64.size inb_S512x64_S512x64_0_0
abbrev r0_15 : Rect S128x1024 := Rect.unit (s := S128x1024) ![0, 0] S128x1024.size inb_S128x1024_S128x1024_0_0
abbrev r0_16 : Rect S128x512 := Rect.unit (s := S128x512) ![0, 0] S128x512.size inb_S128x512_S128x512_0_0

/-- Four stores of stride four, one from each of the rows 0, 1, 2, 3, together cover a block of 2048 rows. -/
theorem cover_strided (p0 p1 p2 p3 : Vec F S512x128 .f32) (y : S2048x128.Idx) :
    ∃ pc ∈ ([⟨r0_11, p0⟩, ⟨r0_10, p1⟩, ⟨r0_9, p2⟩, ⟨r0_8, p3⟩] : List (View.Piece (Elt F) S2048x128 .f32)), y ∈ pc.1.set := by
  have h0 : (y 0 : ℕ) < 2048 := (y 0).isLt
  have h1 : (y 1 : ℕ) < 128 := (y 1).isLt
  have hr : (y 0 : ℕ) % 4 = 3 ∨ (y 0 : ℕ) % 4 = 2 ∨ (y 0 : ℕ) % 4 = 1 ∨ (y 0 : ℕ) % 4 = 0 := by omega
  have key : ∀ o : ℕ, (y 0 : ℕ) % 4 = o → ∀ a : Fin 2, ∃ j < S512x128.size a, (y a : ℕ) = (![o, 0] : Fin 2 → ℕ) a + (![4, 1] : Fin 2 → ℕ) a * j := by
    intro o ho a
    match a with
    | 0 => exact ⟨(y 0 : ℕ) / 4, show (y 0 : ℕ) / 4 < 512 by omega, show (y 0 : ℕ) = o + 4 * ((y 0 : ℕ) / 4) by omega⟩
    | 1 => exact ⟨(y 1 : ℕ), h1, show (y 1 : ℕ) = 0 + 1 * (y 1 : ℕ) by omega⟩
  rcases hr with h | h | h | h
  · exact ⟨_, List.mem_cons_self, (LoadRect.mem_set _).mpr (key 3 h)⟩
  · exact ⟨_, List.mem_cons_of_mem _ List.mem_cons_self, (LoadRect.mem_set _).mpr (key 2 h)⟩
  · exact ⟨_, List.mem_cons_of_mem _ (List.mem_cons_of_mem _ List.mem_cons_self), (LoadRect.mem_set _).mpr (key 1 h)⟩
  · exact ⟨_, List.mem_cons_of_mem _ (List.mem_cons_of_mem _ (List.mem_cons_of_mem _ List.mem_cons_self)), (LoadRect.mem_set _).mpr (key 0 h)⟩

def out0_7 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .f32 :=
  View.canon [⟨r0_3, k0_pay8 (View.ld x0 r0_0) (View.ld x1 r0_1) (View.ld x2 r0_2)⟩]

theorem cover0_7 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

def out0_8 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .f32 :=
  View.canon [⟨r0_3, k0_pay9 (View.ld x0 r0_0) (View.ld x1 r0_1) (View.ld x2 r0_4)⟩]

theorem cover0_8 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

def out0_9 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .bf16 :=
  View.canon [⟨r0_3, k0_pay10 (View.ld x0 r0_0) (View.ld x1 r0_1) (View.ld x2 r0_5)⟩]

theorem cover0_9 (p0 : Vec F S512x512 .bf16) (y : S512x512.Idx) :
    ∃ pc ∈ ([⟨r0_3, p0⟩] : List (View.Piece (Elt F) S512x512 .bf16)), y ∈ pc.1.set :=
  View.cover_of_tiled [⟨r0_3, p0⟩] S512x512.size (by rfl) y

def out0_10 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .f32 :=
  View.canon [⟨r0_3, k0_pay12 (k0_pay7 (View.ld x0 r0_0) (View.ld x1 r0_1)) (k0_pay11 (View.ld x2 r0_6)) (constant S512x512 .f32 0x00000000#32)⟩]

theorem cover0_10 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

def out0_11 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S2048x128 .f32 :=
  View.canon [⟨r0_11, k0_pay18 (k0_pay7 (View.ld x0 r0_0) (View.ld x1 r0_1)) (View.ld x2 r0_7)⟩,
    ⟨r0_10, k0_pay17 (k0_pay7 (View.ld x0 r0_0) (View.ld x1 r0_1)) (View.ld x2 r0_7)⟩,
    ⟨r0_9, k0_pay16 (k0_pay7 (View.ld x0 r0_0) (View.ld x1 r0_1)) (View.ld x2 r0_7)⟩,
    ⟨r0_8, k0_pay15 (k0_pay7 (View.ld x0 r0_0) (View.ld x1 r0_1)) (View.ld x2 r0_7)⟩]

theorem cover0_11 (p0 : Vec F S512x128 .f32) (p1 : Vec F S512x128 .f32) (p2 : Vec F S512x128 .f32) (p3 : Vec F S512x128 .f32) (y : S2048x128.Idx) :
    ∃ pc ∈ ([⟨r0_11, p0⟩, ⟨r0_10, p1⟩, ⟨r0_9, p2⟩, ⟨r0_8, p3⟩] : List (View.Piece (Elt F) S2048x128 .f32)), y ∈ pc.1.set :=
  cover_strided p0 p1 p2 p3 y

def out0_12 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S2048x128 .f32 :=
  View.canon [⟨r0_11, k0_pay2 (k0_pay20 (k0_pay7 (View.ld x0 r0_0) (View.ld x1 r0_1)) (View.ld x2 r0_12))⟩,
    ⟨r0_10, k0_pay1 (k0_pay20 (k0_pay7 (View.ld x0 r0_0) (View.ld x1 r0_1)) (View.ld x2 r0_12))⟩,
    ⟨r0_9, k0_pay22 (k0_pay7 (View.ld x0 r0_0) (View.ld x1 r0_1)) (View.ld x2 r0_12)⟩,
    ⟨r0_8, k0_pay21 (k0_pay7 (View.ld x0 r0_0) (View.ld x1 r0_1)) (View.ld x2 r0_12)⟩]

theorem cover0_12 (p0 : Vec F S512x128 .f32) (p1 : Vec F S512x128 .f32) (p2 : Vec F S512x128 .f32) (p3 : Vec F S512x128 .f32) (y : S2048x128.Idx) :
    ∃ pc ∈ ([⟨r0_11, p0⟩, ⟨r0_10, p1⟩, ⟨r0_9, p2⟩, ⟨r0_8, p3⟩] : List (View.Piece (Elt F) S2048x128 .f32)), y ∈ pc.1.set :=
  cover_strided p0 p1 p2 p3 y

def out0_13 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .bf16 :=
  View.canon [⟨r0_3, k0_pay19 (k0_pay7 (View.ld x0 r0_0) (View.ld x1 r0_1)) (View.ld x2 r0_7)⟩]

theorem cover0_13 (p0 : Vec F S512x512 .bf16) (y : S512x512.Idx) :
    ∃ pc ∈ ([⟨r0_3, p0⟩] : List (View.Piece (Elt F) S512x512 .bf16)), y ∈ pc.1.set :=
  View.cover_of_tiled [⟨r0_3, p0⟩] S512x512.size (by rfl) y

def out0_14 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .bf16 :=
  View.canon [⟨r0_3, k0_pay3 (k0_pay20 (k0_pay7 (View.ld x0 r0_0) (View.ld x1 r0_1)) (View.ld x2 r0_12))⟩]

theorem cover0_14 (p0 : Vec F S512x512 .bf16) (y : S512x512.Idx) :
    ∃ pc ∈ ([⟨r0_3, p0⟩] : List (View.Piece (Elt F) S512x512 .bf16)), y ∈ pc.1.set :=
  View.cover_of_tiled [⟨r0_3, p0⟩] S512x512.size (by rfl) y

def out0_15 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x64 .f32 :=
  View.canon [⟨r0_14, k0_pay5 (k0_pay7 (View.ld x0 r0_0) (View.ld x1 r0_1)) (View.ld x3 r0_13)⟩]

theorem cover0_15 (p0 : Vec F S512x64 .f32) (y : S512x64.Idx) :
    ∃ pc ∈ ([⟨r0_14, p0⟩] : List (View.Piece (Elt F) S512x64 .f32)), y ∈ pc.1.set :=
  View.cover_of_tiled [⟨r0_14, p0⟩] S512x64.size (by rfl) y

def out0_16 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .bf16 :=
  View.canon [⟨r0_3, k0_pay13 (k0_pay7 (View.ld x0 r0_0) (View.ld x1 r0_1)) (View.ld x4 r0_0)⟩]

theorem cover0_16 (p0 : Vec F S512x512 .bf16) (y : S512x512.Idx) :
    ∃ pc ∈ ([⟨r0_3, p0⟩] : List (View.Piece (Elt F) S512x512 .bf16)), y ∈ pc.1.set :=
  View.cover_of_tiled [⟨r0_3, p0⟩] S512x512.size (by rfl) y

def out0_17 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .bf16 :=
  View.canon [⟨r0_3, k0_pay4 (k0_pay7 (View.ld x0 r0_0) (View.ld x1 r0_1)) (View.ld x5 r0_0)⟩]

theorem cover0_17 (p0 : Vec F S512x512 .bf16) (y : S512x512.Idx) :
    ∃ pc ∈ ([⟨r0_3, p0⟩] : List (View.Piece (Elt F) S512x512 .bf16)), y ∈ pc.1.set :=
  View.cover_of_tiled [⟨r0_3, p0⟩] S512x512.size (by rfl) y

def out0_18 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S128x512 .f32 :=
  View.canon [⟨r0_16, k0_pay6 (k0_pay7 (View.ld x0 r0_0) (View.ld x1 r0_1)) (View.ld x6 r0_15)⟩]

theorem cover0_18 (p0 : Vec F S128x512 .f32) (y : S128x512.Idx) :
    ∃ pc ∈ ([⟨r0_16, p0⟩] : List (View.Piece (Elt F) S128x512 .f32)), y ∈ pc.1.set :=
  View.cover_of_tiled [⟨r0_16, p0⟩] S128x512.size (by rfl) y

set_option maxHeartbeats 1000000 in
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S128x1024 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x64 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S128x512 .f32) (harg19 : arg19.IsWhole)
    (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6) ∗ owns (c : Thread nD τ) arg11 fullShare (out0_10 x0 x1 x2 x3 x4 x5 x6) ∗ owns (c : Thread nD τ) arg12 fullShare (out0_11 x0 x1 x2 x3 x4 x5 x6) ∗ owns (c : Thread nD τ) arg13 fullShare (out0_12 x0 x1 x2 x3 x4 x5 x6) ∗ owns (c : Thread nD τ) arg14 fullShare (out0_13 x0 x1 x2 x3 x4 x5 x6) ∗ owns (c : Thread nD τ) arg15 fullShare (out0_14 x0 x1 x2 x3 x4 x5 x6) ∗ owns (c : Thread nD τ) arg16 fullShare (out0_15 x0 x1 x2 x3 x4 x5 x6) ∗ owns (c : Thread nD τ) arg17 fullShare (out0_16 x0 x1 x2 x3 x4 x5 x6) ∗ owns (c : Thread nD τ) arg18 fullShare (out0_17 x0 x1 x2 x3 x4 x5 x6) ∗ owns (c : Thread nD τ) arg19 fullShare (out0_18 x0 x1 x2 x3 x4 x5 x6)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_inproj_eq_skeleton]; unfold cc0_inproj_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _ _ _ _)
  isplitl [H12]
  · iexists _; isplitr
    swap; · iexact H12
    ipureintro
    exact View.read_writes_eq_canon _ _ _ (cover0_12 _ _ _ _)
  isplitl [H13]
  · iexists _; isplitr
    swap; · iexact H13
    ipureintro
    exact View.read_writes_eq_canon _ _ _ (cover0_13 _)
  isplitl [H14]
  · iexists _; isplitr
    swap; · iexact H14
    ipureintro
    exact View.read_writes_eq_canon _ _ _ (cover0_14 _)
  isplitl [H15]
  · iexists _; isplitr
    swap; · iexact H15
    ipureintro
    exact View.read_writes_eq_canon _ _ _ (cover0_15 _)
  isplitl [H16]
  · iexists _; isplitr
    swap; · iexact H16
    ipureintro
    exact View.read_writes_eq_canon _ _ _ (cover0_16 _)
  isplitl [H17]
  · iexists _; isplitr
    swap; · iexact H17
    ipureintro
    exact View.read_writes_eq_canon _ _ _ (cover0_17 _)
  iexists _; isplitr
  swap; · iexact H18
  ipureintro
  exact View.read_writes_eq_canon _ _ _ (cover0_18 _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
    | ⟨9, _⟩ => out0_9 (iblk m c 0 t) (iblk m c 1 t) (iblk m c 2 t) (iblk m c 3 t) (iblk m c 4 t) (iblk m c 5 t) (iblk m c 6 t)
    | ⟨10, _⟩ => out0_10 (iblk m c 0 t) (iblk m c 1 t) (iblk m c 2 t) (iblk m c 3 t) (iblk m c 4 t) (iblk m c 5 t) (iblk m c 6 t)
    | ⟨11, _⟩ => out0_11 (iblk m c 0 t) (iblk m c 1 t) (iblk m c 2 t) (iblk m c 3 t) (iblk m c 4 t) (iblk m c 5 t) (iblk m c 6 t)
    | ⟨12, _⟩ => out0_12 (iblk m c 0 t) (iblk m c 1 t) (iblk m c 2 t) (iblk m c 3 t) (iblk m c 4 t) (iblk m c 5 t) (iblk m c 6 t)
    | ⟨13, _⟩ => out0_13 (iblk m c 0 t) (iblk m c 1 t) (iblk m c 2 t) (iblk m c 3 t) (iblk m c 4 t) (iblk m c 5 t) (iblk m c 6 t)
    | ⟨14, _⟩ => out0_14 (iblk m c 0 t) (iblk m c 1 t) (iblk m c 2 t) (iblk m c 3 t) (iblk m c 4 t) (iblk m c 5 t) (iblk m c 6 t)
    | ⟨15, _⟩ => out0_15 (iblk m c 0 t) (iblk m c 1 t) (iblk m c 2 t) (iblk m c 3 t) (iblk m c 4 t) (iblk m c 5 t) (iblk m c 6 t)
    | ⟨16, _⟩ => out0_16 (iblk m c 0 t) (iblk m c 1 t) (iblk m c 2 t) (iblk m c 3 t) (iblk m c 4 t) (iblk m c 5 t) (iblk m c 6 t)
    | ⟨17, _⟩ => out0_17 (iblk m c 0 t) (iblk m c 1 t) (iblk m c 2 t) (iblk m c 3 t) (iblk m c 4 t) (iblk m c 5 t) (iblk m c 6 t)
    | ⟨18, _⟩ => out0_18 (iblk m c 0 t) (iblk m c 1 t) (iblk m c 2 t) (iblk m c 3 t) (iblk m c 4 t) (iblk m c 5 t) (iblk m c 6 t)
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before0_6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The launch: the program terminates, every window's array ends as the proof data compute it, every other buffer as
    the launch found it, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The run without the counters. -/
theorem run_arrays : θ_run defs (onTc (τ := τ) (main (F := F))) (s₀ m ρ) (Pipeline.FramePost cfgs (dats m) 0 (V m)) :=
  (θ_run defs _ _).mono (fun _ h => h.1) (run_quiet m ρ)

/-- No host operation before the launch writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation before the launch writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation before the launch writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The frame of the input projection: it terminates, its arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans ((A_eq m c 0).trans (V_arg0 m c))),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c)⟩, h.2⟩) (run_quiet m ρ)

end Cert.Kernel2Ideal.Body

end
-- ==== Proof.InSpec.lean ====
module

public import proofs.«01_k».proof.Proof.InFrame
public import proofs.«01_k».proof.Proof.Spec
public import Idealize.ShloMosaic.Lib.Pipeline.ValueKit
public import Idealize.ShloMosaic.Lib.Pointwise
public import Idealize.ShloMosaic.Lib.StableHlo.RunRead
public import Idealize.ShloMosaic.Lib.StableHlo.RunLoop

/-!
  The input projection: what each output block holds, entry by entry, and the weights the host prepares.
-/

@[expose] public section

set_option maxRecDepth 16384

noncomputable section

namespace Cert.Kernel2Ideal.Body

open Cert.Kernel2Ideal Cert.Kernel2Ideal.Gen Idealize.ShloMosaic Idealize.ShloMosaic.TcCoe Idealize.SL.Sem Cert.Retention

/-- One entry of a row divided by the root of its mean square (plus the printed small constant) and scaled by its weight. -/
def nrm (x g : Fin 1024 → EReal) (k : Fin 1024) : EReal :=
  x k * Ideal.rsqrt (Ideal.div (∑ l, x l * x l) (Ideal.ofBits FTy.f32 1149239296#32) + Ideal.ofBits FTy.f32 897988541#32) * g k

/-- One entry of the projection: the normalised row times one column of the weights. -/
def prj (x g w : Fin 1024 → EReal) : EReal := ∑ k, nrm x g k * w k

/-- The kernel's normalised rows. -/
theorem pay7_val (x : Vec Ideal S512x1024 .f32) (g : Vec Ideal S1x1024 .f32) (i : Fin 512) (k : Fin 1024) :
    @Eq EReal (k0_pay7 x g (ix2 i k)) (nrm (fun l => x (ix2 i l)) (fun l => g (ix2 0 l)) k) := by
  unfold k0_pay7
  pointwise
  rfl

/-- The retention queries of one block. -/
theorem out7_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_7 x0 x1 x2 x3 x4 x5 x6 (ix2 i j)) (prj (fun k => x0 (ix2 i k)) (fun k => x1 (ix2 0 k)) (fun k => x2 (ix2 k ⟨(j : ℕ), by omega⟩))) := by
  unfold out0_7
  rw [View.canon_unit_zero (by funext a; fin_cases a <;> rfl)]
  unfold k0_pay8
  simp only [View.ld_unit]
  pointwise
  simp only [pay7_val]
  pointwise
  unfold prj
  refine Finset.sum_congr rfl fun k _ => ?_
  rfl

/-- The retention keys of one block. -/
theorem out8_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_8 x0 x1 x2 x3 x4 x5 x6 (ix2 i j)) (prj (fun k => x0 (ix2 i k)) (fun k => x1 (ix2 0 k)) (fun k => x2 (ix2 k ⟨512 + (j : ℕ), by omega⟩))) := by
  unfold out0_8
  rw [View.canon_unit_zero (by funext a; fin_cases a <;> rfl)]
  unfold k0_pay9
  simp only [View.ld_unit]
  pointwise
  simp only [pay7_val]
  pointwise
  unfold prj
  refine Finset.sum_congr rfl fun k _ => ?_
  rfl

/-- The retention values of one block. -/
theorem out9_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_9 x0 x1 x2 x3 x4 x5 x6 (ix2 i j)) (prj (fun k => x0 (ix2 i k)) (fun k => x1 (ix2 0 k)) (fun k => x2 (ix2 k ⟨1024 + (j : ℕ), by omega⟩))) := by
  unfold out0_9
  rw [View.canon_unit_zero (by funext a; fin_cases a <;> rfl)]
  unfold k0_pay10
  simp only [View.ld_unit]
  pointwise
  simp only [pay7_val]
  pointwise
  unfold prj
  refine Finset.sum_congr rfl fun k _ => ?_
  rfl

/-- The retention gates of one block. -/
theorem out10_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_10 x0 x1 x2 x3 x4 x5 x6 (ix2 i j)) (prj (fun k => x0 (ix2 i k)) (fun k => x1 (ix2 0 k)) (fun k => x2 (ix2 k ⟨1536 + (j : ℕ), by omega⟩))) := by
  unfold out0_10
  rw [View.canon_unit_zero (by funext a; fin_cases a <;> rfl)]
  unfold k0_pay12 k0_pay11
  simp only [View.ld_unit]
  pointwise
  simp only [pay7_val]
  pointwise
  unfold prj
  refine Finset.sum_congr rfl fun k _ => ?_
  rfl

/-- The attention keys of one block, in the narrow format. -/
theorem out13_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_13 x0 x1 x2 x3 x4 x5 x6 (ix2 i j)) (prj (fun k => x0 (ix2 i k)) (fun k => x1 (ix2 0 k)) (fun k => x2 (ix2 k ⟨2560 + (j : ℕ), by omega⟩))) := by
  unfold out0_13
  rw [View.canon_unit_zero (by funext a; fin_cases a <;> rfl)]
  unfold k0_pay19 k0_pay14
  simp only [View.ld_unit]
  pointwise
  simp only [pay7_val]
  pointwise
  unfold prj
  refine Finset.sum_congr rfl fun k _ => ?_
  rfl

/-- The attention values of one block, in the narrow format. -/
theorem out14_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_14 x0 x1 x2 x3 x4 x5 x6 (ix2 i j)) (prj (fun k => x0 (ix2 i k)) (fun k => x1 (ix2 0 k)) (fun k => x2 (ix2 k ⟨3072 + (j : ℕ), by omega⟩))) := by
  unfold out0_14
  rw [View.canon_unit_zero (by funext a; fin_cases a <;> rfl)]
  unfold k0_pay3 k0_pay20
  simp only [View.ld_unit]
  pointwise
  simp only [pay7_val]
  pointwise
  unfold prj
  refine Finset.sum_congr rfl fun k _ => ?_
  rfl

/-- The index keys of one block. -/
theorem out15_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 64) :
    @Eq EReal (out0_15 x0 x1 x2 x3 x4 x5 x6 (ix2 i j)) (prj (fun k => x0 (ix2 i k)) (fun k => x1 (ix2 0 k)) (fun k => x3 (ix2 k ⟨(j : ℕ), by omega⟩))) := by
  unfold out0_15
  rw [View.canon_unit_zero (by funext a; fin_cases a <;> rfl)]
  unfold k0_pay5
  simp only [View.ld_unit]
  pointwise
  simp only [pay7_val]
  pointwise
  unfold prj
  refine Finset.sum_congr rfl fun k _ => ?_
  rfl

/-- The attention queries of one block, transposed. -/
theorem out16_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_16 x0 x1 x2 x3 x4 x5 x6 (ix2 j i)) (prj (fun k => x0 (ix2 i k)) (fun k => x1 (ix2 0 k)) (fun k => x4 (ix2 j k))) := by
  unfold out0_16
  rw [View.canon_unit_zero (by funext a; fin_cases a <;> rfl)]
  unfold k0_pay13
  simp only [View.ld_unit]
  pointwise
  simp only [pay7_val]
  pointwise
  unfold prj
  refine Finset.sum_congr rfl fun k _ => ?_
  refine (mul_comm (G := EReal) _ _).trans ?_
  rfl

/-- The index queries of one block, transposed. -/
theorem out17_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_17 x0 x1 x2 x3 x4 x5 x6 (ix2 j i)) (prj (fun k => x0 (ix2 i k)) (fun k => x1 (ix2 0 k)) (fun k => x5 (ix2 j k))) := by
  unfold out0_17
  rw [View.canon_unit_zero (by funext a; fin_cases a <;> rfl)]
  unfold k0_pay4
  simp only [View.ld_unit]
  pointwise
  simp only [pay7_val]
  pointwise
  unfold prj
  refine Finset.sum_congr rfl fun k _ => ?_
  refine (mul_comm (G := EReal) _ _).trans ?_
  rfl

/-- The index keys and weights of one block, transposed. -/
theorem out18_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 128) :
    @Eq EReal (out0_18 x0 x1 x2 x3 x4 x5 x6 (ix2 j i)) (prj (fun k => x0 (ix2 i k)) (fun k => x1 (ix2 0 k)) (fun k => x6 (ix2 j k))) := by
  unfold out0_18
  rw [View.canon_unit_zero (by funext a; fin_cases a <;> rfl)]
  unfold k0_pay6
  simp only [View.ld_unit]
  pointwise
  simp only [pay7_val]
  pointwise
  unfold prj
  refine Finset.sum_congr rfl fun k _ => ?_
  refine (mul_comm (G := EReal) _ _).trans ?_
  rfl

/-- A quarter of an index below 2048. -/
theorem fourth (a : ℕ) (h : a < 2048) : a / 4 < 512 := by omega
/-- A lane's column among the attention keys. -/
theorem lane2560 (a b : ℕ) (h : b < 128) : 2560 + (128 * (a % 4) + b) < 4096 := by omega
/-- A lane's column among the attention values. -/
theorem lane3072 (a b : ℕ) (h : b < 128) : 3072 + (128 * (a % 4) + b) < 4096 := by omega

/-- The rows `4 i + 0` of the block, one store. -/
theorem piece11_0 (x0 : Vec Ideal S512x1024 .f32) (x1 : Vec Ideal S1x1024 .f32) (x2 : Vec Ideal S1024x4096 .bf16) (z : S512x128.Idx)
    (a b : ℕ) (ha : a = 0 + 4 * (z 0 : ℕ)) (hb : b = 0 + 1 * (z 1 : ℕ)) :
    @Eq EReal (k0_pay15 (k0_pay7 (View.ld x0 r0_0) (View.ld x1 r0_1)) (View.ld x2 r0_7) z) (prj (fun k => x0 (ix2 ⟨a / 4, fourth a (by have h : (z 0 : ℕ) < 512 := (z 0).isLt; omega)⟩ k)) (fun k => x1 (ix2 0 k))
      (fun k => x2 (ix2 k ⟨2560 + (128 * (a % 4) + b), lane2560 a b (by have h : (z 1 : ℕ) < 128 := (z 1).isLt; omega)⟩))) := by
  obtain ⟨i, j, rfl⟩ := Retention.pair 512 128 z
  unfold k0_pay15 k0_pay14
  simp only [View.ld_unit]
  pointwise
  simp only [pay7_val]
  pointwise
  unfold prj
  have ea : a / 4 = (i : ℕ) := by rw [ha]; show (0 + 4 * (i : ℕ)) / 4 = i; omega
  have eb : 2560 + (128 * (a % 4) + b) = 2560 + (j : ℕ) := by rw [ha, hb]; show 2560 + (128 * ((0 + 4 * (i : ℕ)) % 4) + (0 + 1 * (j : ℕ))) = 2560 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The rows `4 i + 1` of the block, one store. -/
theorem piece11_1 (x0 : Vec Ideal S512x1024 .f32) (x1 : Vec Ideal S1x1024 .f32) (x2 : Vec Ideal S1024x4096 .bf16) (z : S512x128.Idx)
    (a b : ℕ) (ha : a = 1 + 4 * (z 0 : ℕ)) (hb : b = 0 + 1 * (z 1 : ℕ)) :
    @Eq EReal (k0_pay16 (k0_pay7 (View.ld x0 r0_0) (View.ld x1 r0_1)) (View.ld x2 r0_7) z) (prj (fun k => x0 (ix2 ⟨a / 4, fourth a (by have h : (z 0 : ℕ) < 512 := (z 0).isLt; omega)⟩ k)) (fun k => x1 (ix2 0 k))
      (fun k => x2 (ix2 k ⟨2560 + (128 * (a % 4) + b), lane2560 a b (by have h : (z 1 : ℕ) < 128 := (z 1).isLt; omega)⟩))) := by
  obtain ⟨i, j, rfl⟩ := Retention.pair 512 128 z
  unfold k0_pay16 k0_pay14
  simp only [View.ld_unit]
  pointwise
  simp only [pay7_val]
  pointwise
  unfold prj
  have ea : a / 4 = (i : ℕ) := by rw [ha]; show (1 + 4 * (i : ℕ)) / 4 = i; omega
  have eb : 2560 + (128 * (a % 4) + b) = 2688 + (j : ℕ) := by rw [ha, hb]; show 2560 + (128 * ((1 + 4 * (i : ℕ)) % 4) + (0 + 1 * (j : ℕ))) = 2688 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The rows `4 i + 2` of the block, one store. -/
theorem piece11_2 (x0 : Vec Ideal S512x1024 .f32) (x1 : Vec Ideal S1x1024 .f32) (x2 : Vec Ideal S1024x4096 .bf16) (z : S512x128.Idx)
    (a b : ℕ) (ha : a = 2 + 4 * (z 0 : ℕ)) (hb : b = 0 + 1 * (z 1 : ℕ)) :
    @Eq EReal (k0_pay17 (k0_pay7 (View.ld x0 r0_0) (View.ld x1 r0_1)) (View.ld x2 r0_7) z) (prj (fun k => x0 (ix2 ⟨a / 4, fourth a (by have h : (z 0 : ℕ) < 512 := (z 0).isLt; omega)⟩ k)) (fun k => x1 (ix2 0 k))
      (fun k => x2 (ix2 k ⟨2560 + (128 * (a % 4) + b), lane2560 a b (by have h : (z 1 : ℕ) < 128 := (z 1).isLt; omega)⟩))) := by
  obtain ⟨i, j, rfl⟩ := Retention.pair 512 128 z
  unfold k0_pay17 k0_pay14
  simp only [View.ld_unit]
  pointwise
  simp only [pay7_val]
  pointwise
  unfold prj
  have ea : a / 4 = (i : ℕ) := by rw [ha]; show (2 + 4 * (i : ℕ)) / 4 = i; omega
  have eb : 2560 + (128 * (a % 4) + b) = 2816 + (j : ℕ) := by rw [ha, hb]; show 2560 + (128 * ((2 + 4 * (i : ℕ)) % 4) + (0 + 1 * (j : ℕ))) = 2816 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The rows `4 i + 3` of the block, one store. -/
theorem piece11_3 (x0 : Vec Ideal S512x1024 .f32) (x1 : Vec Ideal S1x1024 .f32) (x2 : Vec Ideal S1024x4096 .bf16) (z : S512x128.Idx)
    (a b : ℕ) (ha : a = 3 + 4 * (z 0 : ℕ)) (hb : b = 0 + 1 * (z 1 : ℕ)) :
    @Eq EReal (k0_pay18 (k0_pay7 (View.ld x0 r0_0) (View.ld x1 r0_1)) (View.ld x2 r0_7) z) (prj (fun k => x0 (ix2 ⟨a / 4, fourth a (by have h : (z 0 : ℕ) < 512 := (z 0).isLt; omega)⟩ k)) (fun k => x1 (ix2 0 k))
      (fun k => x2 (ix2 k ⟨2560 + (128 * (a % 4) + b), lane2560 a b (by have h : (z 1 : ℕ) < 128 := (z 1).isLt; omega)⟩))) := by
  obtain ⟨i, j, rfl⟩ := Retention.pair 512 128 z
  unfold k0_pay18 k0_pay14
  simp only [View.ld_unit]
  pointwise
  simp only [pay7_val]
  pointwise
  unfold prj
  have ea : a / 4 = (i : ℕ) := by rw [ha]; show (3 + 4 * (i : ℕ)) / 4 = i; omega
  have eb : 2560 + (128 * (a % 4) + b) = 2944 + (j : ℕ) := by rw [ha, hb]; show 2560 + (128 * ((3 + 4 * (i : ℕ)) % 4) + (0 + 1 * (j : ℕ))) = 2944 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The attention keys of one block, one row of 128 per head. -/
theorem out11_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (r : Fin 2048) (j : Fin 128) :
    @Eq EReal (out0_11 x0 x1 x2 x3 x4 x5 x6 (ix2 r j)) (prj (fun k => x0 (ix2 ⟨(r : ℕ) / 4, by omega⟩ k)) (fun k => x1 (ix2 0 k))
      (fun k => x2 (ix2 k ⟨2560 + (128 * ((r : ℕ) % 4) + (j : ℕ)), by omega⟩))) := by
  unfold out0_11
  refine (View.canon_apply_of_pieces (Val := Elt Ideal) (e := .f32) (fun y : S2048x128.Idx => prj (fun k => x0 (ix2 ⟨(y 0 : ℕ) / 4, fourth _ (y 0).isLt⟩ k))
    (fun k => x1 (ix2 0 k)) (fun k => x2 (ix2 k ⟨2560 + (128 * ((y 0 : ℕ) % 4) + (y 1 : ℕ)), lane2560 _ _ (y 1).isLt⟩))) _ ?_ _ (cover0_11 _ _ _ _ _)).trans rfl
  intro p hp z
  rcases List.mem_cons.1 hp with rfl | hp
  · exact piece11_3 x0 x1 x2 z _ _ rfl rfl
  rcases List.mem_cons.1 hp with rfl | hp
  · exact piece11_2 x0 x1 x2 z _ _ rfl rfl
  rcases List.mem_cons.1 hp with rfl | hp
  · exact piece11_1 x0 x1 x2 z _ _ rfl rfl
  rcases List.mem_cons.1 hp with rfl | hp
  · exact piece11_0 x0 x1 x2 z _ _ rfl rfl
  cases hp

/-- The rows `4 i + 0` of the block, one store. -/
theorem piece12_0 (x0 : Vec Ideal S512x1024 .f32) (x1 : Vec Ideal S1x1024 .f32) (x2 : Vec Ideal S1024x4096 .bf16) (z : S512x128.Idx)
    (a b : ℕ) (ha : a = 0 + 4 * (z 0 : ℕ)) (hb : b = 0 + 1 * (z 1 : ℕ)) :
    @Eq EReal (k0_pay21 (k0_pay7 (View.ld x0 r0_0) (View.ld x1 r0_1)) (View.ld x2 r0_12) z) (prj (fun k => x0 (ix2 ⟨a / 4, fourth a (by have h : (z 0 : ℕ) < 512 := (z 0).isLt; omega)⟩ k)) (fun k => x1 (ix2 0 k))
      (fun k => x2 (ix2 k ⟨3072 + (128 * (a % 4) + b), lane3072 a b (by have h : (z 1 : ℕ) < 128 := (z 1).isLt; omega)⟩))) := by
  obtain ⟨i, j, rfl⟩ := Retention.pair 512 128 z
  unfold k0_pay21 k0_pay20
  simp only [View.ld_unit]
  pointwise
  simp only [pay7_val]
  pointwise
  unfold prj
  have ea : a / 4 = (i : ℕ) := by rw [ha]; show (0 + 4 * (i : ℕ)) / 4 = i; omega
  have eb : 3072 + (128 * (a % 4) + b) = 3072 + (j : ℕ) := by rw [ha, hb]; show 3072 + (128 * ((0 + 4 * (i : ℕ)) % 4) + (0 + 1 * (j : ℕ))) = 3072 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The rows `4 i + 1` of the block, one store. -/
theorem piece12_1 (x0 : Vec Ideal S512x1024 .f32) (x1 : Vec Ideal S1x1024 .f32) (x2 : Vec Ideal S1024x4096 .bf16) (z : S512x128.Idx)
    (a b : ℕ) (ha : a = 1 + 4 * (z 0 : ℕ)) (hb : b = 0 + 1 * (z 1 : ℕ)) :
    @Eq EReal (k0_pay22 (k0_pay7 (View.ld x0 r0_0) (View.ld x1 r0_1)) (View.ld x2 r0_12) z) (prj (fun k => x0 (ix2 ⟨a / 4, fourth a (by have h : (z 0 : ℕ) < 512 := (z 0).isLt; omega)⟩ k)) (fun k => x1 (ix2 0 k))
      (fun k => x2 (ix2 k ⟨3072 + (128 * (a % 4) + b), lane3072 a b (by have h : (z 1 : ℕ) < 128 := (z 1).isLt; omega)⟩))) := by
  obtain ⟨i, j, rfl⟩ := Retention.pair 512 128 z
  unfold k0_pay22 k0_pay20
  simp only [View.ld_unit]
  pointwise
  simp only [pay7_val]
  pointwise
  unfold prj
  have ea : a / 4 = (i : ℕ) := by rw [ha]; show (1 + 4 * (i : ℕ)) / 4 = i; omega
  have eb : 3072 + (128 * (a % 4) + b) = 3200 + (j : ℕ) := by rw [ha, hb]; show 3072 + (128 * ((1 + 4 * (i : ℕ)) % 4) + (0 + 1 * (j : ℕ))) = 3200 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The rows `4 i + 2` of the block, one store. -/
theorem piece12_2 (x0 : Vec Ideal S512x1024 .f32) (x1 : Vec Ideal S1x1024 .f32) (x2 : Vec Ideal S1024x4096 .bf16) (z : S512x128.Idx)
    (a b : ℕ) (ha : a = 2 + 4 * (z 0 : ℕ)) (hb : b = 0 + 1 * (z 1 : ℕ)) :
    @Eq EReal (k0_pay1 (k0_pay20 (k0_pay7 (View.ld x0 r0_0) (View.ld x1 r0_1)) (View.ld x2 r0_12)) z) (prj (fun k => x0 (ix2 ⟨a / 4, fourth a (by have h : (z 0 : ℕ) < 512 := (z 0).isLt; omega)⟩ k)) (fun k => x1 (ix2 0 k))
      (fun k => x2 (ix2 k ⟨3072 + (128 * (a % 4) + b), lane3072 a b (by have h : (z 1 : ℕ) < 128 := (z 1).isLt; omega)⟩))) := by
  obtain ⟨i, j, rfl⟩ := Retention.pair 512 128 z
  unfold k0_pay1 k0_pay20
  simp only [View.ld_unit]
  pointwise
  simp only [pay7_val]
  pointwise
  unfold prj
  have ea : a / 4 = (i : ℕ) := by rw [ha]; show (2 + 4 * (i : ℕ)) / 4 = i; omega
  have eb : 3072 + (128 * (a % 4) + b) = 3328 + (j : ℕ) := by rw [ha, hb]; show 3072 + (128 * ((2 + 4 * (i : ℕ)) % 4) + (0 + 1 * (j : ℕ))) = 3328 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The rows `4 i + 3` of the block, one store. -/
theorem piece12_3 (x0 : Vec Ideal S512x1024 .f32) (x1 : Vec Ideal S1x1024 .f32) (x2 : Vec Ideal S1024x4096 .bf16) (z : S512x128.Idx)
    (a b : ℕ) (ha : a = 3 + 4 * (z 0 : ℕ)) (hb : b = 0 + 1 * (z 1 : ℕ)) :
    @Eq EReal (k0_pay2 (k0_pay20 (k0_pay7 (View.ld x0 r0_0) (View.ld x1 r0_1)) (View.ld x2 r0_12)) z) (prj (fun k => x0 (ix2 ⟨a / 4, fourth a (by have h : (z 0 : ℕ) < 512 := (z 0).isLt; omega)⟩ k)) (fun k => x1 (ix2 0 k))
      (fun k => x2 (ix2 k ⟨3072 + (128 * (a % 4) + b), lane3072 a b (by have h : (z 1 : ℕ) < 128 := (z 1).isLt; omega)⟩))) := by
  obtain ⟨i, j, rfl⟩ := Retention.pair 512 128 z
  unfold k0_pay2 k0_pay20
  simp only [View.ld_unit]
  pointwise
  simp only [pay7_val]
  pointwise
  unfold prj
  have ea : a / 4 = (i : ℕ) := by rw [ha]; show (3 + 4 * (i : ℕ)) / 4 = i; omega
  have eb : 3072 + (128 * (a % 4) + b) = 3456 + (j : ℕ) := by rw [ha, hb]; show 3072 + (128 * ((3 + 4 * (i : ℕ)) % 4) + (0 + 1 * (j : ℕ))) = 3456 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The attention values of one block, one row of 128 per head. -/
theorem out12_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (r : Fin 2048) (j : Fin 128) :
    @Eq EReal (out0_12 x0 x1 x2 x3 x4 x5 x6 (ix2 r j)) (prj (fun k => x0 (ix2 ⟨(r : ℕ) / 4, by omega⟩ k)) (fun k => x1 (ix2 0 k))
      (fun k => x2 (ix2 k ⟨3072 + (128 * ((r : ℕ) % 4) + (j : ℕ)), by omega⟩))) := by
  unfold out0_12
  refine (View.canon_apply_of_pieces (Val := Elt Ideal) (e := .f32) (fun y : S2048x128.Idx => prj (fun k => x0 (ix2 ⟨(y 0 : ℕ) / 4, fourth _ (y 0).isLt⟩ k))
    (fun k => x1 (ix2 0 k)) (fun k => x2 (ix2 k ⟨3072 + (128 * ((y 0 : ℕ) % 4) + (y 1 : ℕ)), lane3072 _ _ (y 1).isLt⟩))) _ ?_ _ (cover0_12 _ _ _ _ _)).trans rfl
  intro p hp z
  rcases List.mem_cons.1 hp with rfl | hp
  · exact piece12_3 x0 x1 x2 z _ _ rfl rfl
  rcases List.mem_cons.1 hp with rfl | hp
  · exact piece12_2 x0 x1 x2 z _ _ rfl rfl
  rcases List.mem_cons.1 hp with rfl | hp
  · exact piece12_1 x0 x1 x2 z _ _ rfl rfl
  rcases List.mem_cons.1 hp with rfl | hp
  · exact piece12_0 x0 x1 x2 z _ _ rfl rfl
  cases hp

/-- The integer zero as a number. -/
theorem word_zero : FloatOps.sitofp (F := Ideal) .f32 0#32 = (0 : EReal) := by
  show (((0#32 : BitVec 32).toInt : ℝ) : EReal) = 0
  simp

variable (m : (ℓ : Loc nD τ sig) → Buf (Elt Ideal) ℓ) (c : Dev nD)

/-- The weights of the first 4096 columns. -/
theorem V_wm (k : Fin 1024) (j : Fin 4096) : @Eq EReal (V m c main_v1 (ix2 k j)) (m (c, Proc.devRef .tc main_arg2) (ix2 k ⟨j, by omega⟩)) := by
  unfold V
  rw [← StableHlo.afterL_eq_after_flatten]
  simp only [StableHlo.afterL_cons, StableHlo.afterL_nil]
  after_reads_simp
  pointwise

/-- The weights of the last columns, padded with zeros. -/
theorem V_wt (k : Fin 1024) (j : Fin 128) : @Eq EReal (V m c main_v4 (ix2 k j)) (if h : (j : ℕ) < 72 then m (c, Proc.devRef .tc main_arg2) (ix2 k ⟨4096 + j, by omega⟩) else 0) := by
  unfold V
  rw [← StableHlo.afterL_eq_after_flatten]
  simp only [StableHlo.afterL_cons, StableHlo.afterL_nil]
  after_reads_simp
  simp -implicitDefEqProofs only [StableHlo.TRef.toBuf, StableHlo.TRef.ofBuf, cast_cast, cast_eq]
  pointwise
  rw [word_zero]

/-- The transposed weights of the attention queries. -/
theorem V_wqt (k : Fin 1024) (j : Fin 512) : @Eq EReal (V m c main_v6 (ix2 j k)) (m (c, Proc.devRef .tc main_arg2) (ix2 k ⟨2048 + j, by omega⟩)) := by
  unfold V
  rw [← StableHlo.afterL_eq_after_flatten]
  simp only [StableHlo.afterL_cons, StableHlo.afterL_nil]
  after_reads_simp
  pointwise

/-- The transposed weights of the index queries. -/
theorem V_wit (k : Fin 1024) (j : Fin 512) : @Eq EReal (V m c main_v8 (ix2 j k)) (m (c, Proc.devRef .tc main_arg2) (ix2 k ⟨3584 + j, by omega⟩)) := by
  unfold V
  rw [← StableHlo.afterL_eq_after_flatten]
  simp only [StableHlo.afterL_cons, StableHlo.afterL_nil]
  after_reads_simp
  pointwise

/-- The transposed weights of the last columns. -/
theorem V_wtt (k : Fin 1024) (j : Fin 128) : @Eq EReal (V m c main_v9 (ix2 j k)) (if h : (j : ℕ) < 72 then m (c, Proc.devRef .tc main_arg2) (ix2 k ⟨4096 + j, by omega⟩) else 0) := by
  unfold V
  rw [← StableHlo.afterL_eq_after_flatten]
  simp only [StableHlo.afterL_cons, StableHlo.afterL_nil]
  after_reads_simp
  simp -implicitDefEqProofs only [StableHlo.TRef.toBuf, StableHlo.TRef.ofBuf, cast_cast, cast_eq]
  pointwise
  rw [word_zero]

/-- The weights of the norm. -/
theorem V_g (k : Fin 1024) : @Eq EReal (V m c main_v10 (ix2 0 k)) (m (c, Proc.devRef .tc main_arg1) (ix1 k)) := by
  unfold V
  rw [← StableHlo.afterL_eq_after_flatten]
  simp only [StableHlo.afterL_cons, StableHlo.afterL_nil]
  after_reads_simp
  pointwise

end Cert.Kernel2Ideal.Body
-- ==== Proof.InArr.lean ====
module

public import proofs.«01_k».proof.Proof.InSpec

/-!
  The input projection: the result arrays, entry by entry, as the normalised rows times columns of the weights.
-/

@[expose] public section

set_option maxRecDepth 16384

noncomputable section

namespace Cert.Kernel2Ideal.Body

open Cert.Kernel2Ideal Cert.Kernel2Ideal.Gen Idealize.ShloMosaic Idealize.ShloMosaic.TcCoe Idealize.SL.Sem Cert.Retention

variable (m : (ℓ : Loc nD τ sig) → Buf (Elt Ideal) ℓ) (c : Dev nD)

/-- One row of the input. -/
def X (r : Fin 65536) (k : Fin 1024) : EReal := m ((c : Thread nD τ).loc main_arg0) (ix2 r k)
/-- The weights of the norm. -/
def G (k : Fin 1024) : EReal := m ((c : Thread nD τ).loc main_arg1) (ix1 k)
/-- One column of the weights, zero past the last. -/
def Wc (n : ℕ) (k : Fin 1024) : EReal := if h : n < 4168 then m ((c : Thread nD τ).loc main_arg2) (ix2 k ⟨n, h⟩) else 0
/-- One entry of the projection. -/
def pr (r : Fin 65536) (n : ℕ) : EReal := prj (X m c r) (G m c) (Wc m c n)

/-- The projection depends on its operands entry by entry. -/
theorem prj_congr {x x' g g' w w' : Fin 1024 → EReal} (hx : ∀ k, x k = x' k) (hg : ∀ k, g k = g' k) (hw : ∀ k, w k = w' k) :
    prj x g w = prj x' g' w' := by
  rw [funext hx, funext hg, funext hw]

/-- A column below the last. -/
theorem Wc_lt (n : ℕ) (k : Fin 1024) (h : n < 4168) : Wc m c n k = m ((c : Thread nD τ).loc main_arg2) (ix2 k ⟨n, h⟩) := dif_pos h

theorem lt_N (t : Fin cfg0.N) : t.val < 128 := lt_of_lt_of_eq t.isLt (by decide +kernel)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![0, t.val] := (by decide +kernel : ∀ t : Fin grid0.N, _)
theorem idx17 : ∀ t : Fin cfg0.N, win0_17.index t = ![0, t.val] := (by decide +kernel : ∀ t : Fin grid0.N, _)
theorem idx18 : ∀ t : Fin cfg0.N, win0_18.index t = ![0, t.val] := (by decide +kernel : ∀ t : Fin grid0.N, _)

theorem B0 (t : Fin cfg0.N) (i : Fin 512) (k : Fin 1024) :
    @Eq EReal (iblk m c 0 t (ix2 i k)) (V m c main_arg0 (ix2 ⟨t.val * 512 + i.val, by have := lt_N t; omega⟩ k)) := by
  blk_ext [iblk, V, idx0 t]
theorem B1 (t : Fin cfg0.N) (k : Fin 1024) : @Eq EReal (iblk m c 1 t (ix2 0 k)) (V m c main_v10 (ix2 0 k)) := by
  blk_ext [iblk, V, idx1 t]
theorem B2 (t : Fin cfg0.N) (k : Fin 1024) (j : Fin 4096) : @Eq EReal (iblk m c 2 t (ix2 k j)) (V m c main_v1 (ix2 k j)) := by
  blk_ext [iblk, V, idx2 t]
theorem B3 (t : Fin cfg0.N) (k : Fin 1024) (j : Fin 128) : @Eq EReal (iblk m c 3 t (ix2 k j)) (V m c main_v4 (ix2 k j)) := by
  blk_ext [iblk, V, idx3 t]
theorem B4 (t : Fin cfg0.N) (k : Fin 1024) (j : Fin 512) : @Eq EReal (iblk m c 4 t (ix2 j k)) (V m c main_v6 (ix2 j k)) := by
  blk_ext [iblk, V, idx4 t]
theorem B5 (t : Fin cfg0.N) (k : Fin 1024) (j : Fin 512) : @Eq EReal (iblk m c 5 t (ix2 j k)) (V m c main_v8 (ix2 j k)) := by
  blk_ext [iblk, V, idx5 t]
theorem B6 (t : Fin cfg0.N) (k : Fin 1024) (j : Fin 128) : @Eq EReal (iblk m c 6 t (ix2 j k)) (V m c main_v9 (ix2 j k)) := by
  blk_ext [iblk, V, idx6 t]

/-- The rows a block reads. -/
theorem row_eq (t : Fin cfg0.N) (i : Fin 512) (r : Fin 65536) (hr : (r : ℕ) = t.val * 512 + i) (k : Fin 1024) :
    @Eq EReal (iblk m c 0 t (ix2 i k)) (X m c r k) := by
  rw [B0, V_arg0]
  exact congrArg (fun q : Fin 65536 => (m ((c : Thread nD τ).loc main_arg0) (ix2 q k) : EReal)) (Fin.ext hr.symm)
/-- The norm's weights a block reads. -/
theorem g_eq (t : Fin cfg0.N) (k : Fin 1024) : @Eq EReal (iblk m c 1 t (ix2 0 k)) (G m c k) := (B1 m c t k).trans (V_g m c k)
/-- The columns a block reads. -/
theorem wm_eq (t : Fin cfg0.N) (k : Fin 1024) (j : Fin 4096) (n : ℕ) (hn : n = j) : @Eq EReal (iblk m c 2 t (ix2 k j)) (Wc m c n k) := by
  subst hn
  rw [B2, V_wm, Wc_lt m c _ k (by omega)]
/-- The last columns a block reads. -/
theorem wt_eq (t : Fin cfg0.N) (k : Fin 1024) (j : Fin 128) (n : ℕ) (hn : n = 4096 + (j : ℕ)) : @Eq EReal (iblk m c 3 t (ix2 k j)) (Wc m c n k) := by
  subst hn
  rw [B3, V_wt]
  unfold Wc
  by_cases h : (j : ℕ) < 72
  · rw [dif_pos h, dif_pos (by omega)]
  · rw [dif_neg h, dif_neg (by omega)]
/-- The columns of the attention queries. -/
theorem wqt_eq (t : Fin cfg0.N) (k : Fin 1024) (j : Fin 512) (n : ℕ) (hn : n = 2048 + (j : ℕ)) : @Eq EReal (iblk m c 4 t (ix2 j k)) (Wc m c n k) := by
  subst hn
  rw [B4, V_wqt]
  rw [Wc_lt m c _ k (by omega)]
/-- The columns of the index queries. -/
theorem wit_eq (t : Fin cfg0.N) (k : Fin 1024) (j : Fin 512) (n : ℕ) (hn : n = 3584 + (j : ℕ)) : @Eq EReal (iblk m c 5 t (ix2 j k)) (Wc m c n k) := by
  subst hn
  rw [B5, V_wit]
  rw [Wc_lt m c _ k (by omega)]
/-- The last columns, transposed. -/
theorem wtt_eq (t : Fin cfg0.N) (k : Fin 1024) (j : Fin 128) (n : ℕ) (hn : n = 4096 + (j : ℕ)) : @Eq EReal (iblk m c 6 t (ix2 j k)) (Wc m c n k) := by
  subst hn
  rw [B6, V_wtt]
  unfold Wc
  by_cases h : (j : ℕ) < 72
  · rw [dif_pos h, dif_pos (by omega)]
  · rw [dif_neg h, dif_neg (by omega)]

theorem emb7 (t : Fin cfg0.N) (i : Fin 512) (j : Fin 512) : ((win0_7.blk t).view.emb (ix2 i j) 0 : ℕ) = t.val * 512 + (i : ℕ) := by
  blk_simp [idx7 t] <;> simp

theorem emb8 (t : Fin cfg0.N) (i : Fin 512) (j : Fin 512) : ((win0_8.blk t).view.emb (ix2 i j) 0 : ℕ) = t.val * 512 + (i : ℕ) := by
  blk_simp [idx8 t] <;> simp

theorem emb9 (t : Fin cfg0.N) (i : Fin 512) (j : Fin 512) : ((win0_9.blk t).view.emb (ix2 i j) 0 : ℕ) = t.val * 512 + (i : ℕ) := by
  blk_simp [idx9 t] <;> simp

theorem emb10 (t : Fin cfg0.N) (i : Fin 512) (j : Fin 512) : ((win0_10.blk t).view.emb (ix2 i j) 0 : ℕ) = t.val * 512 + (i : ℕ) := by
  blk_simp [idx10 t] <;> simp

theorem emb13 (t : Fin cfg0.N) (i : Fin 512) (j : Fin 512) : ((win0_13.blk t).view.emb (ix2 i j) 0 : ℕ) = t.val * 512 + (i : ℕ) := by
  blk_simp [idx13 t] <;> simp

theorem emb14 (t : Fin cfg0.N) (i : Fin 512) (j : Fin 512) : ((win0_14.blk t).view.emb (ix2 i j) 0 : ℕ) = t.val * 512 + (i : ℕ) := by
  blk_simp [idx14 t] <;> simp

theorem emb15 (t : Fin cfg0.N) (i : Fin 512) (j : Fin 64) : ((win0_15.blk t).view.emb (ix2 i j) 0 : ℕ) = t.val * 512 + (i : ℕ) := by
  blk_simp [idx15 t] <;> simp

theorem emb16 (t : Fin cfg0.N) (j : Fin 512) (i : Fin 512) : ((win0_16.blk t).view.emb (ix2 j i) 1 : ℕ) = t.val * 512 + (i : ℕ) := by
  blk_simp [idx16 t] <;> simp

theorem emb17 (t : Fin cfg0.N) (j : Fin 512) (i : Fin 512) : ((win0_17.blk t).view.emb (ix2 j i) 1 : ℕ) = t.val * 512 + (i : ℕ) := by
  blk_simp [idx17 t] <;> simp

theorem emb18 (t : Fin cfg0.N) (j : Fin 128) (i : Fin 512) : ((win0_18.blk t).view.emb (ix2 j i) 1 : ℕ) = t.val * 512 + (i : ℕ) := by
  blk_simp [idx18 t] <;> simp

/-- A quarter of an index below 262144. -/
theorem quarter (a : ℕ) (h : a < 262144) : a / 4 < 65536 := by omega

/-- The retention queries. -/
theorem arr7 : (dats m 0 c).arrAt 7 cfg0.N = (fun y : S65536x512.Idx => pr m c (y 0) (0 + (y 1 : ℕ)) : S65536x512.Idx → EReal) := by
  refine (dats m 0 c).arrAt_eq_of_covers 7 _ (by decide +kernel) fun t hf y => ?_
  blk_simp
  rw [after0_7]
  have ht := lt_N t
  obtain ⟨i, j, rfl⟩ := Retention.pair 512 512 y
  have e1 : win0_7.index t 1 * 512 + (j : ℕ) = (j : ℕ) := by rw [idx7 t]; simp
  refine (out7_val (iblk m c 0 t) (iblk m c 1 t) (iblk m c 2 t) (iblk m c 3 t) (iblk m c 4 t) (iblk m c 5 t) (iblk m c 6 t) i j).trans (prj_congr (fun k => row_eq m c t i _ (emb7 t i j) k) (fun k => g_eq m c t k) (fun k => ?_))
  exact wm_eq m c t k _ _ (e1)

/-- The retention keys. -/
theorem arr8 : (dats m 0 c).arrAt 8 cfg0.N = (fun y : S65536x512.Idx => pr m c (y 0) (512 + (y 1 : ℕ)) : S65536x512.Idx → EReal) := by
  refine (dats m 0 c).arrAt_eq_of_covers 8 _ (by decide +kernel) fun t hf y => ?_
  blk_simp
  rw [after0_8]
  have ht := lt_N t
  obtain ⟨i, j, rfl⟩ := Retention.pair 512 512 y
  have e1 : win0_8.index t 1 * 512 + (j : ℕ) = (j : ℕ) := by rw [idx8 t]; simp
  refine (out8_val (iblk m c 0 t) (iblk m c 1 t) (iblk m c 2 t) (iblk m c 3 t) (iblk m c 4 t) (iblk m c 5 t) (iblk m c 6 t) i j).trans (prj_congr (fun k => row_eq m c t i _ (emb8 t i j) k) (fun k => g_eq m c t k) (fun k => ?_))
  exact wm_eq m c t k _ _ (congrArg (fun q => 512 + q) e1)

/-- The retention values. -/
theorem arr9 : (dats m 0 c).arrAt 9 cfg0.N = (fun y : S65536x512.Idx => pr m c (y 0) (1024 + (y 1 : ℕ)) : S65536x512.Idx → EReal) := by
  refine (dats m 0 c).arrAt_eq_of_covers 9 _ (by decide +kernel) fun t hf y => ?_
  blk_simp
  rw [after0_9]
  have ht := lt_N t
  obtain ⟨i, j, rfl⟩ := Retention.pair 512 512 y
  have e1 : win0_9.index t 1 * 512 + (j : ℕ) = (j : ℕ) := by rw [idx9 t]; simp
  refine (out9_val (iblk m c 0 t) (iblk m c 1 t) (iblk m c 2 t) (iblk m c 3 t) (iblk m c 4 t) (iblk m c 5 t) (iblk m c 6 t) i j).trans (prj_congr (fun k => row_eq m c t i _ (emb9 t i j) k) (fun k => g_eq m c t k) (fun k => ?_))
  exact wm_eq m c t k _ _ (congrArg (fun q => 1024 + q) e1)

/-- The retention gates. -/
theorem arr10 : (dats m 0 c).arrAt 10 cfg0.N = (fun y : S65536x512.Idx => pr m c (y 0) (1536 + (y 1 : ℕ)) : S65536x512.Idx → EReal) := by
  refine (dats m 0 c).arrAt_eq_of_covers 10 _ (by decide +kernel) fun t hf y => ?_
  blk_simp
  rw [after0_10]
  have ht := lt_N t
  obtain ⟨i, j, rfl⟩ := Retention.pair 512 512 y
  have e1 : win0_10.index t 1 * 512 + (j : ℕ) = (j : ℕ) := by rw [idx10 t]; simp
  refine (out10_val (iblk m c 0 t) (iblk m c 1 t) (iblk m c 2 t) (iblk m c 3 t) (iblk m c 4 t) (iblk m c 5 t) (iblk m c 6 t) i j).trans (prj_congr (fun k => row_eq m c t i _ (emb10 t i j) k) (fun k => g_eq m c t k) (fun k => ?_))
  exact wm_eq m c t k _ _ (congrArg (fun q => 1536 + q) e1)

/-- The attention keys. -/
theorem arr13 : (dats m 0 c).arrAt 13 cfg0.N = (fun y : S65536x512.Idx => pr m c (y 0) (2560 + (y 1 : ℕ)) : S65536x512.Idx → EReal) := by
  refine (dats m 0 c).arrAt_eq_of_covers 13 _ (by decide +kernel) fun t hf y => ?_
  blk_simp
  rw [after0_13]
  have ht := lt_N t
  obtain ⟨i, j, rfl⟩ := Retention.pair 512 512 y
  have e1 : win0_13.index t 1 * 512 + (j : ℕ) = (j : ℕ) := by rw [idx13 t]; simp
  refine (out13_val (iblk m c 0 t) (iblk m c 1 t) (iblk m c 2 t) (iblk m c 3 t) (iblk m c 4 t) (iblk m c 5 t) (iblk m c 6 t) i j).trans (prj_congr (fun k => row_eq m c t i _ (emb13 t i j) k) (fun k => g_eq m c t k) (fun k => ?_))
  exact wm_eq m c t k _ _ (congrArg (fun q => 2560 + q) e1)

/-- The attention values. -/
theorem arr14 : (dats m 0 c).arrAt 14 cfg0.N = (fun y : S65536x512.Idx => pr m c (y 0) (3072 + (y 1 : ℕ)) : S65536x512.Idx → EReal) := by
  refine (dats m 0 c).arrAt_eq_of_covers 14 _ (by decide +kernel) fun t hf y => ?_
  blk_simp
  rw [after0_14]
  have ht := lt_N t
  obtain ⟨i, j, rfl⟩ := Retention.pair 512 512 y
  have e1 : win0_14.index t 1 * 512 + (j : ℕ) = (j : ℕ) := by rw [idx14 t]; simp
  refine (out14_val (iblk m c 0 t) (iblk m c 1 t) (iblk m c 2 t) (iblk m c 3 t) (iblk m c 4 t) (iblk m c 5 t) (iblk m c 6 t) i j).trans (prj_congr (fun k => row_eq m c t i _ (emb14 t i j) k) (fun k => g_eq m c t k) (fun k => ?_))
  exact wm_eq m c t k _ _ (congrArg (fun q => 3072 + q) e1)

/-- The index keys. -/
theorem arr15 : (dats m 0 c).arrAt 15 cfg0.N = (fun y : S65536x64.Idx => pr m c (y 0) (4096 + (y 1 : ℕ)) : S65536x64.Idx → EReal) := by
  refine (dats m 0 c).arrAt_eq_of_covers 15 _ (by decide +kernel) fun t hf y => ?_
  blk_simp
  rw [after0_15]
  have ht := lt_N t
  obtain ⟨i, j, rfl⟩ := Retention.pair 512 64 y
  have e1 : win0_15.index t 1 * 64 + (j : ℕ) = (j : ℕ) := by rw [idx15 t]; simp
  refine (out15_val (iblk m c 0 t) (iblk m c 1 t) (iblk m c 2 t) (iblk m c 3 t) (iblk m c 4 t) (iblk m c 5 t) (iblk m c 6 t) i j).trans (prj_congr (fun k => row_eq m c t i _ (emb15 t i j) k) (fun k => g_eq m c t k) (fun k => ?_))
  exact wt_eq m c t k _ _ (congrArg (fun q => 4096 + q) e1)

/-- The attention keys, one row per head. -/
theorem arr11 : (dats m 0 c).arrAt 11 cfg0.N = (fun y : S262144x128.Idx => pr m c ⟨(y 0 : ℕ) / 4, quarter _ (y 0).isLt⟩ (2560 + (128 * ((y 0 : ℕ) % 4) + (y 1 : ℕ))) : S262144x128.Idx → EReal) := by
  refine (dats m 0 c).arrAt_eq_of_covers 11 _ (by decide +kernel) fun t hf y => ?_
  blk_simp
  rw [after0_11]
  have ht := lt_N t
  obtain ⟨i, j, rfl⟩ := Retention.pair 2048 128 y
  have e0' : win0_11.index t 0 * 2048 + (i : ℕ) = t.val * 2048 + (i : ℕ) := by rw [idx11 t]; simp
  have e1' : win0_11.index t 1 * 128 + (j : ℕ) = (j : ℕ) := by rw [idx11 t]; simp
  refine (out11_val (iblk m c 0 t) (iblk m c 1 t) (iblk m c 2 t) (iblk m c 3 t) (iblk m c 4 t) (iblk m c 5 t) (iblk m c 6 t) i j).trans (prj_congr (fun k => row_eq m c t _ _ ?_ k) (fun k => g_eq m c t k) (fun k => wm_eq m c t k _ _ ?_))
  · exact (congrArg (fun q => q / 4) e0').trans (by show (t.val * 2048 + (i : ℕ)) / 4 = t.val * 512 + (i : ℕ) / 4; omega)
  · exact (congrArg₂ (fun p q => 2560 + (128 * (p % 4) + q)) e0' e1').trans
      (by show 2560 + (128 * ((t.val * 2048 + (i : ℕ)) % 4) + (j : ℕ)) = 2560 + (128 * ((i : ℕ) % 4) + (j : ℕ)); omega)

/-- The attention values, one row per head. -/
theorem arr12 : (dats m 0 c).arrAt 12 cfg0.N = (fun y : S262144x128.Idx => pr m c ⟨(y 0 : ℕ) / 4, quarter _ (y 0).isLt⟩ (3072 + (128 * ((y 0 : ℕ) % 4) + (y 1 : ℕ))) : S262144x128.Idx → EReal) := by
  refine (dats m 0 c).arrAt_eq_of_covers 12 _ (by decide +kernel) fun t hf y => ?_
  blk_simp
  rw [after0_12]
  have ht := lt_N t
  obtain ⟨i, j, rfl⟩ := Retention.pair 2048 128 y
  have e0' : win0_12.index t 0 * 2048 + (i : ℕ) = t.val * 2048 + (i : ℕ) := by rw [idx12 t]; simp
  have e1' : win0_12.index t 1 * 128 + (j : ℕ) = (j : ℕ) := by rw [idx12 t]; simp
  refine (out12_val (iblk m c 0 t) (iblk m c 1 t) (iblk m c 2 t) (iblk m c 3 t) (iblk m c 4 t) (iblk m c 5 t) (iblk m c 6 t) i j).trans (prj_congr (fun k => row_eq m c t _ _ ?_ k) (fun k => g_eq m c t k) (fun k => wm_eq m c t k _ _ ?_))
  · exact (congrArg (fun q => q / 4) e0').trans (by show (t.val * 2048 + (i : ℕ)) / 4 = t.val * 512 + (i : ℕ) / 4; omega)
  · exact (congrArg₂ (fun p q => 3072 + (128 * (p % 4) + q)) e0' e1').trans
      (by show 3072 + (128 * ((t.val * 2048 + (i : ℕ)) % 4) + (j : ℕ)) = 3072 + (128 * ((i : ℕ) % 4) + (j : ℕ)); omega)

/-- The transposed attention queries. -/
theorem arr16 : (dats m 0 c).arrAt 16 cfg0.N = (fun y : S512x65536.Idx => pr m c (y 1) (2048 + (y 0 : ℕ)) : S512x65536.Idx → EReal) := by
  refine (dats m 0 c).arrAt_eq_of_covers 16 _ (by decide +kernel) fun t hf y => ?_
  blk_simp
  rw [after0_16]
  have ht := lt_N t
  obtain ⟨j, i, rfl⟩ := Retention.pair 512 512 y
  have e0 : win0_16.index t 0 * 512 + (j : ℕ) = (j : ℕ) := by rw [idx16 t]; simp
  refine (out16_val (iblk m c 0 t) (iblk m c 1 t) (iblk m c 2 t) (iblk m c 3 t) (iblk m c 4 t) (iblk m c 5 t) (iblk m c 6 t) i j).trans (prj_congr (fun k => row_eq m c t i _ (emb16 t j i) k) (fun k => g_eq m c t k) (fun k => ?_))
  exact wqt_eq m c t k _ _ (congrArg (fun q => 2048 + q) e0)

/-- The transposed index queries. -/
theorem arr17 : (dats m 0 c).arrAt 17 cfg0.N = (fun y : S512x65536.Idx => pr m c (y 1) (3584 + (y 0 : ℕ)) : S512x65536.Idx → EReal) := by
  refine (dats m 0 c).arrAt_eq_of_covers 17 _ (by decide +kernel) fun t hf y => ?_
  blk_simp
  rw [after0_17]
  have ht := lt_N t
  obtain ⟨j, i, rfl⟩ := Retention.pair 512 512 y
  have e0 : win0_17.index t 0 * 512 + (j : ℕ) = (j : ℕ) := by rw [idx17 t]; simp
  refine (out17_val (iblk m c 0 t) (iblk m c 1 t) (iblk m c 2 t) (iblk m c 3 t) (iblk m c 4 t) (iblk m c 5 t) (iblk m c 6 t) i j).trans (prj_congr (fun k => row_eq m c t i _ (emb17 t j i) k) (fun k => g_eq m c t k) (fun k => ?_))
  exact wit_eq m c t k _ _ (congrArg (fun q => 3584 + q) e0)

/-- The transposed index keys and weights. -/
theorem arr18 : (dats m 0 c).arrAt 18 cfg0.N = (fun y : S128x65536.Idx => pr m c (y 1) (4096 + (y 0 : ℕ)) : S128x65536.Idx → EReal) := by
  refine (dats m 0 c).arrAt_eq_of_covers 18 _ (by decide +kernel) fun t hf y => ?_
  blk_simp
  rw [after0_18]
  have ht := lt_N t
  obtain ⟨j, i, rfl⟩ := Retention.pair 128 512 y
  have e0 : win0_18.index t 0 * 128 + (j : ℕ) = (j : ℕ) := by rw [idx18 t]; simp
  refine (out18_val (iblk m c 0 t) (iblk m c 1 t) (iblk m c 2 t) (iblk m c 3 t) (iblk m c 4 t) (iblk m c 5 t) (iblk m c 6 t) i j).trans (prj_congr (fun k => row_eq m c t i _ (emb18 t j i) k) (fun k => g_eq m c t k) (fun k => ?_))
  exact wtt_eq m c t k _ _ (congrArg (fun q => 4096 + q) e0)

end Cert.Kernel2Ideal.Body
-- ==== Proof.InRef.lean ====
module

public import proofs.«01_k».proof.Proof.InArr
public import proofs.«01_k».proof.Proof.Gen.Reference2Ideal.Run

/-!
  The plain input projection, entry by entry.
-/

@[expose] public section

set_option maxRecDepth 16384

noncomputable section

namespace Cert.Reference2Ideal.Value

open Cert.Reference2Ideal Cert.Reference2Ideal.Gen Idealize.ShloMosaic Idealize.ShloMosaic.TcCoe Idealize.SL.Sem Cert.Retention
open Cert.Kernel2Ideal.Body (nrm prj prj_congr)

variable (m : (ℓ : Loc nD τ sig) → Buf (Elt Ideal) ℓ) (c : Dev nD)

/-- One row of the input. -/
def X (r : Fin 65536) (k : Fin 1024) : EReal := m ((c.tc : Thread nD τ).loc main_arg0) (ix2 r k)
/-- The weights of the norm. -/
def G (k : Fin 1024) : EReal := m ((c.tc : Thread nD τ).loc main_arg1) (ix1 k)
/-- One column of the weights, zero past the last. -/
def Wc (n : ℕ) (k : Fin 1024) : EReal := if h : n < 4168 then m ((c.tc : Thread nD τ).loc main_arg2) (ix2 k ⟨n, h⟩) else 0
/-- One entry of the projection. -/
def pr (r : Fin 65536) (n : ℕ) : EReal := prj (X m c r) (G m c) (Wc m c n)

/-- The whole projection. -/
def proj : FVec Ideal S65536x4168 .f32 := Host.dotGeneral (φ₂ := .f32) dot_S65536x1024_S1024x4168_S65536x4168_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))

/-- Every entry of the whole projection. -/
theorem proj_val (r : Fin 65536) (n : Fin 4168) : @Eq EReal (proj m c (ix2 r n)) (pr m c r n) := by
  have h : @Eq EReal (proj m c (ix2 r n)) (prj (X m c r) (G m c) (fun k => m ((c.tc : Thread nD τ).loc main_arg2) (ix2 k n))) := by
    unfold proj prj nrm X G
    pointwise
  rw [h]
  exact prj_congr (fun _ => rfl) (fun _ => rfl) (fun k => by unfold Wc; rw [dif_pos n.isLt])

/-- The retention queries. -/
theorem ref7 (r : Fin 65536) (j : Fin 512) : @Eq EReal ((extractStridedSlice S65536x512 ![0, 0] (proj m c) slices_S65536x4168_S65536x512_0_0) (ix2 r j)) (pr m c r (0 + (j : ℕ))) := by
  refine Eq.trans ?_ (proj_val m c r ⟨0 + (j : ℕ), by omega⟩)
  pointwise

/-- The retention keys. -/
theorem ref8 (r : Fin 65536) (j : Fin 512) : @Eq EReal ((extractStridedSlice S65536x512 ![0, 512] (proj m c) slices_S65536x4168_S65536x512_0_512) (ix2 r j)) (pr m c r (512 + (j : ℕ))) := by
  refine Eq.trans ?_ (proj_val m c r ⟨512 + (j : ℕ), by omega⟩)
  pointwise

/-- The retention values. -/
theorem ref9 (r : Fin 65536) (j : Fin 512) : @Eq EReal ((truncf .bf16 (extractStridedSlice S65536x512 ![0, 1024] (proj m c) slices_S65536x4168_S65536x512_0_1024) bitsLt_bf16_f32) (ix2 r j)) (pr m c r (1024 + (j : ℕ))) := by
  refine Eq.trans ?_ (proj_val m c r ⟨1024 + (j : ℕ), by omega⟩)
  pointwise

/-- The retention gates. -/
theorem ref10 (r : Fin 65536) (j : Fin 512) : @Eq EReal ((extractStridedSlice S65536x512 ![0, 1536] (proj m c) slices_S65536x4168_S65536x512_0_1536) (ix2 r j)) (pr m c r (1536 + (j : ℕ))) := by
  refine Eq.trans ?_ (proj_val m c r ⟨1536 + (j : ℕ), by omega⟩)
  pointwise

/-- The attention keys, one row per head. -/
theorem ref11 (q : Fin 262144) (j : Fin 128) :
    @Eq EReal ((shapeCast S262144x128 (extractStridedSlice S65536x512 ![0, 2560] (proj m c) slices_S65536x4168_S65536x512_0_2560) shapeCasts_S65536x512_S262144x128) (ix2 q j)) (pr m c ⟨(q : ℕ) / 4, by omega⟩ (2560 + (128 * ((q : ℕ) % 4) + (j : ℕ)))) := by
  refine Eq.trans ?_ (proj_val m c ⟨(q : ℕ) / 4, by omega⟩ ⟨2560 + (128 * ((q : ℕ) % 4) + (j : ℕ)), by omega⟩)
  pointwise
  exact congrArg (fun n : Fin 4168 => proj m c (ix2 ⟨(q : ℕ) / 4, by omega⟩ n)) (Fin.ext (by dsimp only; omega))

/-- The attention values, one row per head. -/
theorem ref12 (q : Fin 262144) (j : Fin 128) :
    @Eq EReal ((shapeCast S262144x128 (extractStridedSlice S65536x512 ![0, 3072] (proj m c) slices_S65536x4168_S65536x512_0_3072) shapeCasts_S65536x512_S262144x128) (ix2 q j)) (pr m c ⟨(q : ℕ) / 4, by omega⟩ (3072 + (128 * ((q : ℕ) % 4) + (j : ℕ)))) := by
  refine Eq.trans ?_ (proj_val m c ⟨(q : ℕ) / 4, by omega⟩ ⟨3072 + (128 * ((q : ℕ) % 4) + (j : ℕ)), by omega⟩)
  pointwise
  exact congrArg (fun n : Fin 4168 => proj m c (ix2 ⟨(q : ℕ) / 4, by omega⟩ n)) (Fin.ext (by dsimp only; omega))

/-- The attention keys. -/
theorem ref13 (r : Fin 65536) (j : Fin 512) : @Eq EReal ((truncf .bf16 (extractStridedSlice S65536x512 ![0, 2560] (proj m c) slices_S65536x4168_S65536x512_0_2560) bitsLt_bf16_f32) (ix2 r j)) (pr m c r (2560 + (j : ℕ))) := by
  refine Eq.trans ?_ (proj_val m c r ⟨2560 + (j : ℕ), by omega⟩)
  pointwise

/-- The attention values. -/
theorem ref14 (r : Fin 65536) (j : Fin 512) : @Eq EReal ((truncf .bf16 (extractStridedSlice S65536x512 ![0, 3072] (proj m c) slices_S65536x4168_S65536x512_0_3072) bitsLt_bf16_f32) (ix2 r j)) (pr m c r (3072 + (j : ℕ))) := by
  refine Eq.trans ?_ (proj_val m c r ⟨3072 + (j : ℕ), by omega⟩)
  pointwise

/-- The index keys. -/
theorem ref15 (r : Fin 65536) (j : Fin 64) : @Eq EReal ((extractStridedSlice S65536x64 ![0, 4096] (proj m c) slices_S65536x4168_S65536x64_0_4096) (ix2 r j)) (pr m c r (4096 + (j : ℕ))) := by
  refine Eq.trans ?_ (proj_val m c r ⟨4096 + (j : ℕ), by omega⟩)
  pointwise

/-- The transposed attention queries. -/
theorem ref16 (j : Fin 512) (r : Fin 65536) : @Eq EReal ((truncf .bf16 (transpose S512x65536 [1, 0] (extractStridedSlice S65536x512 ![0, 2048] (proj m c) slices_S65536x4168_S65536x512_0_2048) transposes_S65536x512_S512x65536_1_0) bitsLt_bf16_f32) (ix2 j r)) (pr m c r (2048 + (j : ℕ))) := by
  refine Eq.trans ?_ (proj_val m c r ⟨2048 + (j : ℕ), by omega⟩)
  pointwise

/-- The transposed index queries. -/
theorem ref17 (j : Fin 512) (r : Fin 65536) : @Eq EReal ((truncf .bf16 (transpose S512x65536 [1, 0] (extractStridedSlice S65536x512 ![0, 3584] (proj m c) slices_S65536x4168_S65536x512_0_3584) transposes_S65536x512_S512x65536_1_0) bitsLt_bf16_f32) (ix2 j r)) (pr m c r (3584 + (j : ℕ))) := by
  refine Eq.trans ?_ (proj_val m c r ⟨3584 + (j : ℕ), by omega⟩)
  pointwise

/-- The transposed index keys and weights. -/
theorem ref18 (j : Fin 128) (r : Fin 65536) :
    @Eq EReal ((transpose S128x65536 [1, 0] (pad S65536x128 ![0, 0] ![0, 56] ![0, 0] (concatenate S65536x72 1 [⟨S65536x64, (extractStridedSlice S65536x64 ![0, 4096] (proj m c) slices_S65536x4168_S65536x64_0_4096)⟩, ⟨S65536x8, (extractStridedSlice S65536x8 ![0, 4160] (proj m c) slices_S65536x4168_S65536x8_0_4160)⟩] concatenates_S65536x64_S65536x8_S65536x72_d1) (sitofp .f32 (constantI S_ 32 0#32)) pads_S65536x72_S65536x128_000_0560 h_S_) transposes_S65536x128_S128x65536_1_0) (ix2 j r)) (pr m c r (4096 + (j : ℕ))) := by
  by_cases h : (j : ℕ) < 64
  · refine Eq.trans ?_ (proj_val m c r ⟨4096 + (j : ℕ), by omega⟩)
    pointwise
    rw [dif_pos (by omega), dif_pos h]
  · by_cases h' : (j : ℕ) < 72
    · refine Eq.trans ?_ (proj_val m c r ⟨4096 + (j : ℕ), by omega⟩)
      pointwise
      rw [dif_pos h', dif_neg h]
      exact congrArg (fun n : Fin 4168 => proj m c (ix2 r n)) (Fin.ext (by dsimp only; omega))
    · have z : pr m c r (4096 + (j : ℕ)) = 0 := by
        unfold pr prj Wc
        simp [show ¬ (4096 + (j : ℕ) < 4168) by omega]
      rw [z]
      pointwise
      rw [dif_neg h']
      exact Cert.Kernel2Ideal.Body.word_zero

end Cert.Reference2Ideal.Value
-- ==== Proof.InClaim.lean ====
module

public import proofs.«01_k».proof.Proof.InRef
public import proofs.«01_k».proof.Defs
public import Idealize.ShloMosaic.Lib.Claim

/-!
  The input projection's program equals the plain one, and the plain one's frame.
-/

@[expose] public section

set_option maxRecDepth 16384

noncomputable section

namespace Cert.Inproj

open Idealize.ShloMosaic Idealize.ShloMosaic.TcCoe Idealize.SL.Sem

section
open Cert.Kernel2Ideal Cert.Kernel2Ideal.Gen Cert.Kernel2Ideal.Body

/-- The kernel's program ends with every result array as the launch leaves it, and the arguments unchanged. -/
theorem run_K (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v11_0) = (dats m 0 c).arrAt 7 cfg0.N
      ∧ r.2.mem ((c : Thread nD τ).loc main_v11_1) = (dats m 0 c).arrAt 8 cfg0.N
      ∧ r.2.mem ((c : Thread nD τ).loc main_v11_2) = (dats m 0 c).arrAt 9 cfg0.N
      ∧ r.2.mem ((c : Thread nD τ).loc main_v11_3) = (dats m 0 c).arrAt 10 cfg0.N
      ∧ r.2.mem ((c : Thread nD τ).loc main_v11_4) = (dats m 0 c).arrAt 11 cfg0.N
      ∧ r.2.mem ((c : Thread nD τ).loc main_v11_5) = (dats m 0 c).arrAt 12 cfg0.N
      ∧ r.2.mem ((c : Thread nD τ).loc main_v11_6) = (dats m 0 c).arrAt 13 cfg0.N
      ∧ r.2.mem ((c : Thread nD τ).loc main_v11_7) = (dats m 0 c).arrAt 14 cfg0.N
      ∧ r.2.mem ((c : Thread nD τ).loc main_v11_8) = (dats m 0 c).arrAt 15 cfg0.N
      ∧ r.2.mem ((c : Thread nD τ).loc main_v11_9) = (dats m 0 c).arrAt 16 cfg0.N
      ∧ r.2.mem ((c : Thread nD τ).loc main_v11_10) = (dats m 0 c).arrAt 17 cfg0.N
      ∧ r.2.mem ((c : Thread nD τ).loc main_v11_11) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 7, (h c).1 8, (h c).1 9, (h c).1 10, (h c).1 11, (h c).1 12, (h c).1 13, (h c).1 14, (h c).1 15, (h c).1 16, (h c).1 17, (h c).1 18,
      ((h c).1 0).trans (((dats m 0 c).arrAt_in 0 rfl _).trans ((A_eq m c 0).trans (V_arg0 m c))),
      ((h c).2 main_arg1 (Pipeline.mem_restRefs_of main_arg1 (by decide) (by decide))).trans (V_arg1 m c),
      ((h c).2 main_arg2 (Pipeline.mem_restRefs_of main_arg2 (by decide) (by decide))).trans (V_arg2 m c)⟩) (run_arrays m ρ)

end

/-- The plain program leaves its arguments unchanged and every counter at zero. -/
theorem frame_R : Cert.quiescent_Reference2Ideal := fun m g _ =>
  (θ_run Cert.Reference2Ideal.defs _ _).mono (fun r h => ⟨fun c => (h c).2.2.2.2.2.2.2.2.2.2.2.2,
      Idealize.ShloMosaic.sem_eq_zero_of_no_sems (by decide) r.2⟩)
    (Cert.Reference2Ideal.Value.run (F := Ideal) m g)

section
open Cert.Kernel2Ideal Cert.Kernel2Ideal.Gen Cert.Kernel2Ideal.Body

variable (m : (ℓ : Loc nD τ sig) → Buf (Elt Ideal) ℓ)
  (m' : (ℓ : Loc Cert.Reference2Ideal.nD Cert.Reference2Ideal.τ Cert.Reference2Ideal.sig) → Buf (Elt Ideal) ℓ) (c : Dev nD)
  (h0 : m' ((c.tc : Thread Cert.Reference2Ideal.nD Cert.Reference2Ideal.τ).loc Cert.Reference2Ideal.main_arg0) = m ((c.tc : Thread nD τ).loc main_arg0))
  (h1 : m' ((c.tc : Thread Cert.Reference2Ideal.nD Cert.Reference2Ideal.τ).loc Cert.Reference2Ideal.main_arg1) = m ((c.tc : Thread nD τ).loc main_arg1))
  (h2 : m' ((c.tc : Thread Cert.Reference2Ideal.nD Cert.Reference2Ideal.τ).loc Cert.Reference2Ideal.main_arg2) = m ((c.tc : Thread nD τ).loc main_arg2))

include h0 h1 h2 in
/-- On equal arguments the two projections have equal entries. -/
theorem pr_same (r : Fin 65536) (n : ℕ) : Cert.Reference2Ideal.Value.pr m' c r n = Cert.Kernel2Ideal.Body.pr m c r n := by
  refine prj_congr (fun k => congrFun h0 _) (fun k => congrFun h1 _) (fun k => ?_)
  unfold Cert.Reference2Ideal.Value.Wc Cert.Kernel2Ideal.Body.Wc
  by_cases h : n < 4168
  · rw [dif_pos h, dif_pos h]; exact congrFun h2 _
  · rw [dif_neg h, dif_neg h]

/-- A tensor equal to an array entry by entry is that array. -/
theorem tens {R C : ℕ} {f g : (⟨2, ![R, C]⟩ : Shape).Idx → EReal} (h : ∀ (i : Fin R) (j : Fin C), f (ix2 i j) = g (ix2 i j)) : f = g := by
  funext y
  obtain ⟨i, j, rfl⟩ := Retention.pair R C y
  exact h i j

end

/-- The kernel's results are the reference's. -/
theorem algebraic : @Cert.algebraic_Kernel2Ideal_Reference2Ideal Cert.Kernel2Ideal.Gen.facts Cert.Reference2Ideal.Gen.facts := by
  pair_intro
  · run_from run_K m g
  · refine (θ_run Cert.Reference2Ideal.defs _ _).mono (fun r h c => ?_) (Cert.Reference2Ideal.Value.run (F := Ideal) m' g')
    obtain ⟨h0, h1, h2⟩ := hagree c
    obtain ⟨e7, e8, e9, e10, e11, e12, e13, e14, e15, e16, e17, e18, e0, e1, e2⟩ := h c
    have same := pr_same m m' c h0 h1 h2
    refine ⟨e7.trans ?_, e8.trans ?_, e9.trans ?_, e10.trans ?_, e11.trans ?_, e12.trans ?_, e13.trans ?_, e14.trans ?_, e15.trans ?_, e16.trans ?_, e17.trans ?_, e18.trans ?_, e0, e1, e2⟩
    · exact Eq.trans (tens fun i j => (Cert.Reference2Ideal.Value.ref7 m' c i j).trans (same _ _)) (Cert.Kernel2Ideal.Body.arr7 m c).symm
    · exact Eq.trans (tens fun i j => (Cert.Reference2Ideal.Value.ref8 m' c i j).trans (same _ _)) (Cert.Kernel2Ideal.Body.arr8 m c).symm
    · exact Eq.trans (tens fun i j => (Cert.Reference2Ideal.Value.ref9 m' c i j).trans (same _ _)) (Cert.Kernel2Ideal.Body.arr9 m c).symm
    · exact Eq.trans (tens fun i j => (Cert.Reference2Ideal.Value.ref10 m' c i j).trans (same _ _)) (Cert.Kernel2Ideal.Body.arr10 m c).symm
    · exact Eq.trans (tens fun i j => (Cert.Reference2Ideal.Value.ref11 m' c i j).trans (same _ _)) (Cert.Kernel2Ideal.Body.arr11 m c).symm
    · exact Eq.trans (tens fun i j => (Cert.Reference2Ideal.Value.ref12 m' c i j).trans (same _ _)) (Cert.Kernel2Ideal.Body.arr12 m c).symm
    · exact Eq.trans (tens fun i j => (Cert.Reference2Ideal.Value.ref13 m' c i j).trans (same _ _)) (Cert.Kernel2Ideal.Body.arr13 m c).symm
    · exact Eq.trans (tens fun i j => (Cert.Reference2Ideal.Value.ref14 m' c i j).trans (same _ _)) (Cert.Kernel2Ideal.Body.arr14 m c).symm
    · exact Eq.trans (tens fun i j => (Cert.Reference2Ideal.Value.ref15 m' c i j).trans (same _ _)) (Cert.Kernel2Ideal.Body.arr15 m c).symm
    · exact Eq.trans (tens fun i j => (Cert.Reference2Ideal.Value.ref16 m' c i j).trans (same _ _)) (Cert.Kernel2Ideal.Body.arr16 m c).symm
    · exact Eq.trans (tens fun i j => (Cert.Reference2Ideal.Value.ref17 m' c i j).trans (same _ _)) (Cert.Kernel2Ideal.Body.arr17 m c).symm
    · exact Eq.trans (tens fun i j => (Cert.Reference2Ideal.Value.ref18 m' c i j).trans (same _ _)) (Cert.Kernel2Ideal.Body.arr18 m c).symm

end Cert.Inproj
-- ==== Proof.SaFrame.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.Claim

/-!
  The frame of the input projection of the sample batch: what each output block holds after the body as a function of the input blocks,
  the body's run, the launch over the grid, and that the arguments end unchanged.
-/

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1024x4096 := Rect.unit (s := S1024x4096) ![0, 0] S1024x512.size inb_S1024x4096_S1024x512_0_0
abbrev r0_3 : Rect S512x512 := Rect.unit (s := S512x512) ![0, 0] S512x512.size inb_S512x512_S512x512_0_0
abbrev r0_4 : Rect S1024x4096 := Rect.unit (s := S1024x4096) ![0, 512] S1024x512.size inb_S1024x4096_S1024x512_0_512
abbrev r0_5 : Rect S1024x4096 := Rect.unit (s := S1024x4096) ![0, 1024] S1024x512.size inb_S1024x4096_S1024x512_0_1024
abbrev r0_6 : Rect S1024x4096 := Rect.unit (s := S1024x4096) ![0, 1536] S1024x512.size inb_S1024x4096_S1024x512_0_1536
abbrev r0_7 : Rect S1024x4096 := Rect.unit (s := S1024x4096) ![0, 2560] S1024x512.size inb_S1024x4096_S1024x512_0_2560
abbrev r0_8 : Rect S2048x128 := ⟨(⟨![0, 0], S512x128.size, ![4, 1], inb_S2048x128_S512x128_0_0_s_4_1⟩ : LoadRect S2048x128), spos_4_1⟩
abbrev r0_9 : Rect S2048x128 := ⟨(⟨![1, 0], S512x128.size, ![4, 1], inb_S2048x128_S512x128_1_0_s_4_1⟩ : LoadRect S2048x128), spos_4_1⟩
abbrev r0_10 : Rect S2048x128 := ⟨(⟨![2, 0], S512x128.size, ![4, 1], inb_S2048x128_S512x128_2_0_s_4_1⟩ : LoadRect S2048x128), spos_4_1⟩
abbrev r0_11 : Rect S2048x128 := ⟨(⟨![3, 0], S512x128.size, ![4, 1], inb_S2048x128_S512x128_3_0_s_4_1⟩ : LoadRect S2048x128), spos_4_1⟩
abbrev r0_12 : Rect S1024x4096 := Rect.unit (s := S1024x4096) ![0, 3072] S1024x512.size inb_S1024x4096_S1024x512_0_3072
abbrev r0_13 : Rect S1024x128 := Rect.unit (s := S1024x128) ![0, 0] S1024x128.size inb_S1024x128_S1024x128_0_0
abbrev r0_14 : Rect S512x64 := Rect.unit (s := S512x64) ![0, 0] S512x64.size inb_S512x64_S512x64_0_0
abbrev r0_15 : Rect S128x1024 := Rect.unit (s := S128x1024) ![0, 0] S128x1024.size inb_S128x1024_S128x1024_0_0
abbrev r0_16 : Rect S128x512 := Rect.unit (s := S128x512) ![0, 0] S128x512.size inb_S128x512_S128x512_0_0

/-- Four stores of stride four, one from each of the rows 0, 1, 2, 3, together cover a block of 2048 rows. -/
theorem cover_strided (p0 p1 p2 p3 : Vec F S512x128 .f32) (y : S2048x128.Idx) :
    ∃ pc ∈ ([⟨r0_11, p0⟩, ⟨r0_10, p1⟩, ⟨r0_9, p2⟩, ⟨r0_8, p3⟩] : List (View.Piece (Elt F) S2048x128 .f32)), y ∈ pc.1.set := by
  have h0 : (y 0 : ℕ) < 2048 := (y 0).isLt
  have h1 : (y 1 : ℕ) < 128 := (y 1).isLt
  have hr : (y 0 : ℕ) % 4 = 3 ∨ (y 0 : ℕ) % 4 = 2 ∨ (y 0 : ℕ) % 4 = 1 ∨ (y 0 : ℕ) % 4 = 0 := by omega
  have key : ∀ o : ℕ, (y 0 : ℕ) % 4 = o → ∀ a : Fin 2, ∃ j < S512x128.size a, (y a : ℕ) = (![o, 0] : Fin 2 → ℕ) a + (![4, 1] : Fin 2 → ℕ) a * j := by
    intro o ho a
    match a with
    | 0 => exact ⟨(y 0 : ℕ) / 4, show (y 0 : ℕ) / 4 < 512 by omega, show (y 0 : ℕ) = o + 4 * ((y 0 : ℕ) / 4) by omega⟩
    | 1 => exact ⟨(y 1 : ℕ), h1, show (y 1 : ℕ) = 0 + 1 * (y 1 : ℕ) by omega⟩
  rcases hr with h | h | h | h
  · exact ⟨_, List.mem_cons_self, (LoadRect.mem_set _).mpr (key 3 h)⟩
  · exact ⟨_, List.mem_cons_of_mem _ List.mem_cons_self, (LoadRect.mem_set _).mpr (key 2 h)⟩
  · exact ⟨_, List.mem_cons_of_mem _ (List.mem_cons_of_mem _ List.mem_cons_self), (LoadRect.mem_set _).mpr (key 1 h)⟩
  · exact ⟨_, List.mem_cons_of_mem _ (List.mem_cons_of_mem _ (List.mem_cons_of_mem _ List.mem_cons_self)), (LoadRect.mem_set _).mpr (key 0 h)⟩

def out0_7 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .f32 :=
  View.canon [⟨r0_3, k0_pay8 (View.ld x0 r0_0) (View.ld x1 r0_1) (View.ld x2 r0_2)⟩]

theorem cover0_7 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

def out0_8 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .f32 :=
  View.canon [⟨r0_3, k0_pay9 (View.ld x0 r0_0) (View.ld x1 r0_1) (View.ld x2 r0_4)⟩]

theorem cover0_8 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

def out0_9 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .bf16 :=
  View.canon [⟨r0_3, k0_pay10 (View.ld x0 r0_0) (View.ld x1 r0_1) (View.ld x2 r0_5)⟩]

theorem cover0_9 (p0 : Vec F S512x512 .bf16) (y : S512x512.Idx) :
    ∃ pc ∈ ([⟨r0_3, p0⟩] : List (View.Piece (Elt F) S512x512 .bf16)), y ∈ pc.1.set :=
  View.cover_of_tiled [⟨r0_3, p0⟩] S512x512.size (by rfl) y

def out0_10 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .f32 :=
  View.canon [⟨r0_3, k0_pay12 (k0_pay7 (View.ld x0 r0_0) (View.ld x1 r0_1)) (k0_pay11 (View.ld x2 r0_6)) (constant S512x512 .f32 0x00000000#32)⟩]

theorem cover0_10 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

def out0_11 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S2048x128 .f32 :=
  View.canon [⟨r0_11, k0_pay18 (k0_pay7 (View.ld x0 r0_0) (View.ld x1 r0_1)) (View.ld x2 r0_7)⟩,
    ⟨r0_10, k0_pay17 (k0_pay7 (View.ld x0 r0_0) (View.ld x1 r0_1)) (View.ld x2 r0_7)⟩,
    ⟨r0_9, k0_pay16 (k0_pay7 (View.ld x0 r0_0) (View.ld x1 r0_1)) (View.ld x2 r0_7)⟩,
    ⟨r0_8, k0_pay15 (k0_pay7 (View.ld x0 r0_0) (View.ld x1 r0_1)) (View.ld x2 r0_7)⟩]

theorem cover0_11 (p0 : Vec F S512x128 .f32) (p1 : Vec F S512x128 .f32) (p2 : Vec F S512x128 .f32) (p3 : Vec F S512x128 .f32) (y : S2048x128.Idx) :
    ∃ pc ∈ ([⟨r0_11, p0⟩, ⟨r0_10, p1⟩, ⟨r0_9, p2⟩, ⟨r0_8, p3⟩] : List (View.Piece (Elt F) S2048x128 .f32)), y ∈ pc.1.set :=
  cover_strided p0 p1 p2 p3 y

def out0_12 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S2048x128 .f32 :=
  View.canon [⟨r0_11, k0_pay2 (k0_pay20 (k0_pay7 (View.ld x0 r0_0) (View.ld x1 r0_1)) (View.ld x2 r0_12))⟩,
    ⟨r0_10, k0_pay1 (k0_pay20 (k0_pay7 (View.ld x0 r0_0) (View.ld x1 r0_1)) (View.ld x2 r0_12))⟩,
    ⟨r0_9, k0_pay22 (k0_pay7 (View.ld x0 r0_0) (View.ld x1 r0_1)) (View.ld x2 r0_12)⟩,
    ⟨r0_8, k0_pay21 (k0_pay7 (View.ld x0 r0_0) (View.ld x1 r0_1)) (View.ld x2 r0_12)⟩]

theorem cover0_12 (p0 : Vec F S512x128 .f32) (p1 : Vec F S512x128 .f32) (p2 : Vec F S512x128 .f32) (p3 : Vec F S512x128 .f32) (y : S2048x128.Idx) :
    ∃ pc ∈ ([⟨r0_11, p0⟩, ⟨r0_10, p1⟩, ⟨r0_9, p2⟩, ⟨r0_8, p3⟩] : List (View.Piece (Elt F) S2048x128 .f32)), y ∈ pc.1.set :=
  cover_strided p0 p1 p2 p3 y

def out0_13 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .bf16 :=
  View.canon [⟨r0_3, k0_pay19 (k0_pay7 (View.ld x0 r0_0) (View.ld x1 r0_1)) (View.ld x2 r0_7)⟩]

theorem cover0_13 (p0 : Vec F S512x512 .bf16) (y : S512x512.Idx) :
    ∃ pc ∈ ([⟨r0_3, p0⟩] : List (View.Piece (Elt F) S512x512 .bf16)), y ∈ pc.1.set :=
  View.cover_of_tiled [⟨r0_3, p0⟩] S512x512.size (by rfl) y

def out0_14 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .bf16 :=
  View.canon [⟨r0_3, k0_pay3 (k0_pay20 (k0_pay7 (View.ld x0 r0_0) (View.ld x1 r0_1)) (View.ld x2 r0_12))⟩]

theorem cover0_14 (p0 : Vec F S512x512 .bf16) (y : S512x512.Idx) :
    ∃ pc ∈ ([⟨r0_3, p0⟩] : List (View.Piece (Elt F) S512x512 .bf16)), y ∈ pc.1.set :=
  View.cover_of_tiled [⟨r0_3, p0⟩] S512x512.size (by rfl) y

def out0_15 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x64 .f32 :=
  View.canon [⟨r0_14, k0_pay5 (k0_pay7 (View.ld x0 r0_0) (View.ld x1 r0_1)) (View.ld x3 r0_13)⟩]

theorem cover0_15 (p0 : Vec F S512x64 .f32) (y : S512x64.Idx) :
    ∃ pc ∈ ([⟨r0_14, p0⟩] : List (View.Piece (Elt F) S512x64 .f32)), y ∈ pc.1.set :=
  View.cover_of_tiled [⟨r0_14, p0⟩] S512x64.size (by rfl) y

def out0_16 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .bf16 :=
  View.canon [⟨r0_3, k0_pay13 (k0_pay7 (View.ld x0 r0_0) (View.ld x1 r0_1)) (View.ld x4 r0_0)⟩]

theorem cover0_16 (p0 : Vec F S512x512 .bf16) (y : S512x512.Idx) :
    ∃ pc ∈ ([⟨r0_3, p0⟩] : List (View.Piece (Elt F) S512x512 .bf16)), y ∈ pc.1.set :=
  View.cover_of_tiled [⟨r0_3, p0⟩] S512x512.size (by rfl) y

def out0_17 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S512x512 .bf16 :=
  View.canon [⟨r0_3, k0_pay4 (k0_pay7 (View.ld x0 r0_0) (View.ld x1 r0_1)) (View.ld x5 r0_0)⟩]

theorem cover0_17 (p0 : Vec F S512x512 .bf16) (y : S512x512.Idx) :
    ∃ pc ∈ ([⟨r0_3, p0⟩] : List (View.Piece (Elt F) S512x512 .bf16)), y ∈ pc.1.set :=
  View.cover_of_tiled [⟨r0_3, p0⟩] S512x512.size (by rfl) y

def out0_18 (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) : Vec F S128x512 .f32 :=
  View.canon [⟨r0_16, k0_pay6 (k0_pay7 (View.ld x0 r0_0) (View.ld x1 r0_1)) (View.ld x6 r0_15)⟩]

theorem cover0_18 (p0 : Vec F S128x512 .f32) (y : S128x512.Idx) :
    ∃ pc ∈ ([⟨r0_16, p0⟩] : List (View.Piece (Elt F) S128x512 .f32)), y ∈ pc.1.set :=
  View.cover_of_tiled [⟨r0_16, p0⟩] S128x512.size (by rfl) y

set_option maxHeartbeats 1000000 in
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S128x1024 .bf16) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x64 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S128x512 .f32) (harg19 : arg19.IsWhole)
    (x0 : Vec F S512x1024 .f32) (x1 : Vec F S1x1024 .f32) (x2 : Vec F S1024x4096 .bf16) (x3 : Vec F S1024x128 .bf16) (x4 : Vec F S512x1024 .bf16) (x5 : Vec F S512x1024 .bf16) (x6 : Vec F S128x1024 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6) ∗ owns (c : Thread nD τ) arg11 fullShare (out0_10 x0 x1 x2 x3 x4 x5 x6) ∗ owns (c : Thread nD τ) arg12 fullShare (out0_11 x0 x1 x2 x3 x4 x5 x6) ∗ owns (c : Thread nD τ) arg13 fullShare (out0_12 x0 x1 x2 x3 x4 x5 x6) ∗ owns (c : Thread nD τ) arg14 fullShare (out0_13 x0 x1 x2 x3 x4 x5 x6) ∗ owns (c : Thread nD τ) arg15 fullShare (out0_14 x0 x1 x2 x3 x4 x5 x6) ∗ owns (c : Thread nD τ) arg16 fullShare (out0_15 x0 x1 x2 x3 x4 x5 x6) ∗ owns (c : Thread nD τ) arg17 fullShare (out0_16 x0 x1 x2 x3 x4 x5 x6) ∗ owns (c : Thread nD τ) arg18 fullShare (out0_17 x0 x1 x2 x3 x4 x5 x6) ∗ owns (c : Thread nD τ) arg19 fullShare (out0_18 x0 x1 x2 x3 x4 x5 x6)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_inproj_eq_skeleton]; unfold cc0_inproj_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _ _ _ _)
  isplitl [H12]
  · iexists _; isplitr
    swap; · iexact H12
    ipureintro
    exact View.read_writes_eq_canon _ _ _ (cover0_12 _ _ _ _)
  isplitl [H13]
  · iexists _; isplitr
    swap; · iexact H13
    ipureintro
    exact View.read_writes_eq_canon _ _ _ (cover0_13 _)
  isplitl [H14]
  · iexists _; isplitr
    swap; · iexact H14
    ipureintro
    exact View.read_writes_eq_canon _ _ _ (cover0_14 _)
  isplitl [H15]
  · iexists _; isplitr
    swap; · iexact H15
    ipureintro
    exact View.read_writes_eq_canon _ _ _ (cover0_15 _)
  isplitl [H16]
  · iexists _; isplitr
    swap; · iexact H16
    ipureintro
    exact View.read_writes_eq_canon _ _ _ (cover0_16 _)
  isplitl [H17]
  · iexists _; isplitr
    swap; · iexact H17
    ipureintro
    exact View.read_writes_eq_canon _ _ _ (cover0_17 _)
  iexists _; isplitr
  swap; · iexact H18
  ipureintro
  exact View.read_writes_eq_canon _ _ _ (cover0_18 _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
    | ⟨9, _⟩ => out0_9 (iblk m c 0 t) (iblk m c 1 t) (iblk m c 2 t) (iblk m c 3 t) (iblk m c 4 t) (iblk m c 5 t) (iblk m c 6 t)
    | ⟨10, _⟩ => out0_10 (iblk m c 0 t) (iblk m c 1 t) (iblk m c 2 t) (iblk m c 3 t) (iblk m c 4 t) (iblk m c 5 t) (iblk m c 6 t)
    | ⟨11, _⟩ => out0_11 (iblk m c 0 t) (iblk m c 1 t) (iblk m c 2 t) (iblk m c 3 t) (iblk m c 4 t) (iblk m c 5 t) (iblk m c 6 t)
    | ⟨12, _⟩ => out0_12 (iblk m c 0 t) (iblk m c 1 t) (iblk m c 2 t) (iblk m c 3 t) (iblk m c 4 t) (iblk m c 5 t) (iblk m c 6 t)
    | ⟨13, _⟩ => out0_13 (iblk m c 0 t) (iblk m c 1 t) (iblk m c 2 t) (iblk m c 3 t) (iblk m c 4 t) (iblk m c 5 t) (iblk m c 6 t)
    | ⟨14, _⟩ => out0_14 (iblk m c 0 t) (iblk m c 1 t) (iblk m c 2 t) (iblk m c 3 t) (iblk m c 4 t) (iblk m c 5 t) (iblk m c 6 t)
    | ⟨15, _⟩ => out0_15 (iblk m c 0 t) (iblk m c 1 t) (iblk m c 2 t) (iblk m c 3 t) (iblk m c 4 t) (iblk m c 5 t) (iblk m c 6 t)
    | ⟨16, _⟩ => out0_16 (iblk m c 0 t) (iblk m c 1 t) (iblk m c 2 t) (iblk m c 3 t) (iblk m c 4 t) (iblk m c 5 t) (iblk m c 6 t)
    | ⟨17, _⟩ => out0_17 (iblk m c 0 t) (iblk m c 1 t) (iblk m c 2 t) (iblk m c 3 t) (iblk m c 4 t) (iblk m c 5 t) (iblk m c 6 t)
    | ⟨18, _⟩ => out0_18 (iblk m c 0 t) (iblk m c 1 t) (iblk m c 2 t) (iblk m c 3 t) (iblk m c 4 t) (iblk m c 5 t) (iblk m c 6 t)
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before0_6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The launch: the program terminates, every window's array ends as the proof data compute it, every other buffer as
    the launch found it, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The run without the counters. -/
theorem run_arrays : θ_run defs (onTc (τ := τ) (main (F := F))) (s₀ m ρ) (Pipeline.FramePost cfgs (dats m) 0 (V m)) :=
  (θ_run defs _ _).mono (fun _ h => h.1) (run_quiet m ρ)

/-- No host operation before the launch writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation before the launch writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host operation before the launch writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The frame of the input projection of the sample batch: it terminates, its arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans ((A_eq m c 0).trans (V_arg0 m c))),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c)⟩, h.2⟩) (run_quiet m ρ)

end Cert.Kernel3Ideal.Body

end
-- ==== Proof.SaSpec.lean ====
module

public import proofs.«01_k».proof.Proof.SaFrame
public import proofs.«01_k».proof.Proof.Spec
public import Idealize.ShloMosaic.Lib.Pipeline.ValueKit
public import Idealize.ShloMosaic.Lib.Pointwise
public import Idealize.ShloMosaic.Lib.StableHlo.RunRead
public import Idealize.ShloMosaic.Lib.StableHlo.RunLoop

/-!
  The input projection of the sample batch: what each output block holds, entry by entry, and the weights the host prepares.
-/

@[expose] public section

set_option maxRecDepth 16384

noncomputable section

namespace Cert.Kernel3Ideal.Body

open Cert.Kernel3Ideal Cert.Kernel3Ideal.Gen Idealize.ShloMosaic Idealize.ShloMosaic.TcCoe Idealize.SL.Sem Cert.Retention

/-- One entry of a row divided by the root of its mean square (plus the printed small constant) and scaled by its weight. -/
def nrm (x g : Fin 1024 → EReal) (k : Fin 1024) : EReal :=
  x k * Ideal.rsqrt (Ideal.div (∑ l, x l * x l) (Ideal.ofBits FTy.f32 1149239296#32) + Ideal.ofBits FTy.f32 897988541#32) * g k

/-- One entry of the projection: the normalised row times one column of the weights. -/
def prj (x g w : Fin 1024 → EReal) : EReal := ∑ k, nrm x g k * w k

/-- The kernel's normalised rows. -/
theorem pay7_val (x : Vec Ideal S512x1024 .f32) (g : Vec Ideal S1x1024 .f32) (i : Fin 512) (k : Fin 1024) :
    @Eq EReal (k0_pay7 x g (ix2 i k)) (nrm (fun l => x (ix2 i l)) (fun l => g (ix2 0 l)) k) := by
  unfold k0_pay7
  pointwise
  rfl

/-- The retention queries of one block. -/
theorem out7_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_7 x0 x1 x2 x3 x4 x5 x6 (ix2 i j)) (prj (fun k => x0 (ix2 i k)) (fun k => x1 (ix2 0 k)) (fun k => x2 (ix2 k ⟨(j : ℕ), by omega⟩))) := by
  unfold out0_7
  rw [View.canon_unit_zero (by funext a; fin_cases a <;> rfl)]
  unfold k0_pay8
  simp only [View.ld_unit]
  pointwise
  simp only [pay7_val]
  pointwise
  unfold prj
  refine Finset.sum_congr rfl fun k _ => ?_
  rfl

/-- The retention keys of one block. -/
theorem out8_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_8 x0 x1 x2 x3 x4 x5 x6 (ix2 i j)) (prj (fun k => x0 (ix2 i k)) (fun k => x1 (ix2 0 k)) (fun k => x2 (ix2 k ⟨512 + (j : ℕ), by omega⟩))) := by
  unfold out0_8
  rw [View.canon_unit_zero (by funext a; fin_cases a <;> rfl)]
  unfold k0_pay9
  simp only [View.ld_unit]
  pointwise
  simp only [pay7_val]
  pointwise
  unfold prj
  refine Finset.sum_congr rfl fun k _ => ?_
  rfl

/-- The retention values of one block. -/
theorem out9_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_9 x0 x1 x2 x3 x4 x5 x6 (ix2 i j)) (prj (fun k => x0 (ix2 i k)) (fun k => x1 (ix2 0 k)) (fun k => x2 (ix2 k ⟨1024 + (j : ℕ), by omega⟩))) := by
  unfold out0_9
  rw [View.canon_unit_zero (by funext a; fin_cases a <;> rfl)]
  unfold k0_pay10
  simp only [View.ld_unit]
  pointwise
  simp only [pay7_val]
  pointwise
  unfold prj
  refine Finset.sum_congr rfl fun k _ => ?_
  rfl

/-- The retention gates of one block. -/
theorem out10_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_10 x0 x1 x2 x3 x4 x5 x6 (ix2 i j)) (prj (fun k => x0 (ix2 i k)) (fun k => x1 (ix2 0 k)) (fun k => x2 (ix2 k ⟨1536 + (j : ℕ), by omega⟩))) := by
  unfold out0_10
  rw [View.canon_unit_zero (by funext a; fin_cases a <;> rfl)]
  unfold k0_pay12 k0_pay11
  simp only [View.ld_unit]
  pointwise
  simp only [pay7_val]
  pointwise
  unfold prj
  refine Finset.sum_congr rfl fun k _ => ?_
  rfl

/-- The attention keys of one block, in the narrow format. -/
theorem out13_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_13 x0 x1 x2 x3 x4 x5 x6 (ix2 i j)) (prj (fun k => x0 (ix2 i k)) (fun k => x1 (ix2 0 k)) (fun k => x2 (ix2 k ⟨2560 + (j : ℕ), by omega⟩))) := by
  unfold out0_13
  rw [View.canon_unit_zero (by funext a; fin_cases a <;> rfl)]
  unfold k0_pay19 k0_pay14
  simp only [View.ld_unit]
  pointwise
  simp only [pay7_val]
  pointwise
  unfold prj
  refine Finset.sum_congr rfl fun k _ => ?_
  rfl

/-- The attention values of one block, in the narrow format. -/
theorem out14_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_14 x0 x1 x2 x3 x4 x5 x6 (ix2 i j)) (prj (fun k => x0 (ix2 i k)) (fun k => x1 (ix2 0 k)) (fun k => x2 (ix2 k ⟨3072 + (j : ℕ), by omega⟩))) := by
  unfold out0_14
  rw [View.canon_unit_zero (by funext a; fin_cases a <;> rfl)]
  unfold k0_pay3 k0_pay20
  simp only [View.ld_unit]
  pointwise
  simp only [pay7_val]
  pointwise
  unfold prj
  refine Finset.sum_congr rfl fun k _ => ?_
  rfl

/-- The index keys of one block. -/
theorem out15_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 64) :
    @Eq EReal (out0_15 x0 x1 x2 x3 x4 x5 x6 (ix2 i j)) (prj (fun k => x0 (ix2 i k)) (fun k => x1 (ix2 0 k)) (fun k => x3 (ix2 k ⟨(j : ℕ), by omega⟩))) := by
  unfold out0_15
  rw [View.canon_unit_zero (by funext a; fin_cases a <;> rfl)]
  unfold k0_pay5
  simp only [View.ld_unit]
  pointwise
  simp only [pay7_val]
  pointwise
  unfold prj
  refine Finset.sum_congr rfl fun k _ => ?_
  rfl

/-- The attention queries of one block, transposed. -/
theorem out16_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_16 x0 x1 x2 x3 x4 x5 x6 (ix2 j i)) (prj (fun k => x0 (ix2 i k)) (fun k => x1 (ix2 0 k)) (fun k => x4 (ix2 j k))) := by
  unfold out0_16
  rw [View.canon_unit_zero (by funext a; fin_cases a <;> rfl)]
  unfold k0_pay13
  simp only [View.ld_unit]
  pointwise
  simp only [pay7_val]
  pointwise
  unfold prj
  refine Finset.sum_congr rfl fun k _ => ?_
  refine (mul_comm (G := EReal) _ _).trans ?_
  rfl

/-- The index queries of one block, transposed. -/
theorem out17_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 512) :
    @Eq EReal (out0_17 x0 x1 x2 x3 x4 x5 x6 (ix2 j i)) (prj (fun k => x0 (ix2 i k)) (fun k => x1 (ix2 0 k)) (fun k => x5 (ix2 j k))) := by
  unfold out0_17
  rw [View.canon_unit_zero (by funext a; fin_cases a <;> rfl)]
  unfold k0_pay4
  simp only [View.ld_unit]
  pointwise
  simp only [pay7_val]
  pointwise
  unfold prj
  refine Finset.sum_congr rfl fun k _ => ?_
  refine (mul_comm (G := EReal) _ _).trans ?_
  rfl

/-- The index keys and weights of one block, transposed. -/
theorem out18_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (i : Fin 512) (j : Fin 128) :
    @Eq EReal (out0_18 x0 x1 x2 x3 x4 x5 x6 (ix2 j i)) (prj (fun k => x0 (ix2 i k)) (fun k => x1 (ix2 0 k)) (fun k => x6 (ix2 j k))) := by
  unfold out0_18
  rw [View.canon_unit_zero (by funext a; fin_cases a <;> rfl)]
  unfold k0_pay6
  simp only [View.ld_unit]
  pointwise
  simp only [pay7_val]
  pointwise
  unfold prj
  refine Finset.sum_congr rfl fun k _ => ?_
  refine (mul_comm (G := EReal) _ _).trans ?_
  rfl

/-- A quarter of an index below 2048. -/
theorem fourth (a : ℕ) (h : a < 2048) : a / 4 < 512 := by omega
/-- A lane's column among the attention keys. -/
theorem lane2560 (a b : ℕ) (h : b < 128) : 2560 + (128 * (a % 4) + b) < 4096 := by omega
/-- A lane's column among the attention values. -/
theorem lane3072 (a b : ℕ) (h : b < 128) : 3072 + (128 * (a % 4) + b) < 4096 := by omega

/-- The rows `4 i + 0` of the block, one store. -/
theorem piece11_0 (x0 : Vec Ideal S512x1024 .f32) (x1 : Vec Ideal S1x1024 .f32) (x2 : Vec Ideal S1024x4096 .bf16) (z : S512x128.Idx)
    (a b : ℕ) (ha : a = 0 + 4 * (z 0 : ℕ)) (hb : b = 0 + 1 * (z 1 : ℕ)) :
    @Eq EReal (k0_pay15 (k0_pay7 (View.ld x0 r0_0) (View.ld x1 r0_1)) (View.ld x2 r0_7) z) (prj (fun k => x0 (ix2 ⟨a / 4, fourth a (by have h : (z 0 : ℕ) < 512 := (z 0).isLt; omega)⟩ k)) (fun k => x1 (ix2 0 k))
      (fun k => x2 (ix2 k ⟨2560 + (128 * (a % 4) + b), lane2560 a b (by have h : (z 1 : ℕ) < 128 := (z 1).isLt; omega)⟩))) := by
  obtain ⟨i, j, rfl⟩ := Retention.pair 512 128 z
  unfold k0_pay15 k0_pay14
  simp only [View.ld_unit]
  pointwise
  simp only [pay7_val]
  pointwise
  unfold prj
  have ea : a / 4 = (i : ℕ) := by rw [ha]; show (0 + 4 * (i : ℕ)) / 4 = i; omega
  have eb : 2560 + (128 * (a % 4) + b) = 2560 + (j : ℕ) := by rw [ha, hb]; show 2560 + (128 * ((0 + 4 * (i : ℕ)) % 4) + (0 + 1 * (j : ℕ))) = 2560 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The rows `4 i + 1` of the block, one store. -/
theorem piece11_1 (x0 : Vec Ideal S512x1024 .f32) (x1 : Vec Ideal S1x1024 .f32) (x2 : Vec Ideal S1024x4096 .bf16) (z : S512x128.Idx)
    (a b : ℕ) (ha : a = 1 + 4 * (z 0 : ℕ)) (hb : b = 0 + 1 * (z 1 : ℕ)) :
    @Eq EReal (k0_pay16 (k0_pay7 (View.ld x0 r0_0) (View.ld x1 r0_1)) (View.ld x2 r0_7) z) (prj (fun k => x0 (ix2 ⟨a / 4, fourth a (by have h : (z 0 : ℕ) < 512 := (z 0).isLt; omega)⟩ k)) (fun k => x1 (ix2 0 k))
      (fun k => x2 (ix2 k ⟨2560 + (128 * (a % 4) + b), lane2560 a b (by have h : (z 1 : ℕ) < 128 := (z 1).isLt; omega)⟩))) := by
  obtain ⟨i, j, rfl⟩ := Retention.pair 512 128 z
  unfold k0_pay16 k0_pay14
  simp only [View.ld_unit]
  pointwise
  simp only [pay7_val]
  pointwise
  unfold prj
  have ea : a / 4 = (i : ℕ) := by rw [ha]; show (1 + 4 * (i : ℕ)) / 4 = i; omega
  have eb : 2560 + (128 * (a % 4) + b) = 2688 + (j : ℕ) := by rw [ha, hb]; show 2560 + (128 * ((1 + 4 * (i : ℕ)) % 4) + (0 + 1 * (j : ℕ))) = 2688 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The rows `4 i + 2` of the block, one store. -/
theorem piece11_2 (x0 : Vec Ideal S512x1024 .f32) (x1 : Vec Ideal S1x1024 .f32) (x2 : Vec Ideal S1024x4096 .bf16) (z : S512x128.Idx)
    (a b : ℕ) (ha : a = 2 + 4 * (z 0 : ℕ)) (hb : b = 0 + 1 * (z 1 : ℕ)) :
    @Eq EReal (k0_pay17 (k0_pay7 (View.ld x0 r0_0) (View.ld x1 r0_1)) (View.ld x2 r0_7) z) (prj (fun k => x0 (ix2 ⟨a / 4, fourth a (by have h : (z 0 : ℕ) < 512 := (z 0).isLt; omega)⟩ k)) (fun k => x1 (ix2 0 k))
      (fun k => x2 (ix2 k ⟨2560 + (128 * (a % 4) + b), lane2560 a b (by have h : (z 1 : ℕ) < 128 := (z 1).isLt; omega)⟩))) := by
  obtain ⟨i, j, rfl⟩ := Retention.pair 512 128 z
  unfold k0_pay17 k0_pay14
  simp only [View.ld_unit]
  pointwise
  simp only [pay7_val]
  pointwise
  unfold prj
  have ea : a / 4 = (i : ℕ) := by rw [ha]; show (2 + 4 * (i : ℕ)) / 4 = i; omega
  have eb : 2560 + (128 * (a % 4) + b) = 2816 + (j : ℕ) := by rw [ha, hb]; show 2560 + (128 * ((2 + 4 * (i : ℕ)) % 4) + (0 + 1 * (j : ℕ))) = 2816 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The rows `4 i + 3` of the block, one store. -/
theorem piece11_3 (x0 : Vec Ideal S512x1024 .f32) (x1 : Vec Ideal S1x1024 .f32) (x2 : Vec Ideal S1024x4096 .bf16) (z : S512x128.Idx)
    (a b : ℕ) (ha : a = 3 + 4 * (z 0 : ℕ)) (hb : b = 0 + 1 * (z 1 : ℕ)) :
    @Eq EReal (k0_pay18 (k0_pay7 (View.ld x0 r0_0) (View.ld x1 r0_1)) (View.ld x2 r0_7) z) (prj (fun k => x0 (ix2 ⟨a / 4, fourth a (by have h : (z 0 : ℕ) < 512 := (z 0).isLt; omega)⟩ k)) (fun k => x1 (ix2 0 k))
      (fun k => x2 (ix2 k ⟨2560 + (128 * (a % 4) + b), lane2560 a b (by have h : (z 1 : ℕ) < 128 := (z 1).isLt; omega)⟩))) := by
  obtain ⟨i, j, rfl⟩ := Retention.pair 512 128 z
  unfold k0_pay18 k0_pay14
  simp only [View.ld_unit]
  pointwise
  simp only [pay7_val]
  pointwise
  unfold prj
  have ea : a / 4 = (i : ℕ) := by rw [ha]; show (3 + 4 * (i : ℕ)) / 4 = i; omega
  have eb : 2560 + (128 * (a % 4) + b) = 2944 + (j : ℕ) := by rw [ha, hb]; show 2560 + (128 * ((3 + 4 * (i : ℕ)) % 4) + (0 + 1 * (j : ℕ))) = 2944 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The attention keys of one block, one row of 128 per head. -/
theorem out11_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (r : Fin 2048) (j : Fin 128) :
    @Eq EReal (out0_11 x0 x1 x2 x3 x4 x5 x6 (ix2 r j)) (prj (fun k => x0 (ix2 ⟨(r : ℕ) / 4, by omega⟩ k)) (fun k => x1 (ix2 0 k))
      (fun k => x2 (ix2 k ⟨2560 + (128 * ((r : ℕ) % 4) + (j : ℕ)), by omega⟩))) := by
  unfold out0_11
  refine (View.canon_apply_of_pieces (Val := Elt Ideal) (e := .f32) (fun y : S2048x128.Idx => prj (fun k => x0 (ix2 ⟨(y 0 : ℕ) / 4, fourth _ (y 0).isLt⟩ k))
    (fun k => x1 (ix2 0 k)) (fun k => x2 (ix2 k ⟨2560 + (128 * ((y 0 : ℕ) % 4) + (y 1 : ℕ)), lane2560 _ _ (y 1).isLt⟩))) _ ?_ _ (cover0_11 _ _ _ _ _)).trans rfl
  intro p hp z
  rcases List.mem_cons.1 hp with rfl | hp
  · exact piece11_3 x0 x1 x2 z _ _ rfl rfl
  rcases List.mem_cons.1 hp with rfl | hp
  · exact piece11_2 x0 x1 x2 z _ _ rfl rfl
  rcases List.mem_cons.1 hp with rfl | hp
  · exact piece11_1 x0 x1 x2 z _ _ rfl rfl
  rcases List.mem_cons.1 hp with rfl | hp
  · exact piece11_0 x0 x1 x2 z _ _ rfl rfl
  cases hp

/-- The rows `4 i + 0` of the block, one store. -/
theorem piece12_0 (x0 : Vec Ideal S512x1024 .f32) (x1 : Vec Ideal S1x1024 .f32) (x2 : Vec Ideal S1024x4096 .bf16) (z : S512x128.Idx)
    (a b : ℕ) (ha : a = 0 + 4 * (z 0 : ℕ)) (hb : b = 0 + 1 * (z 1 : ℕ)) :
    @Eq EReal (k0_pay21 (k0_pay7 (View.ld x0 r0_0) (View.ld x1 r0_1)) (View.ld x2 r0_12) z) (prj (fun k => x0 (ix2 ⟨a / 4, fourth a (by have h : (z 0 : ℕ) < 512 := (z 0).isLt; omega)⟩ k)) (fun k => x1 (ix2 0 k))
      (fun k => x2 (ix2 k ⟨3072 + (128 * (a % 4) + b), lane3072 a b (by have h : (z 1 : ℕ) < 128 := (z 1).isLt; omega)⟩))) := by
  obtain ⟨i, j, rfl⟩ := Retention.pair 512 128 z
  unfold k0_pay21 k0_pay20
  simp only [View.ld_unit]
  pointwise
  simp only [pay7_val]
  pointwise
  unfold prj
  have ea : a / 4 = (i : ℕ) := by rw [ha]; show (0 + 4 * (i : ℕ)) / 4 = i; omega
  have eb : 3072 + (128 * (a % 4) + b) = 3072 + (j : ℕ) := by rw [ha, hb]; show 3072 + (128 * ((0 + 4 * (i : ℕ)) % 4) + (0 + 1 * (j : ℕ))) = 3072 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The rows `4 i + 1` of the block, one store. -/
theorem piece12_1 (x0 : Vec Ideal S512x1024 .f32) (x1 : Vec Ideal S1x1024 .f32) (x2 : Vec Ideal S1024x4096 .bf16) (z : S512x128.Idx)
    (a b : ℕ) (ha : a = 1 + 4 * (z 0 : ℕ)) (hb : b = 0 + 1 * (z 1 : ℕ)) :
    @Eq EReal (k0_pay22 (k0_pay7 (View.ld x0 r0_0) (View.ld x1 r0_1)) (View.ld x2 r0_12) z) (prj (fun k => x0 (ix2 ⟨a / 4, fourth a (by have h : (z 0 : ℕ) < 512 := (z 0).isLt; omega)⟩ k)) (fun k => x1 (ix2 0 k))
      (fun k => x2 (ix2 k ⟨3072 + (128 * (a % 4) + b), lane3072 a b (by have h : (z 1 : ℕ) < 128 := (z 1).isLt; omega)⟩))) := by
  obtain ⟨i, j, rfl⟩ := Retention.pair 512 128 z
  unfold k0_pay22 k0_pay20
  simp only [View.ld_unit]
  pointwise
  simp only [pay7_val]
  pointwise
  unfold prj
  have ea : a / 4 = (i : ℕ) := by rw [ha]; show (1 + 4 * (i : ℕ)) / 4 = i; omega
  have eb : 3072 + (128 * (a % 4) + b) = 3200 + (j : ℕ) := by rw [ha, hb]; show 3072 + (128 * ((1 + 4 * (i : ℕ)) % 4) + (0 + 1 * (j : ℕ))) = 3200 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The rows `4 i + 2` of the block, one store. -/
theorem piece12_2 (x0 : Vec Ideal S512x1024 .f32) (x1 : Vec Ideal S1x1024 .f32) (x2 : Vec Ideal S1024x4096 .bf16) (z : S512x128.Idx)
    (a b : ℕ) (ha : a = 2 + 4 * (z 0 : ℕ)) (hb : b = 0 + 1 * (z 1 : ℕ)) :
    @Eq EReal (k0_pay1 (k0_pay20 (k0_pay7 (View.ld x0 r0_0) (View.ld x1 r0_1)) (View.ld x2 r0_12)) z) (prj (fun k => x0 (ix2 ⟨a / 4, fourth a (by have h : (z 0 : ℕ) < 512 := (z 0).isLt; omega)⟩ k)) (fun k => x1 (ix2 0 k))
      (fun k => x2 (ix2 k ⟨3072 + (128 * (a % 4) + b), lane3072 a b (by have h : (z 1 : ℕ) < 128 := (z 1).isLt; omega)⟩))) := by
  obtain ⟨i, j, rfl⟩ := Retention.pair 512 128 z
  unfold k0_pay1 k0_pay20
  simp only [View.ld_unit]
  pointwise
  simp only [pay7_val]
  pointwise
  unfold prj
  have ea : a / 4 = (i : ℕ) := by rw [ha]; show (2 + 4 * (i : ℕ)) / 4 = i; omega
  have eb : 3072 + (128 * (a % 4) + b) = 3328 + (j : ℕ) := by rw [ha, hb]; show 3072 + (128 * ((2 + 4 * (i : ℕ)) % 4) + (0 + 1 * (j : ℕ))) = 3328 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The rows `4 i + 3` of the block, one store. -/
theorem piece12_3 (x0 : Vec Ideal S512x1024 .f32) (x1 : Vec Ideal S1x1024 .f32) (x2 : Vec Ideal S1024x4096 .bf16) (z : S512x128.Idx)
    (a b : ℕ) (ha : a = 3 + 4 * (z 0 : ℕ)) (hb : b = 0 + 1 * (z 1 : ℕ)) :
    @Eq EReal (k0_pay2 (k0_pay20 (k0_pay7 (View.ld x0 r0_0) (View.ld x1 r0_1)) (View.ld x2 r0_12)) z) (prj (fun k => x0 (ix2 ⟨a / 4, fourth a (by have h : (z 0 : ℕ) < 512 := (z 0).isLt; omega)⟩ k)) (fun k => x1 (ix2 0 k))
      (fun k => x2 (ix2 k ⟨3072 + (128 * (a % 4) + b), lane3072 a b (by have h : (z 1 : ℕ) < 128 := (z 1).isLt; omega)⟩))) := by
  obtain ⟨i, j, rfl⟩ := Retention.pair 512 128 z
  unfold k0_pay2 k0_pay20
  simp only [View.ld_unit]
  pointwise
  simp only [pay7_val]
  pointwise
  unfold prj
  have ea : a / 4 = (i : ℕ) := by rw [ha]; show (3 + 4 * (i : ℕ)) / 4 = i; omega
  have eb : 3072 + (128 * (a % 4) + b) = 3456 + (j : ℕ) := by rw [ha, hb]; show 3072 + (128 * ((3 + 4 * (i : ℕ)) % 4) + (0 + 1 * (j : ℕ))) = 3456 + (j : ℕ); omega
  simp only [ea, eb]
  all_goals refine Finset.sum_congr rfl fun k _ => congrArg (fun q : Fin 4096 => HMul.hMul (α := EReal) (β := EReal) _ (x2 (ix2 k q))) (Fin.ext (by first | rfl | (dsimp only; omega)))

/-- The attention values of one block, one row of 128 per head. -/
theorem out12_val (x0 : Vec Ideal S512x1024 .f32) (x1 : Vec Ideal S1x1024 .f32) (x2 : Vec Ideal S1024x4096 .bf16) (x3 : Vec Ideal S1024x128 .bf16) (x4 : Vec Ideal S512x1024 .bf16) (x5 : Vec Ideal S512x1024 .bf16) (x6 : Vec Ideal S128x1024 .bf16) (r : Fin 2048) (j : Fin 128) :
    @Eq EReal (out0_12 x0 x1 x2 x3 x4 x5 x6 (ix2 r j)) (prj (fun k => x0 (ix2 ⟨(r : ℕ) / 4, by omega⟩ k)) (fun k => x1 (ix2 0 k))
      (fun k => x2 (ix2 k ⟨3072 + (128 * ((r : ℕ) % 4) + (j : ℕ)), by omega⟩))) := by
  unfold out0_12
  refine (View.canon_apply_of_pieces (Val := Elt Ideal) (e := .f32) (fun y : S2048x128.Idx => prj (fun k => x0 (ix2 ⟨(y 0 : ℕ) / 4, fourth _ (y 0).isLt⟩ k))
    (fun k => x1 (ix2 0 k)) (fun k => x2 (ix2 k ⟨3072 + (128 * ((y 0 : ℕ) % 4) + (y 1 : ℕ)), lane3072 _ _ (y 1).isLt⟩))) _ ?_ _ (cover0_12 _ _ _ _ _)).trans rfl
  intro p hp z
  rcases List.mem_cons.1 hp with rfl | hp
  · exact piece12_3 x0 x1 x2 z _ _ rfl rfl
  rcases List.mem_cons.1 hp with rfl | hp
  · exact piece12_2 x0 x1 x2 z _ _ rfl rfl
  rcases List.mem_cons.1 hp with rfl | hp
  · exact piece12_1 x0 x1 x2 z _ _ rfl rfl
  rcases List.mem_cons.1 hp with rfl | hp
  · exact piece12_0 x0 x1 x2 z _ _ rfl rfl
  cases hp

/-- The integer zero as a number. -/
theorem word_zero : FloatOps.sitofp (F := Ideal) .f32 0#32 = (0 : EReal) := by
  show (((0#32 : BitVec 32).toInt : ℝ) : EReal) = 0
  simp

variable (m : (ℓ : Loc nD τ sig) → Buf (Elt Ideal) ℓ) (c : Dev nD)

/-- The weights of the first 4096 columns. -/
theorem V_wm (k : Fin 1024) (j : Fin 4096) : @Eq EReal (V m c main_v1 (ix2 k j)) (m (c, Proc.devRef .tc main_arg2) (ix2 k ⟨j, by omega⟩)) := by
  unfold V
  rw [← StableHlo.afterL_eq_after_flatten]
  simp only [StableHlo.afterL_cons, StableHlo.afterL_nil]
  after_reads_simp
  pointwise

/-- The weights of the last columns, padded with zeros. -/
theorem V_wt (k : Fin 1024) (j : Fin 128) : @Eq EReal (V m c main_v4 (ix2 k j)) (if h : (j : ℕ) < 72 then m (c, Proc.devRef .tc main_arg2) (ix2 k ⟨4096 + j, by omega⟩) else 0) := by
  unfold V
  rw [← StableHlo.afterL_eq_after_flatten]
  simp only [StableHlo.afterL_cons, StableHlo.afterL_nil]
  after_reads_simp
  simp -implicitDefEqProofs only [StableHlo.TRef.toBuf, StableHlo.TRef.ofBuf, cast_cast, cast_eq]
  pointwise
  rw [word_zero]

/-- The transposed weights of the attention queries. -/
theorem V_wqt (k : Fin 1024) (j : Fin 512) : @Eq EReal (V m c main_v6 (ix2 j k)) (m (c, Proc.devRef .tc main_arg2) (ix2 k ⟨2048 + j, by omega⟩)) := by
  unfold V
  rw [← StableHlo.afterL_eq_after_flatten]
  simp only [StableHlo.afterL_cons, StableHlo.afterL_nil]
  after_reads_simp
  pointwise

/-- The transposed weights of the index queries. -/
theorem V_wit (k : Fin 1024) (j : Fin 512) : @Eq EReal (V m c main_v8 (ix2 j k)) (m (c, Proc.devRef .tc main_arg2) (ix2 k ⟨3584 + j, by omega⟩)) := by
  unfold V
  rw [← StableHlo.afterL_eq_after_flatten]
  simp only [StableHlo.afterL_cons, StableHlo.afterL_nil]
  after_reads_simp
  pointwise

/-- The transposed weights of the last columns. -/
theorem V_wtt (k : Fin 1024) (j : Fin 128) : @Eq EReal (V m c main_v9 (ix2 j k)) (if h : (j : ℕ) < 72 then m (c, Proc.devRef .tc main_arg2) (ix2 k ⟨4096 + j, by omega⟩) else 0) := by
  unfold V
  rw [← StableHlo.afterL_eq_after_flatten]
  simp only [StableHlo.afterL_cons, StableHlo.afterL_nil]
  after_reads_simp
  simp -implicitDefEqProofs only [StableHlo.TRef.toBuf, StableHlo.TRef.ofBuf, cast_cast, cast_eq]
  pointwise
  rw [word_zero]

/-- The weights of the norm. -/
theorem V_g (k : Fin 1024) : @Eq EReal (V m c main_v10 (ix2 0 k)) (m (c, Proc.devRef .tc main_arg1) (ix1 k)) := by
  unfold V
  rw [← StableHlo.afterL_eq_after_flatten]
  simp only [StableHlo.afterL_cons, StableHlo.afterL_nil]
  after_reads_simp
  pointwise

end Cert.Kernel3Ideal.Body
-- ==== Proof.SaArr.lean ====
module

public import proofs.«01_k».proof.Proof.SaSpec

/-!
  The input projection of the sample batch: the result arrays, entry by entry, as the normalised rows times columns of the weights.
-/

@[expose] public section

set_option maxRecDepth 16384

noncomputable section

namespace Cert.Kernel3Ideal.Body

open Cert.Kernel3Ideal Cert.Kernel3Ideal.Gen Idealize.ShloMosaic Idealize.ShloMosaic.TcCoe Idealize.SL.Sem Cert.Retention

variable (m : (ℓ : Loc nD τ sig) → Buf (Elt Ideal) ℓ) (c : Dev nD)

/-- One row of the input. -/
def X (r : Fin 512) (k : Fin 1024) : EReal := m ((c : Thread nD τ).loc main_arg0) (ix2 r k)
/-- The weights of the norm. -/
def G (k : Fin 1024) : EReal := m ((c : Thread nD τ).loc main_arg1) (ix1 k)
/-- One column of the weights, zero past the last. -/
def Wc (n : ℕ) (k : Fin 1024) : EReal := if h : n < 4168 then m ((c : Thread nD τ).loc main_arg2) (ix2 k ⟨n, h⟩) else 0
/-- One entry of the projection. -/
def pr (r : Fin 512) (n : ℕ) : EReal := prj (X m c r) (G m c) (Wc m c n)

/-- The projection depends on its operands entry by entry. -/
theorem prj_congr {x x' g g' w w' : Fin 1024 → EReal} (hx : ∀ k, x k = x' k) (hg : ∀ k, g k = g' k) (hw : ∀ k, w k = w' k) :
    prj x g w = prj x' g' w' := by
  rw [funext hx, funext hg, funext hw]

/-- A column below the last. -/
theorem Wc_lt (n : ℕ) (k : Fin 1024) (h : n < 4168) : Wc m c n k = m ((c : Thread nD τ).loc main_arg2) (ix2 k ⟨n, h⟩) := dif_pos h

theorem lt_N (t : Fin cfg0.N) : t.val < 1 := lt_of_lt_of_eq t.isLt (by decide +kernel)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![0, t.val] := (by decide +kernel : ∀ t : Fin grid0.N, _)
theorem idx17 : ∀ t : Fin cfg0.N, win0_17.index t = ![0, t.val] := (by decide +kernel : ∀ t : Fin grid0.N, _)
theorem idx18 : ∀ t : Fin cfg0.N, win0_18.index t = ![0, t.val] := (by decide +kernel : ∀ t : Fin grid0.N, _)

theorem B0 (t : Fin cfg0.N) (i : Fin 512) (k : Fin 1024) :
    @Eq EReal (iblk m c 0 t (ix2 i k)) (V m c main_arg0 (ix2 ⟨t.val * 512 + i.val, by have := lt_N t; omega⟩ k)) := by
  blk_ext [iblk, V, idx0 t]
theorem B1 (t : Fin cfg0.N) (k : Fin 1024) : @Eq EReal (iblk m c 1 t (ix2 0 k)) (V m c main_v10 (ix2 0 k)) := by
  blk_ext [iblk, V, idx1 t]
theorem B2 (t : Fin cfg0.N) (k : Fin 1024) (j : Fin 4096) : @Eq EReal (iblk m c 2 t (ix2 k j)) (V m c main_v1 (ix2 k j)) := by
  blk_ext [iblk, V, idx2 t]
theorem B3 (t : Fin cfg0.N) (k : Fin 1024) (j : Fin 128) : @Eq EReal (iblk m c 3 t (ix2 k j)) (V m c main_v4 (ix2 k j)) := by
  blk_ext [iblk, V, idx3 t]
theorem B4 (t : Fin cfg0.N) (k : Fin 1024) (j : Fin 512) : @Eq EReal (iblk m c 4 t (ix2 j k)) (V m c main_v6 (ix2 j k)) := by
  blk_ext [iblk, V, idx4 t]
theorem B5 (t : Fin cfg0.N) (k : Fin 1024) (j : Fin 512) : @Eq EReal (iblk m c 5 t (ix2 j k)) (V m c main_v8 (ix2 j k)) := by
  blk_ext [iblk, V, idx5 t]
theorem B6 (t : Fin cfg0.N) (k : Fin 1024) (j : Fin 128) : @Eq EReal (iblk m c 6 t (ix2 j k)) (V m c main_v9 (ix2 j k)) := by
  blk_ext [iblk, V, idx6 t]

/-- The rows a block reads. -/
theorem row_eq (t : Fin cfg0.N) (i : Fin 512) (r : Fin 512) (hr : (r : ℕ) = t.val * 512 + i) (k : Fin 1024) :
    @Eq EReal (iblk m c 0 t (ix2 i k)) (X m c r k) := by
  rw [B0, V_arg0]
  exact congrArg (fun q : Fin 512 => (m ((c : Thread nD τ).loc main_arg0) (ix2 q k) : EReal)) (Fin.ext hr.symm)
/-- The norm's weights a block reads. -/
theorem g_eq (t : Fin cfg0.N) (k : Fin 1024) : @Eq EReal (iblk m c 1 t (ix2 0 k)) (G m c k) := (B1 m c t k).trans (V_g m c k)
/-- The columns a block reads. -/
theorem wm_eq (t : Fin cfg0.N) (k : Fin 1024) (j : Fin 4096) (n : ℕ) (hn : n = j) : @Eq EReal (iblk m c 2 t (ix2 k j)) (Wc m c n k) := by
  subst hn
  rw [B2, V_wm, Wc_lt m c _ k (by omega)]
/-- The last columns a block reads. -/
theorem wt_eq (t : Fin cfg0.N) (k : Fin 1024) (j : Fin 128) (n : ℕ) (hn : n = 4096 + (j : ℕ)) : @Eq EReal (iblk m c 3 t (ix2 k j)) (Wc m c n k) := by
  subst hn
  rw [B3, V_wt]
  unfold Wc
  by_cases h : (j : ℕ) < 72
  · rw [dif_pos h, dif_pos (by omega)]
  · rw [dif_neg h, dif_neg (by omega)]
/-- The columns of the attention queries. -/
theorem wqt_eq (t : Fin cfg0.N) (k : Fin 1024) (j : Fin 512) (n : ℕ) (hn : n = 2048 + (j : ℕ)) : @Eq EReal (iblk m c 4 t (ix2 j k)) (Wc m c n k) := by
  subst hn
  rw [B4, V_wqt]
  rw [Wc_lt m c _ k (by omega)]
/-- The columns of the index queries. -/
theorem wit_eq (t : Fin cfg0.N) (k : Fin 1024) (j : Fin 512) (n : ℕ) (hn : n = 3584 + (j : ℕ)) : @Eq EReal (iblk m c 5 t (ix2 j k)) (Wc m c n k) := by
  subst hn
  rw [B5, V_wit]
  rw [Wc_lt m c _ k (by omega)]
/-- The last columns, transposed. -/
theorem wtt_eq (t : Fin cfg0.N) (k : Fin 1024) (j : Fin 128) (n : ℕ) (hn : n = 4096 + (j : ℕ)) : @Eq EReal (iblk m c 6 t (ix2 j k)) (Wc m c n k) := by
  subst hn
  rw [B6, V_wtt]
  unfold Wc
  by_cases h : (j : ℕ) < 72
  · rw [dif_pos h, dif_pos (by omega)]
  · rw [dif_neg h, dif_neg (by omega)]

theorem emb7 (t : Fin cfg0.N) (i : Fin 512) (j : Fin 512) : ((win0_7.blk t).view.emb (ix2 i j) 0 : ℕ) = t.val * 512 + (i : ℕ) := by
  blk_simp [idx7 t] <;> simp

theorem emb8 (t : Fin cfg0.N) (i : Fin 512) (j : Fin 512) : ((win0_8.blk t).view.emb (ix2 i j) 0 : ℕ) = t.val * 512 + (i : ℕ) := by
  blk_simp [idx8 t] <;> simp

theorem emb9 (t : Fin cfg0.N) (i : Fin 512) (j : Fin 512) : ((win0_9.blk t).view.emb (ix2 i j) 0 : ℕ) = t.val * 512 + (i : ℕ) := by
  blk_simp [idx9 t] <;> simp

theorem emb10 (t : Fin cfg0.N) (i : Fin 512) (j : Fin 512) : ((win0_10.blk t).view.emb (ix2 i j) 0 : ℕ) = t.val * 512 + (i : ℕ) := by
  blk_simp [idx10 t] <;> simp

theorem emb13 (t : Fin cfg0.N) (i : Fin 512) (j : Fin 512) : ((win0_13.blk t).view.emb (ix2 i j) 0 : ℕ) = t.val * 512 + (i : ℕ) := by
  blk_simp [idx13 t] <;> simp

theorem emb14 (t : Fin cfg0.N) (i : Fin 512) (j : Fin 512) : ((win0_14.blk t).view.emb (ix2 i j) 0 : ℕ) = t.val * 512 + (i : ℕ) := by
  blk_simp [idx14 t] <;> simp

theorem emb15 (t : Fin cfg0.N) (i : Fin 512) (j : Fin 64) : ((win0_15.blk t).view.emb (ix2 i j) 0 : ℕ) = t.val * 512 + (i : ℕ) := by
  blk_simp [idx15 t] <;> simp

theorem emb16 (t : Fin cfg0.N) (j : Fin 512) (i : Fin 512) : ((win0_16.blk t).view.emb (ix2 j i) 1 : ℕ) = t.val * 512 + (i : ℕ) := by
  blk_simp [idx16 t] <;> simp

theorem emb17 (t : Fin cfg0.N) (j : Fin 512) (i : Fin 512) : ((win0_17.blk t).view.emb (ix2 j i) 1 : ℕ) = t.val * 512 + (i : ℕ) := by
  blk_simp [idx17 t] <;> simp

theorem emb18 (t : Fin cfg0.N) (j : Fin 128) (i : Fin 512) : ((win0_18.blk t).view.emb (ix2 j i) 1 : ℕ) = t.val * 512 + (i : ℕ) := by
  blk_simp [idx18 t] <;> simp

/-- A quarter of an index below 2048. -/
theorem quarter (a : ℕ) (h : a < 2048) : a / 4 < 512 := by omega

/-- The retention queries. -/
theorem arr7 : (dats m 0 c).arrAt 7 cfg0.N = (fun y : S512x512.Idx => pr m c (y 0) (0 + (y 1 : ℕ)) : S512x512.Idx → EReal) := by
  refine (dats m 0 c).arrAt_eq_of_covers 7 _ (by decide +kernel) fun t hf y => ?_
  blk_simp
  rw [after0_7]
  have ht := lt_N t
  obtain ⟨i, j, rfl⟩ := Retention.pair 512 512 y
  have e1 : win0_7.index t 1 * 512 + (j : ℕ) = (j : ℕ) := by rw [idx7 t]; simp
  refine (out7_val (iblk m c 0 t) (iblk m c 1 t) (iblk m c 2 t) (iblk m c 3 t) (iblk m c 4 t) (iblk m c 5 t) (iblk m c 6 t) i j).trans (prj_congr (fun k => row_eq m c t i _ (emb7 t i j) k) (fun k => g_eq m c t k) (fun k => ?_))
  exact wm_eq m c t k _ _ (e1)

/-- The retention keys. -/
theorem arr8 : (dats m 0 c).arrAt 8 cfg0.N = (fun y : S512x512.Idx => pr m c (y 0) (512 + (y 1 : ℕ)) : S512x512.Idx → EReal) := by
  refine (dats m 0 c).arrAt_eq_of_covers 8 _ (by decide +kernel) fun t hf y => ?_
  blk_simp
  rw [after0_8]
  have ht := lt_N t
  obtain ⟨i, j, rfl⟩ := Retention.pair 512 512 y
  have e1 : win0_8.index t 1 * 512 + (j : ℕ) = (j : ℕ) := by rw [idx8 t]; simp
  refine (out8_val (iblk m c 0 t) (iblk m c 1 t) (iblk m c 2 t) (iblk m c 3 t) (iblk m c 4 t) (iblk m c 5 t) (iblk m c 6 t) i j).trans (prj_congr (fun k => row_eq m c t i _ (emb8 t i j) k) (fun k => g_eq m c t k) (fun k => ?_))
  exact wm_eq m c t k _ _ (congrArg (fun q => 512 + q) e1)

/-- The retention values. -/
theorem arr9 : (dats m 0 c).arrAt 9 cfg0.N = (fun y : S512x512.Idx => pr m c (y 0) (1024 + (y 1 : ℕ)) : S512x512.Idx → EReal) := by
  refine (dats m 0 c).arrAt_eq_of_covers 9 _ (by decide +kernel) fun t hf y => ?_
  blk_simp
  rw [after0_9]
  have ht := lt_N t
  obtain ⟨i, j, rfl⟩ := Retention.pair 512 512 y
  have e1 : win0_9.index t 1 * 512 + (j : ℕ) = (j : ℕ) := by rw [idx9 t]; simp
  refine (out9_val (iblk m c 0 t) (iblk m c 1 t) (iblk m c 2 t) (iblk m c 3 t) (iblk m c 4 t) (iblk m c 5 t) (iblk m c 6 t) i j).trans (prj_congr (fun k => row_eq m c t i _ (emb9 t i j) k) (fun k => g_eq m c t k) (fun k => ?_))
  exact wm_eq m c t k _ _ (congrArg (fun q => 1024 + q) e1)

/-- The retention gates. -/
theorem arr10 : (dats m 0 c).arrAt 10 cfg0.N = (fun y : S512x512.Idx => pr m c (y 0) (1536 + (y 1 : ℕ)) : S512x512.Idx → EReal) := by
  refine (dats m 0 c).arrAt_eq_of_covers 10 _ (by decide +kernel) fun t hf y => ?_
  blk_simp
  rw [after0_10]
  have ht := lt_N t
  obtain ⟨i, j, rfl⟩ := Retention.pair 512 512 y
  have e1 : win0_10.index t 1 * 512 + (j : ℕ) = (j : ℕ) := by rw [idx10 t]; simp
  refine (out10_val (iblk m c 0 t) (iblk m c 1 t) (iblk m c 2 t) (iblk m c 3 t) (iblk m c 4 t) (iblk m c 5 t) (iblk m c 6 t) i j).trans (prj_congr (fun k => row_eq m c t i _ (emb10 t i j) k) (fun k => g_eq m c t k) (fun k => ?_))
  exact wm_eq m c t k _ _ (congrArg (fun q => 1536 + q) e1)

/-- The attention keys. -/
theorem arr13 : (dats m 0 c).arrAt 13 cfg0.N = (fun y : S512x512.Idx => pr m c (y 0) (2560 + (y 1 : ℕ)) : S512x512.Idx → EReal) := by
  refine (dats m 0 c).arrAt_eq_of_covers 13 _ (by decide +kernel) fun t hf y => ?_
  blk_simp
  rw [after0_13]
  have ht := lt_N t
  obtain ⟨i, j, rfl⟩ := Retention.pair 512 512 y
  have e1 : win0_13.index t 1 * 512 + (j : ℕ) = (j : ℕ) := by rw [idx13 t]; simp
  refine (out13_val (iblk m c 0 t) (iblk m c 1 t) (iblk m c 2 t) (iblk m c 3 t) (iblk m c 4 t) (iblk m c 5 t) (iblk m c 6 t) i j).trans (prj_congr (fun k => row_eq m c t i _ (emb13 t i j) k) (fun k => g_eq m c t k) (fun k => ?_))
  exact wm_eq m c t k _ _ (congrArg (fun q => 2560 + q) e1)

/-- The attention values. -/
theorem arr14 : (dats m 0 c).arrAt 14 cfg0.N = (fun y : S512x512.Idx => pr m c (y 0) (3072 + (y 1 : ℕ)) : S512x512.Idx → EReal) := by
  refine (dats m 0 c).arrAt_eq_of_covers 14 _ (by decide +kernel) fun t hf y => ?_
  blk_simp
  rw [after0_14]
  have ht := lt_N t
  obtain ⟨i, j, rfl⟩ := Retention.pair 512 512 y
  have e1 : win0_14.index t 1 * 512 + (j : ℕ) = (j : ℕ) := by rw [idx14 t]; simp
  refine (out14_val (iblk m c 0 t) (iblk m c 1 t) (iblk m c 2 t) (iblk m c 3 t) (iblk m c 4 t) (iblk m c 5 t) (iblk m c 6 t) i j).trans (prj_congr (fun k => row_eq m c t i _ (emb14 t i j) k) (fun k => g_eq m c t k) (fun k => ?_))
  exact wm_eq m c t k _ _ (congrArg (fun q => 3072 + q) e1)

/-- The index keys. -/
theorem arr15 : (dats m 0 c).arrAt 15 cfg0.N = (fun y : S512x64.Idx => pr m c (y 0) (4096 + (y 1 : ℕ)) : S512x64.Idx → EReal) := by
  refine (dats m 0 c).arrAt_eq_of_covers 15 _ (by decide +kernel) fun t hf y => ?_
  blk_simp
  rw [after0_15]
  have ht := lt_N t
  obtain ⟨i, j, rfl⟩ := Retention.pair 512 64 y
  have e1 : win0_15.index t 1 * 64 + (j : ℕ) = (j : ℕ) := by rw [idx15 t]; simp
  refine (out15_val (iblk m c 0 t) (iblk m c 1 t) (iblk m c 2 t) (iblk m c 3 t) (iblk m c 4 t) (iblk m c 5 t) (iblk m c 6 t) i j).trans (prj_congr (fun k => row_eq m c t i _ (emb15 t i j) k) (fun k => g_eq m c t k) (fun k => ?_))
  exact wt_eq m c t k _ _ (congrArg (fun q => 4096 + q) e1)

/-- The attention keys, one row per head. -/
theorem arr11 : (dats m 0 c).arrAt 11 cfg0.N = (fun y : S2048x128.Idx => pr m c ⟨(y 0 : ℕ) / 4, quarter _ (y 0).isLt⟩ (2560 + (128 * ((y 0 : ℕ) % 4) + (y 1 : ℕ))) : S2048x128.Idx → EReal) := by
  refine (dats m 0 c).arrAt_eq_of_covers 11 _ (by decide +kernel) fun t hf y => ?_
  blk_simp
  rw [after0_11]
  have ht := lt_N t
  obtain ⟨i, j, rfl⟩ := Retention.pair 2048 128 y
  have e0' : win0_11.index t 0 * 2048 + (i : ℕ) = t.val * 2048 + (i : ℕ) := by rw [idx11 t]; simp
  have e1' : win0_11.index t 1 * 128 + (j : ℕ) = (j : ℕ) := by rw [idx11 t]; simp
  refine (out11_val (iblk m c 0 t) (iblk m c 1 t) (iblk m c 2 t) (iblk m c 3 t) (iblk m c 4 t) (iblk m c 5 t) (iblk m c 6 t) i j).trans (prj_congr (fun k => row_eq m c t _ _ ?_ k) (fun k => g_eq m c t k) (fun k => wm_eq m c t k _ _ ?_))
  · exact (congrArg (fun q => q / 4) e0').trans (by show (t.val * 2048 + (i : ℕ)) / 4 = t.val * 512 + (i : ℕ) / 4; omega)
  · exact (congrArg₂ (fun p q => 2560 + (128 * (p % 4) + q)) e0' e1').trans
      (by show 2560 + (128 * ((t.val * 2048 + (i : ℕ)) % 4) + (j : ℕ)) = 2560 + (128 * ((i : ℕ) % 4) + (j : ℕ)); omega)

/-- The attention values, one row per head. -/
theorem arr12 : (dats m 0 c).arrAt 12 cfg0.N = (fun y : S2048x128.Idx => pr m c ⟨(y 0 : ℕ) / 4, quarter _ (y 0).isLt⟩ (3072 + (128 * ((y 0 : ℕ) % 4) + (y 1 : ℕ))) : S2048x128.Idx → EReal) := by
  refine (dats m 0 c).arrAt_eq_of_covers 12 _ (by decide +kernel) fun t hf y => ?_
  blk_simp
  rw [after0_12]
  have ht := lt_N t
  obtain ⟨i, j, rfl⟩ := Retention.pair 2048 128 y
  have e0' : win0_12.index t 0 * 2048 + (i : ℕ) = t.val * 2048 + (i : ℕ) := by rw [idx12 t]; simp
  have e1' : win0_12.index t 1 * 128 + (j : ℕ) = (j : ℕ) := by rw [idx12 t]; simp
  refine (out12_val (iblk m c 0 t) (iblk m c 1 t) (iblk m c 2 t) (iblk m c 3 t) (iblk m c 4 t) (iblk m c 5 t) (iblk m c 6 t) i j).trans (prj_congr (fun k => row_eq m c t _ _ ?_ k) (fun k => g_eq m c t k) (fun k => wm_eq m c t k _ _ ?_))
  · exact (congrArg (fun q => q / 4) e0').trans (by show (t.val * 2048 + (i : ℕ)) / 4 = t.val * 512 + (i : ℕ) / 4; omega)
  · exact (congrArg₂ (fun p q => 3072 + (128 * (p % 4) + q)) e0' e1').trans
      (by show 3072 + (128 * ((t.val * 2048 + (i : ℕ)) % 4) + (j : ℕ)) = 3072 + (128 * ((i : ℕ) % 4) + (j : ℕ)); omega)

/-- The transposed attention queries. -/
theorem arr16 : (dats m 0 c).arrAt 16 cfg0.N = (fun y : S512x512.Idx => pr m c (y 1) (2048 + (y 0 : ℕ)) : S512x512.Idx → EReal) := by
  refine (dats m 0 c).arrAt_eq_of_covers 16 _ (by decide +kernel) fun t hf y => ?_
  blk_simp
  rw [after0_16]
  have ht := lt_N t
  obtain ⟨j, i, rfl⟩ := Retention.pair 512 512 y
  have e0 : win0_16.index t 0 * 512 + (j : ℕ) = (j : ℕ) := by rw [idx16 t]; simp
  refine (out16_val (iblk m c 0 t) (iblk m c 1 t) (iblk m c 2 t) (iblk m c 3 t) (iblk m c 4 t) (iblk m c 5 t) (iblk m c 6 t) i j).trans (prj_congr (fun k => row_eq m c t i _ (emb16 t j i) k) (fun k => g_eq m c t k) (fun k => ?_))
  exact wqt_eq m c t k _ _ (congrArg (fun q => 2048 + q) e0)

/-- The transposed index queries. -/
theorem arr17 : (dats m 0 c).arrAt 17 cfg0.N = (fun y : S512x512.Idx => pr m c (y 1) (3584 + (y 0 : ℕ)) : S512x512.Idx → EReal) := by
  refine (dats m 0 c).arrAt_eq_of_covers 17 _ (by decide +kernel) fun t hf y => ?_
  blk_simp
  rw [after0_17]
  have ht := lt_N t
  obtain ⟨j, i, rfl⟩ := Retention.pair 512 512 y
  have e0 : win0_17.index t 0 * 512 + (j : ℕ) = (j : ℕ) := by rw [idx17 t]; simp
  refine (out17_val (iblk m c 0 t) (iblk m c 1 t) (iblk m c 2 t) (iblk m c 3 t) (iblk m c 4 t) (iblk m c 5 t) (iblk m c 6 t) i j).trans (prj_congr (fun k => row_eq m c t i _ (emb17 t j i) k) (fun k => g_eq m c t k) (fun k => ?_))
  exact wit_eq m c t k _ _ (congrArg (fun q => 3584 + q) e0)

/-- The transposed index keys and weights. -/
theorem arr18 : (dats m 0 c).arrAt 18 cfg0.N = (fun y : S128x512.Idx => pr m c (y 1) (4096 + (y 0 : ℕ)) : S128x512.Idx → EReal) := by
  refine (dats m 0 c).arrAt_eq_of_covers 18 _ (by decide +kernel) fun t hf y => ?_
  blk_simp
  rw [after0_18]
  have ht := lt_N t
  obtain ⟨j, i, rfl⟩ := Retention.pair 128 512 y
  have e0 : win0_18.index t 0 * 128 + (j : ℕ) = (j : ℕ) := by rw [idx18 t]; simp
  refine (out18_val (iblk m c 0 t) (iblk m c 1 t) (iblk m c 2 t) (iblk m c 3 t) (iblk m c 4 t) (iblk m c 5 t) (iblk m c 6 t) i j).trans (prj_congr (fun k => row_eq m c t i _ (emb18 t j i) k) (fun k => g_eq m c t k) (fun k => ?_))
  exact wtt_eq m c t k _ _ (congrArg (fun q => 4096 + q) e0)

end Cert.Kernel3Ideal.Body
-- ==== Proof.SaRef.lean ====
module

public import proofs.«01_k».proof.Proof.SaArr
public import proofs.«01_k».proof.Proof.Gen.Reference3Ideal.Run

/-!
  The plain input projection of the sample batch, entry by entry.
-/

@[expose] public section

set_option maxRecDepth 16384

noncomputable section

namespace Cert.Reference3Ideal.Value

open Cert.Reference3Ideal Cert.Reference3Ideal.Gen Idealize.ShloMosaic Idealize.ShloMosaic.TcCoe Idealize.SL.Sem Cert.Retention
open Cert.Kernel3Ideal.Body (nrm prj prj_congr)

variable (m : (ℓ : Loc nD τ sig) → Buf (Elt Ideal) ℓ) (c : Dev nD)

/-- One row of the input. -/
def X (r : Fin 512) (k : Fin 1024) : EReal := m ((c.tc : Thread nD τ).loc main_arg0) (ix2 r k)
/-- The weights of the norm. -/
def G (k : Fin 1024) : EReal := m ((c.tc : Thread nD τ).loc main_arg1) (ix1 k)
/-- One column of the weights, zero past the last. -/
def Wc (n : ℕ) (k : Fin 1024) : EReal := if h : n < 4168 then m ((c.tc : Thread nD τ).loc main_arg2) (ix2 k ⟨n, h⟩) else 0
/-- One entry of the projection. -/
def pr (r : Fin 512) (n : ℕ) : EReal := prj (X m c r) (G m c) (Wc m c n)

/-- The whole projection. -/
def proj : FVec Ideal S512x4168 .f32 := Host.dotGeneral (φ₂ := .f32) dot_S512x1024_S1024x4168_S512x4168_1_0_0_1_n_n none (mulf (mulf (m ((c.tc : Thread nD τ).loc main_arg0)) (broadcastInDim S512x1024 ![0, 1] bcast_S512x1_S512x1024_0_1 (Host.rsqrt (addf (Host.divf (broadcastInDim S512x1 ![0] bcast_S512_S512x1_0 (Host.reduceAdd (mulf (m ((c.tc : Thread nD τ).loc main_arg0)) (m ((c.tc : Thread nD τ).loc main_arg0))) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 (m ((c.tc : Thread nD τ).loc main_arg1))))) (m ((c.tc : Thread nD τ).loc main_arg2))

/-- Every entry of the whole projection. -/
theorem proj_val (r : Fin 512) (n : Fin 4168) : @Eq EReal (proj m c (ix2 r n)) (pr m c r n) := by
  have h : @Eq EReal (proj m c (ix2 r n)) (prj (X m c r) (G m c) (fun k => m ((c.tc : Thread nD τ).loc main_arg2) (ix2 k n))) := by
    unfold proj prj nrm X G
    pointwise
  rw [h]
  exact prj_congr (fun _ => rfl) (fun _ => rfl) (fun k => by unfold Wc; rw [dif_pos n.isLt])

/-- The retention queries. -/
theorem ref7 (r : Fin 512) (j : Fin 512) : @Eq EReal ((extractStridedSlice S512x512 ![0, 0] (proj m c) slices_S512x4168_S512x512_0_0) (ix2 r j)) (pr m c r (0 + (j : ℕ))) := by
  refine Eq.trans ?_ (proj_val m c r ⟨0 + (j : ℕ), by omega⟩)
  pointwise

/-- The retention keys. -/
theorem ref8 (r : Fin 512) (j : Fin 512) : @Eq EReal ((extractStridedSlice S512x512 ![0, 512] (proj m c) slices_S512x4168_S512x512_0_512) (ix2 r j)) (pr m c r (512 + (j : ℕ))) := by
  refine Eq.trans ?_ (proj_val m c r ⟨512 + (j : ℕ), by omega⟩)
  pointwise

/-- The retention values. -/
theorem ref9 (r : Fin 512) (j : Fin 512) : @Eq EReal ((truncf .bf16 (extractStridedSlice S512x512 ![0, 1024] (proj m c) slices_S512x4168_S512x512_0_1024) bitsLt_bf16_f32) (ix2 r j)) (pr m c r (1024 + (j : ℕ))) := by
  refine Eq.trans ?_ (proj_val m c r ⟨1024 + (j : ℕ), by omega⟩)
  pointwise

/-- The retention gates. -/
theorem ref10 (r : Fin 512) (j : Fin 512) : @Eq EReal ((extractStridedSlice S512x512 ![0, 1536] (proj m c) slices_S512x4168_S512x512_0_1536) (ix2 r j)) (pr m c r (1536 + (j : ℕ))) := by
  refine Eq.trans ?_ (proj_val m c r ⟨1536 + (j : ℕ), by omega⟩)
  pointwise

/-- The attention keys, one row per head. -/
theorem ref11 (q : Fin 2048) (j : Fin 128) :
    @Eq EReal ((shapeCast S2048x128 (extractStridedSlice S512x512 ![0, 2560] (proj m c) slices_S512x4168_S512x512_0_2560) shapeCasts_S512x512_S2048x128) (ix2 q j)) (pr m c ⟨(q : ℕ) / 4, by omega⟩ (2560 + (128 * ((q : ℕ) % 4) + (j : ℕ)))) := by
  refine Eq.trans ?_ (proj_val m c ⟨(q : ℕ) / 4, by omega⟩ ⟨2560 + (128 * ((q : ℕ) % 4) + (j : ℕ)), by omega⟩)
  pointwise
  exact congrArg (fun n : Fin 4168 => proj m c (ix2 ⟨(q : ℕ) / 4, by omega⟩ n)) (Fin.ext (by dsimp only; omega))

/-- The attention values, one row per head. -/
theorem ref12 (q : Fin 2048) (j : Fin 128) :
    @Eq EReal ((shapeCast S2048x128 (extractStridedSlice S512x512 ![0, 3072] (proj m c) slices_S512x4168_S512x512_0_3072) shapeCasts_S512x512_S2048x128) (ix2 q j)) (pr m c ⟨(q : ℕ) / 4, by omega⟩ (3072 + (128 * ((q : ℕ) % 4) + (j : ℕ)))) := by
  refine Eq.trans ?_ (proj_val m c ⟨(q : ℕ) / 4, by omega⟩ ⟨3072 + (128 * ((q : ℕ) % 4) + (j : ℕ)), by omega⟩)
  pointwise
  exact congrArg (fun n : Fin 4168 => proj m c (ix2 ⟨(q : ℕ) / 4, by omega⟩ n)) (Fin.ext (by dsimp only; omega))

/-- The attention keys. -/
theorem ref13 (r : Fin 512) (j : Fin 512) : @Eq EReal ((truncf .bf16 (extractStridedSlice S512x512 ![0, 2560] (proj m c) slices_S512x4168_S512x512_0_2560) bitsLt_bf16_f32) (ix2 r j)) (pr m c r (2560 + (j : ℕ))) := by
  refine Eq.trans ?_ (proj_val m c r ⟨2560 + (j : ℕ), by omega⟩)
  pointwise

/-- The attention values. -/
theorem ref14 (r : Fin 512) (j : Fin 512) : @Eq EReal ((truncf .bf16 (extractStridedSlice S512x512 ![0, 3072] (proj m c) slices_S512x4168_S512x512_0_3072) bitsLt_bf16_f32) (ix2 r j)) (pr m c r (3072 + (j : ℕ))) := by
  refine Eq.trans ?_ (proj_val m c r ⟨3072 + (j : ℕ), by omega⟩)
  pointwise

/-- The index keys. -/
theorem ref15 (r : Fin 512) (j : Fin 64) : @Eq EReal ((extractStridedSlice S512x64 ![0, 4096] (proj m c) slices_S512x4168_S512x64_0_4096) (ix2 r j)) (pr m c r (4096 + (j : ℕ))) := by
  refine Eq.trans ?_ (proj_val m c r ⟨4096 + (j : ℕ), by omega⟩)
  pointwise

/-- The transposed attention queries. -/
theorem ref16 (j : Fin 512) (r : Fin 512) : @Eq EReal ((truncf .bf16 (transpose S512x512 [1, 0] (extractStridedSlice S512x512 ![0, 2048] (proj m c) slices_S512x4168_S512x512_0_2048) transposes_S512x512_S512x512_1_0) bitsLt_bf16_f32) (ix2 j r)) (pr m c r (2048 + (j : ℕ))) := by
  refine Eq.trans ?_ (proj_val m c r ⟨2048 + (j : ℕ), by omega⟩)
  pointwise

/-- The transposed index queries. -/
theorem ref17 (j : Fin 512) (r : Fin 512) : @Eq EReal ((truncf .bf16 (transpose S512x512 [1, 0] (extractStridedSlice S512x512 ![0, 3584] (proj m c) slices_S512x4168_S512x512_0_3584) transposes_S512x512_S512x512_1_0) bitsLt_bf16_f32) (ix2 j r)) (pr m c r (3584 + (j : ℕ))) := by
  refine Eq.trans ?_ (proj_val m c r ⟨3584 + (j : ℕ), by omega⟩)
  pointwise

/-- The transposed index keys and weights. -/
theorem ref18 (j : Fin 128) (r : Fin 512) :
    @Eq EReal ((transpose S128x512 [1, 0] (pad S512x128 ![0, 0] ![0, 56] ![0, 0] (concatenate S512x72 1 [⟨S512x64, (extractStridedSlice S512x64 ![0, 4096] (proj m c) slices_S512x4168_S512x64_0_4096)⟩, ⟨S512x8, (extractStridedSlice S512x8 ![0, 4160] (proj m c) slices_S512x4168_S512x8_0_4160)⟩] concatenates_S512x64_S512x8_S512x72_d1) (sitofp .f32 (constantI S_ 32 0#32)) pads_S512x72_S512x128_000_0560 h_S_) transposes_S512x128_S128x512_1_0) (ix2 j r)) (pr m c r (4096 + (j : ℕ))) := by
  by_cases h : (j : ℕ) < 64
  · refine Eq.trans ?_ (proj_val m c r ⟨4096 + (j : ℕ), by omega⟩)
    pointwise
    rw [dif_pos (by omega), dif_pos h]
  · by_cases h' : (j : ℕ) < 72
    · refine Eq.trans ?_ (proj_val m c r ⟨4096 + (j : ℕ), by omega⟩)
      pointwise
      rw [dif_pos h', dif_neg h]
      exact congrArg (fun n : Fin 4168 => proj m c (ix2 r n)) (Fin.ext (by dsimp only; omega))
    · have z : pr m c r (4096 + (j : ℕ)) = 0 := by
        unfold pr prj Wc
        simp [show ¬ (4096 + (j : ℕ) < 4168) by omega]
      rw [z]
      pointwise
      rw [dif_neg h']
      exact Cert.Kernel3Ideal.Body.word_zero

end Cert.Reference3Ideal.Value
-- ==== Proof.SaClaim.lean ====
module

public import proofs.«01_k».proof.Proof.SaRef
public import proofs.«01_k».proof.Defs
public import Idealize.ShloMosaic.Lib.Claim

/-!
  The input projection of the sample batch's program equals the plain one, and the plain one's frame.
-/

@[expose] public section

set_option maxRecDepth 16384

noncomputable section

namespace Cert.InprojSample

open Idealize.ShloMosaic Idealize.ShloMosaic.TcCoe Idealize.SL.Sem

section
open Cert.Kernel3Ideal Cert.Kernel3Ideal.Gen Cert.Kernel3Ideal.Body

/-- The kernel's program ends with every result array as the launch leaves it, and the arguments unchanged. -/
theorem run_K (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v11_0) = (dats m 0 c).arrAt 7 cfg0.N
      ∧ r.2.mem ((c : Thread nD τ).loc main_v11_1) = (dats m 0 c).arrAt 8 cfg0.N
      ∧ r.2.mem ((c : Thread nD τ).loc main_v11_2) = (dats m 0 c).arrAt 9 cfg0.N
      ∧ r.2.mem ((c : Thread nD τ).loc main_v11_3) = (dats m 0 c).arrAt 10 cfg0.N
      ∧ r.2.mem ((c : Thread nD τ).loc main_v11_4) = (dats m 0 c).arrAt 11 cfg0.N
      ∧ r.2.mem ((c : Thread nD τ).loc main_v11_5) = (dats m 0 c).arrAt 12 cfg0.N
      ∧ r.2.mem ((c : Thread nD τ).loc main_v11_6) = (dats m 0 c).arrAt 13 cfg0.N
      ∧ r.2.mem ((c : Thread nD τ).loc main_v11_7) = (dats m 0 c).arrAt 14 cfg0.N
      ∧ r.2.mem ((c : Thread nD τ).loc main_v11_8) = (dats m 0 c).arrAt 15 cfg0.N
      ∧ r.2.mem ((c : Thread nD τ).loc main_v11_9) = (dats m 0 c).arrAt 16 cfg0.N
      ∧ r.2.mem ((c : Thread nD τ).loc main_v11_10) = (dats m 0 c).arrAt 17 cfg0.N
      ∧ r.2.mem ((c : Thread nD τ).loc main_v11_11) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 7, (h c).1 8, (h c).1 9, (h c).1 10, (h c).1 11, (h c).1 12, (h c).1 13, (h c).1 14, (h c).1 15, (h c).1 16, (h c).1 17, (h c).1 18,
      ((h c).1 0).trans (((dats m 0 c).arrAt_in 0 rfl _).trans ((A_eq m c 0).trans (V_arg0 m c))),
      ((h c).2 main_arg1 (Pipeline.mem_restRefs_of main_arg1 (by decide) (by decide))).trans (V_arg1 m c),
      ((h c).2 main_arg2 (Pipeline.mem_restRefs_of main_arg2 (by decide) (by decide))).trans (V_arg2 m c)⟩) (run_arrays m ρ)

end

/-- The plain program leaves its arguments unchanged and every counter at zero. -/
theorem frame_R : Cert.quiescent_Reference3Ideal := fun m g _ =>
  (θ_run Cert.Reference3Ideal.defs _ _).mono (fun r h => ⟨fun c => (h c).2.2.2.2.2.2.2.2.2.2.2.2,
      Idealize.ShloMosaic.sem_eq_zero_of_no_sems (by decide) r.2⟩)
    (Cert.Reference3Ideal.Value.run (F := Ideal) m g)

section
open Cert.Kernel3Ideal Cert.Kernel3Ideal.Gen Cert.Kernel3Ideal.Body

variable (m : (ℓ : Loc nD τ sig) → Buf (Elt Ideal) ℓ)
  (m' : (ℓ : Loc Cert.Reference3Ideal.nD Cert.Reference3Ideal.τ Cert.Reference3Ideal.sig) → Buf (Elt Ideal) ℓ) (c : Dev nD)
  (h0 : m' ((c.tc : Thread Cert.Reference3Ideal.nD Cert.Reference3Ideal.τ).loc Cert.Reference3Ideal.main_arg0) = m ((c.tc : Thread nD τ).loc main_arg0))
  (h1 : m' ((c.tc : Thread Cert.Reference3Ideal.nD Cert.Reference3Ideal.τ).loc Cert.Reference3Ideal.main_arg1) = m ((c.tc : Thread nD τ).loc main_arg1))
  (h2 : m' ((c.tc : Thread Cert.Reference3Ideal.nD Cert.Reference3Ideal.τ).loc Cert.Reference3Ideal.main_arg2) = m ((c.tc : Thread nD τ).loc main_arg2))

include h0 h1 h2 in
/-- On equal arguments the two projections have equal entries. -/
theorem pr_same (r : Fin 512) (n : ℕ) : Cert.Reference3Ideal.Value.pr m' c r n = Cert.Kernel3Ideal.Body.pr m c r n := by
  refine prj_congr (fun k => congrFun h0 _) (fun k => congrFun h1 _) (fun k => ?_)
  unfold Cert.Reference3Ideal.Value.Wc Cert.Kernel3Ideal.Body.Wc
  by_cases h : n < 4168
  · rw [dif_pos h, dif_pos h]; exact congrFun h2 _
  · rw [dif_neg h, dif_neg h]

/-- A tensor equal to an array entry by entry is that array. -/
theorem tens {R C : ℕ} {f g : (⟨2, ![R, C]⟩ : Shape).Idx → EReal} (h : ∀ (i : Fin R) (j : Fin C), f (ix2 i j) = g (ix2 i j)) : f = g := by
  funext y
  obtain ⟨i, j, rfl⟩ := Retention.pair R C y
  exact h i j

end

/-- The kernel's results are the reference's. -/
theorem algebraic : @Cert.algebraic_Kernel3Ideal_Reference3Ideal Cert.Kernel3Ideal.Gen.facts Cert.Reference3Ideal.Gen.facts := by
  pair_intro
  · run_from run_K m g
  · refine (θ_run Cert.Reference3Ideal.defs _ _).mono (fun r h c => ?_) (Cert.Reference3Ideal.Value.run (F := Ideal) m' g')
    obtain ⟨h0, h1, h2⟩ := hagree c
    obtain ⟨e7, e8, e9, e10, e11, e12, e13, e14, e15, e16, e17, e18, e0, e1, e2⟩ := h c
    have same := pr_same m m' c h0 h1 h2
    refine ⟨e7.trans ?_, e8.trans ?_, e9.trans ?_, e10.trans ?_, e11.trans ?_, e12.trans ?_, e13.trans ?_, e14.trans ?_, e15.trans ?_, e16.trans ?_, e17.trans ?_, e18.trans ?_, e0, e1, e2⟩
    · exact Eq.trans (tens fun i j => (Cert.Reference3Ideal.Value.ref7 m' c i j).trans (same _ _)) (Cert.Kernel3Ideal.Body.arr7 m c).symm
    · exact Eq.trans (tens fun i j => (Cert.Reference3Ideal.Value.ref8 m' c i j).trans (same _ _)) (Cert.Kernel3Ideal.Body.arr8 m c).symm
    · exact Eq.trans (tens fun i j => (Cert.Reference3Ideal.Value.ref9 m' c i j).trans (same _ _)) (Cert.Kernel3Ideal.Body.arr9 m c).symm
    · exact Eq.trans (tens fun i j => (Cert.Reference3Ideal.Value.ref10 m' c i j).trans (same _ _)) (Cert.Kernel3Ideal.Body.arr10 m c).symm
    · exact Eq.trans (tens fun i j => (Cert.Reference3Ideal.Value.ref11 m' c i j).trans (same _ _)) (Cert.Kernel3Ideal.Body.arr11 m c).symm
    · exact Eq.trans (tens fun i j => (Cert.Reference3Ideal.Value.ref12 m' c i j).trans (same _ _)) (Cert.Kernel3Ideal.Body.arr12 m c).symm
    · exact Eq.trans (tens fun i j => (Cert.Reference3Ideal.Value.ref13 m' c i j).trans (same _ _)) (Cert.Kernel3Ideal.Body.arr13 m c).symm
    · exact Eq.trans (tens fun i j => (Cert.Reference3Ideal.Value.ref14 m' c i j).trans (same _ _)) (Cert.Kernel3Ideal.Body.arr14 m c).symm
    · exact Eq.trans (tens fun i j => (Cert.Reference3Ideal.Value.ref15 m' c i j).trans (same _ _)) (Cert.Kernel3Ideal.Body.arr15 m c).symm
    · exact Eq.trans (tens fun i j => (Cert.Reference3Ideal.Value.ref16 m' c i j).trans (same _ _)) (Cert.Kernel3Ideal.Body.arr16 m c).symm
    · exact Eq.trans (tens fun i j => (Cert.Reference3Ideal.Value.ref17 m' c i j).trans (same _ _)) (Cert.Kernel3Ideal.Body.arr17 m c).symm
    · exact Eq.trans (tens fun i j => (Cert.Reference3Ideal.Value.ref18 m' c i j).trans (same _ _)) (Cert.Kernel3Ideal.Body.arr18 m c).symm

end Cert.InprojSample
-- ==== Proof.SrPoint.lean ====
module

public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## One head of one block -/

/-- The 128 columns of head `h` of a 16×512 block. -/
def cs {φ : EltTy} (h : Fin 4) (X : Vec Ideal S16x512 φ) : Vec Ideal S16x128 φ :=
  View.ld X (Rect.unit ![0, 128 * h.val] ![16, 128] (by intro a; fin_cases a <;> simp <;> omega))
/-- The 128 columns of head `h` of a 1×512 row. -/
def gs (h : Fin 4) (X : Vec Ideal S1x512 .f32) : Vec Ideal S1x128 .f32 :=
  View.ld X (Rect.unit ![0, 128 * h.val] ![1, 128] (by intro a; fin_cases a <;> simp <;> omega))
/-- The decay matrix of head `h`. -/
def ms (h : Fin 4) (X : Vec Ideal S4x16x16 .f32) : Vec Ideal S1x16x16 .f32 :=
  View.ld X (Rect.unit ![h.val, 0, 0] ![1, 16, 16] (by intro a; fin_cases a <;> simp <;> omega))
/-- The state of head `h`. -/
def ss (h : Fin 4) (X : Vec Ideal S1x4x128x128 .f32) : Vec Ideal S1x1x128x128 .f32 :=
  View.ld X (Rect.unit ![0, h.val, 0, 0] ![1, 1, 128, 128] (by intro a; fin_cases a <;> simp <;> omega))
/-- Head `h`'s decay over a whole block, read from scalar memory. -/
def ds (h : Fin 4) (X : Vec Ideal S4 .f32) : Elt Ideal .f32 :=
  View.ld X (Rect.unit ![h.val] ![1] (by intro a; fin_cases a <;> simp <;> omega)) (Shape.Idx.first (show 0 < (⟨1, ![1]⟩ : Shape).numel by decide))

/-- What the body computes for head `h` before the norm. -/
def oK (h : Fin 4) (x1 x2 : Vec Ideal S16x512 .f32) (x3 : Vec Ideal S16x512 .bf16) (x5 x6 : Vec Ideal S16x128 .f32)
    (x7 : Vec Ideal S4x16x16 .f32) (x8 : Vec Ideal S16x512 .f32) (s : Vec Ideal S1x4x128x128 .f32) : FVec Ideal S16x128 .f32 :=
  k0_pay14 (k0_pay3 x5) (k0_pay4 x6) (cs h x1) (cs h x2) (cs h x3) (ss h s) (ms h x7) (cs h x8)

/-- What the body stores for head `h`: the norm and the gate of `oK`. -/
def outK (h : Fin 4) (o : FVec Ideal S16x128 .f32) (x4 : Vec Ideal S16x512 .f32) (x10 : Vec Ideal S1x512 .f32) : FVec Ideal S16x128 .bf16 :=
  k0_pay16 o (gs h x10) (cs h x4)

/-- The state of head `h` after the block. -/
def sK (h : Fin 4) (x0 : Vec Ideal S4 .f32) (x2 : Vec Ideal S16x512 .f32) (x3 : Vec Ideal S16x512 .bf16) (x5 x6 : Vec Ideal S16x128 .f32)
    (x9 : Vec Ideal S16x512 .f32) (s : Vec Ideal S1x4x128x128 .f32) : FVec Ideal S1x1x128x128 .f32 :=
  k0_pay15 (k0_pay12 (k0_pay3 x5) (k0_pay4 x6) (cs h x2)) (cs h x3) (k0_pay13 (ss h s)) (cs h x9) (ds h x0)

/-- A column `128 h + z` of 512 that is column `x` of the head at offset `128 k` lies in head `k`, at the same place. -/
theorem head_eq (h : Fin 4) (k : Fin 4) (z x : S16x128.Idx) (y0 y1 : ℕ) (h0 : y0 = z 0) (h1 : y1 = 128 * h.val + z 1)
    (g0 : y0 = x 0) (g1 : y1 = 128 * k.val + x 1) : h = k ∧ z = x := by
  have hz : (z 1 : ℕ) < 128 := (z 1).isLt
  have hx : (x 1 : ℕ) < 128 := (x 1).isLt
  have hk : h.val = k.val := by omega
  refine ⟨Fin.ext hk, ?_⟩
  funext a
  apply Fin.ext
  fin_cases a
  · show (z 0 : ℕ) = x 0; omega
  · show (z 1 : ℕ) = x 1; omega

/-- The output block at a grid point: the state entering is the entering state's block. -/
theorem out12_at (c : Dev nD) (t : Fin cfg0.N) (h : Fin 4) (y : S16x512.Idx) (z : S16x128.Idx)
    (hy0 : (y 0 : ℕ) = z 0) (hy1 : (y 1 : ℕ) = 128 * h.val + z 1) :
    (outsAt0 m c t).1 y
      = outK h (oK h (iblk m c 1 t) (iblk m c 2 t) (iblk m c 3 t) (iblk m c 5 t) (iblk m c 6 t) (iblk m c 7 t) (iblk m c 8 t)
          (iblk m c 11 t)) (iblk m c 4 t) (iblk m c 10 t) z := by
  unfold outsAt0
  frame_out
  simp (disch := decide) only [↓View.readCov_skip, ↓View.readCov_fill]
  canon_tiles x hx
  · obtain ⟨rfl, rfl⟩ := head_eq h 3 z x _ _ hy0 hy1 hx0 hx1; rfl
  · obtain ⟨rfl, rfl⟩ := head_eq h 2 z x _ _ hy0 hy1 hx0 hx1; rfl
  · obtain ⟨rfl, rfl⟩ := head_eq h 1 z x _ _ hy0 hy1 hx0 hx1; rfl
  · obtain ⟨rfl, rfl⟩ := head_eq h 0 z x _ _ hy0 hy1 hx0 (by rw [hx1]; simp); rfl

/-- The coordinates of a state index name head and place. -/
theorem ste_eq (h k : Fin 4) (d e : Fin 128) (x : S1x1x128x128.Idx) (y1 y2 y3 : ℕ) (h1 : y1 = h.val) (h2 : y2 = d.val) (h3 : y3 = e.val)
    (g1 : y1 = k.val + x 1) (g2 : y2 = x 2) (g3 : y3 = x 3) : h = k ∧ ValueIdx.ix4 0 0 d e = x := by
  have hx : (x 1 : ℕ) < 1 := (x 1).isLt
  have hx0 : (x 0 : ℕ) < 1 := (x 0).isLt
  refine ⟨Fin.ext (by omega), ?_⟩
  funext a
  apply Fin.ext
  fin_cases a
  · show 0 = (x 0 : ℕ); omega
  · show 0 = (x 1 : ℕ); omega
  · show d.val = (x 2 : ℕ); omega
  · show e.val = (x 3 : ℕ); omega

/-- A coordinate of a unit-stride rectangle. -/
theorem one_emb (o x : ℕ) : o + 1 * x = o + x := by omega

/-- One head's piece of the state block, read at its place in the block. -/
theorem G_piece (k : Fin 4) (f : S1x1x128x128.Idx → EReal) (g : Fin 4 → S1x1x128x128.Idx → EReal) (hf : f = g k) (x : S1x1x128x128.Idx)
    (y : S1x4x128x128.Idx) (h1 : (y 1 : ℕ) = k.val + x 1) (h2 : (y 2 : ℕ) = 0 + x 2) (h3 : (y 3 : ℕ) = 0 + x 3) :
    f x = g ⟨(y 1 : ℕ), (y 1).isLt⟩ (ValueIdx.ix4 0 0 ⟨(y 2 : ℕ), (y 2).isLt⟩ ⟨(y 3 : ℕ), (y 3).isLt⟩) := by
  obtain ⟨e1, e2⟩ := ste_eq ⟨(y 1 : ℕ), (y 1).isLt⟩ k ⟨(y 2 : ℕ), (y 2).isLt⟩ ⟨(y 3 : ℕ), (y 3).isLt⟩ x _ _ _ rfl rfl rfl h1
    (by rw [h2, Nat.zero_add]) (by rw [h3, Nat.zero_add])
  rw [e1, e2, hf]

/-- The state block at a grid point. -/
theorem out13_at (c : Dev nD) (t : Fin cfg0.N) (h : Fin 4) (y : S1x4x128x128.Idx) (d e : Fin 128)
    (hy1 : (y 1 : ℕ) = h) (hy2 : (y 2 : ℕ) = d) (hy3 : (y 3 : ℕ) = e) :
    (outsAt0 m c t).2 y
      = sK h (iblk m c 0 t) (iblk m c 2 t) (iblk m c 3 t) (iblk m c 5 t) (iblk m c 6 t) (iblk m c 9 t)
          (iblk m c 11 t) (ValueIdx.ix4 0 0 d e) := by
  have key : ∀ h' d' e', h' = h → d' = d → e' = e → (outsAt0 m c t).2 y
      = sK h' (iblk m c 0 t) (iblk m c 2 t) (iblk m c 3 t) (iblk m c 5 t) (iblk m c 6 t) (iblk m c 9 t)
          (iblk m c 11 t) (ValueIdx.ix4 0 0 d' e') → _ := fun _ _ _ h1 h2 h3 e => by rw [h1, h2, h3] at e; exact e
  refine key (⟨(y 1 : ℕ), (y 1).isLt⟩ : Fin 4) ⟨(y 2 : ℕ), (y 2).isLt⟩ ⟨(y 3 : ℕ), (y 3).isLt⟩ (Fin.ext hy1) (Fin.ext hy2) (Fin.ext hy3) ?_
  unfold outsAt0
  frame_out
  simp (disch := decide) only [↓View.readCov_skip, ↓View.readCov_fill]
  refine View.canon_append_of_piecesOf (Val := Elt Ideal) (e := .f32) (fun y : S1x4x128x128.Idx => sK (⟨(y 1 : ℕ), (y 1).isLt⟩ : Fin 4) (iblk m c 0 t) (iblk m c 2 t) (iblk m c 3 t)
    (iblk m c 5 t) (iblk m c 6 t) (iblk m c 9 t) (iblk m c 11 t) (ValueIdx.ix4 0 0 ⟨(y 2 : ℕ), (y 2).isLt⟩ ⟨(y 3 : ℕ), (y 3).isLt⟩)) [_] [_, _, _, _] ⟨?_, ?_, ?_, ?_, trivial⟩ y ?_
  · intro x; exact G_piece 3 _ (fun h => sK h (iblk m c 0 t) (iblk m c 2 t) (iblk m c 3 t) (iblk m c 5 t) (iblk m c 6 t) (iblk m c 9 t) (iblk m c 11 t)) rfl x _
      (one_emb 3 (x 1)) (one_emb 0 (x 2)) (one_emb 0 (x 3))
  · intro x; exact G_piece 2 _ (fun h => sK h (iblk m c 0 t) (iblk m c 2 t) (iblk m c 3 t) (iblk m c 5 t) (iblk m c 6 t) (iblk m c 9 t) (iblk m c 11 t)) rfl x _
      (one_emb 2 (x 1)) (one_emb 0 (x 2)) (one_emb 0 (x 3))
  · intro x; exact G_piece 1 _ (fun h => sK h (iblk m c 0 t) (iblk m c 2 t) (iblk m c 3 t) (iblk m c 5 t) (iblk m c 6 t) (iblk m c 9 t) (iblk m c 11 t)) rfl x _
      (one_emb 1 (x 1)) (one_emb 0 (x 2)) (one_emb 0 (x 3))
  · intro x; exact G_piece 0 _ (fun h => sK h (iblk m c 0 t) (iblk m c 2 t) (iblk m c 3 t) (iblk m c 5 t) (iblk m c 6 t) (iblk m c 9 t) (iblk m c 11 t)) rfl x _
      (one_emb 0 (x 1)) (one_emb 0 (x 2)) (one_emb 0 (x 3))
  · have hy0 : (y 0 : ℕ) < 1 := (y 0).isLt
    have b1 : (y 1 : ℕ) < 4 := (y 1).isLt
    have b2 : (y 2 : ℕ) < 128 := (y 2).isLt
    have b3 : (y 3 : ℕ) < 128 := (y 3).isLt
    rcases (show (y 1 : ℕ) = 3 ∨ (y 1 : ℕ) = 2 ∨ (y 1 : ℕ) = 1 ∨ (y 1 : ℕ) = 0 by omega) with q | q | q | q
    · refine ⟨_, List.Mem.head _, ?_⟩
      refine (Rect.mem_set_unit (inb := inb_S1x4x128x128_S1x1x128x128_0_3_0_0)).mpr fun a => ?_
      fin_cases a <;> simp <;> omega
    · refine ⟨_, List.Mem.tail _ (List.Mem.head _), ?_⟩
      refine (Rect.mem_set_unit (inb := inb_S1x4x128x128_S1x1x128x128_0_2_0_0)).mpr fun a => ?_
      fin_cases a <;> simp <;> omega
    · refine ⟨_, List.Mem.tail _ (List.Mem.tail _ (List.Mem.head _)), ?_⟩
      refine (Rect.mem_set_unit (inb := inb_S1x4x128x128_S1x1x128x128_0_1_0_0)).mpr fun a => ?_
      fin_cases a <;> simp <;> omega
    · refine ⟨_, List.Mem.tail _ (List.Mem.tail _ (List.Mem.tail _ (List.Mem.head _))), ?_⟩
      refine (Rect.mem_set_unit (inb := inb_S1x4x128x128_S1x1x128x128_0_0_0_0)).mpr fun a => ?_
      fin_cases a <;> simp <;> omega

end Cert.Kernel4Ideal.Value
-- ==== Proof.SrSpec.lean ====
module

public import proofs.«01_k».proof.Proof.Spec

/-!
  The retention call of the second batch: sequences of 16 positions that start at position 1024. One chunk holds a whole
  sequence, so both programs compute the same sums and no property of the numbers is needed. The sums are stated here
  over extended reals.
-/

@[expose] public section

noncomputable section

namespace Cert.RetSample

open Idealize.ShloMosaic Cert.Retention

theorem lit_15 : Ideal.ofBits .f32 1097859072#32 = ((15 : ℝ) : EReal) := by
  simp [Ideal.ofBits, Ideal.ieee, -EReal.coe_mul]; norm_num
theorem lit_16 : Ideal.ofBits .f32 1098907648#32 = ((16 : ℝ) : EReal) := by
  simp [Ideal.ofBits, Ideal.ieee, -EReal.coe_mul]; norm_num

/-- A position of the second batch as a word. -/
theorem pos_eq (p : ℕ) : IntOp.addi 1024#32 (BitVec.ofNat 32 p) = BitVec.ofNat 32 (1024 + p) := (BitVec.ofNat_add 1024 p).symm

/-- The cosine of rotary pair `d` at offset `p`. -/
def cosE (p d : ℕ) : EReal := ((Real.cos (angle (1024 + p) d) : ℝ) : EReal)
/-- The sine of rotary pair `d` at offset `p`. -/
def sinE (p d : ℕ) : EReal := ((Real.sin (angle (1024 + p) d) : ℝ) : EReal)

/-- The rotary embedding of head `h` of sequence `b`, at offset `p` and coordinate `d`. -/
def rotE (x : ℕ → ℕ → EReal) (b h p d : ℕ) : EReal :=
  if d < 64 then x (b * 16 + p) (h * 128 + d) * cosE p d - x (b * 16 + p) (h * 128 + (64 + d)) * sinE p d
  else x (b * 16 + p) (h * 128 + (d - 64)) * sinE p (d - 64) + x (b * 16 + p) (h * 128 + d) * cosE p (d - 64)

/-- The rotated and scaled keys. -/
def keyE (x : ℕ → ℕ → EReal) (b h p d : ℕ) : EReal := rotE x b h p d * Ideal.ofBits .f32 1035273459#32

/-- The values of head `h` of sequence `b`. -/
def valE (x : ℕ → ℕ → EReal) (b h p e : ℕ) : EReal := x (b * 16 + p) (h * 128 + e)

/-- The decay from offset `y` to offset `i`: zero where `y` is the later one. -/
def decE (h i y : ℕ) : EReal := ((if y ≤ i then Real.exp (((i : ℝ) - y) * rate h) else 0 : ℝ) : EReal)
/-- The decay of the entering state to offset `i`. -/
def qdE (h i : ℕ) : EReal := ((Real.exp (((i : ℝ) + 1) * rate h) : ℝ) : EReal)
/-- The decay of a key at offset `i` to the end of its sequence. -/
def kdE (h i : ℕ) : EReal := ((Real.exp (((15 : ℝ) - i) * rate h) : ℝ) : EReal)
/-- The decay of the state over the whole sequence. -/
def cdE (h : ℕ) : EReal := ((Real.exp ((16 : ℝ) * rate h) : ℝ) : EReal)

/-- The part of the output that comes from the sequence's own keys and values. -/
def intraE (xq xk xv : ℕ → ℕ → EReal) (b h i e : ℕ) : EReal :=
  ∑ y : Fin 16, (∑ d : Fin 128, rotE xq b h i d * keyE xk b h y d) * decE h i y * valE xv b h y e

/-- The part of the output that comes from the entering state. -/
def interE (xq : ℕ → ℕ → EReal) (x0 : ℕ → ℕ → ℕ → ℕ → EReal) (b h i e : ℕ) : EReal :=
  ∑ d : Fin 128, rotE xq b h i d * qdE h i * x0 b h d e

/-- What the sequence adds to the state. -/
def addE (xk xv : ℕ → ℕ → EReal) (b h d e : ℕ) : EReal := ∑ y : Fin 16, keyE xk b h y d * kdE h y * valE xv b h y e

/-- The state after the sequence. -/
def stateE (xk xv : ℕ → ℕ → EReal) (x0 : ℕ → ℕ → ℕ → ℕ → EReal) (b h d e : ℕ) : EReal := cdE h * x0 b h d e + addE xk xv b h d e

/-- An array of rank two by natural-number indices, zero outside. -/
def nat2 {R C : ℕ} (X : Fin R → Fin C → EReal) (r j : ℕ) : EReal := if h : r < R ∧ j < C then X ⟨r, h.1⟩ ⟨j, h.2⟩ else 0

theorem nat2_eq {R C : ℕ} (X : Fin R → Fin C → EReal) (r : Fin R) (j : Fin C) : X r j = nat2 X r j := by
  rw [nat2, dif_pos ⟨r.2, j.2⟩]

/-- An array of rank four by natural-number indices, zero outside. -/
def nat4 {A B C D : ℕ} (X : Fin A → Fin B → Fin C → Fin D → EReal) (a b c d : ℕ) : EReal :=
  if h : a < A ∧ b < B ∧ c < C ∧ d < D then X ⟨a, h.1⟩ ⟨b, h.2.1⟩ ⟨c, h.2.2.1⟩ ⟨d, h.2.2.2⟩ else 0

theorem nat4_eq {A B C D : ℕ} (X : Fin A → Fin B → Fin C → Fin D → EReal) (a : Fin A) (b : Fin B) (c : Fin C) (d : Fin D) :
    X a b c d = nat4 X a b c d := by
  rw [nat4, dif_pos ⟨a.2, b.2, c.2, d.2⟩]

end Cert.RetSample
-- ==== Proof.SrHead.lean ====
module

public import proofs.«01_k».proof.Proof.SrPoint
public import proofs.«01_k».proof.Proof.SrSpec
public import Idealize.ShloMosaic.Lib.Pointwise

@[expose] public section

set_option maxRecDepth 16384

noncomputable section

namespace Cert.Kernel4Ideal.Value

open Cert.Kernel4Ideal Cert.Kernel4Ideal.Gen Idealize.ShloMosaic Idealize.ShloMosaic.TcCoe Idealize.SL.Sem

/-! ## What one head of one block computes, entry by entry -/

/-- The rotary embedding as the kernel computes it: the head's columns times one table, and the columns half a head
    away times another. -/
def turn (h : Fin 4) (x : Vec Ideal S16x512 .f32) (cc sn : Vec Ideal S16x128 .f32) (t : Fin 16) (d : Fin 128) : EReal :=
  HAdd.hAdd (α := EReal) (β := EReal)
    (HMul.hMul (α := EReal) (β := EReal) (x (ix2 t ⟨128 * h + d, by omega⟩)) (cc (ix2 t d)))
    (HMul.hMul (α := EReal) (β := EReal) (x (ix2 t ⟨128 * h + (d + 128 - 64) % 128, by omega⟩)) (sn (ix2 t d)))

/-- One entry of a head's output before normalisation: the part from the block itself and the part from the state. -/
theorem oK_at (h : Fin 4) (x1 x2 : Vec Ideal S16x512 .f32) (x3 : Vec Ideal S16x512 .bf16) (x5 x6 : Vec Ideal S16x128 .f32)
    (x7 : Vec Ideal S4x16x16 .f32) (x8 : Vec Ideal S16x512 .f32) (s : Vec Ideal S1x4x128x128 .f32) (t : Fin 16) (e : Fin 128) :
    @Eq EReal (oK h x1 x2 x3 x5 x6 x7 x8 s (ix2 t e))
      (HAdd.hAdd (α := EReal) (β := EReal)
        (∑ y : Fin 16, HMul.hMul (α := EReal) (β := EReal)
          (HMul.hMul (α := EReal) (β := EReal) (∑ d : Fin 128, turn h x1 x5 x6 t d * (turn h x2 x5 x6 y d * Ideal.ofBits .f32 1035273459#32)) (x7 (ix3 h t y)))
          (x3 (ix2 y ⟨128 * h + e, by omega⟩)))
        (∑ d : Fin 128, HMul.hMul (α := EReal) (β := EReal)
          (HMul.hMul (α := EReal) (β := EReal) (turn h x1 x5 x6 t d) (x8 (ix2 t ⟨128 * h + d, by omega⟩))) (s (ix4 0 h d e)))) := by
  pointwise [oK, cs, gs, ms, ss, ds, k0_pay14, k0_pay13, k0_pay12, k0_pay3, k0_pay4]
  rfl

/-- One entry of a head's state after a block. -/
theorem sK_at (h : Fin 4) (x0 : Vec Ideal S4 .f32) (x2 : Vec Ideal S16x512 .f32) (x3 : Vec Ideal S16x512 .bf16) (x5 x6 : Vec Ideal S16x128 .f32)
    (x9 : Vec Ideal S16x512 .f32) (s : Vec Ideal S1x4x128x128 .f32) (d e : Fin 128) :
    @Eq EReal (sK h x0 x2 x3 x5 x6 x9 s (ix4 0 0 d e))
      (HAdd.hAdd (α := EReal) (β := EReal) (HMul.hMul (α := EReal) (β := EReal) (x0 (ix1 h)) (s (ix4 0 h d e)))
        (∑ y : Fin 16, HMul.hMul (α := EReal) (β := EReal)
          (HMul.hMul (α := EReal) (β := EReal) (turn h x2 x5 x6 y d * Ideal.ofBits .f32 1035273459#32) (x9 (ix2 y ⟨128 * h + d, by omega⟩)))
          (x3 (ix2 y ⟨128 * h + e, by omega⟩)))) := by
  pointwise [sK, cs, gs, ms, ss, ds, k0_pay15, k0_pay13, k0_pay12, k0_pay3, k0_pay4]
  rfl

/-- One entry of a head's result: the output row normalised and gated. -/
theorem outK_at (h : Fin 4) (o : FVec Ideal S16x128 .f32) (x4 : Vec Ideal S16x512 .f32) (x10 : Vec Ideal S1x512 .f32) (t : Fin 16) (e : Fin 128) :
    @Eq EReal (outK h o x4 x10 (ix2 t e))
      (Cert.Retention.gated (fun x => o (ix2 t x)) (x4 (ix2 t ⟨128 * h + e, by omega⟩)) (x10 (ix2 0 ⟨128 * h + e, by omega⟩)) e) := by
  pointwise [outK, cs, gs, k0_pay16]
  rfl

end Cert.Kernel4Ideal.Value
-- ==== Proof.SrHost.lean ====
module

public import proofs.«01_k».proof.Proof.SrPoint
public import proofs.«01_k».proof.Proof.SrSpec
public import Idealize.ShloMosaic.Lib.Pointwise
public import Idealize.ShloMosaic.Lib.StableHlo.RunRead
public import Idealize.ShloMosaic.Lib.StableHlo.RunLoop

@[expose] public section

set_option maxRecDepth 16384

noncomputable section

namespace Cert.Kernel4Ideal.Value

open Cert.Kernel4Ideal Cert.Kernel4Ideal.Gen Idealize.ShloMosaic Idealize.ShloMosaic.TcCoe Idealize.SL.Sem Cert.Retention Cert.RetSample

variable (m : (ℓ : Loc nD τ sig) → Buf (Elt Ideal) ℓ)

/-! ## The tables the host prepares -/

set_option maxHeartbeats 2000000 in
/-- The cosine table. -/
theorem V_cos (c : Dev nD) (t : Fin 16) (d : Fin 128) :
    @Eq EReal (V m c main_v17 (ix2 t d)) (cosE t (if (d : ℕ) < 64 then d else d - 64)) := by
  unfold V
  rw [← StableHlo.afterL_eq_after_flatten]
  simp only [StableHlo.afterL_cons, StableHlo.afterL_nil]
  after_reads_simp
  pointwise
  split
  · rw [pos_eq, angle_eq _ _ (by omega) (by omega), Ideal.cos_coe]; rfl
  · rw [pos_eq, angle_eq _ _ (by omega) (by omega), Ideal.cos_coe]; rfl

set_option maxHeartbeats 2000000 in
/-- The sine table, negated in its first half. -/
theorem V_sin (c : Dev nD) (t : Fin 16) (d : Fin 128) :
    @Eq EReal (V m c main_v21 (ix2 t d)) (if (d : ℕ) < 64 then -sinE t d else sinE t (d - 64)) := by
  unfold V
  rw [← StableHlo.afterL_eq_after_flatten]
  simp only [StableHlo.afterL_cons, StableHlo.afterL_nil]
  after_reads_simp
  pointwise
  split
  · rw [pos_eq, angle_eq _ _ (by omega) (by omega), Ideal.sin_coe]; rfl
  · rw [pos_eq, angle_eq _ _ (by omega) (by omega), Ideal.sin_coe]; rfl

set_option maxHeartbeats 2000000 in
/-- The decay between two positions of one block. -/
theorem V_dmat (c : Dev nD) (h : Fin 4) (t s : Fin 16) :
    @Eq EReal (V m c main_v47 (ix3 h t s)) (decE h t s) := by
  unfold V
  rw [← StableHlo.afterL_eq_after_flatten]
  simp only [StableHlo.afterL_cons, StableHlo.afterL_nil]
  after_reads_simp
  simp -implicitDefEqProofs only [StableHlo.TRef.toBuf, StableHlo.TRef.ofBuf, cast_cast, cast_eq]
  pointwise
  simp only [id_eq, constant_apply]
  have ez : FloatOps.ofBits (F := Ideal) .f32 0#32 = (0 : EReal) := Ideal.ofBits_zero_f32
  rw [rate_eq h h.2, nat_float t (by omega), nat_float s (by omega), ez]
  exact decay_eq t s (rate h)

set_option maxHeartbeats 2000000 in
/-- The decay of a key to the end of its block. -/
theorem V_kd (c : Dev nD) (t : Fin 16) (j : Fin 512) :
    @Eq EReal (V m c main_v57 (ix2 t j)) (kdE (j / 128 : ℕ) t) := by
  unfold V
  rw [← StableHlo.afterL_eq_after_flatten]
  simp only [StableHlo.afterL_cons, StableHlo.afterL_nil]
  after_reads_simp
  pointwise
  rw [rate_eq (j / 128) (by omega), nat_float t (by omega), lit_15, ← EReal.coe_sub, ← EReal.coe_mul, Ideal.exp_coe]
  rfl

set_option maxHeartbeats 2000000 in
/-- The decay of the state to a query's position. -/
theorem V_qd (c : Dev nD) (t : Fin 16) (j : Fin 512) :
    @Eq EReal (V m c main_v67 (ix2 t j)) (qdE (j / 128 : ℕ) t) := by
  unfold V
  rw [← StableHlo.afterL_eq_after_flatten]
  simp only [StableHlo.afterL_cons, StableHlo.afterL_nil]
  after_reads_simp
  pointwise
  rw [rate_eq (j / 128) (by omega), nat_float t (by omega), ← EReal.coe_one, ← EReal.coe_add, ← EReal.coe_mul, Ideal.exp_coe]
  rfl

/-- The decay of the state over one block. -/
theorem V_cd (c : Dev nD) (h : Fin 4) : @Eq EReal (V m c main_v70 (ix1 h)) (cdE h) := by
  unfold V
  rw [← StableHlo.afterL_eq_after_flatten]
  simp only [StableHlo.afterL_cons, StableHlo.afterL_nil]
  after_reads_simp
  pointwise
  rw [rate_eq h h.2, lit_16, ← EReal.coe_mul, Ideal.exp_coe]
  rfl

/-- The normalisation's weights, as the kernel takes them. -/
theorem V_g (c : Dev nD) (j : Fin 512) : @Eq EReal (V m c main_v71 (ix2 0 j)) (m (c, Proc.devRef .tc main_arg5) (ix1 j)) := by
  unfold V
  rw [← StableHlo.afterL_eq_after_flatten]
  simp only [StableHlo.afterL_cons, StableHlo.afterL_nil]
  after_reads_simp
  pointwise

end Cert.Kernel4Ideal.Value
-- ==== Proof.SrVal.lean ====
module

public import proofs.«01_k».proof.Proof.SrHead
public import proofs.«01_k».proof.Proof.SrHost

/-!
  What the kernel's grid computes for the second batch, one sequence a grid point, and the two result arrays.
-/

@[expose] public section

set_option maxRecDepth 16384

noncomputable section

namespace Cert.Kernel4Ideal.Value

open Cert.Kernel4Ideal Cert.Kernel4Ideal.Gen Idealize.ShloMosaic Idealize.ShloMosaic.TcCoe Idealize.SL.Sem Cert.Retention Cert.RetSample

variable (m : (ℓ : Loc nD τ sig) → Buf (Elt Ideal) ℓ) (c : Dev nD)

/-! ## The bodies' formulas -/

/-- The kernel's rotary embedding, which adds a table with negated sines, is the rotation. -/
theorem turn_eq (x : Vec Ideal S16x512 .f32) (cc sn : Vec Ideal S16x128 .f32) (xr : ℕ → ℕ → EReal) (b : ℕ) (h : Fin 4) (i : Fin 16) (d : Fin 128)
    (hx : ∀ j : Fin 512, @Eq EReal (x (ix2 i j)) (xr (b * 16 + i) j))
    (hc : ∀ d : Fin 128, @Eq EReal (cc (ix2 i d)) (cosE i (if (d : ℕ) < 64 then d else d - 64)))
    (hs : ∀ d : Fin 128, @Eq EReal (sn (ix2 i d)) (if (d : ℕ) < 64 then -sinE i d else sinE i (d - 64))) :
    turn h x cc sn i d = rotE xr b h i d := by
  unfold turn
  rw [hx, hx, hc, hs]
  unfold rotE
  dsimp only
  by_cases hd : (d : ℕ) < 64
  · rw [if_pos hd, if_pos hd, if_pos hd, show (128 * (h : ℕ) + ((d : ℕ) + 128 - 64) % 128) = (h : ℕ) * 128 + (64 + (d : ℕ)) by omega,
      show 128 * (h : ℕ) + (d : ℕ) = (h : ℕ) * 128 + d by omega, mul_neg, sub_eq_add_neg]
  · rw [if_neg hd, if_neg hd, if_neg hd, show (128 * (h : ℕ) + ((d : ℕ) + 128 - 64) % 128) = (h : ℕ) * 128 + ((d : ℕ) - 64) by omega,
      show 128 * (h : ℕ) + (d : ℕ) = (h : ℕ) * 128 + d by omega]
    exact add_comm _ _

/-! ## The blocks that a grid point reads -/

theorem idx0 : ∀ t : Fin cfg0.N, win0_0.index t = ![0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0, 0, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0, 0, 0] := (by decide +kernel : ∀ t : Fin grid0.N, _)

theorem lt_N (t : Fin cfg0.N) : t.val < 32 := lt_of_lt_of_eq t.isLt (by decide +kernel)

theorem B0 (t : Fin cfg0.N) (h : Fin 4) :
    @Eq EReal (iblk m c 0 t (ix1 h)) (V m c main_v70 (ix1 h)) := by
  blk_ext [iblk, idx0 t]

theorem B1 (t : Fin cfg0.N) (i : Fin 16) (j : Fin 512) :
    @Eq EReal (iblk m c 1 t (ix2 i j)) (V m c main_arg0 (ix2 ⟨t.val * 16 + i.val, by have := lt_N t; omega⟩ j)) := by
  blk_ext [iblk, idx1 t]

theorem B2 (t : Fin cfg0.N) (i : Fin 16) (j : Fin 512) :
    @Eq EReal (iblk m c 2 t (ix2 i j)) (V m c main_arg1 (ix2 ⟨t.val * 16 + i.val, by have := lt_N t; omega⟩ j)) := by
  blk_ext [iblk, idx2 t]

theorem B3 (t : Fin cfg0.N) (i : Fin 16) (j : Fin 512) :
    @Eq EReal (iblk m c 3 t (ix2 i j)) (V m c main_arg2 (ix2 ⟨t.val * 16 + i.val, by have := lt_N t; omega⟩ j)) := by
  blk_ext [iblk, idx3 t]

theorem B4 (t : Fin cfg0.N) (i : Fin 16) (j : Fin 512) :
    @Eq EReal (iblk m c 4 t (ix2 i j)) (V m c main_arg3 (ix2 ⟨t.val * 16 + i.val, by have := lt_N t; omega⟩ j)) := by
  blk_ext [iblk, idx4 t]

theorem B5 (t : Fin cfg0.N) (i : Fin 16) (j : Fin 128) :
    @Eq EReal (iblk m c 5 t (ix2 i j)) (V m c main_v17 (ix2 i j)) := by
  blk_ext [iblk, idx5 t]

theorem B6 (t : Fin cfg0.N) (i : Fin 16) (j : Fin 128) :
    @Eq EReal (iblk m c 6 t (ix2 i j)) (V m c main_v21 (ix2 i j)) := by
  blk_ext [iblk, idx6 t]

theorem B7 (t : Fin cfg0.N) (h : Fin 4) (i j : Fin 16) :
    @Eq EReal (iblk m c 7 t (ix3 h i j)) (V m c main_v47 (ix3 h i j)) := by
  blk_ext [iblk, idx7 t]

theorem B8 (t : Fin cfg0.N) (i : Fin 16) (j : Fin 512) :
    @Eq EReal (iblk m c 8 t (ix2 i j)) (V m c main_v67 (ix2 i j)) := by
  blk_ext [iblk, idx8 t]

theorem B9 (t : Fin cfg0.N) (i : Fin 16) (j : Fin 512) :
    @Eq EReal (iblk m c 9 t (ix2 i j)) (V m c main_v57 (ix2 i j)) := by
  blk_ext [iblk, idx9 t]

theorem B10 (t : Fin cfg0.N) (j : Fin 512) :
    @Eq EReal (iblk m c 10 t (ix2 0 j)) (V m c main_v71 (ix2 0 j)) := by
  blk_ext [iblk, idx10 t]

theorem B11 (t : Fin cfg0.N) (h : Fin 4) (d e : Fin 128) :
    @Eq EReal (iblk m c 11 t (ix4 0 h d e)) (V m c main_arg4 (ix4 ⟨t.val, lt_N t⟩ h d e)) := by
  blk_ext [iblk, idx11 t]

/-! ## The grid, sequence by sequence -/

variable (xq xk xv : ℕ → ℕ → EReal) (x0 : ℕ → ℕ → ℕ → ℕ → EReal)
  (hq : ∀ (r : Fin 512) (j : Fin 512), @Eq EReal (V m c main_arg0 (ix2 r j)) (xq r j))
  (hk : ∀ (r : Fin 512) (j : Fin 512), @Eq EReal (V m c main_arg1 (ix2 r j)) (xk r j))
  (hv : ∀ (r : Fin 512) (j : Fin 512), @Eq EReal (V m c main_arg2 (ix2 r j)) (xv r j))
  (hz : ∀ (b : Fin 32) (h : Fin 4) (d e : Fin 128), @Eq EReal (V m c main_arg4 (ix4 b h d e)) (x0 b h d e))

include hq in
theorem turn1 (t : Fin cfg0.N) (h : Fin 4) (i : Fin 16) (d : Fin 128) :
    turn h (iblk m c 1 t) (iblk m c 5 t) (iblk m c 6 t) i d = rotE xq t.val h i d :=
  turn_eq _ _ _ xq t.val h i d (fun j => by rw [B1, hq]) (fun d => by rw [B5, V_cos]) (fun d => by rw [B6, V_sin])

include hk in
theorem turn2 (t : Fin cfg0.N) (h : Fin 4) (i : Fin 16) (d : Fin 128) :
    turn h (iblk m c 2 t) (iblk m c 5 t) (iblk m c 6 t) i d = rotE xk t.val h i d :=
  turn_eq _ _ _ xk t.val h i d (fun j => by rw [B2, hk]) (fun d => by rw [B5, V_cos]) (fun d => by rw [B6, V_sin])

include hk hv hz in
/-- The state block after a grid point. -/
theorem state_val (t : Fin cfg0.N) (h : Fin 4) (d e : Fin 128) (y : S1x4x128x128.Idx)
    (hy1 : (y 1 : ℕ) = h) (hy2 : (y 2 : ℕ) = d) (hy3 : (y 3 : ℕ) = e) :
    @Eq EReal ((outsAt0 m c t).2 y) (stateE xk xv x0 t.val h d e) := by
  refine (out13_at m c t h y d e hy1 hy2 hy3).trans ((sK_at h _ _ _ _ _ _ _ d e).trans ?_)
  rw [stateE, addE, B0, V_cd, B11, hz]
  refine congrArg (fun z : EReal => cdE h * x0 t.val h d e + z) (Finset.sum_congr rfl fun y _ => ?_)
  rw [turn2 m c xk hk, B9, V_kd, B3, hv, keyE, valE]
  simp only [show (128 * (h : ℕ) + (d : ℕ)) / 128 = h by omega, show (h : ℕ) * 128 + (e : ℕ) = 128 * h + e by omega]

include hq hk hv hz in
/-- One entry of a head's output before normalisation. -/
theorem out_of (t : Fin cfg0.N) (h : Fin 4) (i : Fin 16) (e : Fin 128) :
    @Eq EReal (oK h (iblk m c 1 t) (iblk m c 2 t) (iblk m c 3 t) (iblk m c 5 t) (iblk m c 6 t) (iblk m c 7 t) (iblk m c 8 t) (iblk m c 11 t) (ix2 i e))
      (intraE xq xk xv t.val h i e + interE xq x0 t.val h i e) := by
  refine (oK_at h _ _ _ _ _ _ _ _ i e).trans ?_
  rw [intraE, interE]
  refine congrArg₂ (fun a b : EReal => a + b) (Finset.sum_congr rfl fun y _ => ?_) (Finset.sum_congr rfl fun d _ => ?_)
  · simp only [turn1 m c xq hq, turn2 m c xk hk]
    rw [B7, V_dmat, B3, hv, valE]
    simp only [keyE, show (h : ℕ) * 128 + (e : ℕ) = 128 * h + e by omega]
  · rw [turn1 m c xq hq, B8, V_qd, B11, hz]
    simp only [show (128 * (h : ℕ) + (d : ℕ)) / 128 = h by omega]

include hq hk hv hz in
/-- The result block after a grid point: the normalised and gated outputs of its rows. -/
theorem out_val (t : Fin cfg0.N) (h : Fin 4) (i : Fin 16) (e : Fin 128) (y : S16x512.Idx)
    (hy0 : (y 0 : ℕ) = i) (hy1 : (y 1 : ℕ) = 128 * h + e) :
    @Eq EReal ((outsAt0 m c t).1 y)
      (gated (fun x => intraE xq xk xv t.val h i x + interE xq x0 t.val h i x)
        (V m c main_arg3 (ix2 ⟨t.val * 16 + i.val, by have := lt_N t; omega⟩ ⟨128 * h + e, by omega⟩))
        (V m c main_v71 (ix2 0 ⟨128 * h + e, by omega⟩)) e) := by
  refine (out12_at m c t h y (ix2 i e) hy0 hy1).trans ((outK_at h _ _ _ i e).trans ?_)
  rw [B4, B10]
  congr 1
  funext x
  exact out_of m c xq xk xv x0 hq hk hv hz t h i x

/-! ## The result arrays -/

/-- One entry of the first result, by row and column. -/
def outE (r : Fin 512) (j : Fin 512) : EReal :=
  gated (fun x => intraE xq xk xv (r / 16 : ℕ) (j / 128 : ℕ) (r % 16 : ℕ) x + interE xq x0 (r / 16 : ℕ) (j / 128 : ℕ) (r % 16 : ℕ) x)
    (V m c main_arg3 (ix2 r j)) (V m c main_v71 (ix2 0 j)) ⟨j % 128, Nat.mod_lt _ (by decide)⟩

theorem emb12 (t : Fin cfg0.N) (y : S16x512.Idx) :
    ((win0_12.blk t).view.emb y 0 : ℕ) = t.val * 16 + y 0 ∧ ((win0_12.blk t).view.emb y 1 : ℕ) = y 1 := by
  constructor <;> blk_simp [idx12 t] <;> simp

/-- The entry of the first result at an index given by its block's coordinates. -/
theorem outE_eq (t i : ℕ) (h : Fin 4) (e : Fin 128) (r r' : Fin 512) (j j' : Fin 512) (hr : (r : ℕ) = t * 16 + i) (hi : i < 16)
    (hj : (j : ℕ) = 128 * h + e) (hr' : (r' : ℕ) = t * 16 + i) (hj' : (j' : ℕ) = 128 * h + e) :
    gated (fun x => intraE xq xk xv t h i x + interE xq x0 t h i x)
        (V m c main_arg3 (ix2 r' j')) (V m c main_v71 (ix2 0 j')) e = outE m c xq xk xv x0 r j := by
  obtain rfl : r' = r := Fin.ext (hr'.trans hr.symm)
  obtain rfl : j' = j := Fin.ext (hj'.trans hj.symm)
  unfold outE
  have e1 : (r' : ℕ) / 16 = t := by omega
  have e2 : (r' : ℕ) % 16 = i := by omega
  have e3 : (j' : ℕ) / 128 = h := by omega
  have e4 : (⟨(j' : ℕ) % 128, Nat.mod_lt _ (by decide)⟩ : Fin 128) = e := Fin.ext (by show (j' : ℕ) % 128 = e; omega)
  rw [e4]
  simp only [e1, e2, e3]

include hq hk hv hz in
/-- The first result array holds the normalised and gated outputs. -/
theorem arr12 (r : Fin 512) (j : Fin 512) :
    @Eq EReal ((dats m 0 c).arrAt 12 cfg0.N (ix2 r j)) (outE m c xq xk xv x0 r j) := by
  have key : (dats m 0 c).arrAt 12 cfg0.N = fun y : S512x512.Idx => outE m c xq xk xv x0 (y 0) (y 1) := by
    refine (dats m 0 c).arrAt_eq_of_covers 12 _ (by decide +kernel) fun t hf y => ?_
    blk_simp
    rw [after0_12]
    obtain ⟨e0, e1⟩ := emb12 t y
    have hy0 : (y 0 : ℕ) < 16 := (y 0).isLt
    have hy1 : (y 1 : ℕ) < 512 := (y 1).isLt
    have ht := lt_N t
    refine (out_val m c xq xk xv x0 hq hk hv hz t ⟨(y 1 : ℕ) / 128, by omega⟩ ⟨y 0, hy0⟩ ⟨(y 1 : ℕ) % 128, Nat.mod_lt _ (by decide)⟩ y rfl
      (by show (y 1 : ℕ) = 128 * ((y 1 : ℕ) / 128) + (y 1 : ℕ) % 128; omega)).trans ?_
    exact outE_eq m c xq xk xv x0 t.val (y 0) ⟨(y 1 : ℕ) / 128, by omega⟩ ⟨(y 1 : ℕ) % 128, Nat.mod_lt _ (by decide)⟩ _ _ _ _ e0 hy0
      (e1.trans (by show (y 1 : ℕ) = 128 * ((y 1 : ℕ) / 128) + (y 1 : ℕ) % 128; omega)) rfl rfl
  exact congrFun key (ix2 r j)

include hk hv hz in
/-- The second result array holds the final states. -/
theorem arr13 (b : Fin 32) (h : Fin 4) (d e : Fin 128) :
    @Eq EReal ((dats m 0 c).arrAt 13 cfg0.N (ix4 b h d e)) (stateE xk xv x0 b h d e) := by
  have key : (dats m 0 c).arrAt 13 cfg0.N = fun y : S32x4x128x128.Idx => stateE xk xv x0 (y 0 : ℕ) (y 1 : ℕ) (y 2 : ℕ) (y 3 : ℕ) := by
    refine (dats m 0 c).arrAt_eq_of_covers 13 _ (by decide +kernel) fun t hf y => ?_
    blk_simp
    rw [after0_13]
    refine (state_val m c xk xv x0 hk hv hz t (y 1) (y 2) (y 3) y rfl rfl rfl).trans ?_
    rw [idx13 t]
    simp
  exact congrFun key (ix4 b h d e)

end Cert.Kernel4Ideal.Value
-- ==== Proof.SrRefEntry.lean ====
module

public import proofs.«01_k».proof.Proof.Gen.Reference4Ideal.Run
public import proofs.«01_k».proof.Proof.SrSpec
public import Idealize.ShloMosaic.Lib.Pointwise
public import Idealize.ShloMosaic.Lib.StableHlo.RunRead
public import Idealize.ShloMosaic.Lib.StableHlo.RunLoop

/-!
  The reference before its loop over chunks: the rotated queries, the part of the output that comes from the sequence
  itself, what the sequence adds to the state, and the decays.
-/

@[expose] public section

set_option maxRecDepth 16384

noncomputable section

namespace Cert.Reference4Ideal.Value

open Cert.Reference4Ideal Cert.Reference4Ideal.Gen Idealize.ShloMosaic Idealize.ShloMosaic.TcCoe Idealize.SL.Sem
open Idealize.ShloMosaic.StableHlo Cert.Retention Cert.RetSample

variable (m : (ℓ : Loc nD τ sig) → Buf (Elt Ideal) ℓ) (c : Dev nD) (xq xk xv : ℕ → ℕ → EReal)

set_option maxHeartbeats 1000000 in
/-- The first coordinates of the rotated queries. -/
theorem U26 (hq : ∀ (r : Fin 512) (j : Fin 512), @Eq EReal (launchContents m c (Proc.devRef .tc main_arg0) (ix2 r j)) (xq r j))
    (b : Fin 32) (p : Fin 16) (h : Fin 4) (d : Fin 64) :
    @Eq EReal (upto hostOps0 (launchContents m c) 35 (Proc.devRef .tc main_v26) (ix4 b p h d)) (rotE xq b h p d) := by
  after_reads_simp
  pointwise
  rw [hq, hq, pos_eq, angle_eq _ _ (by omega) d.2, Ideal.cos_coe, Ideal.sin_coe, rotE, if_pos d.2]
  rfl

set_option maxHeartbeats 1000000 in
/-- The second coordinates of the rotated queries. -/
theorem U31 (hq : ∀ (r : Fin 512) (j : Fin 512), @Eq EReal (launchContents m c (Proc.devRef .tc main_arg0) (ix2 r j)) (xq r j))
    (b : Fin 32) (p : Fin 16) (h : Fin 4) (d : Fin 64) :
    @Eq EReal (upto hostOps0 (launchContents m c) 35 (Proc.devRef .tc main_v31) (ix4 b p h d)) (rotE xq b h p (64 + d)) := by
  after_reads_simp
  pointwise
  rw [hq, hq, pos_eq, angle_eq _ _ (by omega) d.2, Ideal.cos_coe, Ideal.sin_coe, rotE, if_neg (by omega), Nat.add_sub_cancel_left]
  rfl

set_option maxHeartbeats 1000000 in
/-- The first coordinates of the rotated keys, before scaling. -/
theorem U56 (hk : ∀ (r : Fin 512) (j : Fin 512), @Eq EReal (launchContents m c (Proc.devRef .tc main_arg1) (ix2 r j)) (xk r j))
    (b : Fin 32) (p : Fin 16) (h : Fin 4) (d : Fin 64) :
    @Eq EReal (upto hostOps0 (launchContents m c) 67 (Proc.devRef .tc main_v56) (ix4 b p h d)) (rotE xk b h p d) := by
  after_reads_simp
  pointwise
  rw [hk, hk, pos_eq, angle_eq _ _ (by omega) d.2, Ideal.cos_coe, Ideal.sin_coe, rotE, if_pos d.2]
  rfl

set_option maxHeartbeats 1000000 in
/-- The second coordinates of the rotated keys, before scaling. -/
theorem U61 (hk : ∀ (r : Fin 512) (j : Fin 512), @Eq EReal (launchContents m c (Proc.devRef .tc main_arg1) (ix2 r j)) (xk r j))
    (b : Fin 32) (p : Fin 16) (h : Fin 4) (d : Fin 64) :
    @Eq EReal (upto hostOps0 (launchContents m c) 67 (Proc.devRef .tc main_v61) (ix4 b p h d)) (rotE xk b h p (64 + d)) := by
  after_reads_simp
  pointwise
  rw [hk, hk, pos_eq, angle_eq _ _ (by omega) d.2, Ideal.cos_coe, Ideal.sin_coe, rotE, if_neg (by omega), Nat.add_sub_cancel_left]
  rfl

set_option maxHeartbeats 1000000 in
/-- The rotated queries. -/
theorem E_qc (hq : ∀ (r : Fin 512) (j : Fin 512), @Eq EReal (launchContents m c (Proc.devRef .tc main_arg0) (ix2 r j)) (xq r j))
    (b : Fin 32) (i : Fin 16) (h : Fin 4) (d : Fin 128) :
    @Eq EReal (entryContents preI m c (Proc.devRef .tc main_v75) (ix5 b 0 i h d)) (rotE xq b h i d) := by
  simp only [entryContents, afterL_cons, afterL_nil, preI]
  after_reads_simp
  pointwise
  simp only [U26 m c xq hq, U31 m c xq hq]
  split
  · rfl
  · rename_i hd
    simp only [show 64 + ((d : ℕ) - 64) = d by omega]

set_option maxHeartbeats 1000000 in
/-- What the sequence adds to the state. -/
theorem E_u (hk : ∀ (r : Fin 512) (j : Fin 512), @Eq EReal (launchContents m c (Proc.devRef .tc main_arg1) (ix2 r j)) (xk r j))
    (hv : ∀ (r : Fin 512) (j : Fin 512), @Eq EReal (launchContents m c (Proc.devRef .tc main_arg2) (ix2 r j)) (xv r j))
    (b : Fin 32) (h : Fin 4) (d e : Fin 128) :
    @Eq EReal (entryContents preI m c (Proc.devRef .tc main_v127_0) (ix5 0 b h d e)) (addE xk xv b h d e) := by
  simp only [entryContents, afterL_cons, afterL_nil, preI]
  after_reads_simp
  pointwise
  simp only [id_eq]
  pointwise
  rw [addE]
  refine Finset.sum_congr rfl fun x _ => ?_
  rw [hv, rate_eq h h.2, nat_float x (by omega), lit_15]
  simp only [U56 m c xk hk, U61 m c xk hk]
  have e1 : (if h_1 : (d : ℕ) < 64 then rotE xk b h x d else rotE xk b h x (64 + (d - 64))) = rotE xk b h x d := by
    split
    · rfl
    · rw [show 64 + ((d : ℕ) - 64) = d by omega]
  rw [e1, ← EReal.coe_sub, ← EReal.coe_mul, Ideal.exp_coe]
  rfl

set_option maxHeartbeats 1000000 in
/-- The part of the output that comes from the sequence itself. -/
theorem E_intra (hq : ∀ (r : Fin 512) (j : Fin 512), @Eq EReal (launchContents m c (Proc.devRef .tc main_arg0) (ix2 r j)) (xq r j))
    (hk : ∀ (r : Fin 512) (j : Fin 512), @Eq EReal (launchContents m c (Proc.devRef .tc main_arg1) (ix2 r j)) (xk r j))
    (hv : ∀ (r : Fin 512) (j : Fin 512), @Eq EReal (launchContents m c (Proc.devRef .tc main_arg2) (ix2 r j)) (xv r j))
    (b : Fin 32) (i : Fin 16) (h : Fin 4) (e : Fin 128) :
    @Eq EReal (entryContents preI m c (Proc.devRef .tc main_v101) (ix5 b 0 i h e)) (intraE xq xk xv b h i e) := by
  simp only [entryContents, afterL_cons, afterL_nil, preI]
  after_reads_simp
  simp -implicitDefEqProofs only [StableHlo.TRef.toBuf, StableHlo.TRef.ofBuf, cast_cast, cast_eq]
  pointwise
  rw [intraE]
  refine Finset.sum_congr rfl fun x _ => ?_
  rw [hv, rate_eq h h.2, nat_float x (by omega), nat_float i (by omega)]
  simp only [U26 m c xq hq, U31 m c xq hq, U56 m c xk hk, U61 m c xk hk, id_eq, constant_apply]
  have ez : FloatOps.ofBits (F := Ideal) .f32 0#32 = (0 : EReal) := Ideal.ofBits_zero_f32
  rw [ez, decay_eq]
  have e1 : (∑ d : Fin 128, rotE xq b h i d * keyE xk b h x d)
      = (∑ d : Fin 64, rotE xq b h i d * (rotE xk b h x d * Ideal.ofBits .f32 1035273459#32))
        + ∑ d : Fin 64, rotE xq b h i (64 + d) * (rotE xk b h x (64 + d) * Ideal.ofBits .f32 1035273459#32) :=
    Fin.sum_univ_add (a := 64) (b := 64) fun d : Fin (64 + 64) => rotE xq b h i d * keyE xk b h x d
  rw [e1]
  exact mul_comm _ _

/-- The decay a query of offset `i` applies to the state. -/
theorem E_qd (i : Fin 16) (h : Fin 4) :
    @Eq EReal (entryContents preI m c (Proc.devRef .tc main_v117) (ix2 i h)) (qdE h i) := by
  simp only [entryContents, afterL_cons, afterL_nil, preI]
  after_reads_simp
  pointwise
  rw [rate_eq h h.2, nat_float i (by omega), ← EReal.coe_one, ← EReal.coe_add, ← EReal.coe_mul, Ideal.exp_coe]
  rfl

/-- The decay of the state over the sequence. -/
theorem E_cd (h : Fin 4) :
    @Eq EReal (entryContents preI m c (Proc.devRef .tc main_v127_1) (ix4 0 h 0 0)) (cdE h) := by
  simp only [entryContents, afterL_cons, afterL_nil, preI]
  after_reads_simp
  simp only [id_eq]
  pointwise
  rw [rate_eq h h.2, lit_16, ← EReal.coe_mul, Ideal.exp_coe]
  rfl

/-- The state the loop starts from. -/
theorem E_s : entryContents preI m c (Proc.devRef .tc main_v127_3) = launchContents m c (Proc.devRef .tc main_arg4) := by
  simp only [entryContents, afterL_cons, afterL_nil, preI]
  after_reads_simp
  rfl

end Cert.Reference4Ideal.Value
-- ==== Proof.SrRefLoop.lean ====
module

public import proofs.«01_k».proof.Proof.SrRefEntry

@[expose] public section

set_option maxRecDepth 16384

noncomputable section

namespace Cert.Reference4Ideal.Value

open Cert.Reference4Ideal Cert.Reference4Ideal.Gen Idealize.ShloMosaic Idealize.ShloMosaic.TcCoe Idealize.SL.Sem
open Idealize.ShloMosaic.StableHlo Cert.Retention Cert.RetSample

variable (m : (ℓ : Loc nD τ sig) → Buf (Elt Ideal) ℓ) (c : Dev nD) (xq xk xv : ℕ → ℕ → EReal)

/-- A trip leaves the buffer alone. -/
theorem atK_keep (r : Ref sig .tc) (h0 : r ∉ condOps_W) (h1 : r ∉ while0Ops0_W) (h2 : r ∉ while0Ops0_1_W) (h3 : r ∉ while0Ops0_2_W)
    (h4 : r ∉ while0Ops0_3_W) (k : ℕ) : atK m k c (Proc.devRef .tc r) = entryContents preI m c (Proc.devRef .tc r) := by
  induction k with
  | zero => rfl
  | succ k ih =>
    rw [atK, atTrip_succ]
    simp only [bodyI, afterL_cons, afterL_nil]
    rw [after_of_writes_sub _ _ while0Ops0_3_writes h4, after_of_writes_sub _ _ while0Ops0_2_writes h3, after_of_writes_sub _ _ while0Ops0_1_writes h2,
      after_of_writes_sub _ _ while0Ops0_writes h1, after_of_writes_sub _ _ condOps_writes h0]
    exact ih

/-- A slice of the whole array is the array. -/
theorem slice_row (X : S1x32x4x128x128.Idx → EReal) (start : Fin 5 → ℤ) (hf : S1x32x4x128x128.Slices (fun _ => 0) S1x32x4x128x128)
    (b : Fin 32) (h : Fin 4) (d e : Fin 128) :
    Host.dynamicSlice S1x32x4x128x128 X start hf (ix5 0 b h d e) = X (ix5 0 b h d e) := by
  refine congrArg X (funext fun a => Fin.ext ?_)
  fin_cases a
  · show (min (max (start 0) 0) 0).toNat + 0 = 0; simp
  · show (min (max (start 1) 0) 0).toNat + (b : ℕ) = (b : ℕ); simp
  · show (min (max (start 2) 0) 0).toNat + (h : ℕ) = (h : ℕ); simp
  · show (min (max (start 3) 0) 0).toNat + (d : ℕ) = (d : ℕ); simp
  · show (min (max (start 4) 0) 0).toNat + (e : ℕ) = (e : ℕ); simp

/-- Writing the whole array replaces it. -/
theorem update_row (X Y : S1x32x4x128x128.Idx → EReal) (start : Fin 5 → ℤ)
    (hf : S1x32x4x128x128.Slices (fun _ => 0) S1x32x4x128x128)
    (h0 : start 0 = 0) (h1 : start 1 = 0) (h2 : start 2 = 0) (h3 : start 3 = 0) (h4 : start 4 = 0)
    (b : Fin 32) (h : Fin 4) (d e : Fin 128) :
    Host.dynamicUpdateSlice X Y start hf (ix5 0 b h d e) = Y (ix5 0 b h d e) := by
  have c0 : Host.clampedStart S1x32x4x128x128 S1x32x4x128x128 hf.1 start 0 = 0 :=
    Host.clampedStart_of_le _ _ _ _ h0 (show 0 + 1 ≤ 1 by omega)
  have c1 : Host.clampedStart S1x32x4x128x128 S1x32x4x128x128 hf.1 start 1 = 0 :=
    Host.clampedStart_of_le _ _ _ _ h1 (show 0 + 32 ≤ 32 by omega)
  have c2 : Host.clampedStart S1x32x4x128x128 S1x32x4x128x128 hf.1 start 2 = 0 :=
    Host.clampedStart_of_le _ _ _ _ h2 (show 0 + 4 ≤ 4 by omega)
  have c3 : Host.clampedStart S1x32x4x128x128 S1x32x4x128x128 hf.1 start 3 = 0 :=
    Host.clampedStart_of_le _ _ _ _ h3 (show 0 + 128 ≤ 128 by omega)
  have c4 : Host.clampedStart S1x32x4x128x128 S1x32x4x128x128 hf.1 start 4 = 0 :=
    Host.clampedStart_of_le _ _ _ _ h4 (show 0 + 128 ≤ 128 by omega)
  rw [Host.dynamicUpdateSlice_apply, dif_pos]
  · refine congrArg Y (funext fun a => Fin.ext ?_)
    fin_cases a
    · exact congrArg (0 - ·) c0
    · exact congrArg ((b : ℕ) - ·) c1
    · exact congrArg ((h : ℕ) - ·) c2
    · exact congrArg ((d : ℕ) - ·) c3
    · exact congrArg ((e : ℕ) - ·) c4
  · intro a
    fin_cases a
    · exact ⟨c0.le, show 0 < _ + 1 by omega⟩
    · exact ⟨c1.le.trans (Nat.zero_le _), show (b : ℕ) < _ + 32 by erw [c1]; omega⟩
    · exact ⟨c2.le.trans (Nat.zero_le _), show (h : ℕ) < _ + 4 by erw [c2]; omega⟩
    · exact ⟨c3.le.trans (Nat.zero_le _), show (d : ℕ) < _ + 128 by erw [c3]; omega⟩
    · exact ⟨c4.le.trans (Nat.zero_le _), show (e : ℕ) < _ + 128 by erw [c4]; omega⟩

/-- The state after the one trip: the entering state, decayed, and the sequence's addition. -/
theorem s_step (b : Fin 32) (h : Fin 4) (d e : Fin 128) (A B U : EReal)
    (hA : @Eq EReal (entryContents preI m c (Proc.devRef .tc main_v127_1) (ix4 0 h 0 0)) A)
    (hB : @Eq EReal (entryContents preI m c (Proc.devRef .tc main_v127_3) (ix4 b h d e)) B)
    (hU : @Eq EReal (entryContents preI m c (Proc.devRef .tc main_v127_0) (ix5 0 b h d e)) U) :
    @Eq EReal (atK m 1 c (Proc.devRef .tc main_v127_3) (ix4 b h d e)) (A * B + U) := by
  rw [show (1 : ℕ) = 0 + 1 from rfl, atK, atTrip_succ, trip_main_v127_3]
  simp only [after_of_writes_sub _ _ condOps_writes (show main_v127_1 ∉ condOps_W by decide), after_of_writes_sub _ _ condOps_writes (show main_v127_0 ∉ condOps_W by decide),
   after_of_writes_sub _ _ condOps_writes (show main_v127_2 ∉ condOps_W by decide),
   after_of_writes_sub _ _ condOps_writes (show main_v127_3 ∉ condOps_W by decide), id_eq]
  have e1 := slice_row (entryContents preI m c (Proc.devRef .tc main_v127_0)) (fun k_1 : Fin 5 => BitVec.toInt
      ((![atTrip condOps bodyI (entryContents preI m) 0 c (Proc.devRef .tc main_v127_2), constantI S_ 32 0#32, constantI S_ 32 0#32, constantI S_ 32 0#32, constantI S_ 32 0#32] :
        Fin 5 → (⟨S_, .i32⟩ : BufTy).Contents (Elt Ideal)) k_1 (Shape.Idx.first h_S_))) sliceFits_S1x32x4x128x128_S1x32x4x128x128 b h d e
  rw [← hA, ← hB, ← hU, ← e1]
  show @Eq EReal _ _
  rw [show atTrip condOps bodyI (entryContents preI m) 0 c (Proc.devRef .tc main_v127_0) = entryContents preI m c (Proc.devRef .tc main_v127_0) from rfl,
    show atTrip condOps bodyI (entryContents preI m) 0 c (Proc.devRef .tc main_v127_1) = entryContents preI m c (Proc.devRef .tc main_v127_1) from rfl,
    show atTrip condOps bodyI (entryContents preI m) 0 c (Proc.devRef .tc main_v127_3) = entryContents preI m c (Proc.devRef .tc main_v127_3) from rfl]
  generalize Host.dynamicSlice _ _ _ _ = Z
  pointwise

/-- The stacked states after the one trip: the entering state. -/
theorem z_step (b : Fin 32) (h : Fin 4) (d e : Fin 128) :
    @Eq EReal (atK m 1 c (Proc.devRef .tc main_v127_4) (ix5 0 b h d e))
      (entryContents preI m c (Proc.devRef .tc main_v127_3) (ix4 b h d e)) := by
  show @Eq EReal (atK m (0 + 1) c (Proc.devRef .tc main_v127_4) (ix5 0 b h d e)) _
  rw [atK, atTrip_succ, trip_main_v127_4]
  simp only [after_of_writes_sub _ _ condOps_writes (show main_v127_4 ∉ condOps_W by decide),
   after_of_writes_sub _ _ condOps_writes (show main_v127_2 ∉ condOps_W by decide),
   after_of_writes_sub _ _ condOps_writes (show main_v127_3 ∉ condOps_W by decide), id_eq]
  rw [show atTrip condOps bodyI (entryContents preI m) 0 c (Proc.devRef .tc main_v127_2) = _ from atK_ctr m c 0]
  refine (update_row _ _ _ _ (by show (Scf.iv 0#32 1#32 0).toInt = 0; decide) rfl rfl rfl rfl b h d e).trans ?_
  pointwise
  rfl

end Cert.Reference4Ideal.Value
-- ==== Proof.SrRefOut.lean ====
module

public import proofs.«01_k».proof.Proof.SrRefLoop

@[expose] public section

set_option maxRecDepth 16384

noncomputable section

namespace Cert.Reference4Ideal.Value

open Cert.Reference4Ideal Cert.Reference4Ideal.Gen Idealize.ShloMosaic Idealize.ShloMosaic.TcCoe Idealize.SL.Sem
open Idealize.ShloMosaic.StableHlo Cert.Retention Cert.RetSample

variable (m : (ℓ : Loc nD τ sig) → Buf (Elt Ideal) ℓ) (c : Dev nD)

/-- One entry of the retention output before normalisation, from the contents the loop leaves. -/
def oV (V : Valuation τ sig (Elt Ideal)) (b : Fin 32) (i : Fin 16) (h : Fin 4) (e : Fin 128) : EReal :=
  HAdd.hAdd (α := EReal) (β := EReal) (V (Proc.devRef .tc main_v101) (ix5 b 0 i h e))
    (∑ x : Fin 128, HMul.hMul (α := EReal) (β := EReal) (V (Proc.devRef .tc main_v127_4) (ix5 0 b h x e))
      (HMul.hMul (α := EReal) (β := EReal) (V (Proc.devRef .tc main_v75) (ix5 b 0 i h x)) (V (Proc.devRef .tc main_v117) (ix2 i h))))

set_option maxHeartbeats 2000000 in
/-- The first result from the contents the loop leaves. -/
theorem out_at (V : Valuation τ sig (Elt Ideal)) (r : Fin 512) (j : Fin 512) :
    @Eq EReal (afterL postI V (Proc.devRef .tc main_v161) (ix2 r j))
      (gated (fun x => oV V ⟨r / 16, by omega⟩ ⟨r % 16, by omega⟩ ⟨j / 128, by omega⟩ x)
        (V (Proc.devRef .tc main_arg3) (ix2 r j)) (V (Proc.devRef .tc main_arg5) (ix1 j)) ⟨j % 128, by omega⟩) := by
  simp only [postI, afterL_cons, afterL_nil]
  after_reads_simp
  simp -implicitDefEqProofs only [StableHlo.TRef.toBuf, StableHlo.TRef.ofBuf, cast_cast, cast_eq]
  simp only [gated, oV]
  show @HMul.hMul EReal EReal EReal _ _ _ = _
  refine congrArg₂ (fun a b : EReal => a * b) ?_ ?_
  · pointwise
    have e1 : (⟨(r : ℕ) / 16 * 16 + (r : ℕ) % 16, by omega⟩ : Fin 512) = r := Fin.ext (by show (r : ℕ) / 16 * 16 + (r : ℕ) % 16 = r; omega)
    simp only [e1]
    rfl
  · pointwise

/-- The loop's contents at a buffer no trip writes. -/
theorem left_keep (r : Ref sig .tc) (h0 : r ∉ condOps_W) (h1 : r ∉ while0Ops0_W) (h2 : r ∉ while0Ops0_1_W) (h3 : r ∉ while0Ops0_2_W)
    (h4 : r ∉ while0Ops0_3_W) : after condOps (atK m 1 c) (Proc.devRef .tc r) = entryContents preI m c (Proc.devRef .tc r) := by
  rw [after_of_writes_sub _ _ condOps_writes h0, atK_keep m c r h0 h1 h2 h3 h4]

section
variable (xq xk xv : ℕ → ℕ → EReal) (x0 : ℕ → ℕ → ℕ → ℕ → EReal)
  (hq : ∀ (r : Fin 512) (j : Fin 512), @Eq EReal (launchContents m c (Proc.devRef .tc main_arg0) (ix2 r j)) (xq r j))
  (hk : ∀ (r : Fin 512) (j : Fin 512), @Eq EReal (launchContents m c (Proc.devRef .tc main_arg1) (ix2 r j)) (xk r j))
  (hv : ∀ (r : Fin 512) (j : Fin 512), @Eq EReal (launchContents m c (Proc.devRef .tc main_arg2) (ix2 r j)) (xv r j))
  (h0 : ∀ (b : Fin 32) (h : Fin 4) (d e : Fin 128), @Eq EReal (launchContents m c (Proc.devRef .tc main_arg4) (ix4 b h d e)) (x0 b h d e))

include hq hk hv h0

/-- The retention output before normalisation: the sequence's own part and the entering state's part. -/
theorem oV_eq (b : Fin 32) (i : Fin 16) (h : Fin 4) (e : Fin 128) :
    oV (after condOps (atK m 1 c)) b i h e = intraE xq xk xv b h i e + interE xq x0 b h i e := by
  have a1 := E_intra m c xq xk xv hq hk hv b i h e
  have a2 := fun x => E_qc m c xq hq b i h x
  have a3 := E_qd m c i h
  have a4 := fun x => (z_step m c b h x e).trans ((congrFun (E_s m c) (ix4 b h x e)).trans (h0 b h x e))
  rw [oV, left_keep m c main_v101 (by decide) (by decide) (by decide) (by decide) (by decide),
    left_keep m c main_v75 (by decide) (by decide) (by decide) (by decide) (by decide),
    left_keep m c main_v117 (by decide) (by decide) (by decide) (by decide) (by decide),
    after_of_writes_sub _ _ condOps_writes (show main_v127_4 ∉ condOps_W by decide), a1, a3]
  refine congrArg (fun z : EReal => intraE xq xk xv b h i e + z) ?_
  rw [interE]
  refine Finset.sum_congr rfl fun x _ => ?_
  rw [a2, a4]
  exact mul_comm _ _

/-- The reference's first result. -/
theorem ref_out (r : Fin 512) (j : Fin 512) :
    @Eq EReal (finalContents condOps preI bodyI postI 1 m c (Proc.devRef .tc main_v161) (ix2 r j))
      (gated (fun x => intraE xq xk xv (r / 16 : ℕ) (j / 128 : ℕ) (r % 16 : ℕ) x + interE xq x0 (r / 16 : ℕ) (j / 128 : ℕ) (r % 16 : ℕ) x)
        (launchContents m c (Proc.devRef .tc main_arg3) (ix2 r j)) (launchContents m c (Proc.devRef .tc main_arg5) (ix1 j)) ⟨j % 128, by omega⟩) := by
  have hg : after condOps (atK m 1 c) (Proc.devRef .tc main_arg3) = launchContents m c (Proc.devRef .tc main_arg3) := by
    rw [left_keep m c main_arg3 (by decide) (by decide) (by decide) (by decide) (by decide)]
    simp only [entryContents, afterL_cons, afterL_nil, preI]
    after_reads_simp
  have hw : after condOps (atK m 1 c) (Proc.devRef .tc main_arg5) = launchContents m c (Proc.devRef .tc main_arg5) := by
    rw [left_keep m c main_arg5 (by decide) (by decide) (by decide) (by decide) (by decide)]
    simp only [entryContents, afterL_cons, afterL_nil, preI]
    after_reads_simp
  refine (out_at (after condOps (atK m 1 c)) r j).trans ?_
  rw [hg, hw]
  congr 1
  funext x
  exact oV_eq m c xq xk xv x0 hq hk hv h0 _ _ _ _

omit hq in
/-- The reference's second result, the final state. -/
theorem ref_state (b : Fin 32) (h : Fin 4) (d e : Fin 128) :
    @Eq EReal (finalContents condOps preI bodyI postI 1 m c (Proc.devRef .tc main_v127_3) (ix4 b h d e)) (stateE xk xv x0 b h d e) := by
  have e1 : finalContents condOps preI bodyI postI 1 m c (Proc.devRef .tc main_v127_3) = atK m 1 c (Proc.devRef .tc main_v127_3) := by
    show afterL postI (after condOps (atK m 1 c)) (Proc.devRef .tc main_v127_3) = _
    rw [← after_of_writes_sub _ (atK m 1 c) condOps_writes (show main_v127_3 ∉ condOps_W by decide)]
    simp only [postI, afterL_cons, afterL_nil]
    after_reads_simp
  rw [e1]
  exact s_step m c b h d e _ _ _ (E_cd m c h) ((congrFun (E_s m c) (ix4 b h d e)).trans (h0 b h d e)) (E_u m c xk xv hk hv b h d e)

end

/-- The reference leaves its arguments as they were. -/
theorem ref_keep (r : Ref sig .tc) (hr : r = main_arg0 ∨ r = main_arg1 ∨ r = main_arg2 ∨ r = main_arg3 ∨ r = main_arg4 ∨ r = main_arg5) :
    finalContents condOps preI bodyI postI 1 m c (Proc.devRef .tc r) = launchContents m c (Proc.devRef .tc r) := by
  have hk : after condOps (atK m 1 c) (Proc.devRef .tc r) = entryContents preI m c (Proc.devRef .tc r) := by
    rcases hr with rfl | rfl | rfl | rfl | rfl | rfl <;> exact left_keep m c _ (by decide) (by decide) (by decide) (by decide) (by decide)
  have he : entryContents preI m c (Proc.devRef .tc r) = launchContents m c (Proc.devRef .tc r) := by
    rcases hr with rfl | rfl | rfl | rfl | rfl | rfl <;> simp only [entryContents, afterL_cons, afterL_nil, preI] <;> after_reads_simp
  have hp : finalContents condOps preI bodyI postI 1 m c (Proc.devRef .tc r) = after condOps (atK m 1 c) (Proc.devRef .tc r) := by
    rcases hr with rfl | rfl | rfl | rfl | rfl | rfl <;> simp only [finalContents, afterL_cons, afterL_nil, postI] <;> after_reads_simp <;> rfl
  rw [hp, hk, he]

end Cert.Reference4Ideal.Value
-- ==== Proof.SrClaim.lean ====
module

public import proofs.«01_k».proof.Defs
public import proofs.«01_k».proof.Proof.SrVal
public import proofs.«01_k».proof.Proof.SrRefOut
public import Idealize.ShloMosaic.Lib.Claim

/-!
  The retention kernel of the second batch equals its reference, and the reference's frame.
-/

@[expose] public section

set_option maxRecDepth 16384

noncomputable section

namespace Cert.RetSample

open Idealize.ShloMosaic Idealize.ShloMosaic.TcCoe Idealize.SL.Sem Cert.Retention

/-- The reference leaves its arguments unchanged and every counter at zero. -/
theorem frame_R : Cert.quiescent_Reference4Ideal := fun m g _ =>
  (θ_run Cert.Reference4Ideal.defs _ _).mono (fun r h => ⟨fun c =>
      ⟨(h c _ rfl).trans (Cert.Reference4Ideal.Value.ref_keep m c _ (by simp)), (h c _ rfl).trans (Cert.Reference4Ideal.Value.ref_keep m c _ (by simp)),
       (h c _ rfl).trans (Cert.Reference4Ideal.Value.ref_keep m c _ (by simp)), (h c _ rfl).trans (Cert.Reference4Ideal.Value.ref_keep m c _ (by simp)),
       (h c _ rfl).trans (Cert.Reference4Ideal.Value.ref_keep m c _ (by simp)), (h c _ rfl).trans (Cert.Reference4Ideal.Value.ref_keep m c _ (by simp))⟩,
      Idealize.ShloMosaic.sem_eq_zero_of_no_sems (by decide) r.2⟩)
    (Cert.Reference4Ideal.Value.run_fold (F := Ideal) m g)

section
open Cert.Kernel4Ideal Cert.Kernel4Ideal.Gen

variable (m : (ℓ : Loc nD τ sig) → Buf (Elt Ideal) ℓ)
  (m' : (ℓ : Loc Cert.Reference4Ideal.nD Cert.Reference4Ideal.τ Cert.Reference4Ideal.sig) → Buf (Elt Ideal) ℓ)
  (c : Dev nD)
  (ha0 : m' ((c.tc : Thread Cert.Reference4Ideal.nD Cert.Reference4Ideal.τ).loc Cert.Reference4Ideal.main_arg0) = m ((c.tc : Thread nD τ).loc main_arg0))
  (ha1 : m' ((c.tc : Thread Cert.Reference4Ideal.nD Cert.Reference4Ideal.τ).loc Cert.Reference4Ideal.main_arg1) = m ((c.tc : Thread nD τ).loc main_arg1))
  (ha2 : m' ((c.tc : Thread Cert.Reference4Ideal.nD Cert.Reference4Ideal.τ).loc Cert.Reference4Ideal.main_arg2) = m ((c.tc : Thread nD τ).loc main_arg2))
  (ha3 : m' ((c.tc : Thread Cert.Reference4Ideal.nD Cert.Reference4Ideal.τ).loc Cert.Reference4Ideal.main_arg3) = m ((c.tc : Thread nD τ).loc main_arg3))
  (ha4 : m' ((c.tc : Thread Cert.Reference4Ideal.nD Cert.Reference4Ideal.τ).loc Cert.Reference4Ideal.main_arg4) = m ((c.tc : Thread nD τ).loc main_arg4))
  (ha5 : m' ((c.tc : Thread Cert.Reference4Ideal.nD Cert.Reference4Ideal.τ).loc Cert.Reference4Ideal.main_arg5) = m ((c.tc : Thread nD τ).loc main_arg5))

/-- The queries by natural-number indices. -/
def xq : ℕ → ℕ → EReal := nat2 fun (r : Fin 512) (j : Fin 512) => (m ((c.tc : Thread nD τ).loc main_arg0) (ix2 r j) : EReal)
/-- The keys by natural-number indices. -/
def xk : ℕ → ℕ → EReal := nat2 fun (r : Fin 512) (j : Fin 512) => (m ((c.tc : Thread nD τ).loc main_arg1) (ix2 r j) : EReal)
/-- The values by natural-number indices. -/
def xv : ℕ → ℕ → EReal := nat2 fun (r : Fin 512) (j : Fin 512) => (m ((c.tc : Thread nD τ).loc main_arg2) (ix2 r j) : EReal)
/-- The entering states by natural-number indices. -/
def xs : ℕ → ℕ → ℕ → ℕ → EReal :=
  nat4 fun (b : Fin 32) (h : Fin 4) (d e : Fin 128) => (m ((c.tc : Thread nD τ).loc main_arg4) (ix4 b h d e) : EReal)

theorem xq_eq (r : Fin 512) (j : Fin 512) : @Eq EReal (m ((c.tc : Thread nD τ).loc main_arg0) (ix2 r j)) (xq m c r j) :=
  nat2_eq (fun (r : Fin 512) (j : Fin 512) => (m ((c.tc : Thread nD τ).loc main_arg0) (ix2 r j) : EReal)) r j
theorem xk_eq (r : Fin 512) (j : Fin 512) : @Eq EReal (m ((c.tc : Thread nD τ).loc main_arg1) (ix2 r j)) (xk m c r j) :=
  nat2_eq (fun (r : Fin 512) (j : Fin 512) => (m ((c.tc : Thread nD τ).loc main_arg1) (ix2 r j) : EReal)) r j
theorem xv_eq (r : Fin 512) (j : Fin 512) : @Eq EReal (m ((c.tc : Thread nD τ).loc main_arg2) (ix2 r j)) (xv m c r j) :=
  nat2_eq (fun (r : Fin 512) (j : Fin 512) => (m ((c.tc : Thread nD τ).loc main_arg2) (ix2 r j) : EReal)) r j
theorem xs_eq (b : Fin 32) (h : Fin 4) (d e : Fin 128) : @Eq EReal (m ((c.tc : Thread nD τ).loc main_arg4) (ix4 b h d e)) (xs m c b h d e) :=
  nat4_eq (fun (b : Fin 32) (h : Fin 4) (d e : Fin 128) => (m ((c.tc : Thread nD τ).loc main_arg4) (ix4 b h d e) : EReal)) b h d e

include ha0 ha1 ha2 ha3 ha4 ha5 in
/-- The two first results are equal. -/
theorem out_same : @Eq (S512x512.Idx → EReal)
    (StableHlo.finalContents Cert.Reference4Ideal.Value.condOps Cert.Reference4Ideal.Value.preI Cert.Reference4Ideal.Value.bodyI
      Cert.Reference4Ideal.Value.postI 1 m' c (Proc.devRef .tc Cert.Reference4Ideal.main_v161))
    ((dats m 0 c).arrAt 12 cfg0.N) := by
  funext y
  obtain ⟨r, j, rfl⟩ := Retention.pair 512 512 y
  refine (Cert.Reference4Ideal.Value.ref_out m' c (xq m c) (xk m c) (xv m c) (xs m c) (fun r j => (congrFun ha0 _).trans (xq_eq m c r j))
    (fun r j => (congrFun ha1 _).trans (xk_eq m c r j)) (fun r j => (congrFun ha2 _).trans (xv_eq m c r j)) (fun b h d e => (congrFun ha4 _).trans (xs_eq m c b h d e)) r j).trans ?_
  refine Eq.trans ?_ (Cert.Kernel4Ideal.Value.arr12 m c (xq m c) (xk m c) (xv m c) (xs m c) (fun r j => by rw [V_main_arg0]; exact xq_eq m c r j)
    (fun r j => by rw [V_main_arg1]; exact xk_eq m c r j) (fun r j => by rw [V_main_arg2]; exact xv_eq m c r j) (fun b h d e => by rw [V_main_arg4]; exact xs_eq m c b h d e) r j).symm
  unfold Cert.Kernel4Ideal.Value.outE
  have e3 : @Eq EReal (V m c main_arg3 (ix2 r j)) (StableHlo.launchContents m' c (Proc.devRef .tc Cert.Reference4Ideal.main_arg3) (ix2 r j)) := by
    rw [V_main_arg3]; exact (congrFun ha3 _).symm
  have e5 : @Eq EReal (V m c main_v71 (ix2 0 j)) (StableHlo.launchContents m' c (Proc.devRef .tc Cert.Reference4Ideal.main_arg5) (ix1 j)) := by
    rw [Cert.Kernel4Ideal.Value.V_g]; exact (congrFun ha5 _).symm
  rw [e3, e5]

include ha1 ha2 ha4 in
/-- The two second results are equal. -/
theorem state_same : @Eq (S32x4x128x128.Idx → EReal)
    (StableHlo.finalContents Cert.Reference4Ideal.Value.condOps Cert.Reference4Ideal.Value.preI Cert.Reference4Ideal.Value.bodyI
      Cert.Reference4Ideal.Value.postI 1 m' c (Proc.devRef .tc Cert.Reference4Ideal.main_v127_3))
    ((dats m 0 c).arrAt 13 cfg0.N) := by
  funext y
  obtain ⟨b, h, d, e, rfl⟩ : ∃ (b : Fin 32) (h : Fin 4) (d e : Fin 128), y = ix4 b h d e := ⟨y 0, y 1, y 2, y 3, (ValueIdx.eq_ix4 y).trans (ix4_eq_valueIdx _ _ _ _).symm⟩
  refine (Cert.Reference4Ideal.Value.ref_state m' c (xk m c) (xv m c) (xs m c)
    (fun r j => (congrFun ha1 _).trans (xk_eq m c r j)) (fun r j => (congrFun ha2 _).trans (xv_eq m c r j)) (fun b h d e => (congrFun ha4 _).trans (xs_eq m c b h d e)) b h d e).trans ?_
  exact (Cert.Kernel4Ideal.Value.arr13 m c (xk m c) (xv m c) (xs m c)
    (fun r j => by rw [V_main_arg1]; exact xk_eq m c r j) (fun r j => by rw [V_main_arg2]; exact xv_eq m c r j) (fun b h d e => by rw [V_main_arg4]; exact xs_eq m c b h d e) b h d e).symm

end

/-- The kernel's results are the reference's. -/
theorem algebraic : @Cert.algebraic_Kernel4Ideal_Reference4Ideal Cert.Kernel4Ideal.Gen.facts Cert.Reference4Ideal.Gen.facts := by
  pair_intro
  · run_from Cert.Kernel4Ideal.Value.run_blocks m g
  · refine (θ_run Cert.Reference4Ideal.defs _ _).mono (fun r h c => ?_) (Cert.Reference4Ideal.Value.run_fold (F := Ideal) m' g')
    obtain ⟨h0, h1, h2, h3, h4, h5⟩ := hagree c
    exact ⟨(h c _ rfl).trans (out_same m m' c h0 h1 h2 h3 h4 h5), (h c _ rfl).trans (state_same m m' c h1 h2 h4),
       (h c _ rfl).trans (Cert.Reference4Ideal.Value.ref_keep m' c _ (by simp)), (h c _ rfl).trans (Cert.Reference4Ideal.Value.ref_keep m' c _ (by simp)),
       (h c _ rfl).trans (Cert.Reference4Ideal.Value.ref_keep m' c _ (by simp)), (h c _ rfl).trans (Cert.Reference4Ideal.Value.ref_keep m' c _ (by simp)),
       (h c _ rfl).trans (Cert.Reference4Ideal.Value.ref_keep m' c _ (by simp)), (h c _ rfl).trans (Cert.Reference4Ideal.Value.ref_keep m' c _ (by simp))⟩

end Cert.RetSample
-- ==== Proof.CoPoint.lean ====
module

public import proofs.«01_k».proof.Proof.Gen.Kernel5Ideal.Value
public import proofs.«01_k».proof.Proof.InSpec
public import Idealize.ShloMosaic.Lib.Pipeline.ValueKit
public import Idealize.ShloMosaic.Lib.Pipeline.ReadBack
public import Idealize.ShloMosaic.Lib.WholeRead
public import Idealize.ShloMosaic.Lib.Pointwise

/-!
  The combination of the prompt batch: what one grid point leaves in its output block.
-/

@[expose] public section

set_option maxRecDepth 16384

noncomputable section

namespace Cert.Kernel5Ideal.Value

open Cert.Kernel5Ideal Cert.Kernel5Ideal.Gen Idealize.ShloMosaic Idealize.ShloMosaic.TcCoe Idealize.SL.Sem Cert.Retention
open Cert.Kernel2Ideal.Body (nrm)

/-- Every sixteenth line of a block of experts' outputs, from line `o`. -/
def ln (o : Fin 16) (e : Vec Ideal S8192x128 .f32) : Vec Ideal S512x128 .f32 :=
  fun y => e ((⟨![o.val, 0], S512x128.size, ![16, 1], by intro a; fin_cases a <;> simp <;> omega⟩ : LoadRect S8192x128).idx y)

theorem ln_val (o : Fin 16) (e : Vec Ideal S8192x128 .f32) (i : Fin 512) (j : Fin 128) :
    @Eq EReal (ln o e (ix2 i j)) (e (ix2 ⟨16 * i + o, by omega⟩ j)) := by
  unfold ln
  refine congrArg e (funext fun a => Fin.ext ?_)
  match a with
  | 0 => show (o : ℕ) + 16 * (i : ℕ) = 16 * i + o; omega
  | 1 => show 0 + 1 * (j : ℕ) = j; omega

/-- A line read at equal places. -/
theorem line (e : Vec Ideal S8192x128 .f32) (a b p q : ℕ) (ha : a < 8192) (hb : b < 128) (hp : p < 8192) (hq : q < 128) (h : a = p) (h' : b = q) :
    @Eq EReal (e (ix2 ⟨a, ha⟩ ⟨b, hb⟩)) (e (ix2 ⟨p, hp⟩ ⟨q, hq⟩)) := by
  subst h h'; rfl

/-- The first expert's outputs of a token times its gate. -/
theorem pay2_val (v0 : Vec Ideal S512x2 .f32) (e : Vec Ideal S8192x128 .f32) (i : Fin 512) (k : Fin 1024) :
    @Eq EReal (k0_pay2 v0 (ln 0 e) (ln 1 e) (ln 2 e) (ln 3 e) (ln 4 e) (ln 5 e) (ln 6 e) (ln 7 e) (ix2 i k))
      (HMul.hMul (α := EReal) (β := EReal) (e (ix2 ⟨16 * i + (k : ℕ) / 128, by omega⟩ ⟨(k : ℕ) % 128, by omega⟩)) (v0 (ix2 i 0))) := by
  unfold k0_pay2
  pointwise
  simp only [ln_val]
  refine congrArg (fun z : EReal => z * v0 (ix2 i 0)) ?_
  have := k.isLt
  split_ifs <;> exact line e _ _ _ _ _ _ _ _ (by simp; omega) (by omega)

/-- The second expert's outputs of a token times its gate. -/
theorem pay3_val (v0 : Vec Ideal S512x2 .f32) (e : Vec Ideal S8192x128 .f32) (i : Fin 512) (k : Fin 1024) :
    @Eq EReal (k0_pay3 v0 (ln 8 e) (ln 9 e) (ln 10 e) (ln 11 e) (ln 12 e) (ln 13 e) (ln 14 e) (ln 15 e) (ix2 i k))
      (HMul.hMul (α := EReal) (β := EReal) (e (ix2 ⟨16 * i + 8 + (k : ℕ) / 128, by omega⟩ ⟨(k : ℕ) % 128, by omega⟩)) (v0 (ix2 i 1))) := by
  unfold k0_pay3
  pointwise
  simp only [ln_val]
  refine congrArg (fun z : EReal => z * v0 (ix2 i 1)) ?_
  have := k.isLt
  split_ifs <;> exact line e _ _ _ _ _ _ _ _ (by simp; omega) (by omega)

/-- The normalised sum of a row and the two gated rows. -/
theorem pay1_val (p q : FVec Ideal S512x1024 .f32) (x : Vec Ideal S512x1024 .f32) (g : Vec Ideal S1x1024 .f32) (i : Fin 512) (k : Fin 1024) :
    @Eq EReal (k0_pay1 p q x g (ix2 i k))
      (nrm (fun l => HAdd.hAdd (α := EReal) (β := EReal) (x (ix2 i l)) (HAdd.hAdd (α := EReal) (β := EReal) (p (ix2 i l)) (q (ix2 i l)))) (fun l => g (ix2 0 l)) k) := by
  unfold k0_pay1
  pointwise
  rfl

variable (m : (ℓ : Loc nD τ sig) → Buf (Elt Ideal) ℓ)

/-- The output block at a grid point, from the lines of the experts' outputs. -/
theorem out4_at (c : Dev nD) (t : Fin cfg0.N) :
    outsAt0 m c t = k0_pay1
       (k0_pay2 (iblk m c 2 t) (ln 0 (iblk m c 1 t)) (ln 1 (iblk m c 1 t)) (ln 2 (iblk m c 1 t)) (ln 3 (iblk m c 1 t)) (ln 4 (iblk m c 1 t)) (ln 5 (iblk m c 1 t)) (ln 6 (iblk m c 1 t)) (ln 7 (iblk m c 1 t)))
       (k0_pay3 (iblk m c 2 t) (ln 8 (iblk m c 1 t)) (ln 9 (iblk m c 1 t)) (ln 10 (iblk m c 1 t)) (ln 11 (iblk m c 1 t)) (ln 12 (iblk m c 1 t)) (ln 13 (iblk m c 1 t)) (ln 14 (iblk m c 1 t)) (ln 15 (iblk m c 1 t)))
       (iblk m c 0 t) (iblk m c 3 t) := by
  unfold outsAt0
  frame_out
  have r : ∀ (o : Fin 16) (h : ∀ a, S512x128.size a = 0 ∨ (![o.val, 0] : Fin 2 → ℕ) a + (![16, 1] : Fin 2 → ℕ) a * (S512x128.size a - 1) < S8192x128.size a),
      View.readAt (Elt Ideal) (ms0_1 t).view (⟨![o.val, 0], S512x128.size, ![16, 1], h⟩ : LoadRect S8192x128) ((hs0_1 t).unread (iblk m c 1 t)) = ln o (iblk m c 1 t) :=
    fun o h => funext fun y => (hs0_1 t).readAt_unread (iblk m c 1 t) _ y
  have e2 := congr (congr (congr (congr (congr (congr (congr (congrArg (k0_pay2 (F := Ideal) (iblk m c 2 t)) (r 0 inb_S8192x128_S512x128_0_0_s_16_1)) (r 1 inb_S8192x128_S512x128_1_0_s_16_1))
    (r 2 inb_S8192x128_S512x128_2_0_s_16_1)) (r 3 inb_S8192x128_S512x128_3_0_s_16_1)) (r 4 inb_S8192x128_S512x128_4_0_s_16_1)) (r 5 inb_S8192x128_S512x128_5_0_s_16_1))
    (r 6 inb_S8192x128_S512x128_6_0_s_16_1)) (r 7 inb_S8192x128_S512x128_7_0_s_16_1)
  have e3 := congr (congr (congr (congr (congr (congr (congr (congrArg (k0_pay3 (F := Ideal) (iblk m c 2 t)) (r 8 inb_S8192x128_S512x128_8_0_s_16_1)) (r 9 inb_S8192x128_S512x128_9_0_s_16_1))
    (r 10 inb_S8192x128_S512x128_10_0_s_16_1)) (r 11 inb_S8192x128_S512x128_11_0_s_16_1)) (r 12 inb_S8192x128_S512x128_12_0_s_16_1)) (r 13 inb_S8192x128_S512x128_13_0_s_16_1))
    (r 14 inb_S8192x128_S512x128_14_0_s_16_1)) (r 15 inb_S8192x128_S512x128_15_0_s_16_1)
  exact congrArg₂ (fun p q => k0_pay1 (F := Ideal) p q (iblk m c 0 t) (iblk m c 3 t)) e2 e3

end Cert.Kernel5Ideal.Value
-- ==== Proof.CoClaim.lean ====
module

public import proofs.«01_k».proof.Defs
public import proofs.«01_k».proof.Proof.CoPoint
public import proofs.«01_k».proof.Proof.Gen.Reference5Ideal.Run
public import Idealize.ShloMosaic.Lib.Claim

/-!
  The combination of the prompt batch: the kernel's result array, the plain program's result, and that they are equal.
-/

@[expose] public section

set_option maxRecDepth 16384

noncomputable section

namespace Cert.Combine

open Idealize.ShloMosaic Idealize.ShloMosaic.TcCoe Idealize.SL.Sem Cert.Retention
open Cert.Kernel2Ideal.Body (nrm)

/-- One entry of a token's row plus its two experts' outputs, each times its gate; a token's outputs begin at line `0 + 16 r`. -/
def sum3 (x : (⟨2, ![65536, 1024]⟩ : Shape).Idx → EReal) (e : (⟨2, ![1122304, 128]⟩ : Shape).Idx → EReal) (a : (⟨2, ![65536, 2]⟩ : Shape).Idx → EReal)
    (r : Fin 65536) (l : Fin 1024) : EReal :=
  x (ix2 r l) + (e (ix2 ⟨0 + 16 * r + (l : ℕ) / 128, by omega⟩ ⟨(l : ℕ) % 128, by omega⟩) * a (ix2 r 0)
    + e (ix2 ⟨0 + 16 * r + 8 + (l : ℕ) / 128, by omega⟩ ⟨(l : ℕ) % 128, by omega⟩) * a (ix2 r 1))

/-- One entry of the result: the row of sums, normalised and weighted. -/
def res (x : (⟨2, ![65536, 1024]⟩ : Shape).Idx → EReal) (e : (⟨2, ![1122304, 128]⟩ : Shape).Idx → EReal) (a : (⟨2, ![65536, 2]⟩ : Shape).Idx → EReal)
    (g : (⟨1, ![1024]⟩ : Shape).Idx → EReal) (r : Fin 65536) (k : Fin 1024) : EReal :=
  nrm (sum3 x e a r) (fun l => g (ix1 l)) k

section Kernel
open Cert.Kernel5Ideal Cert.Kernel5Ideal.Gen Cert.Kernel5Ideal.Value

variable (m : (ℓ : Loc nD τ sig) → Buf (Elt Ideal) ℓ) (c : Dev nD)

theorem lt_N (t : Fin cfg0.N) : t.val < 128 := lt_of_lt_of_eq t.isLt (by decide +kernel)

theorem idx0 : ∀ t : Fin cfg0.N, win0_0.index t = ![t.val, 0] := (by decide +kernel : ∀ t : Fin grid0.N, _)
theorem idx1 : ∀ t : Fin cfg0.N, win0_1.index t = ![0 + t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

theorem B0 (t : Fin cfg0.N) (i : Fin 512) (k : Fin 1024) :
    @Eq EReal (iblk m c 0 t (ix2 i k)) (V m c main_arg0 (ix2 ⟨t.val * 512 + i.val, by have := lt_N t; omega⟩ k)) := by
  blk_ext [iblk, V, idx0 t]
theorem B1 (t : Fin cfg0.N) (i : Fin 8192) (k : Fin 128) :
    @Eq EReal (iblk m c 1 t (ix2 i k)) (V m c main_arg1 (ix2 ⟨(0 + t.val) * 8192 + i.val, by have := lt_N t; omega⟩ k)) := by
  blk_ext [iblk, V, idx1 t]
theorem B2 (t : Fin cfg0.N) (i : Fin 512) (k : Fin 2) :
    @Eq EReal (iblk m c 2 t (ix2 i k)) (V m c main_arg2 (ix2 ⟨t.val * 512 + i.val, by have := lt_N t; omega⟩ k)) := by
  blk_ext [iblk, V, idx2 t]
theorem B3 (t : Fin cfg0.N) (k : Fin 1024) : @Eq EReal (iblk m c 3 t (ix2 0 k)) (V m c main_v0 (ix2 0 k)) := by
  blk_ext [iblk, V, idx3 t]

/-- The weights of the norm. -/
theorem V_g (k : Fin 1024) : @Eq EReal (V m c main_v0 (ix2 0 k)) (m (c, Proc.devRef .tc main_arg3) (ix1 k)) := by
  unfold V
  after_reads_simp
  pointwise

theorem emb4 (t : Fin cfg0.N) (i : Fin 512) (j : Fin 1024) : ((win0_4.blk t).view.emb (ix2 i j) 0 : ℕ) = t.val * 512 + (i : ℕ) := by
  blk_simp [idx4 t] <;> simp

/-- The array that the kernel leaves. -/
theorem arr4 : (dats m 0 c).arrAt 4 cfg0.N = (fun y : S65536x1024.Idx => res (m ((c : Thread nD τ).loc main_arg0)) (m ((c : Thread nD τ).loc main_arg1))
    (m ((c : Thread nD τ).loc main_arg2)) (m ((c : Thread nD τ).loc main_arg3)) (y 0) (y 1) : S65536x1024.Idx → EReal) := by
  refine (dats m 0 c).arrAt_eq_of_covers 4 _ (by decide +kernel) fun t hf y => ?_
  blk_simp
  rw [after0_4]
  have ht := lt_N t
  obtain ⟨i, j, rfl⟩ := Retention.pair 512 1024 y
  have q : ((win0_4.blk t).view.emb (ix2 i j) 1 : Fin 1024) = j := Fin.ext (by
    have e : ((win0_4.blk t).view.emb (ix2 i j) 1 : ℕ) = (j : ℕ) := by blk_simp [idx4 t] <;> simp
    exact e)
  have hr := emb4 t i j
  generalize hq : ((win0_4.blk t).view.emb (ix2 i j) 0 : Fin 65536) = r at hr ⊢
  rw [q, out4_at, pay1_val]
  unfold res
  have hg : (fun l : Fin 1024 => (iblk m c 3 t (ix2 0 l) : EReal)) = fun l => (m ((c : Thread nD τ).loc main_arg3) (ix1 l) : EReal) :=
    funext fun l => (B3 m c t l).trans (V_g m c l)
  have hx : ∀ l : Fin 1024, @Eq EReal (iblk m c 0 t (ix2 i l)) (m ((c : Thread nD τ).loc main_arg0) (ix2 r l)) := fun l => by
    rw [B0, V_main_arg0]
    exact congrArg (fun z : Fin 65536 => (m ((c : Thread nD τ).loc main_arg0) (ix2 z l) : EReal)) (Fin.ext hr.symm)
  have ha : ∀ l : Fin 2, @Eq EReal (iblk m c 2 t (ix2 i l)) (m ((c : Thread nD τ).loc main_arg2) (ix2 r l)) := fun l => by
    rw [B2, V_main_arg2]
    exact congrArg (fun z : Fin 65536 => (m ((c : Thread nD τ).loc main_arg2) (ix2 z l) : EReal)) (Fin.ext hr.symm)
  have he : ∀ (p : ℕ) (hp : p < 8192) (n : ℕ) (hn : n < 1122304) (l : Fin 128), (0 + t.val) * 8192 + p = n →
      @Eq EReal (iblk m c 1 t (ix2 ⟨p, hp⟩ l)) (m ((c : Thread nD τ).loc main_arg1) (ix2 ⟨n, hn⟩ l)) := fun p hp n hn l h => by
    subst h
    rw [B1, V_main_arg1]
  refine congrArg₂ (fun u v => nrm u v j) (funext fun l => ?_) hg
  unfold sum3
  rw [pay2_val, pay3_val, hx l, ha 0, ha 1, he _ _ (0 + 16 * r + (l : ℕ) / 128) (by omega) _ (by omega), he _ _ (0 + 16 * r + 8 + (l : ℕ) / 128) (by omega) _ (by omega)]

end Kernel

section Plain
open Cert.Reference5Ideal Cert.Reference5Ideal.Gen

variable (x : FVec Ideal S65536x1024 .f32) (e : FVec Ideal S1122304x128 .f32) (a : FVec Ideal S65536x2 .f32) (g : FVec Ideal S1024 .f32)

/-- The plain row of sums. -/
def plain : FVec Ideal S65536x1024 .f32 := addf x (Host.reduceAdd (mulf (shapeCast _ (extractStridedSlice S131072x1024 ![0, 0] (shapeCast _ e shapeCasts_S1122304x128_S140288x1024) slices_S140288x1024_S131072x1024_0_0) shapeCasts_S131072x1024_S65536x2x1024) (broadcastInDim S65536x2x1024 ![0, 1, 2] bcast_S65536x2x1_S65536x2x1024_0_1_2 (broadcastInDim S65536x2x1 ![0, 1] bcast_S65536x2_S65536x2x1_0_1 a))) (constant S_ .f32 0x00000000#32) reducesTo_S65536x2x1024_S65536x1024_d1 h_S_)

theorem plain_val (r : Fin 65536) (l : Fin 1024) : @Eq EReal (plain x e a (ix2 r l)) (sum3 x e a r l) := by
  unfold plain sum3
  pointwise
  rw [Fin.sum_univ_two]
  refine congrArg (fun z : EReal => x (ix2 r l) + z) (congrArg₂ (fun p q : EReal => p * a (ix2 r 0) + q * a (ix2 r 1)) ?_ ?_)
  · exact congrArg (fun n : Fin 1122304 => (e (ix2 n ⟨(l : ℕ) % 128, by omega⟩) : EReal)) (Fin.ext (by simp; omega))
  · exact congrArg (fun n : Fin 1122304 => (e (ix2 n ⟨(l : ℕ) % 128, by omega⟩) : EReal)) (Fin.ext (by simp; omega))

/-- The plain result. -/
theorem plain_res (r : Fin 65536) (k : Fin 1024) : @Eq EReal ((mulf (mulf (plain x e a) (broadcastInDim S65536x1024 ![0, 1] bcast_S65536x1_S65536x1024_0_1 (Host.rsqrt (addf (Host.divf (broadcastInDim S65536x1 ![0] bcast_S65536_S65536x1_0 (Host.reduceAdd (mulf (plain x e a) (plain x e a)) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) (ix2 r k)) (res x e a g r k) := by
  have h : ∀ p : FVec Ideal S65536x1024 .f32, @Eq EReal ((mulf (mulf p (broadcastInDim S65536x1024 ![0, 1] bcast_S65536x1_S65536x1024_0_1 (Host.rsqrt (addf (Host.divf (broadcastInDim S65536x1 ![0] bcast_S65536_S65536x1_0 (Host.reduceAdd (mulf p p) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) (ix2 r k)) (nrm (fun l => p (ix2 r l)) (fun l => g (ix1 l)) k) := by
    intro p
    unfold nrm
    pointwise
  refine (h _).trans ?_
  unfold res
  exact congrArg (fun q => nrm q (fun l => g (ix1 l)) k) (funext fun l => plain_val x e a r l)

end Plain

/-- The plain program leaves its arguments unchanged and every counter at zero. -/
theorem frame_R : Cert.quiescent_Reference5Ideal := fun m g _ =>
  (θ_run Cert.Reference5Ideal.defs _ _).mono (fun r h => ⟨fun c => (h c).2,
      Idealize.ShloMosaic.sem_eq_zero_of_no_sems (by decide) r.2⟩)
    (Cert.Reference5Ideal.Value.run (F := Ideal) m g)

section
open Cert.Kernel5Ideal Cert.Kernel5Ideal.Gen Cert.Kernel5Ideal.Value

/-- The kernel's result is the plain program's. -/
theorem algebraic : @Cert.algebraic_Kernel5Ideal_Reference5Ideal Cert.Kernel5Ideal.Gen.facts Cert.Reference5Ideal.Gen.facts := by
  pair_intro
  · run_from run_blocks m g
  · refine (θ_run Cert.Reference5Ideal.defs _ _).mono (fun r h c => ?_) (Cert.Reference5Ideal.Value.run (F := Ideal) m' g')
    obtain ⟨h0, h1, h2, h3⟩ := hagree c
    obtain ⟨e4, e⟩ := h c
    refine ⟨e4.trans ?_, e⟩
    rw [h0, h1, h2, h3]
    refine Eq.trans ?_ (arr4 m c).symm
    funext y
    obtain ⟨i, j, rfl⟩ := Retention.pair 65536 1024 y
    exact plain_res _ _ _ _ i j

end

end Cert.Combine
-- ==== Proof.CsPoint.lean ====
module

public import proofs.«01_k».proof.Proof.Gen.Kernel6Ideal.Value
public import proofs.«01_k».proof.Proof.InSpec
public import Idealize.ShloMosaic.Lib.Pipeline.ValueKit
public import Idealize.ShloMosaic.Lib.Pipeline.ReadBack
public import Idealize.ShloMosaic.Lib.WholeRead
public import Idealize.ShloMosaic.Lib.Pointwise

/-!
  The combination of the sample batch: what one grid point leaves in its output block.
-/

@[expose] public section

set_option maxRecDepth 16384

noncomputable section

namespace Cert.Kernel6Ideal.Value

open Cert.Kernel6Ideal Cert.Kernel6Ideal.Gen Idealize.ShloMosaic Idealize.ShloMosaic.TcCoe Idealize.SL.Sem Cert.Retention
open Cert.Kernel2Ideal.Body (nrm)

/-- Every sixteenth line of a block of experts' outputs, from line `o`. -/
def ln (o : Fin 16) (e : Vec Ideal S8192x128 .f32) : Vec Ideal S512x128 .f32 :=
  fun y => e ((⟨![o.val, 0], S512x128.size, ![16, 1], by intro a; fin_cases a <;> simp <;> omega⟩ : LoadRect S8192x128).idx y)

theorem ln_val (o : Fin 16) (e : Vec Ideal S8192x128 .f32) (i : Fin 512) (j : Fin 128) :
    @Eq EReal (ln o e (ix2 i j)) (e (ix2 ⟨16 * i + o, by omega⟩ j)) := by
  unfold ln
  refine congrArg e (funext fun a => Fin.ext ?_)
  match a with
  | 0 => show (o : ℕ) + 16 * (i : ℕ) = 16 * i + o; omega
  | 1 => show 0 + 1 * (j : ℕ) = j; omega

/-- A line read at equal places. -/
theorem line (e : Vec Ideal S8192x128 .f32) (a b p q : ℕ) (ha : a < 8192) (hb : b < 128) (hp : p < 8192) (hq : q < 128) (h : a = p) (h' : b = q) :
    @Eq EReal (e (ix2 ⟨a, ha⟩ ⟨b, hb⟩)) (e (ix2 ⟨p, hp⟩ ⟨q, hq⟩)) := by
  subst h h'; rfl

/-- The first expert's outputs of a token times its gate. -/
theorem pay2_val (v0 : Vec Ideal S512x2 .f32) (e : Vec Ideal S8192x128 .f32) (i : Fin 512) (k : Fin 1024) :
    @Eq EReal (k0_pay2 v0 (ln 0 e) (ln 1 e) (ln 2 e) (ln 3 e) (ln 4 e) (ln 5 e) (ln 6 e) (ln 7 e) (ix2 i k))
      (HMul.hMul (α := EReal) (β := EReal) (e (ix2 ⟨16 * i + (k : ℕ) / 128, by omega⟩ ⟨(k : ℕ) % 128, by omega⟩)) (v0 (ix2 i 0))) := by
  unfold k0_pay2
  pointwise
  simp only [ln_val]
  refine congrArg (fun z : EReal => z * v0 (ix2 i 0)) ?_
  have := k.isLt
  split_ifs <;> exact line e _ _ _ _ _ _ _ _ (by simp; omega) (by omega)

/-- The second expert's outputs of a token times its gate. -/
theorem pay3_val (v0 : Vec Ideal S512x2 .f32) (e : Vec Ideal S8192x128 .f32) (i : Fin 512) (k : Fin 1024) :
    @Eq EReal (k0_pay3 v0 (ln 8 e) (ln 9 e) (ln 10 e) (ln 11 e) (ln 12 e) (ln 13 e) (ln 14 e) (ln 15 e) (ix2 i k))
      (HMul.hMul (α := EReal) (β := EReal) (e (ix2 ⟨16 * i + 8 + (k : ℕ) / 128, by omega⟩ ⟨(k : ℕ) % 128, by omega⟩)) (v0 (ix2 i 1))) := by
  unfold k0_pay3
  pointwise
  simp only [ln_val]
  refine congrArg (fun z : EReal => z * v0 (ix2 i 1)) ?_
  have := k.isLt
  split_ifs <;> exact line e _ _ _ _ _ _ _ _ (by simp; omega) (by omega)

/-- The normalised sum of a row and the two gated rows. -/
theorem pay1_val (p q : FVec Ideal S512x1024 .f32) (x : Vec Ideal S512x1024 .f32) (g : Vec Ideal S1x1024 .f32) (i : Fin 512) (k : Fin 1024) :
    @Eq EReal (k0_pay1 p q x g (ix2 i k))
      (nrm (fun l => HAdd.hAdd (α := EReal) (β := EReal) (x (ix2 i l)) (HAdd.hAdd (α := EReal) (β := EReal) (p (ix2 i l)) (q (ix2 i l)))) (fun l => g (ix2 0 l)) k) := by
  unfold k0_pay1
  pointwise
  rfl

variable (m : (ℓ : Loc nD τ sig) → Buf (Elt Ideal) ℓ)

/-- The output block at a grid point, from the lines of the experts' outputs. -/
theorem out4_at (c : Dev nD) (t : Fin cfg0.N) :
    outsAt0 m c t = k0_pay1
       (k0_pay2 (iblk m c 2 t) (ln 0 (iblk m c 1 t)) (ln 1 (iblk m c 1 t)) (ln 2 (iblk m c 1 t)) (ln 3 (iblk m c 1 t)) (ln 4 (iblk m c 1 t)) (ln 5 (iblk m c 1 t)) (ln 6 (iblk m c 1 t)) (ln 7 (iblk m c 1 t)))
       (k0_pay3 (iblk m c 2 t) (ln 8 (iblk m c 1 t)) (ln 9 (iblk m c 1 t)) (ln 10 (iblk m c 1 t)) (ln 11 (iblk m c 1 t)) (ln 12 (iblk m c 1 t)) (ln 13 (iblk m c 1 t)) (ln 14 (iblk m c 1 t)) (ln 15 (iblk m c 1 t)))
       (iblk m c 0 t) (iblk m c 3 t) := by
  unfold outsAt0
  frame_out
  have r : ∀ (o : Fin 16) (h : ∀ a, S512x128.size a = 0 ∨ (![o.val, 0] : Fin 2 → ℕ) a + (![16, 1] : Fin 2 → ℕ) a * (S512x128.size a - 1) < S8192x128.size a),
      View.readAt (Elt Ideal) (ms0_1 t).view (⟨![o.val, 0], S512x128.size, ![16, 1], h⟩ : LoadRect S8192x128) ((hs0_1 t).unread (iblk m c 1 t)) = ln o (iblk m c 1 t) :=
    fun o h => funext fun y => (hs0_1 t).readAt_unread (iblk m c 1 t) _ y
  have e2 := congr (congr (congr (congr (congr (congr (congr (congrArg (k0_pay2 (F := Ideal) (iblk m c 2 t)) (r 0 inb_S8192x128_S512x128_0_0_s_16_1)) (r 1 inb_S8192x128_S512x128_1_0_s_16_1))
    (r 2 inb_S8192x128_S512x128_2_0_s_16_1)) (r 3 inb_S8192x128_S512x128_3_0_s_16_1)) (r 4 inb_S8192x128_S512x128_4_0_s_16_1)) (r 5 inb_S8192x128_S512x128_5_0_s_16_1))
    (r 6 inb_S8192x128_S512x128_6_0_s_16_1)) (r 7 inb_S8192x128_S512x128_7_0_s_16_1)
  have e3 := congr (congr (congr (congr (congr (congr (congr (congrArg (k0_pay3 (F := Ideal) (iblk m c 2 t)) (r 8 inb_S8192x128_S512x128_8_0_s_16_1)) (r 9 inb_S8192x128_S512x128_9_0_s_16_1))
    (r 10 inb_S8192x128_S512x128_10_0_s_16_1)) (r 11 inb_S8192x128_S512x128_11_0_s_16_1)) (r 12 inb_S8192x128_S512x128_12_0_s_16_1)) (r 13 inb_S8192x128_S512x128_13_0_s_16_1))
    (r 14 inb_S8192x128_S512x128_14_0_s_16_1)) (r 15 inb_S8192x128_S512x128_15_0_s_16_1)
  exact congrArg₂ (fun p q => k0_pay1 (F := Ideal) p q (iblk m c 0 t) (iblk m c 3 t)) e2 e3

end Cert.Kernel6Ideal.Value
-- ==== Proof.CsClaim.lean ====
module

public import proofs.«01_k».proof.Defs
public import proofs.«01_k».proof.Proof.CsPoint
public import proofs.«01_k».proof.Proof.Gen.Reference6Ideal.Run
public import Idealize.ShloMosaic.Lib.Claim

/-!
  The combination of the sample batch: the kernel's result array, the plain program's result, and that they are equal.
-/

@[expose] public section

set_option maxRecDepth 16384

noncomputable section

namespace Cert.CombineSample

open Idealize.ShloMosaic Idealize.ShloMosaic.TcCoe Idealize.SL.Sem Cert.Retention
open Cert.Kernel2Ideal.Body (nrm)

/-- One entry of a token's row plus its two experts' outputs, each times its gate; a token's outputs begin at line `1048576 + 16 r`. -/
def sum3 (x : (⟨2, ![512, 1024]⟩ : Shape).Idx → EReal) (e : (⟨2, ![1122304, 128]⟩ : Shape).Idx → EReal) (a : (⟨2, ![512, 2]⟩ : Shape).Idx → EReal)
    (r : Fin 512) (l : Fin 1024) : EReal :=
  x (ix2 r l) + (e (ix2 ⟨1048576 + 16 * r + (l : ℕ) / 128, by omega⟩ ⟨(l : ℕ) % 128, by omega⟩) * a (ix2 r 0)
    + e (ix2 ⟨1048576 + 16 * r + 8 + (l : ℕ) / 128, by omega⟩ ⟨(l : ℕ) % 128, by omega⟩) * a (ix2 r 1))

/-- One entry of the result: the row of sums, normalised and weighted. -/
def res (x : (⟨2, ![512, 1024]⟩ : Shape).Idx → EReal) (e : (⟨2, ![1122304, 128]⟩ : Shape).Idx → EReal) (a : (⟨2, ![512, 2]⟩ : Shape).Idx → EReal)
    (g : (⟨1, ![1024]⟩ : Shape).Idx → EReal) (r : Fin 512) (k : Fin 1024) : EReal :=
  nrm (sum3 x e a r) (fun l => g (ix1 l)) k

section Kernel
open Cert.Kernel6Ideal Cert.Kernel6Ideal.Gen Cert.Kernel6Ideal.Value

variable (m : (ℓ : Loc nD τ sig) → Buf (Elt Ideal) ℓ) (c : Dev nD)

theorem lt_N (t : Fin cfg0.N) : t.val < 1 := lt_of_lt_of_eq t.isLt (by decide +kernel)

theorem idx0 : ∀ t : Fin cfg0.N, win0_0.index t = ![t.val, 0] := (by decide +kernel : ∀ t : Fin grid0.N, _)
theorem idx1 : ∀ t : Fin cfg0.N, win0_1.index t = ![128 + t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

theorem B0 (t : Fin cfg0.N) (i : Fin 512) (k : Fin 1024) :
    @Eq EReal (iblk m c 0 t (ix2 i k)) (V m c main_arg0 (ix2 ⟨t.val * 512 + i.val, by have := lt_N t; omega⟩ k)) := by
  blk_ext [iblk, V, idx0 t]
theorem B1 (t : Fin cfg0.N) (i : Fin 8192) (k : Fin 128) :
    @Eq EReal (iblk m c 1 t (ix2 i k)) (V m c main_arg1 (ix2 ⟨(128 + t.val) * 8192 + i.val, by have := lt_N t; omega⟩ k)) := by
  blk_ext [iblk, V, idx1 t]
theorem B2 (t : Fin cfg0.N) (i : Fin 512) (k : Fin 2) :
    @Eq EReal (iblk m c 2 t (ix2 i k)) (V m c main_arg2 (ix2 ⟨t.val * 512 + i.val, by have := lt_N t; omega⟩ k)) := by
  blk_ext [iblk, V, idx2 t]
theorem B3 (t : Fin cfg0.N) (k : Fin 1024) : @Eq EReal (iblk m c 3 t (ix2 0 k)) (V m c main_v0 (ix2 0 k)) := by
  blk_ext [iblk, V, idx3 t]

/-- The weights of the norm. -/
theorem V_g (k : Fin 1024) : @Eq EReal (V m c main_v0 (ix2 0 k)) (m (c, Proc.devRef .tc main_arg3) (ix1 k)) := by
  unfold V
  after_reads_simp
  pointwise

theorem emb4 (t : Fin cfg0.N) (i : Fin 512) (j : Fin 1024) : ((win0_4.blk t).view.emb (ix2 i j) 0 : ℕ) = t.val * 512 + (i : ℕ) := by
  blk_simp [idx4 t] <;> simp

/-- The array that the kernel leaves. -/
theorem arr4 : (dats m 0 c).arrAt 4 cfg0.N = (fun y : S512x1024.Idx => res (m ((c : Thread nD τ).loc main_arg0)) (m ((c : Thread nD τ).loc main_arg1))
    (m ((c : Thread nD τ).loc main_arg2)) (m ((c : Thread nD τ).loc main_arg3)) (y 0) (y 1) : S512x1024.Idx → EReal) := by
  refine (dats m 0 c).arrAt_eq_of_covers 4 _ (by decide +kernel) fun t hf y => ?_
  blk_simp
  rw [after0_4]
  have ht := lt_N t
  obtain ⟨i, j, rfl⟩ := Retention.pair 512 1024 y
  have q : ((win0_4.blk t).view.emb (ix2 i j) 1 : Fin 1024) = j := Fin.ext (by
    have e : ((win0_4.blk t).view.emb (ix2 i j) 1 : ℕ) = (j : ℕ) := by blk_simp [idx4 t] <;> simp
    exact e)
  have hr := emb4 t i j
  generalize hq : ((win0_4.blk t).view.emb (ix2 i j) 0 : Fin 512) = r at hr ⊢
  rw [q, out4_at, pay1_val]
  unfold res
  have hg : (fun l : Fin 1024 => (iblk m c 3 t (ix2 0 l) : EReal)) = fun l => (m ((c : Thread nD τ).loc main_arg3) (ix1 l) : EReal) :=
    funext fun l => (B3 m c t l).trans (V_g m c l)
  have hx : ∀ l : Fin 1024, @Eq EReal (iblk m c 0 t (ix2 i l)) (m ((c : Thread nD τ).loc main_arg0) (ix2 r l)) := fun l => by
    rw [B0, V_main_arg0]
    exact congrArg (fun z : Fin 512 => (m ((c : Thread nD τ).loc main_arg0) (ix2 z l) : EReal)) (Fin.ext hr.symm)
  have ha : ∀ l : Fin 2, @Eq EReal (iblk m c 2 t (ix2 i l)) (m ((c : Thread nD τ).loc main_arg2) (ix2 r l)) := fun l => by
    rw [B2, V_main_arg2]
    exact congrArg (fun z : Fin 512 => (m ((c : Thread nD τ).loc main_arg2) (ix2 z l) : EReal)) (Fin.ext hr.symm)
  have he : ∀ (p : ℕ) (hp : p < 8192) (n : ℕ) (hn : n < 1122304) (l : Fin 128), (128 + t.val) * 8192 + p = n →
      @Eq EReal (iblk m c 1 t (ix2 ⟨p, hp⟩ l)) (m ((c : Thread nD τ).loc main_arg1) (ix2 ⟨n, hn⟩ l)) := fun p hp n hn l h => by
    subst h
    rw [B1, V_main_arg1]
  refine congrArg₂ (fun u v => nrm u v j) (funext fun l => ?_) hg
  unfold sum3
  rw [pay2_val, pay3_val, hx l, ha 0, ha 1, he _ _ (1048576 + 16 * r + (l : ℕ) / 128) (by omega) _ (by omega), he _ _ (1048576 + 16 * r + 8 + (l : ℕ) / 128) (by omega) _ (by omega)]

end Kernel

section Plain
open Cert.Reference6Ideal Cert.Reference6Ideal.Gen

variable (x : FVec Ideal S512x1024 .f32) (e : FVec Ideal S1122304x128 .f32) (a : FVec Ideal S512x2 .f32) (g : FVec Ideal S1024 .f32)

/-- The plain row of sums. -/
def plain : FVec Ideal S512x1024 .f32 := addf x (Host.reduceAdd (mulf (shapeCast _ (extractStridedSlice S1024x1024 ![131072, 0] (shapeCast _ e shapeCasts_S1122304x128_S140288x1024) slices_S140288x1024_S1024x1024_131072_0) shapeCasts_S1024x1024_S512x2x1024) (broadcastInDim S512x2x1024 ![0, 1, 2] bcast_S512x2x1_S512x2x1024_0_1_2 (broadcastInDim S512x2x1 ![0, 1] bcast_S512x2_S512x2x1_0_1 a))) (constant S_ .f32 0x00000000#32) reducesTo_S512x2x1024_S512x1024_d1 h_S_)

theorem plain_val (r : Fin 512) (l : Fin 1024) : @Eq EReal (plain x e a (ix2 r l)) (sum3 x e a r l) := by
  unfold plain sum3
  pointwise
  rw [Fin.sum_univ_two]
  refine congrArg (fun z : EReal => x (ix2 r l) + z) (congrArg₂ (fun p q : EReal => p * a (ix2 r 0) + q * a (ix2 r 1)) ?_ ?_)
  · exact congrArg (fun n : Fin 1122304 => (e (ix2 n ⟨(l : ℕ) % 128, by omega⟩) : EReal)) (Fin.ext (by simp; omega))
  · exact congrArg (fun n : Fin 1122304 => (e (ix2 n ⟨(l : ℕ) % 128, by omega⟩) : EReal)) (Fin.ext (by simp; omega))

/-- The plain result. -/
theorem plain_res (r : Fin 512) (k : Fin 1024) : @Eq EReal ((mulf (mulf (plain x e a) (broadcastInDim S512x1024 ![0, 1] bcast_S512x1_S512x1024_0_1 (Host.rsqrt (addf (Host.divf (broadcastInDim S512x1 ![0] bcast_S512_S512x1_0 (Host.reduceAdd (mulf (plain x e a) (plain x e a)) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 g))) (ix2 r k)) (res x e a g r k) := by
  have h : ∀ p : FVec Ideal S512x1024 .f32, @Eq EReal ((mulf (mulf p (broadcastInDim S512x1024 ![0, 1] bcast_S512x1_S512x1024_0_1 (Host.rsqrt (addf (Host.divf (broadcastInDim S512x1 ![0] bcast_S512_S512x1_0 (Host.reduceAdd (mulf p p) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 g))) (ix2 r k)) (nrm (fun l => p (ix2 r l)) (fun l => g (ix1 l)) k) := by
    intro p
    unfold nrm
    pointwise
  refine (h _).trans ?_
  unfold res
  exact congrArg (fun q => nrm q (fun l => g (ix1 l)) k) (funext fun l => plain_val x e a r l)

end Plain

/-- The plain program leaves its arguments unchanged and every counter at zero. -/
theorem frame_R : Cert.quiescent_Reference6Ideal := fun m g _ =>
  (θ_run Cert.Reference6Ideal.defs _ _).mono (fun r h => ⟨fun c => (h c).2,
      Idealize.ShloMosaic.sem_eq_zero_of_no_sems (by decide) r.2⟩)
    (Cert.Reference6Ideal.Value.run (F := Ideal) m g)

section
open Cert.Kernel6Ideal Cert.Kernel6Ideal.Gen Cert.Kernel6Ideal.Value

/-- The kernel's result is the plain program's. -/
theorem algebraic : @Cert.algebraic_Kernel6Ideal_Reference6Ideal Cert.Kernel6Ideal.Gen.facts Cert.Reference6Ideal.Gen.facts := by
  pair_intro
  · run_from run_blocks m g
  · refine (θ_run Cert.Reference6Ideal.defs _ _).mono (fun r h c => ?_) (Cert.Reference6Ideal.Value.run (F := Ideal) m' g')
    obtain ⟨h0, h1, h2, h3⟩ := hagree c
    obtain ⟨e4, e⟩ := h c
    refine ⟨e4.trans ?_, e⟩
    rw [h0, h1, h2, h3]
    refine Eq.trans ?_ (arr4 m c).symm
    funext y
    obtain ⟨i, j, rfl⟩ := Retention.pair 512 1024 y
    exact plain_res _ _ _ _ i j

end

end Cert.CombineSample
-- ==== Proof.OpFrame.lean ====
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Claim

/-!
  The frame of the output projection of the prompt batch. The grid has one point for each block of rows and one
  more, which only clears the padding block of the second result. This module says what each output block holds
  after the body as a function of the input blocks, runs the body in both cases, runs the launch over the grid,
  and shows that the arguments end unchanged.
-/

@[expose] public section

set_option maxRecDepth 16384

noncomputable section

namespace Cert.Kernel7Ideal.Body

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The contents of the buffers when the kernel is launched: what the host operations before it leave. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the kernel, the kernel, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The host operations after the kernel write none of the arrays the kernel works on. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point whose block of rows is in the buffers at a point: the point itself, and at the last one the one before. -/
def cap (t : Fin cfg0.N) : Fin cfg0.N := ⟨min t.val 127, lt_of_le_of_lt (min_le_left _ _) t.isLt⟩

theorem cap_of_lt (t : Fin cfg0.N) (h : t.val < 128) : cap t = t := Fin.ext (by show min t.val 127 = t.val; omega)

theorem cond1_iff : ∀ t : Fin grid0.N, k0_cond1 (grid0.coords t) = 1#1 ↔ t.val < 128 := by decide +kernel
theorem cond2_iff : ∀ t : Fin grid0.N, k0_cond2 (grid0.coords t) = 1#1 ↔ ¬ t.val < 128 := by decide +kernel

abbrev rX : Rect S512x1024 := Rect.unit (s := S512x1024) ![0, 0] S512x1024.size inb_S512x1024_S512x1024_0_0
abbrev rH : Rect S512x512 := Rect.unit (s := S512x512) ![0, 0] S512x512.size inb_S512x512_S512x512_0_0
abbrev rW : Rect S1024x1024 := Rect.unit (s := S1024x1024) ![0, 0] S1024x1024.size inb_S1024x1024_S1024x1024_0_0
abbrev rG : Rect S1x1024 := Rect.unit (s := S1x1024) ![0, 0] S1x1024.size inb_S1x1024_S1x1024_0_0
abbrev rR : Rect S48x1024 := Rect.unit (s := S48x1024) ![0, 0] S48x1024.size inb_S48x1024_S48x1024_0_0
abbrev rB : Rect S48x1 := Rect.unit (s := S48x1) ![0, 0] S48x1.size inb_S48x1_S48x1_0_0
abbrev rZ : Rect S4096x128 := Rect.unit (s := S4096x128) ![0, 0] S4096x128.size inb_S4096x128_S4096x128_0_0
abbrev rE : Rect S2x512 := Rect.unit (s := S2x512) ![0, 0] S2x512.size inb_S2x512_S2x512_0_0
abbrev r0 : Rect S4096x128 := ⟨(⟨![0, 0], S512x128.size, ![8, 1], inb_S4096x128_S512x128_0_0_s_8_1⟩ : LoadRect S4096x128), spos_8_1⟩
abbrev r1 : Rect S4096x128 := ⟨(⟨![1, 0], S512x128.size, ![8, 1], inb_S4096x128_S512x128_1_0_s_8_1⟩ : LoadRect S4096x128), spos_8_1⟩
abbrev r2 : Rect S4096x128 := ⟨(⟨![2, 0], S512x128.size, ![8, 1], inb_S4096x128_S512x128_2_0_s_8_1⟩ : LoadRect S4096x128), spos_8_1⟩
abbrev r3 : Rect S4096x128 := ⟨(⟨![3, 0], S512x128.size, ![8, 1], inb_S4096x128_S512x128_3_0_s_8_1⟩ : LoadRect S4096x128), spos_8_1⟩
abbrev r4 : Rect S4096x128 := ⟨(⟨![4, 0], S512x128.size, ![8, 1], inb_S4096x128_S512x128_4_0_s_8_1⟩ : LoadRect S4096x128), spos_8_1⟩
abbrev r5 : Rect S4096x128 := ⟨(⟨![5, 0], S512x128.size, ![8, 1], inb_S4096x128_S512x128_5_0_s_8_1⟩ : LoadRect S4096x128), spos_8_1⟩
abbrev r6 : Rect S4096x128 := ⟨(⟨![6, 0], S512x128.size, ![8, 1], inb_S4096x128_S512x128_6_0_s_8_1⟩ : LoadRect S4096x128), spos_8_1⟩
abbrev r7 : Rect S4096x128 := ⟨(⟨![7, 0], S512x128.size, ![8, 1], inb_S4096x128_S512x128_7_0_s_8_1⟩ : LoadRect S4096x128), spos_8_1⟩

/-- Eight stores of stride eight, one from each of the rows 0 to 7, together cover a block of 4096 rows. -/
theorem cover_strided (p0 p1 p2 p3 p4 p5 p6 p7 : Vec F S512x128 .f32) (y : S4096x128.Idx) :
    ∃ pc ∈ ([⟨r7, p0⟩, ⟨r6, p1⟩, ⟨r5, p2⟩, ⟨r4, p3⟩, ⟨r3, p4⟩, ⟨r2, p5⟩, ⟨r1, p6⟩, ⟨r0, p7⟩] : List (View.Piece (Elt F) S4096x128 .f32)), y ∈ pc.1.set := by
  have h0 : (y 0 : ℕ) < 4096 := (y 0).isLt
  have h1 : (y 1 : ℕ) < 128 := (y 1).isLt
  have hr : (y 0 : ℕ) % 8 = 7 ∨ (y 0 : ℕ) % 8 = 6 ∨ (y 0 : ℕ) % 8 = 5 ∨ (y 0 : ℕ) % 8 = 4 ∨ (y 0 : ℕ) % 8 = 3 ∨ (y 0 : ℕ) % 8 = 2 ∨ (y 0 : ℕ) % 8 = 1 ∨ (y 0 : ℕ) % 8 = 0 := by omega
  have key : ∀ o : ℕ, (y 0 : ℕ) % 8 = o → ∀ a : Fin 2, ∃ j < S512x128.size a, (y a : ℕ) = (![o, 0] : Fin 2 → ℕ) a + (![8, 1] : Fin 2 → ℕ) a * j := by
    intro o ho a
    match a with
    | 0 => exact ⟨(y 0 : ℕ) / 8, show (y 0 : ℕ) / 8 < 512 by omega, show (y 0 : ℕ) = o + 8 * ((y 0 : ℕ) / 8) by omega⟩
    | 1 => exact ⟨(y 1 : ℕ), h1, show (y 1 : ℕ) = 0 + 1 * (y 1 : ℕ) by omega⟩
  rcases hr with h | h | h | h | h | h | h | h
  · exact ⟨_, List.mem_cons_self, (LoadRect.mem_set _).mpr (key 7 h)⟩
  · exact ⟨_, List.mem_cons_of_mem _ List.mem_cons_self, (LoadRect.mem_set _).mpr (key 6 h)⟩
  · exact ⟨_, List.mem_cons_of_mem _ (List.mem_cons_of_mem _ List.mem_cons_self), (LoadRect.mem_set _).mpr (key 5 h)⟩
  · exact ⟨_, List.mem_cons_of_mem _ (List.mem_cons_of_mem _ (List.mem_cons_of_mem _ List.mem_cons_self)), (LoadRect.mem_set _).mpr (key 4 h)⟩
  · exact ⟨_, List.mem_cons_of_mem _ (List.mem_cons_of_mem _ (List.mem_cons_of_mem _ (List.mem_cons_of_mem _ List.mem_cons_self))), (LoadRect.mem_set _).mpr (key 3 h)⟩
  · exact ⟨_, List.mem_cons_of_mem _ (List.mem_cons_of_mem _ (List.mem_cons_of_mem _ (List.mem_cons_of_mem _ (List.mem_cons_of_mem _ List.mem_cons_self)))), (LoadRect.mem_set _).mpr (key 2 h)⟩
  · exact ⟨_, List.mem_cons_of_mem _ (List.mem_cons_of_mem _ (List.mem_cons_of_mem _ (List.mem_cons_of_mem _ (List.mem_cons_of_mem _ (List.mem_cons_of_mem _ List.mem_cons_self))))), (LoadRect.mem_set _).mpr (key 1 h)⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), (LoadRect.mem_set _).mpr (key 0 h)⟩

/-- The rows of the second result before they are cut into tiles. -/
abbrev v28 (x0 : Vec F S512x1024 .f32) (x1 : Vec F S512x512 .bf16) (x2 : Vec F S512x512 .bf16) (x3 : Vec F S1024x1024 .bf16) (x4 : Vec F S1x1024 .f32) (x5 : Vec F S48x1024 .bf16) (x6 : Vec F S48x1 .f32) : FVec F S512x1024 .f32 := k0_pay5 (View.ld x1 rH) (View.ld x2 rH) (View.ld x0 rX) (View.ld x3 rW) (View.ld x4 rG)

def out0_7 (x0 : Vec F S512x1024 .f32) (x1 : Vec F S512x512 .bf16) (x2 : Vec F S512x512 .bf16) (x3 : Vec F S1024x1024 .bf16) (x4 : Vec F S1x1024 .f32) (x5 : Vec F S48x1024 .bf16) (x6 : Vec F S48x1 .f32) : Vec F S512x1024 .f32 :=
  View.canon [⟨rX, k0_pay4 (View.ld x1 rH) (View.ld x2 rH) (View.ld x0 rX) (View.ld x3 rW)⟩]

theorem cover0_7 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

def out0_8 (x0 : Vec F S512x1024 .f32) (x1 : Vec F S512x512 .bf16) (x2 : Vec F S512x512 .bf16) (x3 : Vec F S1024x1024 .bf16) (x4 : Vec F S1x1024 .f32) (x5 : Vec F S48x1024 .bf16) (x6 : Vec F S48x1 .f32) : Vec F S4096x128 .f32 :=
  View.canon [⟨r7, k0_pay13 (v28 x0 x1 x2 x3 x4 x5 x6)⟩, ⟨r6, k0_pay12 (v28 x0 x1 x2 x3 x4 x5 x6)⟩, ⟨r5, k0_pay11 (v28 x0 x1 x2 x3 x4 x5 x6)⟩, ⟨r4, k0_pay10 (v28 x0 x1 x2 x3 x4 x5 x6)⟩, ⟨r3, k0_pay9 (View.ld x1 rH) (View.ld x2 rH) (View.ld x0 rX) (View.ld x3 rW) (View.ld x4 rG)⟩, ⟨r2, k0_pay8 (View.ld x1 rH) (View.ld x2 rH) (View.ld x0 rX) (View.ld x3 rW) (View.ld x4 rG)⟩, ⟨r1, k0_pay7 (View.ld x1 rH) (View.ld x2 rH) (View.ld x0 rX) (View.ld x3 rW) (View.ld x4 rG)⟩, ⟨r0, k0_pay6 (View.ld x1 rH) (View.ld x2 rH) (View.ld x0 rX) (View.ld x3 rW) (View.ld x4 rG)⟩]

/-- The padding block: zeros. -/
def pad0_8 : Vec F S4096x128 .f32 := View.canon [⟨rZ, k0_pay3 (F := F)⟩]

theorem coverZ (p0 : Vec F S4096x128 .f32) (y : S4096x128.Idx) :
    ∃ pc ∈ ([⟨rZ, p0⟩] : List (View.Piece (Elt F) S4096x128 .f32)), y ∈ pc.1.set :=
  View.cover_of_tiled [⟨rZ, p0⟩] S4096x128.size (by rfl) y

def out0_9 (x0 : Vec F S512x1024 .f32) (x1 : Vec F S512x512 .bf16) (x2 : Vec F S512x512 .bf16) (x3 : Vec F S1024x1024 .bf16) (x4 : Vec F S1x1024 .f32) (x5 : Vec F S48x1024 .bf16) (x6 : Vec F S48x1 .f32) : Vec F S2x512 .i32 :=
  View.canon [⟨rE, k0_pay1 (k0_pay19 (v28 x0 x1 x2 x3 x4 x5 x6) (View.ld x5 rR) (View.ld x6 rB)) (k0_pay24 (k0_pay14 (v28 x0 x1 x2 x3 x4 x5 x6) (View.ld x5 rR) (View.ld x6 rB)) (k0_pay15 (F := F)) (k0_pay19 (v28 x0 x1 x2 x3 x4 x5 x6) (View.ld x5 rR) (View.ld x6 rB)) (k0_pay20 (F := F)) (k0_pay21 (F := F))) (k0_pay27 (k0_pay14 (v28 x0 x1 x2 x3 x4 x5 x6) (View.ld x5 rR) (View.ld x6 rB)) (k0_pay15 (F := F)) (k0_pay19 (v28 x0 x1 x2 x3 x4 x5 x6) (View.ld x5 rR) (View.ld x6 rB)) (k0_pay20 (F := F)) (k0_pay21 (F := F))) (k0_pay30 (F := F))⟩]

def out0_10 (x0 : Vec F S512x1024 .f32) (x1 : Vec F S512x512 .bf16) (x2 : Vec F S512x512 .bf16) (x3 : Vec F S1024x1024 .bf16) (x4 : Vec F S1x1024 .f32) (x5 : Vec F S48x1024 .bf16) (x6 : Vec F S48x1 .f32) : Vec F S2x512 .f32 :=
  View.canon [⟨rE, k0_pay2 (k0_pay18 (v28 x0 x1 x2 x3 x4 x5 x6) (View.ld x5 rR) (View.ld x6 rB)) (k0_pay28 (k0_pay14 (v28 x0 x1 x2 x3 x4 x5 x6) (View.ld x5 rR) (View.ld x6 rB)) (k0_pay15 (F := F)) (k0_pay19 (v28 x0 x1 x2 x3 x4 x5 x6) (View.ld x5 rR) (View.ld x6 rB)) (k0_pay20 (F := F)) (k0_pay21 (F := F))) (k0_pay29 (k0_pay14 (v28 x0 x1 x2 x3 x4 x5 x6) (View.ld x5 rR) (View.ld x6 rB)) (k0_pay15 (F := F)) (k0_pay19 (v28 x0 x1 x2 x3 x4 x5 x6) (View.ld x5 rR) (View.ld x6 rB)) (k0_pay20 (F := F)) (k0_pay21 (F := F)))⟩]

theorem coverE {e : EltTy} (p0 : Vec F S2x512 e) (y : S2x512.Idx) :
    ∃ pc ∈ ([⟨rE, p0⟩] : List (View.Piece (Elt F) S2x512 e)), y ∈ pc.1.set :=
  View.cover_of_tiled [⟨rE, p0⟩] S2x512.size (by rfl) y

set_option maxHeartbeats 4000000 in
/-- The body at a point that has rows of its own: every output block is written. -/
theorem sound_kernel_own (c : Dev nD) (E : Set ℕ) (i : grid0.Coords) (h1 : k0_cond1 i = 1#1) (h2 : ¬ k0_cond2 i = 1#1) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S48x1024 .bf16) (harg6 : arg6.IsWhole) (arg7 : Memref sig .tc .vmem S48x1 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S2x512 .i32) (harg10 : arg10.IsWhole) (arg11 : Memref sig .tc .vmem S2x512 .f32) (harg11 : arg11.IsWhole)
    (x0 : Vec F S512x1024 .f32) (x1 : Vec F S512x512 .bf16) (x2 : Vec F S512x512 .bf16) (x3 : Vec F S1024x1024 .bf16) (x4 : Vec F S1x1024 .f32) (x5 : Vec F S48x1024 .bf16) (x6 : Vec F S48x1 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6) ∗ owns (c : Thread nD τ) arg11 fullShare (out0_10 x0 x1 x2 x3 x4 x5 x6)) -∗ K ⟨⟩))
      ⊢ wp frame (wpE (defs₀ (F := F)) Variants.none c none) E (cc0_outproj_router i arg1 harg1 arg2 harg2 arg3 harg3 arg4 harg4 arg5 harg5 arg6 harg6 arg7 harg7 arg8 harg8 arg9 harg9 arg10 harg10 arg11 harg11) K := by
  simp only [cc0_outproj_router_eq_skeleton]; unfold cc0_outproj_router_skel
  simp only [k0_part1_eq_skeleton, k0_part2_eq_skeleton, k0_part3_eq_skeleton]; unfold k0_part1_skel k0_part2_skel k0_part3_skel
  simp only [dif_pos h1, dif_neg h2]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover_strided _ _ _ _ _ _ _ _)
  isplitl [H9]
  · iexists _; isplitr
    swap; · iexact H9
    ipureintro
    exact View.read_writes_eq_canon _ _ _ (coverE _)
  iexists _; isplitr
  swap; · iexact H10
  ipureintro
  exact View.read_writes_eq_canon _ _ _ (coverE _)

set_option maxHeartbeats 4000000 in
/-- The body at the last point: it only clears the block of the second result. -/
theorem sound_kernel_pad (c : Dev nD) (E : Set ℕ) (i : grid0.Coords) (h1 : ¬ k0_cond1 i = 1#1) (h2 : k0_cond2 i = 1#1) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S48x1024 .bf16) (harg6 : arg6.IsWhole) (arg7 : Memref sig .tc .vmem S48x1 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S2x512 .i32) (harg10 : arg10.IsWhole) (arg11 : Memref sig .tc .vmem S2x512 .f32) (harg11 : arg11.IsWhole)
    (K : PUnit → sProp (MT nD τ sig Unit (Elt F) ℕ (UR sig nD τ) ℕ)) :
    iprop((∃ d, owns (c : Thread nD τ) arg9 fullShare d) ∗ (owns (c : Thread nD τ) arg9 fullShare (pad0_8 (F := F)) -∗ K ⟨⟩))
      ⊢ wp frame (wpE (defs₀ (F := F)) Variants.none c none) E (cc0_outproj_router i arg1 harg1 arg2 harg2 arg3 harg3 arg4 harg4 arg5 harg5 arg6 harg6 arg7 harg7 arg8 harg8 arg9 harg9 arg10 harg10 arg11 harg11) K := by
  simp only [cc0_outproj_router_eq_skeleton]; unfold cc0_outproj_router_skel
  simp only [dif_neg h1, dif_pos h2]
  unfold owns
  iintro ⟨⟨%d8, %f8, -, H8⟩, Hk⟩
  sl_exec
  sl_step
  iapply Hk
  iexists _; isplitr
  swap; · iexact H8
  ipureintro
  exact View.read_writes_eq_canon _ _ _ (coverZ _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 (cap t)) (iblk m c 1 (cap t)) (iblk m c 2 (cap t)) (iblk m c 3 (cap t)) (iblk m c 4 (cap t)) (iblk m c 5 (cap t)) (iblk m c 6 (cap t))
    | ⟨8, _⟩ => if t.val < 128 then out0_8 (iblk m c 0 t) (iblk m c 1 t) (iblk m c 2 t) (iblk m c 3 t) (iblk m c 4 t) (iblk m c 5 t) (iblk m c 6 t) else pad0_8
    | ⟨9, _⟩ => out0_9 (iblk m c 0 (cap t)) (iblk m c 1 (cap t)) (iblk m c 2 (cap t)) (iblk m c 3 (cap t)) (iblk m c 4 (cap t)) (iblk m c 5 (cap t)) (iblk m c 6 (cap t))
    | ⟨10, _⟩ => out0_10 (iblk m c 0 (cap t)) (iblk m c 1 (cap t)) (iblk m c 2 (cap t)) (iblk m c 3 (cap t)) (iblk m c 4 (cap t)) (iblk m c 5 (cap t)) (iblk m c 6 (cap t))
    | ⟨_ + 11, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 (cap t)) (iblk m c 1 (cap t)) (iblk m c 2 (cap t)) (iblk m c 3 (cap t)) (iblk m c 4 (cap t)) (iblk m c 5 (cap t)) (iblk m c 6 (cap t)) := by dsimp only [dats]
theorem after0_8 (c : Dev nD) (t : Fin cfg0.N) : (dats m 0 c).after 8 t = (if t.val < 128 then out0_8 (iblk m c 0 t) (iblk m c 1 t) (iblk m c 2 t) (iblk m c 3 t) (iblk m c 4 t) (iblk m c 5 t) (iblk m c 6 t) else pad0_8) := by dsimp only [dats]
theorem after0_9 (c : Dev nD) (t : Fin cfg0.N) : (dats m 0 c).after 9 t = out0_9 (iblk m c 0 (cap t)) (iblk m c 1 (cap t)) (iblk m c 2 (cap t)) (iblk m c 3 (cap t)) (iblk m c 4 (cap t)) (iblk m c 5 (cap t)) (iblk m c 6 (cap t)) := by dsimp only [dats]
theorem after0_10 (c : Dev nD) (t : Fin cfg0.N) : (dats m 0 c).after 10 t = out0_10 (iblk m c 0 (cap t)) (iblk m c 1 (cap t)) (iblk m c 2 (cap t)) (iblk m c 3 (cap t)) (iblk m c 4 (cap t)) (iblk m c 5 (cap t)) (iblk m c 6 (cap t)) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before0_6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl

/-- At the last point the buffer of an output that is not stored there still holds what the point before left. -/
theorem before_pad (c : Dev nD) (w : Fin cfg0.W) (hw : (cfg0.win w).isOut = true)
    (hi : cfg0.idle w (cfg0.grid.coords ⟨127, by decide⟩) = false) (hf : (cfg0.win w).flush ⟨127, by decide⟩ = false)
    (hclip : ∀ (i : cfg0.grid.Coords) a, (cfg0.win w).clip i a = none) (t : Fin cfg0.N) (ht : ¬ t.val < 128) (d) :
    (dats m 0 c).before w t d = (dats m 0 c).after w ⟨127, by decide⟩ := by
  have hN : t.val < 129 := t.isLt
  obtain rfl : t = ⟨128, by decide⟩ := Fin.ext (by show t.val = 128; omega)
  rw [(dats m 0 c).before_of_pos w _ (by decide) ((cfg0.win w).fetch_out hw _)]
  show (if (cfg0.win w).flush ⟨127, _⟩ = true then d else (dats m 0 c).left w ⟨127, _⟩ d) = _
  rw [hf, if_neg Bool.false_ne_true]
  unfold Dat.left
  rw [hi]
  dsimp only
  unfold Dat.kept
  rw [Pipeline.fill_of_clip_none w _ (hclip _) d ((dats m 0 c).after w _), Window.fill_cut]

/-- An output that is not stored at a point is written back there. -/
theorem flush_of_idle : ∀ (w : Fin 11) (t : Fin grid0.N), idle0 w (grid0.coords t) = true → (win0 w).flush t = true := by decide +kernel

/-- So the body must always leave in a buffer what the data of the run say. -/
theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact
  cases hi : cfg0.idle w (cfg0.grid.coords t)
  · rfl
  · rw [show (cfg0.win w).flush t = true from flush_of_idle w t hi]

theorem cap_pad (t : Fin cfg0.N) (ht : ¬ t.val < 128) : cap (⟨127, by decide⟩ : Fin cfg0.N) = cap t :=
  Fin.ext (by have hN : t.val < 129 := t.isLt
              show min 127 127 = min t.val 127; omega)

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem before_pad_7 (c : Dev nD) (t : Fin cfg0.N) (ht : ¬ t.val < 128) (d) : (dats m 0 c).before 7 t d = out0_7 (iblk m c 0 (cap t)) (iblk m c 1 (cap t)) (iblk m c 2 (cap t)) (iblk m c 3 (cap t)) (iblk m c 4 (cap t)) (iblk m c 5 (cap t)) (iblk m c 6 (cap t)) := by
  rw [before_pad m c 7 rfl (by decide +kernel) (by decide +kernel) (fun _ _ => rfl) t ht d, after0_7, cap_pad t ht]

theorem before_pad_9 (c : Dev nD) (t : Fin cfg0.N) (ht : ¬ t.val < 128) (d) : (dats m 0 c).before 9 t d = out0_9 (iblk m c 0 (cap t)) (iblk m c 1 (cap t)) (iblk m c 2 (cap t)) (iblk m c 3 (cap t)) (iblk m c 4 (cap t)) (iblk m c 5 (cap t)) (iblk m c 6 (cap t)) := by
  rw [before_pad m c 9 rfl (by decide +kernel) (by decide +kernel) (fun _ _ => rfl) t ht d, after0_9, cap_pad t ht]

theorem before_pad_10 (c : Dev nD) (t : Fin cfg0.N) (ht : ¬ t.val < 128) (d) : (dats m 0 c).before 10 t d = out0_10 (iblk m c 0 (cap t)) (iblk m c 1 (cap t)) (iblk m c 2 (cap t)) (iblk m c 3 (cap t)) (iblk m c 4 (cap t)) (iblk m c 5 (cap t)) (iblk m c 6 (cap t)) := by
  rw [before_pad m c 10 rfl (by decide +kernel) (by decide +kernel) (fun _ _ => rfl) t ht d, after0_10, cap_pad t ht]

set_option maxHeartbeats 1000000 in
theorem sound_body_own (c : Dev nD) (t : Fin cfg0.N) (ht : t.val < 128) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, cap_of_lt t ht, if_pos ht]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel_own c Set.univ (grid0.coords t) ((cond1_iff t).mpr ht) (fun h => (cond2_iff t).mp h ht) _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1000000 in
theorem sound_body_pad (c : Dev nD) (t : Fin cfg0.N) (ht : ¬ t.val < 128) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before_pad_7 m c t ht, before_pad_9 m c t ht, before_pad_10 m c t ht]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, if_neg ht]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel_pad c Set.univ (grid0.coords t) (fun h => ht ((cond1_iff t).mp h)) ((cond2_iff t).mpr ht) _ _ _ _ _ _ _ _ _ _ _ _ _ _ _ _ _ _ _ _ _ _ _)
  isplitl [H8]; · iexists _; iexact H8
  iintro H8
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  show _ ⊢ wp frame (wpE (defs₀ (F := F)) Variants.none c none) Set.univ (bodyAt0 t) (fun _ =>
    iprop((dats m 0 c).Φ t.succ ∗ (dats m 0 c).owesAt () t.succ ∗ bigSep Finset.univ fun w : Fin cfg0.W => (dats m 0 c).leavesExact w t))
  rw [show (fun w : Fin cfg0.W => (dats m 0 c).leavesExact w t)
      = fun w => owns (c : Thread nD τ) ((cfg0.win w).stage (cfg0.slots t w)) fullShare ((dats m 0 c).after w t) from funext fun w => leaves_eq m c w t,
    bigSep_W0, bigSep_W0]
  by_cases ht : t.val < 128
  · exact sound_body_own m c t ht
  · exact sound_body_pad m c t ht

set_option backward.isDefEq.respectTransparency.types false in
set_option maxHeartbeats 1000000 in
/-- The launch: the program terminates, every window's array ends as the proof data compute it, every other buffer as
    the host operations after the kernel leave it, and every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_arrays : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- No host operation before the launch writes an argument. -/
theorem V_arg (c : Dev nD) (b : Ref sig .tc) (hb : b ∈ ([main_arg0, main_arg1, main_arg2, main_arg3, main_arg4, main_arg5, main_arg6, main_arg7, main_arg8] : List (Ref sig .tc))) :
    V m c b = m ((c : Thread nD τ).loc b) := by
  simp only [List.mem_cons, List.mem_nil_iff, or_false] at hb
  rcases hb with rfl | rfl | rfl | rfl | rfl | rfl | rfl | rfl | rfl
  all_goals exact StableHlo.after_of_forall_not_mem (b := Proc.devRef .tc _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide)))

theorem V_arg0 (c : Dev nD) : V m c main_arg0 = m ((c : Thread nD τ).loc main_arg0) := V_arg m c _ (by simp)
theorem V_arg1 (c : Dev nD) : V m c main_arg1 = m ((c : Thread nD τ).loc main_arg1) := V_arg m c _ (by simp)
theorem V_arg2 (c : Dev nD) : V m c main_arg2 = m ((c : Thread nD τ).loc main_arg2) := V_arg m c _ (by simp)
theorem V_arg3 (c : Dev nD) : V m c main_arg3 = m ((c : Thread nD τ).loc main_arg3) := V_arg m c _ (by simp)
theorem V_arg4 (c : Dev nD) : V m c main_arg4 = m ((c : Thread nD τ).loc main_arg4) := V_arg m c _ (by simp)
theorem V_arg5 (c : Dev nD) : V m c main_arg5 = m ((c : Thread nD τ).loc main_arg5) := V_arg m c _ (by simp)
theorem V_arg6 (c : Dev nD) : V m c main_arg6 = m ((c : Thread nD τ).loc main_arg6) := V_arg m c _ (by simp)
theorem V_arg7 (c : Dev nD) : V m c main_arg7 = m ((c : Thread nD τ).loc main_arg7) := V_arg m c _ (by simp)
theorem V_arg8 (c : Dev nD) : V m c main_arg8 = m ((c : Thread nD τ).loc main_arg8) := V_arg m c _ (by simp)

/-- No host operation after the launch writes argument 3. -/
theorem W_arg3 (c : Dev nD) : Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.Forall, StableHlo.unary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg3 m c

/-- No host operation after the launch writes argument 4. -/
theorem W_arg4 (c : Dev nD) : Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.Forall, StableHlo.unary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_arg4 m c

/-- No host operation after the launch writes argument 5. -/
theorem W_arg5 (c : Dev nD) : Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.Forall, StableHlo.unary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_arg5 m c

/-- No host operation after the launch writes argument 6. -/
theorem W_arg6 (c : Dev nD) : Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.Forall, StableHlo.unary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_arg6 m c

/-- No host operation after the launch writes argument 7. -/
theorem W_arg7 (c : Dev nD) : Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.Forall, StableHlo.unary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_arg7 m c

/-- No host operation after the launch writes argument 8. -/
theorem W_arg8 (c : Dev nD) : Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.Forall, StableHlo.unary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_arg8 m c

/-- The frame of the output projection of the prompt batch: it terminates, its arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 0).trans (((dats m 0 c).arrAt_in 0 rfl _).trans ((A_eq m c 0).trans (V_arg0 m c))),
      ((h.1 c).1 1).trans (((dats m 0 c).arrAt_in 1 rfl _).trans ((A_eq m c 1).trans (V_arg1 m c))),
      ((h.1 c).1 2).trans (((dats m 0 c).arrAt_in 2 rfl _).trans ((A_eq m c 2).trans (V_arg2 m c))),
      ((h.1 c).2 main_arg3 (Pipeline.mem_restRefs_of main_arg3 (by decide) (by decide))).trans (W_arg3 m c),
      ((h.1 c).2 main_arg4 (Pipeline.mem_restRefs_of main_arg4 (by decide) (by decide))).trans (W_arg4 m c),
      ((h.1 c).2 main_arg5 (Pipeline.mem_restRefs_of main_arg5 (by decide) (by decide))).trans (W_arg5 m c),
      ((h.1 c).2 main_arg6 (Pipeline.mem_restRefs_of main_arg6 (by decide) (by decide))).trans (W_arg6 m c),
      ((h.1 c).2 main_arg7 (Pipeline.mem_restRefs_of main_arg7 (by decide) (by decide))).trans (W_arg7 m c),
      ((h.1 c).2 main_arg8 (Pipeline.mem_restRefs_of main_arg8 (by decide) (by decide))).trans (W_arg8 m c)⟩, h.2⟩) (run_quiet m ρ)

end Cert.Kernel7Ideal.Body

end
-- ==== Proof.OpSpec.lean ====
module

public import proofs.«01_k».proof.Proof.OpFrame
public import proofs.«01_k».proof.Proof.InSpec
public import Idealize.ShloMosaic.Lib.Pipeline.ValueKit
public import Idealize.ShloMosaic.Lib.Pointwise
public import Idealize.ShloMosaic.Lib.StableHlo.RunRead
public import Idealize.ShloMosaic.Lib.StableHlo.RunLoop

/-!
  The output projection of the prompt batch: what each block of its first two results holds, entry by entry.
-/

@[expose] public section

set_option maxRecDepth 16384

noncomputable section

namespace Cert.Kernel7Ideal.Body

open Cert.Kernel7Ideal Cert.Kernel7Ideal.Gen Idealize.ShloMosaic Idealize.ShloMosaic.TcCoe Idealize.SL.Sem Cert.Retention
open Cert.Kernel2Ideal.Body (nrm)

/-- One entry of the second residual stream: the row plus the projection of the two mixers' outputs. -/
def res (x : Fin 1024 → EReal) (a b : Fin 512 → EReal) (w : Fin 1024 → Fin 1024 → EReal) (l : Fin 1024) : EReal :=
  x l + (∑ k : Fin 512, a k * w ⟨(k : ℕ), by omega⟩ l + ∑ k : Fin 512, b k * w ⟨512 + (k : ℕ), by omega⟩ l)

/-- The kernel's sums. -/
theorem pay4_val (v6 : Vec Ideal S512x512 .bf16) (v7 : Vec Ideal S512x512 .bf16) (v9 : Vec Ideal S512x1024 .f32) (v10 : Vec Ideal S1024x1024 .bf16) (i : Fin 512) (l : Fin 1024) :
    @Eq EReal (k0_pay4 v6 v7 v9 v10 (ix2 i l)) (res (fun k => v9 (ix2 i k)) (fun k => v6 (ix2 i k)) (fun k => v7 (ix2 i k)) (fun k n => v10 (ix2 k n)) l) := by
  unfold k0_pay4 res
  pointwise

/-- The kernel's normalised rows. -/
theorem pay5_val (v6 : Vec Ideal S512x512 .bf16) (v7 : Vec Ideal S512x512 .bf16) (v9 : Vec Ideal S512x1024 .f32) (v10 : Vec Ideal S1024x1024 .bf16) (g : Vec Ideal S1x1024 .f32) (i : Fin 512) (k : Fin 1024) :
    @Eq EReal (k0_pay5 v6 v7 v9 v10 g (ix2 i k)) (nrm (res (fun k => v9 (ix2 i k)) (fun k => v6 (ix2 i k)) (fun k => v7 (ix2 i k)) (fun k n => v10 (ix2 k n))) (fun l => g (ix2 0 l)) k) := by
  have h : ∀ p : FVec Ideal S512x1024 .f32, p = k0_pay4 v6 v7 v9 v10 → @Eq EReal (k0_pay5 v6 v7 v9 v10 g (ix2 i k)) (nrm (fun l => p (ix2 i l)) (fun l => g (ix2 0 l)) k) := by
    intro p hp
    unfold k0_pay5
    rw [← hp]
    pointwise
    rfl
  refine (h _ rfl).trans ?_
  exact congrArg (fun q => nrm q (fun l => g (ix2 0 l)) k) (funext fun l => pay4_val v6 v7 v9 v10 i l)

/-- Reading a whole block is the block. -/
theorem ldX (x : Vec Ideal S512x1024 .f32) : View.ld x rX = x := View.ld_unit_zero (by funext a; fin_cases a <;> rfl) _ x
theorem ldH (x : Vec Ideal S512x512 .bf16) : View.ld x rH = x := View.ld_unit_zero (by funext a; fin_cases a <;> rfl) _ x
theorem ldW (x : Vec Ideal S1024x1024 .bf16) : View.ld x rW = x := View.ld_unit_zero (by funext a; fin_cases a <;> rfl) _ x
theorem ldG (x : Vec Ideal S1x1024 .f32) : View.ld x rG = x := View.ld_unit_zero (by funext a; fin_cases a <;> rfl) _ x

/-- A block of the second residual stream. -/
theorem out7_val (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S48x1024 .bf16) (x6 : Vec Ideal S48x1 .f32) (i : Fin 512) (l : Fin 1024) :
    @Eq EReal (out0_7 x0 x1 x2 x3 x4 x5 x6 (ix2 i l)) (res (fun k => x0 (ix2 i k)) (fun k => x1 (ix2 i k)) (fun k => x2 (ix2 i k)) (fun k n => x3 (ix2 k n)) l) := by
  unfold out0_7
  rw [View.canon_unit_zero (by funext a; fin_cases a <;> rfl)]
  simp only [ldX, ldH, ldW]
  exact pay4_val _ _ _ _ i l

/-- An eighth of an index below 4096. -/
theorem eighth (a : ℕ) (h : a < 4096) : a / 8 < 512 := by omega
/-- A lane's column. -/
theorem lane8 (a b : ℕ) (h : b < 128) : 128 * (a % 8) + b < 1024 := by omega

/-- One line of a row laid out as eight. -/
def lineOf (x0 : Vec Ideal S512x1024 .f32) (x1 : Vec Ideal S512x512 .bf16) (x2 : Vec Ideal S512x512 .bf16) (x3 : Vec Ideal S1024x1024 .bf16) (x4 : Vec Ideal S1x1024 .f32) (a b : ℕ) (ha : a < 4096) (hb : b < 128) : EReal :=
  nrm (res (fun k => x0 (ix2 ⟨a / 8, eighth a ha⟩ k)) (fun k => x1 (ix2 ⟨a / 8, eighth a ha⟩ k)) (fun k => x2 (ix2 ⟨a / 8, eighth a ha⟩ k)) (fun k n => x3 (ix2 k n)))
    (fun l => x4 (ix2 0 l)) ⟨128 * (a % 8) + b, lane8 a b hb⟩

/-- The lines `8 i + 0` of the block, one store. -/
theorem piece_0 (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S48x1024 .bf16) (x6 : Vec Ideal S48x1 .f32) (z : S512x128.Idx)
    (a b : ℕ) (ha : a = 0 + 8 * (z 0 : ℕ)) (hb : b = 0 + 1 * (z 1 : ℕ)) :
    @Eq EReal (k0_pay6 (View.ld x1 rH) (View.ld x2 rH) (View.ld x0 rX) (View.ld x3 rW) (View.ld x4 rG) z) (lineOf x0 x1 x2 x3 x4 a b (by have h : (z 0 : ℕ) < 512 := (z 0).isLt; omega) (by have h : (z 1 : ℕ) < 128 := (z 1).isLt; omega)) := by
  obtain ⟨i, j, rfl⟩ := Retention.pair 512 128 z
  have ea : a / 8 = (i : ℕ) := by rw [ha]; show (0 + 8 * (i : ℕ)) / 8 = i; omega
  have eb : 128 * (a % 8) + b = 0 + (j : ℕ) := by rw [ha, hb]; show 128 * ((0 + 8 * (i : ℕ)) % 8) + (0 + 1 * (j : ℕ)) = 0 + (j : ℕ); omega
  unfold lineOf k0_pay6
  simp only [ldX, ldH, ldW, ldG, ea, eb]
  have e := pay5_val x1 x2 x0 x3 x4 i ⟨0 + (j : ℕ), by omega⟩
  refine Eq.trans ?_ e
  generalize k0_pay5 x1 x2 x0 x3 x4 = p
  pointwise

/-- The lines `8 i + 1` of the block, one store. -/
theorem piece_1 (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S48x1024 .bf16) (x6 : Vec Ideal S48x1 .f32) (z : S512x128.Idx)
    (a b : ℕ) (ha : a = 1 + 8 * (z 0 : ℕ)) (hb : b = 0 + 1 * (z 1 : ℕ)) :
    @Eq EReal (k0_pay7 (View.ld x1 rH) (View.ld x2 rH) (View.ld x0 rX) (View.ld x3 rW) (View.ld x4 rG) z) (lineOf x0 x1 x2 x3 x4 a b (by have h : (z 0 : ℕ) < 512 := (z 0).isLt; omega) (by have h : (z 1 : ℕ) < 128 := (z 1).isLt; omega)) := by
  obtain ⟨i, j, rfl⟩ := Retention.pair 512 128 z
  have ea : a / 8 = (i : ℕ) := by rw [ha]; show (1 + 8 * (i : ℕ)) / 8 = i; omega
  have eb : 128 * (a % 8) + b = 128 + (j : ℕ) := by rw [ha, hb]; show 128 * ((1 + 8 * (i : ℕ)) % 8) + (0 + 1 * (j : ℕ)) = 128 + (j : ℕ); omega
  unfold lineOf k0_pay7
  simp only [ldX, ldH, ldW, ldG, ea, eb]
  have e := pay5_val x1 x2 x0 x3 x4 i ⟨128 + (j : ℕ), by omega⟩
  refine Eq.trans ?_ e
  generalize k0_pay5 x1 x2 x0 x3 x4 = p
  pointwise

/-- The lines `8 i + 2` of the block, one store. -/
theorem piece_2 (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S48x1024 .bf16) (x6 : Vec Ideal S48x1 .f32) (z : S512x128.Idx)
    (a b : ℕ) (ha : a = 2 + 8 * (z 0 : ℕ)) (hb : b = 0 + 1 * (z 1 : ℕ)) :
    @Eq EReal (k0_pay8 (View.ld x1 rH) (View.ld x2 rH) (View.ld x0 rX) (View.ld x3 rW) (View.ld x4 rG) z) (lineOf x0 x1 x2 x3 x4 a b (by have h : (z 0 : ℕ) < 512 := (z 0).isLt; omega) (by have h : (z 1 : ℕ) < 128 := (z 1).isLt; omega)) := by
  obtain ⟨i, j, rfl⟩ := Retention.pair 512 128 z
  have ea : a / 8 = (i : ℕ) := by rw [ha]; show (2 + 8 * (i : ℕ)) / 8 = i; omega
  have eb : 128 * (a % 8) + b = 256 + (j : ℕ) := by rw [ha, hb]; show 128 * ((2 + 8 * (i : ℕ)) % 8) + (0 + 1 * (j : ℕ)) = 256 + (j : ℕ); omega
  unfold lineOf k0_pay8
  simp only [ldX, ldH, ldW, ldG, ea, eb]
  have e := pay5_val x1 x2 x0 x3 x4 i ⟨256 + (j : ℕ), by omega⟩
  refine Eq.trans ?_ e
  generalize k0_pay5 x1 x2 x0 x3 x4 = p
  pointwise

/-- The lines `8 i + 3` of the block, one store. -/
theorem piece_3 (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S48x1024 .bf16) (x6 : Vec Ideal S48x1 .f32) (z : S512x128.Idx)
    (a b : ℕ) (ha : a = 3 + 8 * (z 0 : ℕ)) (hb : b = 0 + 1 * (z 1 : ℕ)) :
    @Eq EReal (k0_pay9 (View.ld x1 rH) (View.ld x2 rH) (View.ld x0 rX) (View.ld x3 rW) (View.ld x4 rG) z) (lineOf x0 x1 x2 x3 x4 a b (by have h : (z 0 : ℕ) < 512 := (z 0).isLt; omega) (by have h : (z 1 : ℕ) < 128 := (z 1).isLt; omega)) := by
  obtain ⟨i, j, rfl⟩ := Retention.pair 512 128 z
  have ea : a / 8 = (i : ℕ) := by rw [ha]; show (3 + 8 * (i : ℕ)) / 8 = i; omega
  have eb : 128 * (a % 8) + b = 384 + (j : ℕ) := by rw [ha, hb]; show 128 * ((3 + 8 * (i : ℕ)) % 8) + (0 + 1 * (j : ℕ)) = 384 + (j : ℕ); omega
  unfold lineOf k0_pay9
  simp only [ldX, ldH, ldW, ldG, ea, eb]
  have e := pay5_val x1 x2 x0 x3 x4 i ⟨384 + (j : ℕ), by omega⟩
  refine Eq.trans ?_ e
  generalize k0_pay5 x1 x2 x0 x3 x4 = p
  pointwise

/-- The lines `8 i + 4` of the block, one store. -/
theorem piece_4 (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S48x1024 .bf16) (x6 : Vec Ideal S48x1 .f32) (z : S512x128.Idx)
    (a b : ℕ) (ha : a = 4 + 8 * (z 0 : ℕ)) (hb : b = 0 + 1 * (z 1 : ℕ)) :
    @Eq EReal (k0_pay10 (v28 x0 x1 x2 x3 x4 x5 x6) z) (lineOf x0 x1 x2 x3 x4 a b (by have h : (z 0 : ℕ) < 512 := (z 0).isLt; omega) (by have h : (z 1 : ℕ) < 128 := (z 1).isLt; omega)) := by
  obtain ⟨i, j, rfl⟩ := Retention.pair 512 128 z
  have ea : a / 8 = (i : ℕ) := by rw [ha]; show (4 + 8 * (i : ℕ)) / 8 = i; omega
  have eb : 128 * (a % 8) + b = 512 + (j : ℕ) := by rw [ha, hb]; show 128 * ((4 + 8 * (i : ℕ)) % 8) + (0 + 1 * (j : ℕ)) = 512 + (j : ℕ); omega
  unfold lineOf k0_pay10 v28
  simp only [ldX, ldH, ldW, ldG, ea, eb]
  have e := pay5_val x1 x2 x0 x3 x4 i ⟨512 + (j : ℕ), by omega⟩
  refine Eq.trans ?_ e
  generalize k0_pay5 x1 x2 x0 x3 x4 = p
  pointwise

/-- The lines `8 i + 5` of the block, one store. -/
theorem piece_5 (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S48x1024 .bf16) (x6 : Vec Ideal S48x1 .f32) (z : S512x128.Idx)
    (a b : ℕ) (ha : a = 5 + 8 * (z 0 : ℕ)) (hb : b = 0 + 1 * (z 1 : ℕ)) :
    @Eq EReal (k0_pay11 (v28 x0 x1 x2 x3 x4 x5 x6) z) (lineOf x0 x1 x2 x3 x4 a b (by have h : (z 0 : ℕ) < 512 := (z 0).isLt; omega) (by have h : (z 1 : ℕ) < 128 := (z 1).isLt; omega)) := by
  obtain ⟨i, j, rfl⟩ := Retention.pair 512 128 z
  have ea : a / 8 = (i : ℕ) := by rw [ha]; show (5 + 8 * (i : ℕ)) / 8 = i; omega
  have eb : 128 * (a % 8) + b = 640 + (j : ℕ) := by rw [ha, hb]; show 128 * ((5 + 8 * (i : ℕ)) % 8) + (0 + 1 * (j : ℕ)) = 640 + (j : ℕ); omega
  unfold lineOf k0_pay11 v28
  simp only [ldX, ldH, ldW, ldG, ea, eb]
  have e := pay5_val x1 x2 x0 x3 x4 i ⟨640 + (j : ℕ), by omega⟩
  refine Eq.trans ?_ e
  generalize k0_pay5 x1 x2 x0 x3 x4 = p
  pointwise

/-- The lines `8 i + 6` of the block, one store. -/
theorem piece_6 (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S48x1024 .bf16) (x6 : Vec Ideal S48x1 .f32) (z : S512x128.Idx)
    (a b : ℕ) (ha : a = 6 + 8 * (z 0 : ℕ)) (hb : b = 0 + 1 * (z 1 : ℕ)) :
    @Eq EReal (k0_pay12 (v28 x0 x1 x2 x3 x4 x5 x6) z) (lineOf x0 x1 x2 x3 x4 a b (by have h : (z 0 : ℕ) < 512 := (z 0).isLt; omega) (by have h : (z 1 : ℕ) < 128 := (z 1).isLt; omega)) := by
  obtain ⟨i, j, rfl⟩ := Retention.pair 512 128 z
  have ea : a / 8 = (i : ℕ) := by rw [ha]; show (6 + 8 * (i : ℕ)) / 8 = i; omega
  have eb : 128 * (a % 8) + b = 768 + (j : ℕ) := by rw [ha, hb]; show 128 * ((6 + 8 * (i : ℕ)) % 8) + (0 + 1 * (j : ℕ)) = 768 + (j : ℕ); omega
  unfold lineOf k0_pay12 v28
  simp only [ldX, ldH, ldW, ldG, ea, eb]
  have e := pay5_val x1 x2 x0 x3 x4 i ⟨768 + (j : ℕ), by omega⟩
  refine Eq.trans ?_ e
  generalize k0_pay5 x1 x2 x0 x3 x4 = p
  pointwise

/-- The lines `8 i + 7` of the block, one store. -/
theorem piece_7 (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S48x1024 .bf16) (x6 : Vec Ideal S48x1 .f32) (z : S512x128.Idx)
    (a b : ℕ) (ha : a = 7 + 8 * (z 0 : ℕ)) (hb : b = 0 + 1 * (z 1 : ℕ)) :
    @Eq EReal (k0_pay13 (v28 x0 x1 x2 x3 x4 x5 x6) z) (lineOf x0 x1 x2 x3 x4 a b (by have h : (z 0 : ℕ) < 512 := (z 0).isLt; omega) (by have h : (z 1 : ℕ) < 128 := (z 1).isLt; omega)) := by
  obtain ⟨i, j, rfl⟩ := Retention.pair 512 128 z
  have ea : a / 8 = (i : ℕ) := by rw [ha]; show (7 + 8 * (i : ℕ)) / 8 = i; omega
  have eb : 128 * (a % 8) + b = 896 + (j : ℕ) := by rw [ha, hb]; show 128 * ((7 + 8 * (i : ℕ)) % 8) + (0 + 1 * (j : ℕ)) = 896 + (j : ℕ); omega
  unfold lineOf k0_pay13 v28
  simp only [ldX, ldH, ldW, ldG, ea, eb]
  have e := pay5_val x1 x2 x0 x3 x4 i ⟨896 + (j : ℕ), by omega⟩
  refine Eq.trans ?_ e
  generalize k0_pay5 x1 x2 x0 x3 x4 = p
  pointwise

/-- A block of the second result, at a point that has rows. -/
theorem out8_val (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S48x1024 .bf16) (x6 : Vec Ideal S48x1 .f32) (r : Fin 4096) (j : Fin 128) :
    @Eq EReal (out0_8 x0 x1 x2 x3 x4 x5 x6 (ix2 r j)) (lineOf x0 x1 x2 x3 x4 r j r.isLt j.isLt) := by
  unfold out0_8
  refine (View.canon_apply_of_pieces (Val := Elt Ideal) (e := .f32) (fun y : S4096x128.Idx => lineOf x0 x1 x2 x3 x4 (y 0 : ℕ) (y 1 : ℕ) (y 0).isLt (y 1).isLt) _ ?_ _ (cover_strided _ _ _ _ _ _ _ _ _)).trans rfl
  intro p hp z
  rcases List.mem_cons.1 hp with rfl | hp
  · exact piece_7 x0 x1 x2 x3 x4 x5 x6 z _ _ rfl rfl
  rcases List.mem_cons.1 hp with rfl | hp
  · exact piece_6 x0 x1 x2 x3 x4 x5 x6 z _ _ rfl rfl
  rcases List.mem_cons.1 hp with rfl | hp
  · exact piece_5 x0 x1 x2 x3 x4 x5 x6 z _ _ rfl rfl
  rcases List.mem_cons.1 hp with rfl | hp
  · exact piece_4 x0 x1 x2 x3 x4 x5 x6 z _ _ rfl rfl
  rcases List.mem_cons.1 hp with rfl | hp
  · exact piece_3 x0 x1 x2 x3 x4 x5 x6 z _ _ rfl rfl
  rcases List.mem_cons.1 hp with rfl | hp
  · exact piece_2 x0 x1 x2 x3 x4 x5 x6 z _ _ rfl rfl
  rcases List.mem_cons.1 hp with rfl | hp
  · exact piece_1 x0 x1 x2 x3 x4 x5 x6 z _ _ rfl rfl
  rcases List.mem_cons.1 hp with rfl | hp
  · exact piece_0 x0 x1 x2 x3 x4 x5 x6 z _ _ rfl rfl
  cases hp

/-- The block of the second result at the last point: zero. -/
theorem pad8_val (y : S4096x128.Idx) : @Eq EReal ((pad0_8 (F := Ideal)) y) 0 := by
  obtain ⟨i, j, rfl⟩ := Retention.pair 4096 128 y
  unfold pad0_8
  rw [View.canon_unit_zero (by funext a; fin_cases a <;> rfl)]
  unfold k0_pay3
  pointwise

end Cert.Kernel7Ideal.Body
-- ==== Proof.OpArr.lean ====
module

public import proofs.«01_k».proof.Proof.OpSpec

/-!
  The output projection of the prompt batch: its first two result arrays, entry by entry.
-/

@[expose] public section

set_option maxRecDepth 16384

noncomputable section

namespace Cert.Kernel7Ideal.Body

open Cert.Kernel7Ideal Cert.Kernel7Ideal.Gen Idealize.ShloMosaic Idealize.ShloMosaic.TcCoe Idealize.SL.Sem Cert.Retention
open Cert.Kernel2Ideal.Body (nrm)

/-- One entry of the second residual stream, from whole arrays. -/
def sum2 (x : (⟨2, ![65536, 1024]⟩ : Shape).Idx → EReal) (a b : (⟨2, ![65536, 512]⟩ : Shape).Idx → EReal) (w : (⟨2, ![1024, 1024]⟩ : Shape).Idx → EReal)
    (r : Fin 65536) (l : Fin 1024) : EReal :=
  res (fun k => x (ix2 r k)) (fun k => a (ix2 r k)) (fun k => b (ix2 r k)) (fun k n => w (ix2 k n)) l

/-- One entry of the second result: a row normalised and weighted, as eight lines, and zero past the last row. -/
def lines (x : (⟨2, ![65536, 1024]⟩ : Shape).Idx → EReal) (a b : (⟨2, ![65536, 512]⟩ : Shape).Idx → EReal) (w : (⟨2, ![1024, 1024]⟩ : Shape).Idx → EReal)
    (g : (⟨1, ![1024]⟩ : Shape).Idx → EReal) (q n : ℕ) (hn : n < 128) : EReal :=
  if h : q / 8 < 65536 then nrm (sum2 x a b w ⟨q / 8, h⟩) (fun l => g (ix1 l)) ⟨128 * (q % 8) + n, lane8 q n hn⟩ else 0

variable (m : (ℓ : Loc nD τ sig) → Buf (Elt Ideal) ℓ) (c : Dev nD)

theorem lt_N (t : Fin cfg0.N) : t.val < 129 := lt_of_lt_of_eq t.isLt (by decide +kernel)

theorem cap_lt (t : Fin cfg0.N) : (cap t).val < 128 := by
  show min t.val 127 < 128; omega

theorem idx0 : ∀ t : Fin cfg0.N, win0_0.index t = ![min t.val 127, 0] := (by decide +kernel : ∀ t : Fin grid0.N, _)
theorem idx1 : ∀ t : Fin cfg0.N, win0_1.index t = ![min t.val 127, 0] := (by decide +kernel : ∀ t : Fin grid0.N, _)
theorem idx2 : ∀ t : Fin cfg0.N, win0_2.index t = ![min t.val 127, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx7 : ∀ t : Fin cfg0.N, win0_7.index t = ![min t.val 127, 0] := (by decide +kernel : ∀ t : Fin grid0.N, _)
theorem idx8 : ∀ t : Fin cfg0.N, win0_8.index t = ![t.val, 0] := (by decide +kernel : ∀ t : Fin grid0.N, _)

theorem B0 (t : Fin cfg0.N) (i : Fin 512) (k : Fin 1024) :
    @Eq EReal (iblk m c 0 t (ix2 i k)) (V m c main_arg0 (ix2 ⟨min t.val 127 * 512 + i.val, by omega⟩ k)) := by
  blk_ext [iblk, V, idx0 t]
theorem B1 (t : Fin cfg0.N) (i : Fin 512) (k : Fin 512) :
    @Eq EReal (iblk m c 1 t (ix2 i k)) (V m c main_arg1 (ix2 ⟨min t.val 127 * 512 + i.val, by omega⟩ k)) := by
  blk_ext [iblk, V, idx1 t]
theorem B2 (t : Fin cfg0.N) (i : Fin 512) (k : Fin 512) :
    @Eq EReal (iblk m c 2 t (ix2 i k)) (V m c main_arg2 (ix2 ⟨min t.val 127 * 512 + i.val, by omega⟩ k)) := by
  blk_ext [iblk, V, idx2 t]
theorem B3 (t : Fin cfg0.N) (k : Fin 1024) (n : Fin 1024) : @Eq EReal (iblk m c 3 t (ix2 k n)) (V m c main_v12 (ix2 k n)) := by
  blk_ext [iblk, V, idx3 t]
theorem B4 (t : Fin cfg0.N) (k : Fin 1024) : @Eq EReal (iblk m c 4 t (ix2 0 k)) (V m c main_v13 (ix2 0 k)) := by
  blk_ext [iblk, V, idx4 t]

/-- The weights of the projection. -/
theorem V_w (k n : Fin 1024) : @Eq EReal (V m c main_v12 (ix2 k n)) (m (c, Proc.devRef .tc main_arg3) (ix2 k n)) := by
  unfold V V0
  rw [← StableHlo.afterL_eq_after_flatten]
  simp only [StableHlo.afterL_cons, StableHlo.afterL_nil]
  after_reads_simp
  pointwise

/-- The weights of the norm. -/
theorem V_g (k : Fin 1024) : @Eq EReal (V m c main_v13 (ix2 0 k)) (m (c, Proc.devRef .tc main_arg4) (ix1 k)) := by
  unfold V V0
  rw [← StableHlo.afterL_eq_after_flatten]
  simp only [StableHlo.afterL_cons, StableHlo.afterL_nil]
  after_reads_simp
  pointwise

/-- A row of sums in a block is a row of the whole. -/
theorem row_eq (t : Fin cfg0.N) (i : Fin 512) (r : Fin 65536) (hr : (r : ℕ) = min t.val 127 * 512 + i) :
    res (fun k => iblk m c 0 t (ix2 i k)) (fun k => iblk m c 1 t (ix2 i k)) (fun k => iblk m c 2 t (ix2 i k)) (fun k n => iblk m c 3 t (ix2 k n))
      = sum2 (m ((c : Thread nD τ).loc main_arg0)) (m ((c : Thread nD τ).loc main_arg1)) (m ((c : Thread nD τ).loc main_arg2)) (m ((c : Thread nD τ).loc main_arg3)) r := by
  have h0 : (fun k : Fin 1024 => (iblk m c 0 t (ix2 i k) : EReal)) = fun k => (m ((c : Thread nD τ).loc main_arg0) (ix2 r k) : EReal) := funext fun k => by
    rw [B0, V_arg0]
    exact congrArg (fun q : Fin 65536 => (m ((c : Thread nD τ).loc main_arg0) (ix2 q k) : EReal)) (Fin.ext hr.symm)
  have h1 : (fun k : Fin 512 => (iblk m c 1 t (ix2 i k) : EReal)) = fun k => (m ((c : Thread nD τ).loc main_arg1) (ix2 r k) : EReal) := funext fun k => by
    rw [B1, V_arg1]
    exact congrArg (fun q : Fin 65536 => (m ((c : Thread nD τ).loc main_arg1) (ix2 q k) : EReal)) (Fin.ext hr.symm)
  have h2 : (fun k : Fin 512 => (iblk m c 2 t (ix2 i k) : EReal)) = fun k => (m ((c : Thread nD τ).loc main_arg2) (ix2 r k) : EReal) := funext fun k => by
    rw [B2, V_arg2]
    exact congrArg (fun q : Fin 65536 => (m ((c : Thread nD τ).loc main_arg2) (ix2 q k) : EReal)) (Fin.ext hr.symm)
  have h3 : (fun k n : Fin 1024 => (iblk m c 3 t (ix2 k n) : EReal)) = fun k n => (m ((c : Thread nD τ).loc main_arg3) (ix2 k n) : EReal) :=
    funext fun k => funext fun n => (B3 m c t k n).trans (V_w m c k n)
  funext l
  exact congr (congr (congr (congr (congrArg res h0) h1) h2) h3) rfl

/-- The norm's weights in a block. -/
theorem g_eq (t : Fin cfg0.N) : (fun l : Fin 1024 => (iblk m c 4 t (ix2 0 l) : EReal)) = fun l => (m ((c : Thread nD τ).loc main_arg4) (ix1 l) : EReal) :=
  funext fun l => (B4 m c t l).trans (V_g m c l)

theorem emb7 (t : Fin cfg0.N) (i : Fin 512) (j : Fin 1024) : ((win0_7.blk t).view.emb (ix2 i j) 0 : ℕ) = min t.val 127 * 512 + (i : ℕ) := by
  blk_simp [idx7 t] <;> simp

/-- The second residual stream. -/
theorem arr7 : (dats m 0 c).arrAt 7 cfg0.N = (fun y : S65536x1024.Idx => sum2 (m ((c : Thread nD τ).loc main_arg0)) (m ((c : Thread nD τ).loc main_arg1))
    (m ((c : Thread nD τ).loc main_arg2)) (m ((c : Thread nD τ).loc main_arg3)) (y 0) (y 1) : S65536x1024.Idx → EReal) := by
  refine (dats m 0 c).arrAt_eq_of_covers 7 _ (by decide +kernel) fun t hf y => ?_
  blk_simp
  rw [after0_7]
  have ht := lt_N t
  obtain ⟨i, j, rfl⟩ := Retention.pair 512 1024 y
  have q : ((win0_7.blk t).view.emb (ix2 i j) 1 : Fin 1024) = j := Fin.ext (by
    have e : ((win0_7.blk t).view.emb (ix2 i j) 1 : ℕ) = (j : ℕ) := by blk_simp [idx7 t] <;> simp
    exact e)
  have hr := emb7 t i j
  generalize hq : ((win0_7.blk t).view.emb (ix2 i j) 0 : Fin 65536) = r at hr ⊢
  rw [q]
  refine (out7_val (iblk m c 0 (cap t)) (iblk m c 1 (cap t)) (iblk m c 2 (cap t)) (iblk m c 3 (cap t)) (iblk m c 4 (cap t)) (iblk m c 5 (cap t)) (iblk m c 6 (cap t)) i j).trans ?_
  refine congrFun (row_eq m c (cap t) i r (hr.trans ?_)) j
  show min t.val 127 * 512 + (i : ℕ) = min (min t.val 127) 127 * 512 + (i : ℕ)
  omega

/-- The second result. -/
theorem arr8 : (dats m 0 c).arrAt 8 cfg0.N = (fun y : S528384x128.Idx => lines (m ((c : Thread nD τ).loc main_arg0)) (m ((c : Thread nD τ).loc main_arg1))
    (m ((c : Thread nD τ).loc main_arg2)) (m ((c : Thread nD τ).loc main_arg3)) (m ((c : Thread nD τ).loc main_arg4)) (y 0 : ℕ) (y 1 : ℕ) (y 1).isLt : S528384x128.Idx → EReal) := by
  refine (dats m 0 c).arrAt_eq_of_covers 8 _ (by decide +kernel) fun t hf y => ?_
  blk_simp
  rw [after0_8]
  have hN := lt_N t
  obtain ⟨i, j, rfl⟩ := Retention.pair 4096 128 y
  have key : ∀ (q n : ℕ) (hn : n < 128), q = t.val * 4096 + (i : ℕ) → n = (j : ℕ) →
      @Eq EReal ((if t.val < 128 then out0_8 (iblk m c 0 t) (iblk m c 1 t) (iblk m c 2 t) (iblk m c 3 t) (iblk m c 4 t) (iblk m c 5 t) (iblk m c 6 t) else pad0_8) (ix2 i j))
        (lines (m ((c : Thread nD τ).loc main_arg0)) (m ((c : Thread nD τ).loc main_arg1)) (m ((c : Thread nD τ).loc main_arg2)) (m ((c : Thread nD τ).loc main_arg3))
          (m ((c : Thread nD τ).loc main_arg4)) q n hn) := by
    intro q n hn hq hn'
    subst hn'
    by_cases ht : t.val < 128
    · rw [if_pos ht]
      refine (out8_val (iblk m c 0 t) (iblk m c 1 t) (iblk m c 2 t) (iblk m c 3 t) (iblk m c 4 t) (iblk m c 5 t) (iblk m c 6 t) i j).trans ?_
      unfold lineOf lines
      rw [dif_pos (by omega), row_eq m c t _ ⟨q / 8, by omega⟩ (by show q / 8 = min t.val 127 * 512 + (i : ℕ) / 8; omega), g_eq]
      exact congrArg (nrm _ _) (Fin.ext (by show 128 * ((i : ℕ) % 8) + (j : ℕ) = 128 * (q % 8) + (j : ℕ); omega))
    · rw [if_neg ht]
      unfold lines
      rw [dif_neg (by omega)]
      exact pad8_val _
  exact key _ _ _ (by rw [idx8 t]; simp) (by rw [idx8 t]; simp)

end Cert.Kernel7Ideal.Body
-- ==== Proof.OpClaim.lean ====
module

public import proofs.«01_k».proof.Defs
public import proofs.«01_k».proof.Proof.OpArr
public import proofs.«01_k».proof.Proof.Gen.Reference7Ideal.Run
public import Idealize.ShloMosaic.Lib.Claim

/-!
  The output projection of the prompt batch: the plain program's two results, and that the kernel's are equal to them.
-/

@[expose] public section

set_option maxRecDepth 16384

noncomputable section

namespace Cert.Outproj

open Idealize.ShloMosaic Idealize.ShloMosaic.TcCoe Idealize.SL.Sem Cert.Retention
open Cert.Kernel2Ideal.Body (nrm)
open Cert.Kernel7Ideal.Body (res sum2 lines lane8)

section
open Cert.Kernel7Ideal Cert.Kernel7Ideal.Gen Cert.Kernel7Ideal.Body

/-- The kernel's program ends with its two results as the launch leaves them, and the arguments unchanged. -/
theorem run_K (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14_0) = (dats m 0 c).arrAt 7 cfg0.N
      ∧ r.2.mem ((c : Thread nD τ).loc main_v14_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h.1 c).1 7, (h.1 c).1 8, ((h.1 c).1 0).trans (((dats m 0 c).arrAt_in 0 rfl _).trans ((A_eq m c 0).trans (V_arg0 m c))),
      ((h.1 c).1 1).trans (((dats m 0 c).arrAt_in 1 rfl _).trans ((A_eq m c 1).trans (V_arg1 m c))),
      ((h.1 c).1 2).trans (((dats m 0 c).arrAt_in 2 rfl _).trans ((A_eq m c 2).trans (V_arg2 m c))),
      ((h.1 c).2 main_arg3 (Pipeline.mem_restRefs_of main_arg3 (by decide) (by decide))).trans (W_arg3 m c),
      ((h.1 c).2 main_arg4 (Pipeline.mem_restRefs_of main_arg4 (by decide) (by decide))).trans (W_arg4 m c),
      ((h.1 c).2 main_arg5 (Pipeline.mem_restRefs_of main_arg5 (by decide) (by decide))).trans (W_arg5 m c),
      ((h.1 c).2 main_arg6 (Pipeline.mem_restRefs_of main_arg6 (by decide) (by decide))).trans (W_arg6 m c),
      ((h.1 c).2 main_arg7 (Pipeline.mem_restRefs_of main_arg7 (by decide) (by decide))).trans (W_arg7 m c),
      ((h.1 c).2 main_arg8 (Pipeline.mem_restRefs_of main_arg8 (by decide) (by decide))).trans (W_arg8 m c)⟩) (run_quiet m ρ)

end

section Plain
open Cert.Reference7Ideal Cert.Reference7Ideal.Gen

variable (x : FVec Ideal S65536x1024 .f32) (a b : FVec Ideal S65536x512 .bf16) (w : FVec Ideal S1024x1024 .f32) (g : FVec Ideal S1024 .f32)

/-- The plain second residual stream. -/
def plain : FVec Ideal S65536x1024 .f32 := addf x (Host.dotGeneral dot_S65536x1024_S1024x1024_S65536x1024_1_0_0_1_n_n none (concatenate S65536x1024 1 [⟨S65536x512, (extf .f32 a bitsLt_bf16_f32)⟩, ⟨S65536x512, (extf .f32 b bitsLt_bf16_f32)⟩] concatenates_S65536x512_S65536x512_S65536x1024_d1) w)

theorem plain_val (r : Fin 65536) (l : Fin 1024) : @Eq EReal (plain x a b w (ix2 r l)) (sum2 x a b w r l) := by
  unfold plain sum2 res
  pointwise

/-- The plain second result from the residual stream. -/
def plain2 (p : FVec Ideal S65536x1024 .f32) : FVec Ideal S528384x128 .f32 := shapeCast _ (concatenate S66048x1024 0 [⟨S65536x1024, (mulf (mulf p (broadcastInDim S65536x1024 ![0, 1] bcast_S65536x1_S65536x1024_0_1 (Host.rsqrt (addf (Host.divf (broadcastInDim S65536x1 ![0] bcast_S65536_S65536x1_0 (Host.reduceAdd (mulf p p) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g)))⟩, ⟨S512x1024, (broadcastInDim S512x1024 ![] bcast_S_S512x1024 (constant S_ .f32 0x00000000#32))⟩] concatenates_S65536x1024_S512x1024_S66048x1024_d0) shapeCasts_S66048x1024_S528384x128

theorem plain2_val (p : FVec Ideal S65536x1024 .f32) (q : Fin 528384) (n : Fin 128) :
    @Eq EReal (plain2 g p (ix2 q n)) (if h : (q : ℕ) / 8 < 65536 then nrm (fun l => p (ix2 ⟨(q : ℕ) / 8, h⟩ l)) (fun l => g (ix1 l)) ⟨128 * ((q : ℕ) % 8) + (n : ℕ), lane8 _ _ n.isLt⟩ else 0) := by
  have e : ∀ u v : ℕ, 128 * u + v = u * 128 + v := fun u v => by omega
  unfold plain2 nrm
  pointwise
  simp only [e]

/-- The plain second result. -/
theorem plain_lines (q : Fin 528384) (n : Fin 128) : @Eq EReal (plain2 g (plain x a b w) (ix2 q n)) (lines x a b w g q n n.isLt) := by
  rw [plain2_val]
  unfold lines
  by_cases h : (q : ℕ) / 8 < 65536
  · rw [dif_pos h, dif_pos h]
    exact congrArg (fun u => nrm u (fun l => (g (ix1 l) : EReal)) _) (funext fun l => plain_val x a b w _ l)
  · rw [dif_neg h, dif_neg h]

end Plain

/-- The plain program leaves its arguments unchanged and every counter at zero. -/
theorem frame_R : Cert.quiescent_Reference7Ideal := fun m g _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m g)

section
open Cert.Kernel7Ideal Cert.Kernel7Ideal.Gen Cert.Kernel7Ideal.Body

/-- The kernel's results are the plain program's. -/
theorem algebraic : @Cert.algebraic_Kernel7Ideal_Reference7Ideal Cert.Kernel7Ideal.Gen.facts Cert.Reference7Ideal.Gen.facts := by
  pair_intro
  · run_from run_K m g
  · refine (θ_run Cert.Reference7Ideal.defs _ _).mono (fun r h c => ?_) (Cert.Reference7Ideal.Value.run (F := Ideal) m' g')
    obtain ⟨h0, h1, h2, h3, h4, h5, h6, h7, h8⟩ := hagree c
    obtain ⟨e4, e20, e⟩ := h c
    refine ⟨e4.trans ?_, e20.trans ?_, e⟩
    · rw [h0, h1, h2, h3]
      refine Eq.trans ?_ (arr7 m c).symm
      funext y
      obtain ⟨i, j, rfl⟩ := Retention.pair 65536 1024 y
      exact plain_val _ _ _ _ i j
    · rw [h0, h1, h2, h3, h4]
      refine Eq.trans ?_ (arr8 m c).symm
      funext y
      obtain ⟨i, j, rfl⟩ := Retention.pair 528384 128 y
      exact plain_lines _ _ _ _ _ i j

end

end Cert.Outproj
-- ==== Proof.BbPoint.lean ====
module

public import proofs.«01_k».proof.Proof.Gen.Kernel8Ideal.Value
public import proofs.«01_k».proof.Proof.Spec
public import Idealize.ShloMosaic.Lib.Pipeline.ValueKit
public import Idealize.ShloMosaic.Lib.Pipeline.ReadBack
public import Idealize.ShloMosaic.Lib.WholeRead
public import Idealize.ShloMosaic.Lib.Pointwise

/-!
  The bias band: what the one grid point leaves in its output block.
-/

@[expose] public section

set_option maxRecDepth 16384

noncomputable section

namespace Cert.Kernel8Ideal.Value

open Cert.Kernel8Ideal Cert.Kernel8Ideal.Gen Idealize.ShloMosaic Idealize.ShloMosaic.TcCoe Idealize.SL.Sem Cert.Retention

variable (m : (ℓ : Loc nD τ sig) → Buf (Elt Ideal) ℓ)

/-- A selection on the equality of two words. -/
theorem sel_eq (b k : BitVec 32) (v w : EReal) : Scalar.select (IntOp.cmpi .eq b k) v w = if b = k then v else w := by
  unfold Scalar.select IntOp.cmpi
  by_cases h : b = k
  · simp [h]
  · have : (b == k) = false := by simpa using h
    simp only [this, if_neg h]; rfl

/-- Of the entries `f 0, …, f (n - 1)` the one whose number is the word `b`, and zero if none is. -/
def pick (f : ℕ → EReal) (b : BitVec 32) : ℕ → EReal
  | 0 => 0
  | n + 1 => Scalar.select (IntOp.cmpi .eq b (BitVec.ofNat 32 n)) (f n) (pick f b n)

/-- A word below `n` picks its own entry. -/
theorem pick_eq (f : ℕ → EReal) (b : BitVec 32) (n : ℕ) (hn : n ≤ 32) (h : b.toNat < n) : pick f b n = f b.toNat := by
  induction n with
  | zero => omega
  | succ n ih =>
    unfold pick
    rw [sel_eq]
    split_ifs with e
    · rw [e, BitVec.toNat_ofNat, Nat.mod_eq_of_lt (by omega)]
    · refine ih (by omega) (lt_of_le_of_ne (by omega) fun q => e ?_)
      rw [← q, BitVec.ofNat_toNat]; simp

/-- An entry of the table of biases, by two naturals. -/
def ent (x : Vec Ideal S32x4 .f32) (h : Fin 4) (j : ℕ) : EReal := if hj : j < 32 then x (ix2 ⟨j, hj⟩ h) else 0

/-- The four heads' stores cover the block. -/
theorem cover4 (p0 p1 p2 p3 : Vec Ideal S1x384x128 .f32) (y : S4x384x128.Idx) :
    ∃ pc ∈ ([⟨Rect.unit ![3, 0, 0] ![1, 384, 128] inb_S4x384x128_S1x384x128_3_0_0, p3⟩, ⟨Rect.unit ![2, 0, 0] ![1, 384, 128] inb_S4x384x128_S1x384x128_2_0_0, p2⟩, ⟨Rect.unit ![1, 0, 0] ![1, 384, 128] inb_S4x384x128_S1x384x128_1_0_0, p1⟩, ⟨Rect.unit ![0, 0, 0] ![1, 384, 128] inb_S4x384x128_S1x384x128_0_0_0, p0⟩] : List (View.Piece (Elt Ideal) S4x384x128 .f32)), y ∈ pc.1.set := by
  have key : ∀ o : ℕ, (y 0 : ℕ) = o → ∀ a : Fin 3, ∃ j < (![1, 384, 128] : Fin 3 → ℕ) a, (y a : ℕ) = (![o, 0, 0] : Fin 3 → ℕ) a + 1 * j := by
    intro o ho a
    match a with
    | 0 => exact ⟨0, Nat.one_pos, show (y 0 : ℕ) = o + 1 * 0 by omega⟩
    | 1 => exact ⟨(y 1 : ℕ), (y 1).isLt, show (y 1 : ℕ) = 0 + 1 * (y 1 : ℕ) by omega⟩
    | 2 => exact ⟨(y 2 : ℕ), (y 2).isLt, show (y 2 : ℕ) = 0 + 1 * (y 2 : ℕ) by omega⟩
  have h0 : (y 0 : ℕ) < 4 := (y 0).isLt
  have hr : (y 0 : ℕ) = 3 ∨ (y 0 : ℕ) = 2 ∨ (y 0 : ℕ) = 1 ∨ (y 0 : ℕ) = 0 := by omega
  rcases hr with h | h | h | h
  · exact ⟨_, List.mem_cons_self, (LoadRect.mem_set _).mpr (key 3 h)⟩
  · exact ⟨_, List.mem_cons_of_mem _ List.mem_cons_self, (LoadRect.mem_set _).mpr (key 2 h)⟩
  · exact ⟨_, List.mem_cons_of_mem _ (List.mem_cons_of_mem _ List.mem_cons_self), (LoadRect.mem_set _).mpr (key 1 h)⟩
  · exact ⟨_, List.mem_cons_of_mem _ (List.mem_cons_of_mem _ (List.mem_cons_of_mem _ List.mem_cons_self)), (LoadRect.mem_set _).mpr (key 0 h)⟩

/-- What the grid point leaves in the output block: the table's entry for the bucket. -/
theorem out2_at (c : Dev nD) (t : Fin cfg0.N) (h : Fin 4) (i : Fin 384) (j : Fin 128) :
    @Eq EReal (outsAt0 m c t (ix3 h i j)) (pick (ent (iblk m c 0 t) h) (iblk m c 1 t (ix2 i j)) 32) := by
  unfold outsAt0
  frame_out
  simp only [read_unread_whole]
  generalize (iblk m c 0 t) = x0
  generalize (iblk m c 1 t) = x1
  refine (View.canon_apply_of_pieces (Val := Elt Ideal) (e := .f32) (fun y : S4x384x128.Idx => pick (ent x0 (y 0)) (x1 (ix2 (y 1) (y 2))) 32) _ ?_ _ ?_).trans rfl
  · intro p hp z
    simp only [List.mem_cons, List.mem_nil_iff, or_false] at hp
    rcases hp with rfl | rfl | rfl | rfl
    all_goals
      dsimp only
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
      pointwise
      refine Eq.trans (b := pick (ent x0 _) (x1 (ix2 (z 1) (z 2))) 32) rfl (congrArg₂ (fun u v => pick (ent x0 u) v 32) (Fin.ext ?_) (congrArg x1 (congrArg₂ ix2 (Fin.ext ?_) (Fin.ext ?_))))
      all_goals simp
  · exact cover4 _ _ _ _ _

end Cert.Kernel8Ideal.Value
-- ==== Proof.BbClaim.lean ====
module

public import proofs.«01_k».proof.Defs
public import proofs.«01_k».proof.Proof.BbPoint
public import proofs.«01_k».proof.Proof.Gen.Reference8Ideal.Run
public import proofs.«01_k».proof.Proof.Spec
public import Idealize.ShloMosaic.Lib.Pipeline.ValueKit
public import Idealize.ShloMosaic.Lib.Pointwise
public import Idealize.ShloMosaic.Lib.Claim

/-!
  The bias band: the buckets of the relative positions, the kernel's result array, the plain program's result, and that they are equal.
-/

@[expose] public section

set_option maxRecDepth 16384

noncomputable section

namespace Cert.Band

open Idealize.ShloMosaic Idealize.ShloMosaic.TcCoe Idealize.SL.Sem Cert.Retention

section Plain
open Cert.Reference8Ideal Cert.Reference8Ideal.Gen

/-- The buckets of an array of relative positions. -/
def buckets (rel : IVec S384x128 32) : IVec S384x128 32 :=
  addi ((select (cmpi .sgt rel (broadcastInDim S384x128 ![] bcast_S_S384x128 (constantI S_ 32 0#32))) (broadcastInDim S384x128 ![] bcast_S_S384x128 (constantI S_ 32 16#32)) (broadcastInDim S384x128 ![] bcast_S_S384x128 (constantI S_ 32 0#32)))) (select (cmpi .slt (absi rel) (broadcastInDim S384x128 ![] bcast_S_S384x128 (constantI S_ 32 8#32))) (absi rel) (minsi (addi (broadcastInDim S384x128 ![] bcast_S_S384x128 (constantI S_ 32 8#32)) (fptosi 32 (mulf (Host.divf (Host.log (Host.divf (sitofp (F := Ideal) .f32 (maxsi (absi rel) (broadcastInDim S384x128 ![] bcast_S_S384x128 (constantI S_ 32 1#32)))) (broadcastInDim S384x128 ![] bcast_S_S384x128 (constant S_ .f32 0x41000000#32)))) (broadcastInDim S384x128 ![] bcast_S_S384x128 (constant S_ .f32 0x40317218#32))) (broadcastInDim S384x128 ![] bcast_S_S384x128 (constant S_ .f32 0x41000000#32))))) (broadcastInDim S384x128 ![] bcast_S_S384x128 (constantI S_ 32 15#32))))

/-- The relative positions as the plain program forms them. -/
def relP : IVec S384x128 32 := subi (broadcastInDim S384x128 ![0, 1] bcast_S384x1_S384x128_0_1 (broadcastInDim S384x1 ![0] bcast_S384_S384x1_0 (iotaInDim S384 32 0))) (broadcastInDim S384x128 ![0, 1] bcast_S1x128_S384x128_0_1 (broadcastInDim S1x128 ![1] bcast_S128_S1x128_1 (addi (broadcastInDim S128 ![] bcast_S_S128 (constantI S_ 32 256#32)) (iotaInDim S128 32 0))))

end Plain

section Kernel
open Cert.Kernel8Ideal Cert.Kernel8Ideal.Gen Cert.Kernel8Ideal.Value

variable (m : (ℓ : Loc nD τ sig) → Buf (Elt Ideal) ℓ) (c : Dev nD)

/-- The relative positions as the kernel's program forms them. -/
def relK : IVec S384x128 32 := subi (broadcastInDim S384x128 ![0, 1] bcast_S384x1_S384x128_0_1 (subi (broadcastInDim S384x1 ![0] bcast_S384_S384x1_0 (iotaInDim S384 32 0)) (broadcastInDim S384x1 ![] bcast_S_S384x1 (constantI S_ 32 256#32)))) (broadcastInDim S384x128 ![0, 1] bcast_S1x128_S384x128_0_1 (broadcastInDim S1x128 ![1] bcast_S128_S1x128_1 (iotaInDim S128 32 0)))

/-- The array of buckets that the kernel is given. -/
theorem V_b : V m c main_v32 = buckets relK := by
  unfold V
  after_reads_simp
  rfl

end Kernel

/-- The two forms of the relative positions agree. -/
theorem rel_eq : relK = relP := by
  funext y
  unfold relK relP
  pointwise
  exact (by intro a b c; unfold IntOp.subi IntOp.addi; apply BitVec.eq_of_toNat_eq; simp only [BitVec.toNat_sub, BitVec.toNat_add]; omega : ∀ a b c : BitVec 32, IntOp.subi (IntOp.subi a b) c = IntOp.subi a (IntOp.addi b c)) _ _ _

/-- The bucket of one relative position. -/
def bucket (r : BitVec 32) : BitVec 32 :=
  IntOp.addi (Scalar.select (IntOp.cmpi .sgt r 0#32) 16#32 0#32)
    (Scalar.select (IntOp.cmpi .slt (IntOp.absi r) 8#32) (IntOp.absi r)
      (IntOp.minsi (IntOp.addi 8#32 (Ideal.fptosi 32 (Ideal.div (Ideal.log (Ideal.div (((IntOp.maxsi (IntOp.absi r) 1#32).toInt : ℝ) : EReal)
        (Ideal.ofBits .f32 1090519040#32))) (Ideal.ofBits .f32 1076982296#32) * Ideal.ofBits .f32 1090519040#32))) 15#32))

/-- The buckets at an index. -/
theorem buckets_at (rel : IVec ⟨2, ![384, 128]⟩ 32) (i : Fin 384) (j : Fin 128) : buckets rel (ix2 i j) = bucket (rel (ix2 i j)) := by
  unfold buckets bucket
  pointwise
  rfl

/-- The literals. -/
theorem lit_8 : Ideal.ofBits .f32 1090519040#32 = ((8 : ℝ) : EReal) := by
  simp [Ideal.ofBits, Ideal.ieee, -EReal.coe_mul]; norm_num
/-- The single-precision number nearest the logarithm of sixteen. -/
def ln16 : ℝ := 11629080 / 4194304
theorem lit_ln16 : Ideal.ofBits .f32 1076982296#32 = ((ln16 : ℝ) : EReal) := by
  simp [Ideal.ofBits, Ideal.ieee, -EReal.coe_mul, ln16]; norm_num

/-- The logarithmic step of a distance between 8 and 383 is a natural below 400. -/
theorem step (a : ℕ) (h8 : 8 ≤ a) (ha : a < 384) : ∃ k : ℕ, k < 400 ∧ Ideal.fptosi 32 (Ideal.div (Ideal.log (Ideal.div (((a : ℤ) : ℝ) : EReal)
    (Ideal.ofBits .f32 1090519040#32))) (Ideal.ofBits .f32 1076982296#32) * Ideal.ofBits .f32 1090519040#32) = BitVec.ofNat 32 k := by
  have hA : (8 : ℝ) ≤ a := by exact_mod_cast h8
  have hB : (a : ℝ) < 384 := by exact_mod_cast ha
  have h1 : (1 : ℝ) ≤ (a : ℝ) * (1 / 8) := by linarith
  have hl : 0 ≤ Real.log ((a : ℝ) * (1 / 8)) := Real.log_nonneg h1
  have hu : Real.log ((a : ℝ) * (1 / 8)) ≤ (a : ℝ) * (1 / 8) - 1 := Real.log_le_sub_one_of_pos (by linarith)
  rw [lit_8, lit_ln16, Ideal.div_coe (y := 8) (by norm_num), Ideal.div_coe (y := ln16) (by unfold ln16; norm_num), Int.cast_natCast, ← EReal.coe_mul, Ideal.log_coe,
    if_neg (by linarith), ← EReal.coe_mul, ← EReal.coe_mul]
  have hL : 0 ≤ Real.log ((a : ℝ) * (1 / 8)) * (1 / ln16) * 8 := by unfold ln16; positivity
  have hU : Real.log ((a : ℝ) * (1 / 8)) * (1 / ln16) * 8 < 400 := by unfold ln16; linarith
  generalize Real.log ((a : ℝ) * (1 / 8)) * (1 / ln16) * 8 = L at hL hU
  have f0 : 0 ≤ ⌊L⌋ := Int.floor_nonneg.2 hL
  have f1 : ⌊L⌋ < 400 := Int.floor_lt.2 (by exact_mod_cast hU)
  refine ⟨⌊L⌋.toNat, by omega, ?_⟩
  unfold Ideal.fptosi
  rw [Ideal.toIntClamped_coe, if_pos hL, show max (-(2 ^ (32 - 1) : ℕ) : ℤ) (min ((2 ^ (32 - 1) : ℕ) - 1 : ℤ) ⌊L⌋) = (⌊L⌋.toNat : ℤ) by omega]
  exact BitVec.ofInt_natCast _ _

/-- Eight more than a logarithmic step, and at most 15. -/
theorem min15 : ∀ k : ℕ, k < 400 → (IntOp.minsi (IntOp.addi 8#32 (BitVec.ofNat 32 k)) 15#32).toNat < 16 := by
  decide +kernel

/-- A bucket is one of 32. -/
theorem bucket_lt (r : BitVec 32) (h : (IntOp.absi r).toNat < 384) : (bucket r).toNat < 32 := by
  unfold bucket
  have hb : (Scalar.select (IntOp.cmpi .sgt r 0#32) 16#32 0#32 : BitVec 32).toNat ≤ 16 := by
    unfold Scalar.select; split_ifs <;> decide
  generalize (Scalar.select (IntOp.cmpi .sgt r 0#32) 16#32 0#32 : BitVec 32) = b at hb
  generalize IntOp.absi r = a at h
  obtain ⟨n, hn, rfl⟩ : ∃ n : ℕ, n < 384 ∧ a = BitVec.ofNat 32 n := ⟨a.toNat, h, by simp⟩
  have hi : (BitVec.ofNat 32 n).toInt = (n : ℤ) := by rw [BitVec.toInt_eq_toNat_of_lt] <;> simp <;> omega
  have key : ∀ x : BitVec 32, x.toNat < 16 → (IntOp.addi b x).toNat < 32 := fun x hx => by
    unfold IntOp.addi; rw [BitVec.toNat_add]; omega
  refine key _ ?_
  by_cases h8 : n < 8
  · rw [show IntOp.cmpi .slt (BitVec.ofNat 32 n) 8#32 = 1#1 by interval_cases n <;> decide]
    show (BitVec.ofNat 32 n).toNat < 16
    simp; omega
  · have hc : IntOp.cmpi .slt (BitVec.ofNat 32 n) 8#32 = 0#1 := by
      unfold IntOp.cmpi
      simp only [BitVec.slt, hi]
      rw [decide_eq_false (by simp; omega)]; rfl
    have hm : IntOp.maxsi (BitVec.ofNat 32 n) 1#32 = BitVec.ofNat 32 n := by
      unfold IntOp.maxsi
      rw [if_pos]
      simp only [BitVec.slt, hi, decide_eq_true_eq]
      simp; omega
    rw [hc, hm, hi]
    obtain ⟨k, hk, e⟩ := step n (by omega) hn
    rw [e]
    exact min15 k hk

/-- The distances of the band are below 384. -/
theorem dist_lt (i : Fin 384) (j : Fin 128) : (IntOp.absi (relP (ix2 i j))).toNat < 384 := by
  have e : relP (ix2 i j) = BitVec.ofNat 32 i - (256#32 + BitVec.ofNat 32 j) := by
    unfold relP
    pointwise
    rfl
  have hi := i.isLt
  have hj := j.isLt
  have et : (relP (ix2 i j)).toNat = (2 ^ 32 - (256 + (j : ℕ)) + i) % 2 ^ 32 := by
    rw [e, BitVec.toNat_sub, BitVec.toNat_add, BitVec.toNat_ofNat, BitVec.toNat_ofNat, BitVec.toNat_ofNat]
    omega
  unfold IntOp.absi
  rw [BitVec.msb_eq_decide]
  split_ifs with q
  · rw [BitVec.toNat_neg]; simp at q; omega
  · simp at q; omega

section Plain
open Cert.Reference8Ideal Cert.Reference8Ideal.Gen

/-- The rows of the table that an array of words names. -/
theorem gather_at (x : FVec Ideal S32x4 .f32) (idx : IVec S384x128x1 32) (i : Fin 384) (j : Fin 128) (h : Fin 4) :
    @Eq EReal (Host.gather gather_S32x4_S384x128x1_S384x128x4_2_0_n_n_0_2_14 x idx (ix3 i j h)) (x (ix2 ⟨min (idx (ix3 i j 0)).toInt.toNat 31, by omega⟩ h)) := by
  unfold Host.gather
  refine congrArg x ?_
  funext a
  refine Fin.ext ?_
  generalize hd : gather_S32x4_S384x128x1_S384x128x4_2_0_n_n_0_2_14 = d
  show d.start (ix3 i j h) idx a + d.batchCoord (ix3 i j h) a + d.offCoord (ix3 i j h) a = _
  subst hd
  have h01 : a = 0 ∨ a = 1 := by
    match a with
    | ⟨0, _⟩ => exact Or.inl rfl
    | ⟨1, _⟩ => exact Or.inr rfl
  rcases h01 with rfl | rfl
  · rw [GatherDims.batchCoord_eq_zero _ _ _ (by decide), GatherDims.offCoord_eq_zero _ _ _ (by decide)]
    simp only [Nat.add_zero]
    unfold GatherDims.start
    rw [dif_pos (by decide)]
    refine congrArg (fun q => min (idx q).toInt.toNat 31) ?_
    funext b
    refine Fin.ext ?_
    match b with
    | ⟨0, _⟩ => rfl
    | ⟨1, _⟩ => rfl
    | ⟨2, _⟩ => rfl
  · rw [GatherDims.batchCoord_eq_zero _ _ _ (by decide)]
    unfold GatherDims.start GatherDims.offCoord
    rw [dif_neg (by decide), dif_pos (by decide)]
    simp only [Nat.zero_add, Nat.add_zero]
    rfl

/-- The rows that an array of buckets names, a negative one counted from the end. -/
def wrap (b : IVec S384x128 32) : IVec S384x128x1 32 := broadcastInDim S384x128x1 ![0, 1] bcast_S384x128_S384x128x1_0_1 (select (cmpi .slt b (broadcastInDim S384x128 ![] bcast_S_S384x128 (constantI S_ 32 0#32))) (addi b (broadcastInDim S384x128 ![] bcast_S_S384x128 (constantI S_ 32 32#32))) b)

/-- The plain result at an index: the table's entry for the bucket. -/
theorem plain_at (x : FVec Ideal S32x4 .f32) (rel : IVec S384x128 32) (i : Fin 384) (j : Fin 128) (h : Fin 4) (b : BitVec 32) (hb : b.toNat < 32)
    (e : buckets rel (ix2 i j) = b) :
    @Eq EReal (transpose S4x384x128 [2, 0, 1] (Host.gather gather_S32x4_S384x128x1_S384x128x4_2_0_n_n_0_2_14 x (wrap (buckets rel))) transposes_S384x128x4_S4x384x128_2_0_1 (ix3 h i j)) (x (ix2 ⟨b.toNat, hb⟩ h)) := by
  have hn : b.toInt = (b.toNat : ℤ) := BitVec.toInt_eq_toNat_of_lt (by omega)
  have hw : ∀ y : Fin 1, wrap (buckets rel) (ix3 i j y) = b := fun y => by
    unfold wrap
    generalize hB : buckets rel = B at e
    pointwise
    rw [e]
    unfold Scalar.select IntOp.cmpi
    rw [if_neg]
    simp only [BitVec.slt, hn]
    rw [decide_eq_false (by simp)]; decide
  generalize wrap (buckets rel) = idx at hw ⊢
  have ht : ∀ g : FVec Ideal S384x128x4 .f32, @Eq EReal (transpose S4x384x128 [2, 0, 1] g transposes_S384x128x4_S4x384x128_2_0_1 (ix3 h i j)) (g (ix3 i j h)) := fun g => by pointwise
  refine (ht _).trans ((gather_at x idx i j h).trans ?_)
  refine congrArg (fun q : Fin 32 => x (ix2 q h)) (Fin.ext ?_)
  show min (idx (ix3 i j 0)).toInt.toNat 31 = b.toNat
  rw [hw, hn]; omega

end Plain

/-- The bucket of a key and a query of the band. -/
def bk (i : Fin 384) (j : Fin 128) : BitVec 32 := bucket (relP (ix2 i j))

theorem bk_lt (i : Fin 384) (j : Fin 128) : (bk i j).toNat < 32 := bucket_lt _ (dist_lt i j)

/-- One entry of the result. -/
def res (x : (⟨2, ![32, 4]⟩ : Shape).Idx → EReal) (h : Fin 4) (i : Fin 384) (j : Fin 128) : EReal := x (ix2 ⟨(bk i j).toNat, bk_lt i j⟩ h)

section Kernel
open Cert.Kernel8Ideal Cert.Kernel8Ideal.Gen Cert.Kernel8Ideal.Value

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)

theorem B0 (t : Fin cfg0.N) (i : Fin 32) (k : Fin 4) : @Eq EReal (iblk m c 0 t (ix2 i k)) (V m c main_arg0 (ix2 i k)) := by
  blk_ext [iblk, V, idx0 t]
theorem B1 (t : Fin cfg0.N) (i : Fin 384) (k : Fin 128) : @Eq (BitVec 32) (iblk m c 1 t (ix2 i k)) (V m c main_v32 (ix2 i k)) := by
  blk_ext [iblk, V, idx1 t]

/-- The array that the kernel leaves. -/
theorem arr2 : (dats m 0 c).arrAt 2 cfg0.N = (fun y : S4x384x128.Idx => res (m ((c : Thread nD τ).loc main_arg0)) (y 0) (y 1) (y 2) : S4x384x128.Idx → EReal) := by
  refine (dats m 0 c).arrAt_eq_of_covers 2 _ (by decide +kernel) fun t hf y => ?_
  blk_simp
  rw [after0_2]
  obtain ⟨h, i, j, rfl⟩ : ∃ (h : Fin 4) (i : Fin 384) (j : Fin 128), y = ix3 h i j := ⟨y 0, y 1, y 2, ValueIdx.eq_ix3 y⟩
  have q0 : ((win0_2.blk t).view.emb (ix3 h i j) 0 : Fin 4) = h := Fin.ext (by
    have e : ((win0_2.blk t).view.emb (ix3 h i j) 0 : ℕ) = (h : ℕ) := by blk_simp [idx2 t] <;> simp
    exact e)
  have q1 : ((win0_2.blk t).view.emb (ix3 h i j) 1 : Fin 384) = i := Fin.ext (by
    have e : ((win0_2.blk t).view.emb (ix3 h i j) 1 : ℕ) = (i : ℕ) := by blk_simp [idx2 t] <;> simp
    exact e)
  have q2 : ((win0_2.blk t).view.emb (ix3 h i j) 2 : Fin 128) = j := Fin.ext (by
    have e : ((win0_2.blk t).view.emb (ix3 h i j) 2 : ℕ) = (j : ℕ) := by blk_simp [idx2 t] <;> simp
    exact e)
  rw [q0, q1, q2, out2_at]
  have e : @Eq (BitVec 32) (iblk m c 1 t (ix2 i j)) (bk i j) := by
    rw [B1, V_b, rel_eq]
    exact buckets_at _ i j
  rw [e, pick_eq _ _ 32 le_rfl (bk_lt i j)]
  unfold ent res
  rw [dif_pos (bk_lt i j), B0, V_main_arg0]

end Kernel

/-- The plain program leaves its argument unchanged and every counter at zero. -/
theorem frame_R : Cert.quiescent_Reference8Ideal := fun m g _ =>
  (θ_run Cert.Reference8Ideal.defs _ _).mono (fun r h => ⟨fun c => (h c).2,
      Idealize.ShloMosaic.sem_eq_zero_of_no_sems (by decide) r.2⟩)
    (Cert.Reference8Ideal.Value.run (F := Ideal) m g)

section
open Cert.Kernel8Ideal Cert.Kernel8Ideal.Gen Cert.Kernel8Ideal.Value

/-- The kernel's result is the plain program's. -/
theorem algebraic : @Cert.algebraic_Kernel8Ideal_Reference8Ideal Cert.Kernel8Ideal.Gen.facts Cert.Reference8Ideal.Gen.facts := by
  pair_intro
  · run_from run_blocks m g
  · refine (θ_run Cert.Reference8Ideal.defs _ _).mono (fun r h c => ?_) (Cert.Reference8Ideal.Value.run (F := Ideal) m' g')
    have h0 := hagree c
    obtain ⟨e2, e⟩ := h c
    refine ⟨e2.trans ?_, e⟩
    refine Eq.trans ?_ (arr2 m c).symm
    funext y
    obtain ⟨h, i, j, rfl⟩ : ∃ (h : Fin 4) (i : Fin 384) (j : Fin 128), y = ix3 h i j := ⟨y 0, y 1, y 2, ValueIdx.eq_ix3 y⟩
    refine (plain_at _ relP i j h (bk i j) (bk_lt i j) (buckets_at _ i j)).trans ?_
    rw [h0]
    rfl

end

end Cert.Band
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.RetClaim
public import proofs.«01_k».proof.Proof.InFrameBits
public import proofs.«01_k».proof.Proof.InClaim
public import proofs.«01_k».proof.Proof.SaFrameBits
public import proofs.«01_k».proof.Proof.SaClaim
public import proofs.«01_k».proof.Proof.SrClaim
public import proofs.«01_k».proof.Proof.CoClaim
public import proofs.«01_k».proof.Proof.CsClaim
public import proofs.«01_k».proof.Proof.OpFrameBits
public import proofs.«01_k».proof.Proof.OpClaim
public import proofs.«01_k».proof.Proof.BbClaim
public import Idealize.ShloMosaic.Adequacy
public import Idealize.ShloMosaic.Init
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run

@[expose] public section

noncomputable section

namespace Cert.Proof

open Idealize.ShloMosaic Idealize.SL.Sem Cert.Kernel

/-- The claims of retention, of the input projection and of the combination, each of both batches, of the output projection of the prompt
batch and of the bias band: the kernel's frame at both readings, the reference's frame, that nothing was rewritten, and equality of results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Retention.preFacts,
  fun m ρ _ => Cert.Kernel.Gen.frame m ρ, fun m ρ _ => Cert.KernelIdeal.Gen.frame m ρ, fun m ρ _ => Cert.KernelIdeal.Gen.frame m ρ,
  Cert.Retention.frame_R, fun m ρ _ => Cert.Retention.frame_R m ρ trivial,
  fun m ρ _ => Cert.Kernel2.Body.frame m ρ, fun m ρ _ => Cert.Kernel2Ideal.Body.frame m ρ, Cert.Inproj.frame_R,
  fun m ρ _ => Cert.Kernel3.Body.frame m ρ, fun m ρ _ => Cert.Kernel3Ideal.Body.frame m ρ, Cert.InprojSample.frame_R,
  fun m ρ _ => Cert.Kernel4.Gen.frame m ρ, fun m ρ _ => Cert.Kernel4Ideal.Gen.frame m ρ, Cert.RetSample.frame_R,
  fun m ρ _ => Cert.Kernel5.Gen.frame m ρ, fun m ρ _ => Cert.Kernel5Ideal.Gen.frame m ρ, Cert.Combine.frame_R,
  fun m ρ _ => Cert.Kernel6.Gen.frame m ρ, fun m ρ _ => Cert.Kernel6Ideal.Gen.frame m ρ, Cert.CombineSample.frame_R,
  fun m ρ _ => Cert.Kernel7.Body.frame m ρ, fun m ρ _ => Cert.Kernel7Ideal.Body.frame m ρ, Cert.Outproj.frame_R,
  fun m ρ _ => Cert.Kernel8.Gen.frame m ρ, fun m ρ _ => Cert.Kernel8Ideal.Gen.frame m ρ, Cert.Band.frame_R,
  trivial, Cert.Retention.algebraic, trivial, Cert.Inproj.algebraic, trivial, Cert.InprojSample.algebraic,
  trivial, Cert.RetSample.algebraic, trivial, Cert.Combine.algebraic, trivial, Cert.CombineSample.algebraic, trivial, Cert.Outproj.algebraic, trivial, Cert.Band.algebraic⟩

end Cert.Proof

end
